-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_flags_are_bits [hPre_flags_are_bits : Cert.Pre_flags_are_bits.Facts] (m : (ℓ : Loc Cert.KernelIdeal.nD Cert.KernelIdeal.τ Cert.KernelIdeal.sig) → Buf (Elt Ideal) ℓ) : Prop :=
  ∀ c : Dev Cert.KernelIdeal.nD,
    (Cert.Pre_flags_are_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_flags_are_bits [hPre_flags_are_bits : Cert.Pre_flags_are_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_flags_are_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_flags_are_bits [hKernelIdeal : Cert.KernelIdeal.Facts] [hPre_flags_are_bits : Cert.Pre_flags_are_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_flags_are_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_flags_are_bits [hReferenceIdeal : Cert.ReferenceIdeal.Facts] [hPre_flags_are_bits : Cert.Pre_flags_are_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_flags_are_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_n" .f32 0x3CA3D70A#32 ((1 / 50 : ℝ) : EReal)

def algebraic_KernelIdeal_ReferenceIdeal_pre_flags_are_bits [hKernelIdeal : Cert.KernelIdeal.Facts] [hReferenceIdeal : Cert.ReferenceIdeal.Facts] [hPre_flags_are_bits : Cert.Pre_flags_are_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_flags_are_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_flags_are_bits : Cert.Pre_flags_are_bits.Facts),
    quiescent_Kernel (hKernel := hKernel)
    ∧ quiescent_KernelIdeal (hKernelIdeal := hKernelIdeal)
    ∧ quiescent_KernelIdeal_pre_flags_are_bits (hKernelIdeal := hKernelIdeal) (hPre_flags_are_bits := hPre_flags_are_bits)
    ∧ quiescent_ReferenceIdeal (hReferenceIdeal := hReferenceIdeal)
    ∧ quiescent_ReferenceIdeal_pre_flags_are_bits (hReferenceIdeal := hReferenceIdeal) (hPre_flags_are_bits := hPre_flags_are_bits)
    ∧ preserves_Kernel_KernelIdeal
    ∧ algebraic_KernelIdeal_ReferenceIdeal_pre_flags_are_bits (hKernelIdeal := hKernelIdeal) (hReferenceIdeal := hReferenceIdeal) (hPre_flags_are_bits := hPre_flags_are_bits)
-- ==== Pre_flags_are_bits.lean ====
abbrev S64x50x16 : Shape := ⟨3, ![64, 50, 16]⟩
abbrev S64x50x50 : Shape := ⟨3, ![64, 50, 50]⟩
abbrev S16x128 : Shape := ⟨2, ![16, 128]⟩
abbrev S128x128 : Shape := ⟨2, ![128, 128]⟩
abbrev S64x50x1 : Shape := ⟨3, ![64, 50, 1]⟩
abbrev S64x50 : Shape := ⟨2, ![64, 50]⟩
abbrev S_ : Shape := ⟨0, ![]⟩

class Facts : Prop where
  slices_S64x50x16_S64x50x1_0_0_15 : S64x50x16.Slices ![0, 0, 15] S64x50x1
  shapeCasts_S64x50x1_S64x50 : S64x50x1.ShapeCasts S64x50
  bcast_S_S64x50 : S_.BroadcastsInDim S64x50 (![] : Fin 0 → Fin S64x50.rank)

variable [Facts]

def fn {F : FTy → Type} [FloatOps F] (main_arg0 : FVec F S64x50x16 .f32) (main_arg1 : FVec F S64x50x16 .f32) (main_arg2 : FVec F S64x50x50 .f32) (main_arg3 : FVec F S16x128 .f32) (main_arg4 : FVec F S16x128 .f32) (main_arg5 : FVec F S128x128 .f32) (main_arg6 : FVec F S128x128 .f32) (main_arg7 : FVec F S128x128 .f32) : IVec S64x50 1 :=
  let main_v0 : FVec F S64x50x1 .f32 := (extractStridedSlice S64x50x1 ![0, 0, 15] · slices_S64x50x16_S64x50x1_0_0_15) main_arg1
  let main_v1 : FVec F S64x50 .f32 := shapeCast S64x50 main_v0 shapeCasts_S64x50x1_S64x50
  let main_cst : FVec F S_ .f32 := constant S_ .f32 0x00000000#32
  let main_v2 : FVec F S64x50 .f32 := broadcastInDim S64x50 ![] bcast_S_S64x50 main_cst
  let main_v3 : IVec S64x50 1 := cmpf .oeq main_v1 main_v2
  let main_cst_0 : FVec F S_ .f32 := constant S_ .f32 0x3F800000#32
  let main_v4 : FVec F S64x50 .f32 := broadcastInDim S64x50 ![] bcast_S_S64x50 main_cst_0
  let main_v5 : IVec S64x50 1 := cmpf .oeq main_v1 main_v4
  let main_v6 : IVec S64x50 1 := ori main_v3 main_v5
  main_v6
-- ==== Kernel.lean ====
abbrev S64x50x16 : Shape := ⟨3, ![64, 50, 16]⟩
abbrev S64x50x50 : Shape := ⟨3, ![64, 50, 50]⟩
abbrev S16x128 : Shape := ⟨2, ![16, 128]⟩
abbrev S128x128 : Shape := ⟨2, ![128, 128]⟩
abbrev S50x64x50 : Shape := ⟨3, ![50, 64, 50]⟩
abbrev S50x64 : Shape := ⟨2, ![50, 64]⟩
abbrev S1x64 : Shape := ⟨2, ![1, 64]⟩
abbrev S64x50 : Shape := ⟨2, ![64, 50]⟩
abbrev S64x50x1 : Shape := ⟨3, ![64, 50, 1]⟩
abbrev S64x50x2 : Shape := ⟨3, ![64, 50, 2]⟩
abbrev S64x100 : Shape := ⟨2, ![64, 100]⟩
abbrev S64 : Shape := ⟨1, ![64]⟩
abbrev S64x50x128 : Shape := ⟨3, ![64, 50, 128]⟩
abbrev S64x16 : Shape := ⟨2, ![64, 16]⟩
abbrev S64x1x50 : Shape := ⟨3, ![64, 1, 50]⟩
abbrev S64x50x14 : Shape := ⟨3, ![64, 50, 14]⟩
abbrev S64x50x64 : Shape := ⟨3, ![64, 50, 64]⟩
abbrev S64x50x32 : Shape := ⟨3, ![64, 50, 32]⟩
abbrev S64x50x8 : Shape := ⟨3, ![64, 50, 8]⟩
abbrev S64x50x4 : Shape := ⟨3, ![64, 50, 4]⟩
abbrev S64x1x128 : Shape := ⟨3, ![64, 1, 128]⟩
abbrev S64x128 : Shape := ⟨2, ![64, 128]⟩
abbrev S64x128x1 : Shape := ⟨3, ![64, 128, 1]⟩
abbrev S64x1 : Shape := ⟨2, ![64, 1]⟩
abbrev S64x14 : Shape := ⟨2, ![64, 14]⟩
abbrev S64x64 : Shape := ⟨2, ![64, 64]⟩
abbrev S64x32 : Shape := ⟨2, ![64, 32]⟩
abbrev S64x8 : Shape := ⟨2, ![64, 8]⟩
abbrev S64x4 : Shape := ⟨2, ![64, 4]⟩
abbrev S64x2 : Shape := ⟨2, ![64, 2]⟩
abbrev S1x64x50 : Shape := ⟨3, ![1, 64, 50]⟩
abbrev S64x1x16 : Shape := ⟨3, ![64, 1, 16]⟩

abbrev nBuf : Space → Nat
  | .hbm => 26
  | .vmem => 20
  | .smem => 0
  | _ => 0

abbrev bufTy : (tb : Table) → Fin (tcTables nBuf tb) → BufTy
  | .hbm, ⟨0, _⟩ => ⟨S64x50x16, .f32⟩
  | .hbm, ⟨1, _⟩ => ⟨S64x50x16, .f32⟩
  | .hbm, ⟨2, _⟩ => ⟨S64x50x50, .f32⟩
  | .hbm, ⟨3, _⟩ => ⟨S16x128, .f32⟩
  | .hbm, ⟨4, _⟩ => ⟨S16x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S50x64x50, .f32⟩
  | .hbm, ⟨9, _⟩ => ⟨S50x64x50, .f32⟩
  | .hbm, ⟨10, _⟩ => ⟨S50x64, .f32⟩
  | .hbm, ⟨11, _⟩ => ⟨S50x64, .f32⟩
  | .hbm, ⟨12, _⟩ => ⟨S50x64, .i32⟩
  | .hbm, ⟨13, _⟩ => ⟨S50x64, .i32⟩
  | .hbm, ⟨14, _⟩ => ⟨S1x64, .f32⟩
  | .hbm, ⟨15, _⟩ => ⟨S64x50x50, .f32⟩
  | .hbm, ⟨16, _⟩ => ⟨S64x50x50, .f32⟩
  | .hbm, ⟨17, _⟩ => ⟨S64x50, .f32⟩
  | .hbm, ⟨18, _⟩ => ⟨S64x50, .f32⟩
  | .hbm, ⟨19, _⟩ => ⟨S64x50, .i32⟩
  | .hbm, ⟨20, _⟩ => ⟨S64x50, .i32⟩
  | .hbm, ⟨21, _⟩ => ⟨S64x50x1, .i32⟩
  | .hbm, ⟨22, _⟩ => ⟨S64x50x1, .i32⟩
  | .hbm, ⟨23, _⟩ => ⟨S64x50x2, .i32⟩
  | .hbm, ⟨24, _⟩ => ⟨S64x100, .i32⟩
  | .hbm, ⟨25, _⟩ => ⟨S64, .f32⟩
  | .local _ .vmem, ⟨0, _⟩ => ⟨S64x50x16, .f32⟩
  | .local _ .vmem, ⟨1, _⟩ => ⟨S64x50x16, .f32⟩
  | .local _ .vmem, ⟨2, _⟩ => ⟨S64x50x50, .f32⟩
  | .local _ .vmem, ⟨3, _⟩ => ⟨S16x128, .f32⟩
  | .local _ .vmem, ⟨4, _⟩ => ⟨S16x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S50x64x50, .f32⟩
  | .local _ .vmem, ⟨9, _⟩ => ⟨S50x64x50, .f32⟩
  | .local _ .vmem, ⟨10, _⟩ => ⟨S50x64, .f32⟩
  | .local _ .vmem, ⟨11, _⟩ => ⟨S50x64, .f32⟩
  | .local _ .vmem, ⟨12, _⟩ => ⟨S50x64, .i32⟩
  | .local _ .vmem, ⟨13, _⟩ => ⟨S50x64, .i32⟩
  | .local _ .vmem, ⟨14, _⟩ => ⟨S1x64, .f32⟩
  | .local _ .vmem, ⟨15, _⟩ => ⟨S64x50x128, .f32⟩
  | .local _ .vmem, ⟨16, _⟩ => ⟨S64x50x50, .f32⟩
  | .local _ .vmem, ⟨17, _⟩ => ⟨S64x50x16, .f32⟩
  | .local _ .vmem, ⟨18, _⟩ => ⟨S64x50, .f32⟩
  | .local _ .vmem, ⟨19, _⟩ => ⟨S1x64, .f32⟩
  | _, _ => ⟨S64x50x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0_0 : Ref sig .tc := ⟨.hbm, 8, rfl⟩
abbrev main_call0_v0_1 : Ref sig .tc := ⟨.hbm, 9, rfl⟩
abbrev main_call0_v0_2 : Ref sig .tc := ⟨.hbm, 10, rfl⟩
abbrev main_call0_v0_3 : Ref sig .tc := ⟨.hbm, 11, rfl⟩
abbrev main_call0_v0_4 : Ref sig .tc := ⟨.hbm, 12, rfl⟩
abbrev main_call0_v0_5 : Ref sig .tc := ⟨.hbm, 13, rfl⟩
abbrev main_call0_v0_6 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v0_4 : Ref sig .tc := ⟨.hbm, 24, rfl⟩
abbrev main_v0_5 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v33 : BitVec 32 := Scalar.addi c0_i32 c50_i32
  let c1_i32 : BitVec 32 := 1#32
  ⟨c0_i32, v33, c1_i32⟩
def k0_off1 (k0_t1 : Fin k0_t1_loop.trips) : Fin 3 → Nat :=
  let c0_i32 : BitVec 32 := 0#32
  let c1_i32 : BitVec 32 := 1#32
  let arg20 : BitVec 32 := Scf.iv c0_i32 c1_i32 k0_t1
  let v283 : Index := Scalar.indexCast arg20
  let c0_70 : Index := 0#32
  let c0_71 : Index := 0#32
  ![v283.toNat, 0, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let v296 : Index := Scalar.indexCast arg20
  let c0_76 : Index := 0#32
  ![v296.toNat, 0]
abbrev stage0_0 : Fin 1 → Memref sig .tc .vmem S64x50x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x50x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S50x64x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S50x64x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S50x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S50x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S50x64 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S50x64 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 50 : ℝ) : EReal)
  | _ => none
-- ==== ReferenceIdeal.lean ====
abbrev S64x50x16 : Shape := ⟨3, ![64, 50, 16]⟩
abbrev S64x50x50 : Shape := ⟨3, ![64, 50, 50]⟩
abbrev S16x128 : Shape := ⟨2, ![16, 128]⟩
abbrev S128x128 : Shape := ⟨2, ![128, 128]⟩
abbrev S64 : Shape := ⟨1, ![64]⟩
abbrev S_ : Shape := ⟨0, ![]⟩
abbrev S64x50 : Shape := ⟨2, ![64, 50]⟩
abbrev S50x64x50 : Shape := ⟨3, ![50, 64, 50]⟩
abbrev S50x64 : Shape := ⟨2, ![50, 64]⟩
abbrev S50x64x2 : Shape := ⟨3, ![50, 64, 2]⟩
abbrev S64x50x128 : Shape := ⟨3, ![64, 50, 128]⟩
abbrev S64x128x50 : Shape := ⟨3, ![64, 128, 50]⟩
abbrev S64x50x1 : Shape := ⟨3, ![64, 50, 1]⟩
abbrev S64x128 : Shape := ⟨2, ![64, 128]⟩
abbrev S64x1 : Shape := ⟨2, ![64, 1]⟩
abbrev S64x2 : Shape := ⟨2, ![64, 2]⟩
abbrev S64x3 : Shape := ⟨2, ![64, 3]⟩
abbrev S64x1x128 : Shape := ⟨3, ![64, 1, 128]⟩
abbrev S64x1x50 : Shape := ⟨3, ![64, 1, 50]⟩
abbrev S64x15 : Shape := ⟨2, ![64, 15]⟩
abbrev S64x16 : Shape := ⟨2, ![64, 16]⟩
abbrev S1x64x50 : Shape := ⟨3, ![1, 64, 50]⟩
abbrev S1x64 : Shape := ⟨2, ![1, 64]⟩
abbrev S1x64x2 : Shape := ⟨3, ![1, 64, 2]⟩
abbrev S64x50x2 : Shape := ⟨3, ![64, 50, 2]⟩
abbrev S64x100 : Shape := ⟨2, ![64, 100]⟩

abbrev nBuf : Space → Nat
  | .hbm => 423
  | .vmem => 0
  | .smem => 0
  | _ => 0

abbrev hbmTy0_0 (i : Nat) : BufTy := match i % 128 with
  | 0 => ⟨S64x50x16, .f32⟩
  | 1 => ⟨S64x50x16, .f32⟩
  | 2 => ⟨S64x50x50, .f32⟩
  | 3 => ⟨S16x128, .f32⟩
  | 4 => ⟨S16x128, .f32⟩
  | 5 => ⟨S128x128, .f32⟩
  | 6 => ⟨S128x128, .f32⟩
  | 7 => ⟨S128x128, .f32⟩
  | 8 => ⟨S64, .i32⟩
  | 9 => ⟨S_, .i1⟩
  | 10 => ⟨S64x50, .i1⟩
  | 11 => ⟨S_, .i1⟩
  | 12 => ⟨S64x50x50, .i1⟩
  | 13 => ⟨S_, .f32⟩
  | 14 => ⟨S50x64x50, .f32⟩
  | 15 => ⟨S_, .f32⟩
  | 16 => ⟨S50x64x50, .f32⟩
  | 17 => ⟨S_, .f32⟩
  | 18 => ⟨S50x64, .f32⟩
  | 19 => ⟨S_, .f32⟩
  | 20 => ⟨S50x64, .f32⟩
  | 21 => ⟨S_, .i32⟩
  | 22 => ⟨S50x64x2, .i32⟩
  | 23 => ⟨S_, .f32⟩
  | 24 => ⟨S50x64, .f32⟩
  | 25 => ⟨S_, .i32⟩
  | 26 => ⟨S64x50x16, .f32⟩
  | 27 => ⟨S16x128, .f32⟩
  | 28 => ⟨S16x128, .f32⟩
  | 29 => ⟨S64x50x50, .f32⟩
  | 30 => ⟨S128x128, .f32⟩
  | 31 => ⟨S128x128, .f32⟩
  | 32 => ⟨S64, .i32⟩
  | 33 => ⟨S128x128, .f32⟩
  | 34 => ⟨S_, .i32⟩
  | 35 => ⟨S64x50x16, .f32⟩
  | 36 => ⟨S64x50, .i1⟩
  | 37 => ⟨S64x50x50, .i1⟩
  | 38 => ⟨S50x64x50, .f32⟩
  | 39 => ⟨S50x64x50, .f32⟩
  | 40 => ⟨S50x64, .f32⟩
  | 41 => ⟨S50x64, .f32⟩
  | 42 => ⟨S50x64x2, .i32⟩
  | 43 => ⟨S50x64, .f32⟩
  | 44 => ⟨S_, .i32⟩
  | 45 => ⟨S_, .i1⟩
  | 46 => ⟨S64x50x128, .f32⟩
  | 47 => ⟨S64x50x128, .f32⟩
  | 48 => ⟨S64x128x50, .f32⟩
  | 49 => ⟨S64x50x50, .f32⟩
  | 50 => ⟨S_, .f32⟩
  | 51 => ⟨S_, .f32⟩
  | 52 => ⟨S_, .f32⟩
  | 53 => ⟨S64x50x50, .f32⟩
  | 54 => ⟨S64x50x50, .f32⟩
  | 55 => ⟨S_, .f32⟩
  | 56 => ⟨S_, .f32⟩
  | 57 => ⟨S64x50x50, .f32⟩
  | 58 => ⟨S64x50x50, .f32⟩
  | 59 => ⟨S_, .f32⟩
  | 60 => ⟨S64x50, .f32⟩
  | 61 => ⟨S_, .f32⟩
  | 62 => ⟨S64x50, .f32⟩
  | 63 => ⟨S64x50, .f32⟩
  | 64 => ⟨S64x50x1, .f32⟩
  | 65 => ⟨S64x50x50, .f32⟩
  | 66 => ⟨S64x50x50, .f32⟩
  | 67 => ⟨S64x50x50, .f32⟩
  | 68 => ⟨S_, .f32⟩
  | 69 => ⟨S64x50, .f32⟩
  | 70 => ⟨S64x50x1, .f32⟩
  | 71 => ⟨S64x50x50, .f32⟩
  | 72 => ⟨S64x50x50, .f32⟩
  | 73 => ⟨S64x50x128, .f32⟩
  | 74 => ⟨S64x50x128, .f32⟩
  | 75 => ⟨S64x50x128, .f32⟩
  | 76 => ⟨S64x50x128, .f32⟩
  | 77 => ⟨S64x50x128, .f32⟩
  | 78 => ⟨S64x50x128, .f32⟩
  | 79 => ⟨S64x50x128, .f32⟩
  | 80 => ⟨S_, .f32⟩
  | 81 => ⟨S64x128, .f32⟩
  | 82 => ⟨S_, .f32⟩
  | 83 => ⟨S64x128, .f32⟩
  | 84 => ⟨S64x128, .f32⟩
  | 85 => ⟨S64x128, .f32⟩
  | 86 => ⟨S64x50, .f32⟩
  | 87 => ⟨S_, .f32⟩
  | 88 => ⟨S_, .f32⟩
  | 89 => ⟨S_, .f32⟩
  | 90 => ⟨S64x50, .f32⟩
  | 91 => ⟨S64x50, .f32⟩
  | 92 => ⟨S_, .f32⟩
  | 93 => ⟨S_, .f32⟩
  | 94 => ⟨S64x50, .f32⟩
  | 95 => ⟨S64x50, .f32⟩
  | 96 => ⟨S_, .f32⟩
  | 97 => ⟨S64, .f32⟩
  | 98 => ⟨S_, .f32⟩
  | 99 => ⟨S64, .f32⟩
  | 100 => ⟨S64, .f32⟩
  | 101 => ⟨S64x1, .f32⟩
  | 102 => ⟨S64x50, .f32⟩
  | 103 => ⟨S64x50, .f32⟩
  | 104 => ⟨S64x50, .f32⟩
  | 105 => ⟨S_, .f32⟩
  | 106 => ⟨S64, .f32⟩
  | 107 => ⟨S64x1, .f32⟩
  | 108 => ⟨S64x50, .f32⟩
  | 109 => ⟨S64x50, .f32⟩
  | 110 => ⟨S64x50, .i32⟩
  | 111 => ⟨S_, .f32⟩
  | 112 => ⟨S_, .i32⟩
  | 113 => ⟨S64, .f32⟩
  | 114 => ⟨S64, .i32⟩
  | 115 => ⟨S_, .i32⟩
  | 116 => ⟨S64, .i32⟩
  | 117 => ⟨S64, .i1⟩
  | 118 => ⟨S_, .i32⟩
  | 119 => ⟨S64, .i32⟩
  | 120 => ⟨S64, .i32⟩
  | 121 => ⟨S64, .i32⟩
  | 122 => ⟨S_, .i32⟩
  | 123 => ⟨S64, .i32⟩
  | 124 => ⟨S64, .i1⟩
  | 125 => ⟨S_, .i32⟩
  | 126 => ⟨S64, .i32⟩
  | 127 => ⟨S64, .i32⟩
  | _ => ⟨S64x50x16, .f32⟩

abbrev hbmTy0_1 (i : Nat) : BufTy := match i % 128 with
  | 0 => ⟨S64, .i32⟩
  | 1 => ⟨S64x1, .i32⟩
  | 2 => ⟨S64x1, .i32⟩
  | 3 => ⟨S64x2, .i32⟩
  | 4 => ⟨S64, .f32⟩
  | 5 => ⟨S_, .f32⟩
  | 6 => ⟨S64, .f32⟩
  | 7 => ⟨S64, .f32⟩
  | 8 => ⟨S64, .f32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S_, .i32⟩
  | 17 => ⟨S64, .i32⟩
  | 18 => ⟨S64, .i1⟩
  | 19 => ⟨S_, .i32⟩
  | 20 => ⟨S64, .i32⟩
  | 21 => ⟨S64, .i32⟩
  | 22 => ⟨S64, .i32⟩
  | 23 => ⟨S64x1, .i32⟩
  | 24 => ⟨S64x1, .i32⟩
  | 25 => ⟨S64x2, .i32⟩
  | 26 => ⟨S_, .i1⟩
  | 27 => ⟨S64, .i1⟩
  | 28 => ⟨S64x50, .i1⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S64, .i32⟩
  | 43 => ⟨S64x1, .i32⟩
  | 44 => ⟨S64x1, .i32⟩
  | 45 => ⟨S64x2, .i32⟩
  | 46 => ⟨S_, .i1⟩
  | 47 => ⟨S64x50, .i1⟩
  | 48 => ⟨S64x50x50, .i1⟩
  | 49 => ⟨S_, .i32⟩
  | 50 => ⟨S64, .i32⟩
  | 51 => ⟨S64, .i1⟩
  | 52 => ⟨S_, .i32⟩
  | 53 => ⟨S64, .i32⟩
  | 54 => ⟨S64, .i32⟩
  | 55 => ⟨S64, .i32⟩
  | 56 => ⟨S_, .i32⟩
  | 57 => ⟨S64, .i32⟩
  | 58 => ⟨S64, .i1⟩
  | 59 => ⟨S_, .i32⟩
  | 60 => ⟨S64, .i32⟩
  | 61 => ⟨S64, .i32⟩
  | 62 => ⟨S64, .i32⟩
  | 63 => ⟨S64x1, .i32⟩
  | 64 => ⟨S64x1, .i32⟩
  | 65 => ⟨S64x2, .i32⟩
  | 66 => ⟨S_, .i1⟩
  | 67 => ⟨S64x50, .i1⟩
  | 68 => ⟨S64x50x50, .i1⟩
  | 69 => ⟨S_, .i32⟩
  | 70 => ⟨S64, .i32⟩
  | 71 => ⟨S64, .i1⟩
  | 72 => ⟨S_, .i32⟩
  | 73 => ⟨S64, .i32⟩
  | 74 => ⟨S64, .i32⟩
  | 75 => ⟨S64, .i32⟩
  | 76 => ⟨S_, .i32⟩
  | 77 => ⟨S64, .i32⟩
  | 78 => ⟨S64, .i1⟩
  | 79 => ⟨S_, .i32⟩
  | 80 => ⟨S64, .i32⟩
  | 81 => ⟨S64, .i32⟩
  | 82 => ⟨S64, .i32⟩
  | 83 => ⟨S_, .i32⟩
  | 84 => ⟨S64, .i32⟩
  | 85 => ⟨S64, .i1⟩
  | 86 => ⟨S_, .i32⟩
  | 87 => ⟨S64, .i32⟩
  | 88 => ⟨S64, .i32⟩
  | 89 => ⟨S64, .i32⟩
  | 90 => ⟨S64x1, .i32⟩
  | 91 => ⟨S64x1, .i32⟩
  | 92 => ⟨S64x1, .i32⟩
  | 93 => ⟨S64x3, .i32⟩
  | 94 => ⟨S_, .i1⟩
  | 95 => ⟨S64, .i1⟩
  | 96 => ⟨S64x50x50, .i1⟩
  | 97 => ⟨S_, .i32⟩
  | 98 => ⟨S64, .i32⟩
  | 99 => ⟨S64, .i1⟩
  | 100 => ⟨S_, .i32⟩
  | 101 => ⟨S64, .i32⟩
  | 102 => ⟨S64, .i32⟩
  | 103 => ⟨S64, .i32⟩
  | 104 => ⟨S_, .i32⟩
  | 105 => ⟨S64, .i32⟩
  | 106 => ⟨S64, .i1⟩
  | 107 => ⟨S_, .i32⟩
  | 108 => ⟨S64, .i32⟩
  | 109 => ⟨S64, .i32⟩
  | 110 => ⟨S64, .i32⟩
  | 111 => ⟨S64x1, .i32⟩
  | 112 => ⟨S64x1, .i32⟩
  | 113 => ⟨S64x2, .i32⟩
  | 114 => ⟨S64x128, .f32⟩
  | 115 => ⟨S64x1x128, .f32⟩
  | 116 => ⟨S64x50x1, .f32⟩
  | 117 => ⟨S64x50, .f32⟩
  | 118 => ⟨S_, .f32⟩
  | 119 => ⟨S64x50, .f32⟩
  | 120 => ⟨S64x50, .i1⟩
  | 121 => ⟨S64x50, .i1⟩
  | 122 => ⟨S64x50, .i1⟩
  | 123 => ⟨S64x1x50, .i1⟩
  | 124 => ⟨S64x128, .f32⟩
  | 125 => ⟨S64x128, .f32⟩
  | 126 => ⟨S64x50, .f32⟩
  | 127 => ⟨S_, .f32⟩
  | _ => ⟨S64x50x16, .f32⟩

abbrev hbmTy0_2 (i : Nat) : BufTy := match i % 128 with
  | 0 => ⟨S_, .f32⟩
  | 1 => ⟨S_, .f32⟩
  | 2 => ⟨S64x50, .f32⟩
  | 3 => ⟨S64x50, .f32⟩
  | 4 => ⟨S64x50, .i1⟩
  | 5 => ⟨S_, .f32⟩
  | 6 => ⟨S_, .f32⟩
  | 7 => ⟨S64x50, .f32⟩
  | 8 => ⟨S64x50, .f32⟩
  | 9 => ⟨S_, .f32⟩
  | 10 => ⟨S64, .f32⟩
  | 11 => ⟨S_, .f32⟩
  | 12 => ⟨S64, .f32⟩
  | 13 => ⟨S64, .f32⟩
  | 14 => ⟨S64x1, .f32⟩
  | 15 => ⟨S64x50, .f32⟩
  | 16 => ⟨S64x50, .f32⟩
  | 17 => ⟨S64x50, .f32⟩
  | 18 => ⟨S_, .f32⟩
  | 19 => ⟨S64, .f32⟩
  | 20 => ⟨S64x1, .f32⟩
  | 21 => ⟨S64x50, .f32⟩
  | 22 => ⟨S64x50, .f32⟩
  | 23 => ⟨S64x50, .i32⟩
  | 24 => ⟨S_, .f32⟩
  | 25 => ⟨S_, .i32⟩
  | 26 => ⟨S64, .f32⟩
  | 27 => ⟨S64, .i32⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S_, .i32⟩
  | 36 => ⟨S64, .i32⟩
  | 37 => ⟨S64, .i1⟩
  | 38 => ⟨S_, .i32⟩
  | 39 => ⟨S64, .i32⟩
  | 40 => ⟨S64, .i32⟩
  | 41 => ⟨S64, .i32⟩
  | 42 => ⟨S64x1, .i32⟩
  | 43 => ⟨S64x1, .i32⟩
  | 44 => ⟨S64x2, .i32⟩
  | 45 => ⟨S64, .f32⟩
  | 46 => ⟨S_, .f32⟩
  | 47 => ⟨S64, .f32⟩
  | 48 => ⟨S64, .f32⟩
  | 49 => ⟨S64, .f32⟩
  | 50 => ⟨S_, .i32⟩
  | 51 => ⟨S64, .i32⟩
  | 52 => ⟨S64, .i1⟩
  | 53 => ⟨S_, .i32⟩
  | 54 => ⟨S64, .i32⟩
  | 55 => ⟨S64, .i32⟩
  | 56 => ⟨S64, .i32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S_, .i32⟩
  | 65 => ⟨S64, .i32⟩
  | 66 => ⟨S64, .i32⟩
  | 67 => ⟨S64x1, .i32⟩
  | 68 => ⟨S64x1, .i32⟩
  | 69 => ⟨S64x1, .i32⟩
  | 70 => ⟨S64x3, .i32⟩
  | 71 => ⟨S64, .f32⟩
  | 72 => ⟨S_, .f32⟩
  | 73 => ⟨S64, .f32⟩
  | 74 => ⟨S64, .i1⟩
  | 75 => ⟨S_, .i32⟩
  | 76 => ⟨S64, .i32⟩
  | 77 => ⟨S64, .i1⟩
  | 78 => ⟨S_, .i32⟩
  | 79 => ⟨S64, .i32⟩
  | 80 => ⟨S64, .i32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S64x1, .i32⟩
  | 90 => ⟨S64x1, .i32⟩
  | 91 => ⟨S_, .i32⟩
  | 92 => ⟨S64x1, .i32⟩
  | 93 => ⟨S64x3, .i32⟩
  | 94 => ⟨S64x15, .f32⟩
  | 95 => ⟨S_, .f32⟩
  | 96 => ⟨S64x1, .f32⟩
  | 97 => ⟨S64x16, .f32⟩
  | 98 => ⟨S_, .i32⟩
  | 99 => ⟨S64, .i32⟩
  | 100 => ⟨S64, .i1⟩
  | 101 => ⟨S_, .i32⟩
  | 102 => ⟨S64, .i32⟩
  | 103 => ⟨S64, .i32⟩
  | 104 => ⟨S64, .i32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S64, .i32⟩
  | 112 => ⟨S64x1, .i32⟩
  | 113 => ⟨S64x1, .i32⟩
  | 114 => ⟨S64x2, .i32⟩
  | 115 => ⟨S64x50x16, .f32⟩
  | 116 => ⟨S64, .i1⟩
  | 117 => ⟨S64, .i32⟩
  | 118 => ⟨S64, .f32⟩
  | 119 => ⟨S_, .f32⟩
  | 120 => ⟨S64, .f32⟩
  | 121 => ⟨S64, .f32⟩
  | 122 => ⟨S64x1, .i32⟩
  | 123 => ⟨S64x1, .i32⟩
  | 124 => ⟨S64x2, .i32⟩
  | 125 => ⟨S1x64x50, .f32⟩
  | 126 => ⟨S_, .i32⟩
  | 127 => ⟨S_, .i32⟩
  | _ => ⟨S64x50x16, .f32⟩

abbrev hbmTy0_3 (i : Nat) : BufTy := match i % 128 with
  | 0 => ⟨S50x64x50, .f32⟩
  | 1 => ⟨S1x64x50, .f32⟩
  | 2 => ⟨S_, .i32⟩
  | 3 => ⟨S_, .i32⟩
  | 4 => ⟨S50x64x50, .f32⟩
  | 5 => ⟨S1x64, .f32⟩
  | 6 => ⟨S_, .i32⟩
  | 7 => ⟨S50x64, .f32⟩
  | 8 => ⟨S1x64, .f32⟩
  | 9 => ⟨S_, .i32⟩
  | 10 => ⟨S50x64, .f32⟩
  | 11 => ⟨S1x64x2, .i32⟩
  | 12 => ⟨S_, .i32⟩
  | 13 => ⟨S_, .i32⟩
  | 14 => ⟨S50x64x2, .i32⟩
  | 15 => ⟨S1x64, .f32⟩
  | 16 => ⟨S_, .i32⟩
  | 17 => ⟨S50x64, .f32⟩
  | 18 => ⟨S_, .i32⟩
  | 19 => ⟨S_, .i32⟩
  | 20 => ⟨S_, .f32⟩
  | 21 => ⟨S64, .f32⟩
  | 22 => ⟨S_, .f32⟩
  | 23 => ⟨S64, .f32⟩
  | 24 => ⟨S64, .i1⟩
  | 25 => ⟨S64, .i1⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S64x50x50, .f32⟩
  | 34 => ⟨S64x50x50, .f32⟩
  | 35 => ⟨S64x50, .f32⟩
  | 36 => ⟨S64x50, .f32⟩
  | 37 => ⟨S64x50x2, .i32⟩
  | 38 => ⟨S64x100, .i32⟩
  | _ => ⟨S64x50x16, .f32⟩

abbrev hbmTy (i : Nat) : BufTy := match i / 128 with
  | 0 => hbmTy0_0 i
  | 1 => hbmTy0_1 i
  | 2 => hbmTy0_2 i
  | 3 => hbmTy0_3 i
  | _ => ⟨S64x50x16, .f32⟩

abbrev bufTy : (tb : Table) → Fin (tcTables nBuf tb) → BufTy
  | .hbm, ⟨i, _⟩ => hbmTy i
  | _, _ => ⟨S64x50x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_c_4 : Ref sig .tc := ⟨.hbm, 21, rfl⟩
abbrev main_v7 : Ref sig .tc := ⟨.hbm, 22, rfl⟩
abbrev main_cst_5 : Ref sig .tc := ⟨.hbm, 23, rfl⟩
abbrev main_v8 : Ref sig .tc := ⟨.hbm, 24, rfl⟩
abbrev main_c_6 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v9_4 : Ref sig .tc := ⟨.hbm, 30, rfl⟩
abbrev main_v9_5 : Ref sig .tc := ⟨.hbm, 31, rfl⟩
abbrev main_v9_6 : Ref sig .tc := ⟨.hbm, 32, rfl⟩
abbrev main_v9_7 : Ref sig .tc := ⟨.hbm, 33, rfl⟩
abbrev main_v9_8 : Ref sig .tc := ⟨.hbm, 34, rfl⟩
abbrev main_v9_9 : Ref sig .tc := ⟨.hbm, 35, rfl⟩
abbrev main_v9_10 : Ref sig .tc := ⟨.hbm, 36, rfl⟩
abbrev main_v9_11 : Ref sig .tc := ⟨.hbm, 37, rfl⟩
abbrev main_v9_12 : Ref sig .tc := ⟨.hbm, 38, rfl⟩
abbrev main_v9_13 : Ref sig .tc := ⟨.hbm, 39, rfl⟩
abbrev main_v9_14 : Ref sig .tc := ⟨.hbm, 40, rfl⟩
abbrev main_v9_15 : Ref sig .tc := ⟨.hbm, 41, rfl⟩
abbrev main_v9_16 : Ref sig .tc := ⟨.hbm, 42, rfl⟩
abbrev main_v9_17 : Ref sig .tc := ⟨.hbm, 43, rfl⟩
abbrev main_while0c_c_28 : Ref sig .tc := ⟨.hbm, 44, rfl⟩
abbrev main_while0c_v25 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_cst_28 : Ref sig .tc := ⟨.hbm, 50, rfl⟩
abbrev main_while0b_v29 : Ref sig .tc := ⟨.hbm, 51, rfl⟩
abbrev main_while0b_v30 : Ref sig .tc := ⟨.hbm, 52, rfl⟩
abbrev main_while0b_v31 : Ref sig .tc := ⟨.hbm, 53, rfl⟩
abbrev main_while0b_v32 : Ref sig .tc := ⟨.hbm, 54, rfl⟩
abbrev main_while0b_cst_29 : Ref sig .tc := ⟨.hbm, 55, rfl⟩
abbrev main_while0b_call0_v0 : Ref sig .tc := ⟨.hbm, 56, rfl⟩
abbrev main_while0b_call0_v1 : Ref sig .tc := ⟨.hbm, 57, rfl⟩
abbrev main_while0b_v33 : Ref sig .tc := ⟨.hbm, 58, rfl⟩
abbrev main_while0b_cst_30 : Ref sig .tc := ⟨.hbm, 59, rfl⟩
abbrev main_while0b_v34 : Ref sig .tc := ⟨.hbm, 60, rfl⟩
abbrev main_while0b_cst_31 : Ref sig .tc := ⟨.hbm, 61, rfl⟩
abbrev main_while0b_v35 : Ref sig .tc := ⟨.hbm, 62, rfl⟩
abbrev main_while0b_v36 : Ref sig .tc := ⟨.hbm, 63, rfl⟩
abbrev main_while0b_v37 : Ref sig .tc := ⟨.hbm, 64, rfl⟩
abbrev main_while0b_v38 : Ref sig .tc := ⟨.hbm, 65, rfl⟩
abbrev main_while0b_v39 : Ref sig .tc := ⟨.hbm, 66, rfl⟩
abbrev main_while0b_v40 : Ref sig .tc := ⟨.hbm, 67, rfl⟩
abbrev main_while0b_cst_32 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_cst_33 : Ref sig .tc := ⟨.hbm, 80, rfl⟩
abbrev main_while0b_v52 : Ref sig .tc := ⟨.hbm, 81, rfl⟩
abbrev main_while0b_cst_34 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_cst_35 : Ref sig .tc := ⟨.hbm, 87, rfl⟩
abbrev main_while0b_v57 : Ref sig .tc := ⟨.hbm, 88, rfl⟩
abbrev main_while0b_v58 : Ref sig .tc := ⟨.hbm, 89, rfl⟩
abbrev main_while0b_v59 : Ref sig .tc := ⟨.hbm, 90, rfl⟩
abbrev main_while0b_v60 : Ref sig .tc := ⟨.hbm, 91, rfl⟩
abbrev main_while0b_cst_36 : Ref sig .tc := ⟨.hbm, 92, rfl⟩
abbrev main_while0b_call1_v0 : Ref sig .tc := ⟨.hbm, 93, rfl⟩
abbrev main_while0b_call1_v1 : Ref sig .tc := ⟨.hbm, 94, rfl⟩
abbrev main_while0b_v61 : Ref sig .tc := ⟨.hbm, 95, rfl⟩
abbrev main_while0b_cst_37 : Ref sig .tc := ⟨.hbm, 96, rfl⟩
abbrev main_while0b_v62 : Ref sig .tc := ⟨.hbm, 97, rfl⟩
abbrev main_while0b_cst_38 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_cst_39 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_call2_v0 : Ref sig .tc := ⟨.hbm, 110, rfl⟩
abbrev main_while0b_call2_cst : Ref sig .tc := ⟨.hbm, 111, rfl⟩
abbrev main_while0b_call2_c : Ref sig .tc := ⟨.hbm, 112, rfl⟩
abbrev main_while0b_call2_v1_0 : Ref sig .tc := ⟨.hbm, 113, rfl⟩
abbrev main_while0b_v73 : Ref sig .tc := ⟨.hbm, 114, rfl⟩
abbrev main_while0b_c_40 : Ref sig .tc := ⟨.hbm, 115, rfl⟩
abbrev main_while0b_v74 : Ref sig .tc := ⟨.hbm, 116, rfl⟩
abbrev main_while0b_v75 : Ref sig .tc := ⟨.hbm, 117, rfl⟩
abbrev main_while0b_c_41 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_c_42 : Ref sig .tc := ⟨.hbm, 122, rfl⟩
abbrev main_while0b_v79 : Ref sig .tc := ⟨.hbm, 123, rfl⟩
abbrev main_while0b_v80 : Ref sig .tc := ⟨.hbm, 124, rfl⟩
abbrev main_while0b_c_43 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_cst_44 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_c_45 : Ref sig .tc := ⟨.hbm, 137, rfl⟩
abbrev main_while0b_v91 : Ref sig .tc := ⟨.hbm, 138, rfl⟩
abbrev main_while0b_v92 : Ref sig .tc := ⟨.hbm, 139, rfl⟩
abbrev main_while0b_c_46 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_c_47 : Ref sig .tc := ⟨.hbm, 144, rfl⟩
abbrev main_while0b_v96 : Ref sig .tc := ⟨.hbm, 145, rfl⟩
abbrev main_while0b_v97 : Ref sig .tc := ⟨.hbm, 146, rfl⟩
abbrev main_while0b_c_48 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_c_49 : Ref sig .tc := ⟨.hbm, 154, rfl⟩
abbrev main_while0b_v104 : Ref sig .tc := ⟨.hbm, 155, rfl⟩
abbrev main_while0b_v105 : Ref sig .tc := ⟨.hbm, 156, rfl⟩
abbrev main_while0b_c_50 : Ref sig .tc := ⟨.hbm, 157, rfl⟩
abbrev main_while0b_v106 : Ref sig .tc := ⟨.hbm, 158, rfl⟩
abbrev main_while0b_v107 : Ref sig .tc := ⟨.hbm, 159, rfl⟩
abbrev main_while0b_c_51 : Ref sig .tc := ⟨.hbm, 160, rfl⟩
abbrev main_while0b_v108 : Ref sig .tc := ⟨.hbm, 161, rfl⟩
abbrev main_while0b_v109 : Ref sig .tc := ⟨.hbm, 162, rfl⟩
abbrev main_while0b_v110 : Ref sig .tc := ⟨.hbm, 163, rfl⟩
abbrev main_while0b_c_52 : Ref sig .tc := ⟨.hbm, 164, rfl⟩
abbrev main_while0b_v111 : Ref sig .tc := ⟨.hbm, 165, rfl⟩
abbrev main_while0b_v112 : Ref sig .tc := ⟨.hbm, 166, rfl⟩
abbrev main_while0b_c_53 : Ref sig .tc := ⟨.hbm, 167, rfl⟩
abbrev main_while0b_v113 : Ref sig .tc := ⟨.hbm, 168, rfl⟩
abbrev main_while0b_v114 : Ref sig .tc := ⟨.hbm, 169, rfl⟩
abbrev main_while0b_v115 : Ref sig .tc := ⟨.hbm, 170, rfl⟩
abbrev main_while0b_v116 : Ref sig .tc := ⟨.hbm, 171, rfl⟩
abbrev main_while0b_v117 : Ref sig .tc := ⟨.hbm, 172, rfl⟩
abbrev main_while0b_v118 : Ref sig .tc := ⟨.hbm, 173, rfl⟩
abbrev main_while0b_c_54 : Ref sig .tc := ⟨.hbm, 174, rfl⟩
abbrev main_while0b_v119 : Ref sig .tc := ⟨.hbm, 175, rfl⟩
abbrev main_while0b_v120 : Ref sig .tc := ⟨.hbm, 176, rfl⟩
abbrev main_while0b_c_55 : Ref sig .tc := ⟨.hbm, 177, rfl⟩
abbrev main_while0b_v121 : Ref sig .tc := ⟨.hbm, 178, rfl⟩
abbrev main_while0b_v122 : Ref sig .tc := ⟨.hbm, 179, rfl⟩
abbrev main_while0b_c_56 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_c_57 : Ref sig .tc := ⟨.hbm, 184, rfl⟩
abbrev main_while0b_v126 : Ref sig .tc := ⟨.hbm, 185, rfl⟩
abbrev main_while0b_v127 : Ref sig .tc := ⟨.hbm, 186, rfl⟩
abbrev main_while0b_c_58 : Ref sig .tc := ⟨.hbm, 187, rfl⟩
abbrev main_while0b_v128 : Ref sig .tc := ⟨.hbm, 188, rfl⟩
abbrev main_while0b_v129 : Ref sig .tc := ⟨.hbm, 189, rfl⟩
abbrev main_while0b_v130 : Ref sig .tc := ⟨.hbm, 190, rfl⟩
abbrev main_while0b_v131 : Ref sig .tc := ⟨.hbm, 191, rfl⟩
abbrev main_while0b_v132 : Ref sig .tc := ⟨.hbm, 192, rfl⟩
abbrev main_while0b_v133 : Ref sig .tc := ⟨.hbm, 193, rfl⟩
abbrev main_while0b_c_59 : Ref sig .tc := ⟨.hbm, 194, rfl⟩
abbrev main_while0b_v134 : Ref sig .tc := ⟨.hbm, 195, rfl⟩
abbrev main_while0b_v135 : Ref sig .tc := ⟨.hbm, 196, rfl⟩
abbrev main_while0b_c_60 : Ref sig .tc := ⟨.hbm, 197, rfl⟩
abbrev main_while0b_v136 : Ref sig .tc := ⟨.hbm, 198, rfl⟩
abbrev main_while0b_v137 : Ref sig .tc := ⟨.hbm, 199, rfl⟩
abbrev main_while0b_c_61 : Ref sig .tc := ⟨.hbm, 200, rfl⟩
abbrev main_while0b_v138 : Ref sig .tc := ⟨.hbm, 201, rfl⟩
abbrev main_while0b_v139 : Ref sig .tc := ⟨.hbm, 202, rfl⟩
abbrev main_while0b_v140 : Ref sig .tc := ⟨.hbm, 203, rfl⟩
abbrev main_while0b_c_62 : Ref sig .tc := ⟨.hbm, 204, rfl⟩
abbrev main_while0b_v141 : Ref sig .tc := ⟨.hbm, 205, rfl⟩
abbrev main_while0b_v142 : Ref sig .tc := ⟨.hbm, 206, rfl⟩
abbrev main_while0b_c_63 : Ref sig .tc := ⟨.hbm, 207, rfl⟩
abbrev main_while0b_v143 : Ref sig .tc := ⟨.hbm, 208, rfl⟩
abbrev main_while0b_v144 : Ref sig .tc := ⟨.hbm, 209, rfl⟩
abbrev main_while0b_v145 : Ref sig .tc := ⟨.hbm, 210, rfl⟩
abbrev main_while0b_c_64 : Ref sig .tc := ⟨.hbm, 211, rfl⟩
abbrev main_while0b_v146 : Ref sig .tc := ⟨.hbm, 212, rfl⟩
abbrev main_while0b_v147 : Ref sig .tc := ⟨.hbm, 213, rfl⟩
abbrev main_while0b_c_65 : Ref sig .tc := ⟨.hbm, 214, rfl⟩
abbrev main_while0b_v148 : Ref sig .tc := ⟨.hbm, 215, rfl⟩
abbrev main_while0b_v149 : Ref sig .tc := ⟨.hbm, 216, rfl⟩
abbrev main_while0b_v150 : Ref sig .tc := ⟨.hbm, 217, rfl⟩
abbrev main_while0b_v151 : Ref sig .tc := ⟨.hbm, 218, rfl⟩
abbrev main_while0b_v152 : Ref sig .tc := ⟨.hbm, 219, rfl⟩
abbrev main_while0b_v153 : Ref sig .tc := ⟨.hbm, 220, rfl⟩
abbrev main_while0b_v154 : Ref sig .tc := ⟨.hbm, 221, rfl⟩
abbrev main_while0b_c_66 : Ref sig .tc := ⟨.hbm, 222, rfl⟩
abbrev main_while0b_v155 : Ref sig .tc := ⟨.hbm, 223, rfl⟩
abbrev main_while0b_v156 : Ref sig .tc := ⟨.hbm, 224, rfl⟩
abbrev main_while0b_c_67 : Ref sig .tc := ⟨.hbm, 225, rfl⟩
abbrev main_while0b_v157 : Ref sig .tc := ⟨.hbm, 226, rfl⟩
abbrev main_while0b_v158 : Ref sig .tc := ⟨.hbm, 227, rfl⟩
abbrev main_while0b_c_68 : Ref sig .tc := ⟨.hbm, 228, rfl⟩
abbrev main_while0b_v159 : Ref sig .tc := ⟨.hbm, 229, rfl⟩
abbrev main_while0b_v160 : Ref sig .tc := ⟨.hbm, 230, rfl⟩
abbrev main_while0b_v161 : Ref sig .tc := ⟨.hbm, 231, rfl⟩
abbrev main_while0b_c_69 : Ref sig .tc := ⟨.hbm, 232, rfl⟩
abbrev main_while0b_v162 : Ref sig .tc := ⟨.hbm, 233, rfl⟩
abbrev main_while0b_v163 : Ref sig .tc := ⟨.hbm, 234, rfl⟩
abbrev main_while0b_c_70 : Ref sig .tc := ⟨.hbm, 235, rfl⟩
abbrev main_while0b_v164 : Ref sig .tc := ⟨.hbm, 236, rfl⟩
abbrev main_while0b_v165 : Ref sig .tc := ⟨.hbm, 237, rfl⟩
abbrev main_while0b_v166 : Ref sig .tc := ⟨.hbm, 238, rfl⟩
abbrev main_while0b_v167 : Ref sig .tc := ⟨.hbm, 239, rfl⟩
abbrev main_while0b_v168 : Ref sig .tc := ⟨.hbm, 240, rfl⟩
abbrev main_while0b_v169 : Ref sig .tc := ⟨.hbm, 241, rfl⟩
abbrev main_while0b_v170 : Ref sig .tc := ⟨.hbm, 242, rfl⟩
abbrev main_while0b_v171 : Ref sig .tc := ⟨.hbm, 243, rfl⟩
abbrev main_while0b_v172 : Ref sig .tc := ⟨.hbm, 244, rfl⟩
abbrev main_while0b_v173 : Ref sig .tc := ⟨.hbm, 245, rfl⟩
abbrev main_while0b_cst_71 : Ref sig .tc := ⟨.hbm, 246, rfl⟩
abbrev main_while0b_v174 : Ref sig .tc := ⟨.hbm, 247, rfl⟩
abbrev main_while0b_v175 : Ref sig .tc := ⟨.hbm, 248, rfl⟩
abbrev main_while0b_v176 : Ref sig .tc := ⟨.hbm, 249, rfl⟩
abbrev main_while0b_v177 : Ref sig .tc := ⟨.hbm, 250, rfl⟩
abbrev main_while0b_v178 : Ref sig .tc := ⟨.hbm, 251, rfl⟩
abbrev main_while0b_v179 : Ref sig .tc := ⟨.hbm, 252, rfl⟩
abbrev main_while0b_v180 : Ref sig .tc := ⟨.hbm, 253, rfl⟩
abbrev main_while0b_v181 : Ref sig .tc := ⟨.hbm, 254, rfl⟩
abbrev main_while0b_cst_72 : Ref sig .tc := ⟨.hbm, 255, rfl⟩
abbrev main_while0b_v182 : Ref sig .tc := ⟨.hbm, 256, rfl⟩
abbrev main_while0b_v183 : Ref sig .tc := ⟨.hbm, 257, rfl⟩
abbrev main_while0b_v184 : Ref sig .tc := ⟨.hbm, 258, rfl⟩
abbrev main_while0b_v185 : Ref sig .tc := ⟨.hbm, 259, rfl⟩
abbrev main_while0b_v186 : Ref sig .tc := ⟨.hbm, 260, rfl⟩
abbrev main_while0b_cst_73 : Ref sig .tc := ⟨.hbm, 261, rfl⟩
abbrev main_while0b_call3_v0 : Ref sig .tc := ⟨.hbm, 262, rfl⟩
abbrev main_while0b_call3_v1 : Ref sig .tc := ⟨.hbm, 263, rfl⟩
abbrev main_while0b_v187 : Ref sig .tc := ⟨.hbm, 264, rfl⟩
abbrev main_while0b_cst_74 : Ref sig .tc := ⟨.hbm, 265, rfl⟩
abbrev main_while0b_v188 : Ref sig .tc := ⟨.hbm, 266, rfl⟩
abbrev main_while0b_cst_75 : Ref sig .tc := ⟨.hbm, 267, rfl⟩
abbrev main_while0b_v189 : Ref sig .tc := ⟨.hbm, 268, rfl⟩
abbrev main_while0b_v190 : Ref sig .tc := ⟨.hbm, 269, rfl⟩
abbrev main_while0b_v191 : Ref sig .tc := ⟨.hbm, 270, rfl⟩
abbrev main_while0b_v192 : Ref sig .tc := ⟨.hbm, 271, rfl⟩
abbrev main_while0b_v193 : Ref sig .tc := ⟨.hbm, 272, rfl⟩
abbrev main_while0b_v194 : Ref sig .tc := ⟨.hbm, 273, rfl⟩
abbrev main_while0b_cst_76 : Ref sig .tc := ⟨.hbm, 274, rfl⟩
abbrev main_while0b_v195 : Ref sig .tc := ⟨.hbm, 275, rfl⟩
abbrev main_while0b_v196 : Ref sig .tc := ⟨.hbm, 276, rfl⟩
abbrev main_while0b_v197 : Ref sig .tc := ⟨.hbm, 277, rfl⟩
abbrev main_while0b_v198 : Ref sig .tc := ⟨.hbm, 278, rfl⟩
abbrev main_while0b_call4_v0 : Ref sig .tc := ⟨.hbm, 279, rfl⟩
abbrev main_while0b_call4_cst : Ref sig .tc := ⟨.hbm, 280, rfl⟩
abbrev main_while0b_call4_c : Ref sig .tc := ⟨.hbm, 281, rfl⟩
abbrev main_while0b_call4_v1_0 : Ref sig .tc := ⟨.hbm, 282, rfl⟩
abbrev main_while0b_v199 : Ref sig .tc := ⟨.hbm, 283, rfl⟩
abbrev main_while0b_c_77 : Ref sig .tc := ⟨.hbm, 284, rfl⟩
abbrev main_while0b_v200 : Ref sig .tc := ⟨.hbm, 285, rfl⟩
abbrev main_while0b_v201 : Ref sig .tc := ⟨.hbm, 286, rfl⟩
abbrev main_while0b_c_78 : Ref sig .tc := ⟨.hbm, 287, rfl⟩
abbrev main_while0b_v202 : Ref sig .tc := ⟨.hbm, 288, rfl⟩
abbrev main_while0b_v203 : Ref sig .tc := ⟨.hbm, 289, rfl⟩
abbrev main_while0b_v204 : Ref sig .tc := ⟨.hbm, 290, rfl⟩
abbrev main_while0b_c_79 : Ref sig .tc := ⟨.hbm, 291, rfl⟩
abbrev main_while0b_v205 : Ref sig .tc := ⟨.hbm, 292, rfl⟩
abbrev main_while0b_v206 : Ref sig .tc := ⟨.hbm, 293, rfl⟩
abbrev main_while0b_c_80 : Ref sig .tc := ⟨.hbm, 294, rfl⟩
abbrev main_while0b_v207 : Ref sig .tc := ⟨.hbm, 295, rfl⟩
abbrev main_while0b_v208 : Ref sig .tc := ⟨.hbm, 296, rfl⟩
abbrev main_while0b_v209 : Ref sig .tc := ⟨.hbm, 297, rfl⟩
abbrev main_while0b_v210 : Ref sig .tc := ⟨.hbm, 298, rfl⟩
abbrev main_while0b_v211 : Ref sig .tc := ⟨.hbm, 299, rfl⟩
abbrev main_while0b_v212 : Ref sig .tc := ⟨.hbm, 300, rfl⟩
abbrev main_while0b_v213 : Ref sig .tc := ⟨.hbm, 301, rfl⟩
abbrev main_while0b_cst_81 : Ref sig .tc := ⟨.hbm, 302, rfl⟩
abbrev main_while0b_v214 : Ref sig .tc := ⟨.hbm, 303, rfl⟩
abbrev main_while0b_v215 : Ref sig .tc := ⟨.hbm, 304, rfl⟩
abbrev main_while0b_v216 : Ref sig .tc := ⟨.hbm, 305, rfl⟩
abbrev main_while0b_c_82 : Ref sig .tc := ⟨.hbm, 306, rfl⟩
abbrev main_while0b_v217 : Ref sig .tc := ⟨.hbm, 307, rfl⟩
abbrev main_while0b_v218 : Ref sig .tc := ⟨.hbm, 308, rfl⟩
abbrev main_while0b_c_83 : Ref sig .tc := ⟨.hbm, 309, rfl⟩
abbrev main_while0b_v219 : Ref sig .tc := ⟨.hbm, 310, rfl⟩
abbrev main_while0b_v220 : Ref sig .tc := ⟨.hbm, 311, rfl⟩
abbrev main_while0b_v221 : Ref sig .tc := ⟨.hbm, 312, rfl⟩
abbrev main_while0b_c_84 : Ref sig .tc := ⟨.hbm, 313, rfl⟩
abbrev main_while0b_v222 : Ref sig .tc := ⟨.hbm, 314, rfl⟩
abbrev main_while0b_v223 : Ref sig .tc := ⟨.hbm, 315, rfl⟩
abbrev main_while0b_c_85 : Ref sig .tc := ⟨.hbm, 316, rfl⟩
abbrev main_while0b_v224 : Ref sig .tc := ⟨.hbm, 317, rfl⟩
abbrev main_while0b_v225 : Ref sig .tc := ⟨.hbm, 318, rfl⟩
abbrev main_while0b_v226 : Ref sig .tc := ⟨.hbm, 319, rfl⟩
abbrev main_while0b_c_86 : Ref sig .tc := ⟨.hbm, 320, rfl⟩
abbrev main_while0b_v227 : Ref sig .tc := ⟨.hbm, 321, rfl⟩
abbrev main_while0b_v228 : Ref sig .tc := ⟨.hbm, 322, rfl⟩
abbrev main_while0b_v229 : Ref sig .tc := ⟨.hbm, 323, rfl⟩
abbrev main_while0b_v230 : Ref sig .tc := ⟨.hbm, 324, rfl⟩
abbrev main_while0b_v231 : Ref sig .tc := ⟨.hbm, 325, rfl⟩
abbrev main_while0b_v232 : Ref sig .tc := ⟨.hbm, 326, rfl⟩
abbrev main_while0b_v233 : Ref sig .tc := ⟨.hbm, 327, rfl⟩
abbrev main_while0b_cst_87 : Ref sig .tc := ⟨.hbm, 328, rfl⟩
abbrev main_while0b_v234 : Ref sig .tc := ⟨.hbm, 329, rfl⟩
abbrev main_while0b_v235 : Ref sig .tc := ⟨.hbm, 330, rfl⟩
abbrev main_while0b_c_88 : Ref sig .tc := ⟨.hbm, 331, rfl⟩
abbrev main_while0b_v236 : Ref sig .tc := ⟨.hbm, 332, rfl⟩
abbrev main_while0b_v237 : Ref sig .tc := ⟨.hbm, 333, rfl⟩
abbrev main_while0b_c_89 : Ref sig .tc := ⟨.hbm, 334, rfl⟩
abbrev main_while0b_v238 : Ref sig .tc := ⟨.hbm, 335, rfl⟩
abbrev main_while0b_v239 : Ref sig .tc := ⟨.hbm, 336, rfl⟩
abbrev main_while0b_v240 : Ref sig .tc := ⟨.hbm, 337, rfl⟩
abbrev main_while0b_c_90 : Ref sig .tc := ⟨.hbm, 338, rfl⟩
abbrev main_while0b_v241 : Ref sig .tc := ⟨.hbm, 339, rfl⟩
abbrev main_while0b_v242 : Ref sig .tc := ⟨.hbm, 340, rfl⟩
abbrev main_while0b_c_91 : Ref sig .tc := ⟨.hbm, 341, rfl⟩
abbrev main_while0b_v243 : Ref sig .tc := ⟨.hbm, 342, rfl⟩
abbrev main_while0b_v244 : Ref sig .tc := ⟨.hbm, 343, rfl⟩
abbrev main_while0b_v245 : Ref sig .tc := ⟨.hbm, 344, rfl⟩
abbrev main_while0b_v246 : Ref sig .tc := ⟨.hbm, 345, rfl⟩
abbrev main_while0b_v247 : Ref sig .tc := ⟨.hbm, 346, rfl⟩
abbrev main_while0b_c_92 : Ref sig .tc := ⟨.hbm, 347, rfl⟩
abbrev main_while0b_v248 : Ref sig .tc := ⟨.hbm, 348, rfl⟩
abbrev main_while0b_v249 : Ref sig .tc := ⟨.hbm, 349, rfl⟩
abbrev main_while0b_v250 : Ref sig .tc := ⟨.hbm, 350, rfl⟩
abbrev main_while0b_cst_93 : Ref sig .tc := ⟨.hbm, 351, rfl⟩
abbrev main_while0b_v251 : Ref sig .tc := ⟨.hbm, 352, rfl⟩
abbrev main_while0b_v252 : Ref sig .tc := ⟨.hbm, 353, rfl⟩
abbrev main_while0b_c_94 : Ref sig .tc := ⟨.hbm, 354, rfl⟩
abbrev main_while0b_v253 : Ref sig .tc := ⟨.hbm, 355, rfl⟩
abbrev main_while0b_v254 : Ref sig .tc := ⟨.hbm, 356, rfl⟩
abbrev main_while0b_c_95 : Ref sig .tc := ⟨.hbm, 357, rfl⟩
abbrev main_while0b_v255 : Ref sig .tc := ⟨.hbm, 358, rfl⟩
abbrev main_while0b_v256 : Ref sig .tc := ⟨.hbm, 359, rfl⟩
abbrev main_while0b_v257 : Ref sig .tc := ⟨.hbm, 360, rfl⟩
abbrev main_while0b_c_96 : Ref sig .tc := ⟨.hbm, 361, rfl⟩
abbrev main_while0b_v258 : Ref sig .tc := ⟨.hbm, 362, rfl⟩
abbrev main_while0b_v259 : Ref sig .tc := ⟨.hbm, 363, rfl⟩
abbrev main_while0b_c_97 : Ref sig .tc := ⟨.hbm, 364, rfl⟩
abbrev main_while0b_v260 : Ref sig .tc := ⟨.hbm, 365, rfl⟩
abbrev main_while0b_v261 : Ref sig .tc := ⟨.hbm, 366, rfl⟩
abbrev main_while0b_v262 : Ref sig .tc := ⟨.hbm, 367, rfl⟩
abbrev main_while0b_v263 : Ref sig .tc := ⟨.hbm, 368, rfl⟩
abbrev main_while0b_v264 : Ref sig .tc := ⟨.hbm, 369, rfl⟩
abbrev main_while0b_v265 : Ref sig .tc := ⟨.hbm, 370, rfl⟩
abbrev main_while0b_v266 : Ref sig .tc := ⟨.hbm, 371, rfl⟩
abbrev main_while0b_v267 : Ref sig .tc := ⟨.hbm, 372, rfl⟩
abbrev main_while0b_v268 : Ref sig .tc := ⟨.hbm, 373, rfl⟩
abbrev main_while0b_v269 : Ref sig .tc := ⟨.hbm, 374, rfl⟩
abbrev main_while0b_cst_98 : Ref sig .tc := ⟨.hbm, 375, rfl⟩
abbrev main_while0b_v270 : Ref sig .tc := ⟨.hbm, 376, rfl⟩
abbrev main_while0b_v271 : Ref sig .tc := ⟨.hbm, 377, rfl⟩
abbrev main_while0b_v272 : Ref sig .tc := ⟨.hbm, 378, rfl⟩
abbrev main_while0b_v273 : Ref sig .tc := ⟨.hbm, 379, rfl⟩
abbrev main_while0b_v274 : Ref sig .tc := ⟨.hbm, 380, rfl⟩
abbrev main_while0b_call5_v0 : Ref sig .tc := ⟨.hbm, 381, rfl⟩
abbrev main_while0b_call5_c : Ref sig .tc := ⟨.hbm, 382, rfl⟩
abbrev main_while0b_call5_c_0 : Ref sig .tc := ⟨.hbm, 383, rfl⟩
abbrev main_while0b_v275 : Ref sig .tc := ⟨.hbm, 384, rfl⟩
abbrev main_while0b_call6_v0 : Ref sig .tc := ⟨.hbm, 385, rfl⟩
abbrev main_while0b_call6_c : Ref sig .tc := ⟨.hbm, 386, rfl⟩
abbrev main_while0b_call6_c_0 : Ref sig .tc := ⟨.hbm, 387, rfl⟩
abbrev main_while0b_v276 : Ref sig .tc := ⟨.hbm, 388, rfl⟩
abbrev main_while0b_call7_v0 : Ref sig .tc := ⟨.hbm, 389, rfl⟩
abbrev main_while0b_call7_c : Ref sig .tc := ⟨.hbm, 390, rfl⟩
abbrev main_while0b_v277 : Ref sig .tc := ⟨.hbm, 391, rfl⟩
abbrev main_while0b_call8_v0 : Ref sig .tc := ⟨.hbm, 392, rfl⟩
abbrev main_while0b_call8_c : Ref sig .tc := ⟨.hbm, 393, rfl⟩
abbrev main_while0b_v278 : Ref sig .tc := ⟨.hbm, 394, rfl⟩
abbrev main_while0b_call9_v0 : Ref sig .tc := ⟨.hbm, 395, rfl⟩
abbrev main_while0b_call9_c : Ref sig .tc := ⟨.hbm, 396, rfl⟩
abbrev main_while0b_call9_c_0 : Ref sig .tc := ⟨.hbm, 397, rfl⟩
abbrev main_while0b_v279 : Ref sig .tc := ⟨.hbm, 398, rfl⟩
abbrev main_while0b_call10_v0 : Ref sig .tc := ⟨.hbm, 399, rfl⟩
abbrev main_while0b_call10_c : Ref sig .tc := ⟨.hbm, 400, rfl⟩
abbrev main_while0b_v280 : Ref sig .tc := ⟨.hbm, 401, rfl⟩
abbrev main_while0b_c_99 : Ref sig .tc := ⟨.hbm, 402, rfl⟩
abbrev main_while0b_v281 : Ref sig .tc := ⟨.hbm, 403, rfl⟩
abbrev main_cst_7 : Ref sig .tc := ⟨.hbm, 404, rfl⟩
abbrev main_v10 : Ref sig .tc := ⟨.hbm, 405, rfl⟩
abbrev main_cst_8 : Ref sig .tc := ⟨.hbm, 406, rfl⟩
abbrev main_v11 : Ref sig .tc := ⟨.hbm, 407, rfl⟩
abbrev main_v12 : Ref sig .tc := ⟨.hbm, 408, rfl⟩
abbrev main_v13 : Ref sig .tc := ⟨.hbm, 409, rfl⟩
abbrev main_v14 : Ref sig .tc := ⟨.hbm, 410, rfl⟩
abbrev main_cst_9 : Ref sig .tc := ⟨.hbm, 411, rfl⟩
abbrev main_v15 : Ref sig .tc := ⟨.hbm, 412, rfl⟩
abbrev main_v16 : Ref sig .tc := ⟨.hbm, 413, rfl⟩
abbrev main_cst_10 : Ref sig .tc := ⟨.hbm, 414, rfl⟩
abbrev main_v17 : Ref sig .tc := ⟨.hbm, 415, rfl⟩
abbrev main_v18 : Ref sig .tc := ⟨.hbm, 416, rfl⟩
abbrev main_v19 : Ref sig .tc := ⟨.hbm, 417, rfl⟩
abbrev main_v20 : Ref sig .tc := ⟨.hbm, 418, rfl⟩
abbrev main_v21 : Ref sig .tc := ⟨.hbm, 419, rfl⟩
abbrev main_v22 : Ref sig .tc := ⟨.hbm, 420, rfl⟩
abbrev main_v23 : Ref sig .tc := ⟨.hbm, 421, rfl⟩
abbrev main_v24 : Ref sig .tc := ⟨.hbm, 422, rfl⟩

abbrev nD : Nat := 1
abbrev τ : Topo := Topo.v7x

variable {F : FTy → Type} [FloatOps F]

abbrev main_while0_count : Scf.Loop 32 := ⟨0#32, 50#32, 1#32⟩
-- ==== Proof.KernelIdealStep.lean ====
/- One trip of the kernel's loop as a plain function. `Fix` holds what no trip changes, `St` what a trip hands on; the `k…`
   values are the trip's quantities, each the kernel's own expression over the ones before it, and `next` is the state it leaves. -/
module

public import proofs.«01_k».proof.Proof.Gen.KernelIdeal.Skeleton
public import Idealize.ShloMosaic.Lib.Pointwise

@[expose] public section

set_option maxRecDepth 16384

noncomputable section

namespace Cert.KernelIdeal.Roll

open Cert.KernelIdeal Cert.KernelIdeal.Gen
open Idealize.ShloMosaic Idealize.ShloMosaic.TcCoe Idealize.ShloMosaic.Tactic

variable {F : FTy → Type} [FloatOps F] [Named F]

/-- What the loop reads and never writes: the weight matrices, the items, the edges, the lane numbers, the items' keys and scores. -/
structure Fix (F : FTy → Type) where
  wn : Vec F S16x128 .f32
  we : Vec F S128x128 .f32
  wq : Vec F S128x128 .f32
  wp : Vec F S128x128 .f32
  items : Vec F S64x50x16 .f32
  edges : Vec F S64x50x50 .f32
  lane : IVec S64x50 32
  vit : Vec F S64x50x128 .f32
  sc : Vec F S64x50x50 .f32

/-- What a trip hands on: the nodes, which items are taken, and the failure count. -/
structure St (F : FTy → Type) where
  nodes : Vec F S64x50x16 .f32
  selm : Vec F S64x50 .f32
  fail : Vec F S1x64 .f32

section
variable (C : Fix F) (s : St F)

/-- The item encoding of the trip. -/
def kEnc : FVec F S64x50x128 .f32 := k0_pay9 C.vit (k0_pay5 s.selm C.sc) (k0_pay7 s.selm C.sc) (k0_pay8 s.selm C.sc)
/-- The node encoding of the trip. -/
def kNod : FVec F S64x50x128 .f32 := k0_pay10 C.wn C.we C.edges s.nodes
/-- The first running sum over the nodes. -/
def kAcc : FVec F S64x128 .f32 := k0_pay13 (kNod C s) (k0_pay11 C.wn C.we C.edges s.nodes) (k0_pay12 C.wn C.we C.edges s.nodes)
/-- The item logits. -/
def kLog : FVec F S64x50 .f32 := k0_pay15 C.wq (kEnc C s) (kNod C s) (kAcc C s) (k0_pay14 (kNod C s))
/-- Which items are already taken. -/
def kTak : IVec S64x50 1 := k0_pay16 s.selm
/-- What a taken item's logit is replaced by. -/
def kNeg : F .f32 := Scalar.ofBits .f32 0xCE6E6B28#32
/-- The item probabilities, as stored. -/
def kIP : FVec F S1x64x50 .f32 := k0_pay18 (kLog C s) (kTak s) kNeg
/-- The selected item. -/
def kSel : IVec S64 32 := k0_pay20 C.lane (kLog C s) (kTak s) kNeg
/-- The selected item, as stored. -/
def kSA : IVec S1x64 32 := k0_pay22 C.lane (kLog C s) (kTak s) kNeg
/-- The log-probability of the selected item, as stored. -/
def kIL : FVec F S1x64 .f32 := k0_pay21 (kLog C s) (kTak s) kNeg
/-- The exponentials of the node logits. -/
def kExp : FVec F S64x50 .f32 := k0_pay26 C.wp C.lane s.nodes (kEnc C s) (kNod C s) (kSel C s)
/-- The two halves' last two running sums of the exponentials. -/
def kPair : FVec F S64x2 .f32 := k0_pay27 C.wp C.lane s.nodes (kEnc C s) (kNod C s) (kSel C s)
/-- The node probabilities, as stored. -/
def kNP : FVec F S1x64x50 .f32 := k0_pay29 (kExp C s) (kPair C s)
/-- The log-probability of the chosen node, as stored. -/
def kNL : FVec F S1x64 .f32 := k0_pay32 (kExp C s) (kPair C s)
/-- The chosen node, as stored. -/
def kPA : IVec S1x64 32 := k0_pay33 C.lane (kExp C s) (kPair C s)
/-- The state the trip leaves. -/
def next : St F where
  nodes := k0_pay3 C.items s.nodes (k0_pay34 C.lane (kExp C s) (kPair C s)) (k0_pay36 (k0_pay23 C.lane (kSel C s)))
  selm := k0_pay24 C.lane s.selm (kSel C s)
  fail := k0_pay35 C.lane (k0_pay25 s.nodes) (kExp C s) (kPair C s) s.fail

end

/-- The state after `k` trips. -/
def itK (C : Fix F) (s : St F) : ℕ → St F
  | 0 => s
  | k + 1 => next C (itK C s k)

/-- A matrix of rows from one row per trip. -/
def stack2 {e : EltTy} (r : ℕ → Vec F S1x64 e) : Vec F S50x64 e :=
  fun y => r (y 0).val (ix2 (n0 := 1) (n1 := 64) 0 (y 1))
/-- The same, of planes. -/
def stack3 {e : EltTy} (r : ℕ → Vec F S1x64x50 e) : Vec F S50x64x50 e :=
  fun y => r (y 0).val (ix3 (n0 := 1) (n1 := 64) (n2 := 50) 0 (y 1) (y 2))

/-- What the loop is given, of the kernel's operands. -/
def fixOf (x0 : Vec F S64x50x16 .f32) (x2 : Vec F S64x50x50 .f32) (x3 : Vec F S16x128 .f32) (x4 : Vec F S16x128 .f32)
    (x5 x6 x7 : Vec F S128x128 .f32) : Fix F where
  wn := x4
  we := x5
  wq := x6
  wp := x7
  items := x0
  edges := x2
  lane := iota .tc S64x50 32 [1] iota_S64x50_d1_w32
  vit := k0_pay38 x3 x0
  sc := k0_pay39 x3 x0
/-- The state before the first trip. -/
def st0 (x1 : Vec F S64x50x16 .f32) : St F where
  nodes := k0_pay40 x1
  selm := k0_pay1 (k0_pay41 (F := F))
  fail := k0_pay2 (F := F)

end Cert.KernelIdeal.Roll

end
-- ==== Proof.Math.lean ====
/- The plain mathematics both programs compute on a row of fifty scores: its largest entry, its softmax, and the first place
   at which the largest entry stands, with the two ways in which the programs look for that place. -/
module

public import proofs.«01_k».proof.ReferenceIdeal
public import Idealize.ShloMosaic.Lib.Pointwise
public import Idealize.ShloMosaic.Lib.SortNet.Extract

@[expose] public section

noncomputable section

namespace Cert.Proof.Same

open Idealize.ShloMosaic

/-- The largest entry of a row. -/
def peak (p : Fin 50 → EReal) : EReal := Finset.univ.sup p

theorem fold_eq_peak (p : Fin 50 → EReal) : Finset.fold max (Ideal.ofBits .f32 4286578688#32) p Finset.univ = peak p := by
  rw [show Ideal.ofBits .f32 4286578688#32 = (⊥ : EReal) by simp [Ideal.ofBits, Ideal.ieee]]
  rfl

theorem le_peak (p : Fin 50 → EReal) (k : Fin 50) : p k ≤ peak p := Finset.le_sup (f := p) (Finset.mem_univ k)

/-- The softmax of a row, its largest entry taken off first. -/
def soft (p : Fin 50 → EReal) (k : Fin 50) : EReal :=
  Ideal.div (Ideal.exp (p k - peak p)) (∑ x, Ideal.exp (p x - peak p))

/-- A place holding the largest entry, no later than any other such place. -/
def IsFirst (p : Fin 50 → EReal) (a : Fin 50) : Prop := p a = peak p ∧ ∀ k, p k = peak p → a ≤ k

theorem exists_first (p : Fin 50 → EReal) : ∃ a, IsFirst p a := by
  obtain ⟨k, _, hk⟩ := Finset.exists_mem_eq_sup (Finset.univ : Finset (Fin 50)) ⟨0, Finset.mem_univ 0⟩ p
  have hne : (Finset.univ.filter fun k => p k = peak p).Nonempty := ⟨k, by simp [hk, peak]⟩
  refine ⟨(Finset.univ.filter fun k => p k = peak p).min' hne, ?_, fun x hx => Finset.min'_le _ _ (by simp [hx])⟩
  have := Finset.min'_mem _ hne
  simpa using this

/-- The first place of the largest entry. -/
def first (p : Fin 50 → EReal) : Fin 50 := (exists_first p).choose

theorem first_spec (p : Fin 50 → EReal) : IsFirst p (first p) := (exists_first p).choose_spec

theorem IsFirst.eq {p : Fin 50 → EReal} {a : Fin 50} (h : IsFirst p a) : a = first p :=
  le_antisymm (h.2 _ (first_spec p).1) ((first_spec p).2 _ h.1)

theorem toInt_small {n : ℕ} (h : n < 2 ^ 31) : (BitVec.ofNat 32 n).toInt = (n : Int) := by
  rw [BitVec.toInt_eq_toNat_cond, BitVec.toNat_ofNat, Nat.mod_eq_of_lt (by omega)]
  split <;> omega

theorem ofNat_inj {m n : ℕ} (hm : m < 2 ^ 31) (hn : n < 2 ^ 31) : BitVec.ofNat 32 m = BitVec.ofNat 32 n ↔ m = n := by
  constructor
  · intro h
    have := congrArg BitVec.toNat h
    rwa [BitVec.toNat_ofNat, BitVec.toNat_ofNat, Nat.mod_eq_of_lt (by omega), Nat.mod_eq_of_lt (by omega)] at this
  · rintro rfl; rfl

/-- A signed least word over a set is a word of the set no greater than any of them, once one is below the start. -/
theorem fold_minsi (s : Finset (Fin 50)) (f : Fin 50 → BitVec 32) (c : BitVec 32) :
    (∀ k ∈ s, (Finset.fold IntOp.minsi c f s).toInt ≤ (f k).toInt) ∧ (Finset.fold IntOp.minsi c f s).toInt ≤ c.toInt
      ∧ (Finset.fold IntOp.minsi c f s = c ∨ ∃ k ∈ s, Finset.fold IntOp.minsi c f s = f k) := by
  induction s using Finset.induction_on with
  | empty => simp
  | insert a s ha ih =>
    rw [Finset.fold_insert ha]
    obtain ⟨h1, h2, h3⟩ := ih
    refine ⟨fun k hk => ?_, ?_, ?_⟩
    · rw [SortNet.toInt_minsi]
      rcases Finset.mem_insert.1 hk with rfl | hk
      · exact min_le_left _ _
      · exact (min_le_right _ _).trans (h1 k hk)
    · rw [SortNet.toInt_minsi]; exact (min_le_right _ _).trans h2
    · show (if (f a).slt _ then _ else _) = _ ∨ ∃ k ∈ insert a s, (if (f a).slt _ then _ else _) = f k
      split
      · exact .inr ⟨a, Finset.mem_insert_self _ _, rfl⟩
      · rcases h3 with h3 | ⟨k, hk, h3⟩
        · exact .inl h3
        · exact .inr ⟨k, Finset.mem_insert_of_mem hk, h3⟩

/-- The kernel's search: the least lane number among those at the largest entry. -/
theorem first_of_min (p : Fin 50 → EReal) :
    Finset.fold IntOp.minsi (2147483647#32) (fun x : Fin 50 => if p x = peak p then BitVec.ofNat 32 x.val else 50#32) Finset.univ
      = BitVec.ofNat 32 (first p).val := by
  obtain ⟨h1, h2, h3⟩ := fold_minsi Finset.univ (fun x : Fin 50 => if p x = peak p then BitVec.ofNat 32 x.val else 50#32) 2147483647#32
  generalize Finset.fold IntOp.minsi (2147483647#32) (fun x : Fin 50 => if p x = peak p then BitVec.ofNat 32 x.val else 50#32) Finset.univ = w at h1 h2 h3 ⊢
  have hf := first_spec p
  have ha := h1 (first p) (Finset.mem_univ _)
  simp only [if_pos hf.1] at ha
  rw [toInt_small (by have := (first p).isLt; omega)] at ha
  have hb := (first p).isLt
  rcases h3 with rfl | ⟨k, _, rfl⟩
  · exact absurd ha (by rw [show (2147483647#32 : BitVec 32).toInt = 2147483647 by decide]; omega)
  · by_cases hk : p k = peak p
    · simp only [if_pos hk] at ha ⊢
      rw [toInt_small (by have := k.isLt; omega)] at ha
      have := hf.2 k hk
      have e : k = first p := le_antisymm (by exact_mod_cast ha) this
      rw [e]
    · simp only [if_neg hk] at ha
      rw [show (50#32 : BitVec 32).toInt = 50 by decide] at ha
      omega

/-- One step of the reference's search, on a held pair and a place's pair. -/
theorem arg_step (v x : EReal) (m k : ℕ) (hm : m < 50) (hk : k < 50) :
    Cert.ReferenceIdeal.reducer_argmax_f32_i32 (F := Ideal) (v, BitVec.ofNat 32 m) (x, BitVec.ofNat 32 k)
      = (if x < v then v else x, if x < v ∨ (v = x ∧ m < k) then BitVec.ofNat 32 m else BitVec.ofNat 32 k) := by
  have hs : IntOp.cmpi .slt (BitVec.ofNat 32 m) (BitVec.ofNat 32 k) = BitVec.ofBool (decide (m < k)) := by
    show BitVec.ofBool ((BitVec.ofNat 32 m).slt (BitVec.ofNat 32 k)) = _
    rw [BitVec.slt, toInt_small (by omega), toInt_small (by omega)]
    simp
  unfold Cert.ReferenceIdeal.reducer_argmax_f32_i32
  simp only [hs, Ideal.cmpf_def, Ideal.cmp]
  by_cases h1 : x < v
  · by_cases h3 : m < k <;> simp [h1, h1.ne', h3, Scalar.select, IntOp.ori, IntOp.andi]
  · by_cases h2 : v = x
    · by_cases h3 : m < k <;> simp [h2, h3, Scalar.select, IntOp.ori, IntOp.andi]
    · simp [h1, h2, Scalar.select, IntOp.ori, IntOp.andi]

/-- The reference's search over any list of places. -/
theorem arg_fold (p : Fin 50 → EReal) (L : List (Fin 50)) :
    ∃ (v : EReal) (m : Fin 50),
      (L.map fun k => (p k, BitVec.ofNat 32 k.val)).foldl (Cert.ReferenceIdeal.reducer_argmax_f32_i32 (F := Ideal)) ((⊥ : EReal), 0#32)
        = (v, BitVec.ofNat 32 m.val)
      ∧ (∀ k ∈ L, p k ≤ v ∧ (p k = v → m ≤ k)) ∧ ((v = ⊥ ∧ m = 0) ∨ v = p m) := by
  induction L using List.reverseRecOn with
  | nil => exact ⟨⊥, 0, rfl, by simp, .inl ⟨rfl, rfl⟩⟩
  | append_singleton L a ih =>
    obtain ⟨v, m, he, hL, hv⟩ := ih
    rw [List.map_append, List.foldl_append, he]
    show ∃ v' m', Cert.ReferenceIdeal.reducer_argmax_f32_i32 (F := Ideal) (v, BitVec.ofNat 32 m.val) (p a, BitVec.ofNat 32 a.val) = _ ∧ _
    rw [arg_step _ _ _ _ m.isLt a.isLt]
    by_cases h1 : p a < v
    · refine ⟨v, m, by simp [h1], fun k hk => ?_, hv⟩
      rcases List.mem_append.1 hk with hk | hk
      · exact hL k hk
      · rw [List.mem_singleton.1 hk]; exact ⟨h1.le, fun h => absurd h h1.ne⟩
    · by_cases h2 : v = p a
      · by_cases h3 : m.val < a.val
        · refine ⟨v, m, by simp [h1, h3, ← h2], fun k hk => ?_, hv⟩
          rcases List.mem_append.1 hk with hk | hk
          · exact hL k hk
          · rw [List.mem_singleton.1 hk]; exact ⟨h2.ge, fun _ => Fin.le_def.2 h3.le⟩
        · refine ⟨p a, a, by simp [h1, h3], fun k hk => ?_, .inr rfl⟩
          rcases List.mem_append.1 hk with hk | hk
          · exact ⟨h2 ▸ (hL k hk).1, fun h => (Fin.le_def.2 (not_lt.1 h3)).trans ((hL k hk).2 (h.trans h2.symm))⟩
          · rw [List.mem_singleton.1 hk]; exact ⟨le_rfl, fun _ => le_rfl⟩
      · have hlt : v < p a := lt_of_le_of_ne (not_lt.1 h1) h2
        refine ⟨p a, a, by simp [h1, h2], fun k hk => ?_, .inr rfl⟩
        rcases List.mem_append.1 hk with hk | hk
        · exact ⟨(hL k hk).1.trans hlt.le, fun h => absurd ((hL k hk).1.trans_lt hlt) (by rw [h]; exact lt_irrefl _)⟩
        · rw [List.mem_singleton.1 hk]; exact ⟨le_rfl, fun _ => le_rfl⟩

/-- Over a list that misses no place the search ends at the first place of the largest entry. -/
theorem first_of_arg (p : Fin 50 → EReal) (L : List (Fin 50)) (h : ∀ k, k ∈ L) :
    ((L.map fun k => (p k, BitVec.ofNat 32 k.val)).foldl (Cert.ReferenceIdeal.reducer_argmax_f32_i32 (F := Ideal)) ((⊥ : EReal), 0#32)).2
      = BitVec.ofNat 32 (first p).val := by
  obtain ⟨v, m, he, hL, hv⟩ := arg_fold p L
  rw [he]
  have hp : peak p ≤ v := Finset.sup_le fun k _ => (hL k (h k)).1
  have key : IsFirst p m := by
    rcases hv with ⟨rfl, rfl⟩ | rfl
    · exact ⟨(le_antisymm (le_peak p 0) (hp.trans bot_le)), fun k _ => Fin.zero_le k⟩
    · have e : p m = peak p := le_antisymm (le_peak p m) hp
      exact ⟨e, fun k hk => (hL k (h k)).2 (hk.trans e.symm)⟩
  rw [key.eq]

/-- Dividing by fifty is multiplying by a fiftieth. -/
theorem div_fifty (x : EReal) : Ideal.div x (Ideal.ofBits .f32 0x42480000#32) = x * ((1 / 50 : ℝ) : EReal) := by
  rw [show Ideal.ofBits .f32 0x42480000#32 = ((50 : ℝ) : EReal) by simp [Ideal.ofBits, Ideal.ieee]; rw [← EReal.coe_mul]; norm_num]
  exact Ideal.div_coe (by norm_num) x

/-- A sum over fifty places, written out. -/
theorem sum50 (f : Fin 50 → EReal) :
    ∑ k, f k
      = f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + (f 30 + (f 31 + (f 32 + (f 33 + (f 34 + (f 35 + (f 36 + (f 37 + (f 38 + (f 39 + (f 40 + (f 41 + (f 42 + (f 43 + (f 44 + (f 45 + (f 46 + (f 47 + (f 48 + (f 49))))))))))))))))))))))))))))))))))))))))))))))))) := by
  rw [Fin.sum_univ_def, show List.finRange 50 = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49] by decide]
  simp only [List.map_cons, List.map_nil, List.sum_cons, List.sum_nil, add_zero]

end Cert.Proof.Same

end
-- ==== Proof.KMath.lean ====
/- The quantities of one trip of the kernel's loop, read entry by entry: its halving sums are plain sums, its one-hot products pick
   one row, and its running maxima are the peaks of rows. -/
module

public import proofs.«01_k».proof.Proof.KernelIdealStep
public import proofs.«01_k».proof.Proof.Math

@[expose] public section

set_option maxRecDepth 16384

noncomputable section

namespace Cert.Proof.Same

open Cert.KernelIdeal Cert.KernelIdeal.Gen Cert.KernelIdeal.Roll
open Idealize.ShloMosaic Idealize.ShloMosaic.TcCoe Idealize.ShloMosaic.Tactic

/-- The kernel's halving sum of exponentials over the last axis of a plane, both halves put together. -/
theorem tree3 (se : Vec Ideal S64x50 .f32) (sc : Vec Ideal S64x50x50 .f32) (b : Fin 64) (i : Fin 50) :
    k0_pay7 (F := Ideal) se sc (ix3 b i 0) + k0_pay8 (F := Ideal) se sc (ix3 b i 0) = ∑ k, k0_pay5 (F := Ideal) se sc (ix3 b i k) := by
  rw [sum50]
  unfold k0_pay7 k0_pay8 k0_pay6
  generalize k0_pay5 (F := Ideal) se sc = e
  pointwise []
  abel

/-- The same of a row. -/
theorem tree2 (wp : Vec Ideal S128x128 .f32) (la : IVec S64x50 32) (n : Vec Ideal S64x50x16 .f32) (en no : FVec Ideal S64x50x128 .f32)
    (se : IVec S64 32) (b : Fin 64) :
    k0_pay27 (F := Ideal) wp la n en no se (ix2 b 0) + k0_pay27 (F := Ideal) wp la n en no se (ix2 b 1)
      = ∑ k, k0_pay26 (F := Ideal) wp la n en no se (ix2 b k) := by
  rw [sum50]
  unfold k0_pay27
  generalize k0_pay26 (F := Ideal) wp la n en no se = e
  pointwise []
  abel

theorem sitofp_word {w : ℕ} (x : BitVec w) : (FloatOps.sitofp (F := Ideal) FTy.f32 x : EReal) = ((x.toInt : ℝ) : EReal) := rfl

/-- A one-hot word as a number. -/
theorem hot (i a : Fin 50) :
    (FloatOps.sitofp (F := Ideal) FTy.f32 (BitVec.setWidth 32 (IntOp.cmpi .eq (BitVec.ofNat 32 i.val) (BitVec.ofNat 32 a.val))) : EReal)
      = if i = a then 1 else 0 := by
  have h : IntOp.cmpi .eq (BitVec.ofNat 32 i.val) (BitVec.ofNat 32 a.val) = BitVec.ofBool (decide (i = a)) := by
    show BitVec.ofBool _ = _
    congr 1
    have := ofNat_inj (m := i.val) (n := a.val) (by omega) (by omega)
    rw [Bool.eq_iff_iff]
    simp [this, Fin.ext_iff]
  rw [h]
  by_cases e : i = a <;> simp [e, sitofp_word]

/-- A sum against a one-hot row is the picked entry. -/
theorem pick (f : Fin 50 → EReal) (a : Fin 50) : ∑ k, f k * (if k = a then (1 : EReal) else 0) = f a := by
  rw [Finset.sum_eq_single a]
  · simp
  · intro k _ h; simp [h]
  · simp

theorem pick' (f : Fin 50 → EReal) (a : Fin 50) : ∑ k, (if k = a then (1 : EReal) else 0) * f k = f a := by
  rw [← pick f a]; exact Finset.sum_congr rfl fun k _ => mul_comm _ _

/-- The kernel's softmax of the item logits. -/
theorem soft17 (l : FVec Ideal S64x50 .f32) (t : IVec S64x50 1) (n : Ideal .f32) (b : Fin 64) (i : Fin 50) :
    k0_pay17 (F := Ideal) l t n (ix2 b i) = soft (fun k => Scalar.select (t (ix2 b k)) n (l (ix2 b k))) i := by
  unfold soft
  rw [sum50]
  unfold k0_pay17
  pointwise []
  simp only [fold_eq_peak]
  congr 1
  abel

variable (C : Fix Ideal) (s : St Ideal) (T : Fin 64 → Fin 50 → Bool)

/-- What a masked logit is. -/
def low : EReal := Ideal.ofBits .f32 3463342888#32

/-- Whether item `i` sees item `k`. -/
def sees (b : Fin 64) (i k : Fin 50) : Bool := decide (i = k) || (!T b i && !T b k)

/-- The item attention's logits of one row. -/
def row (b : Fin 64) (i k : Fin 50) : EReal := if sees T b i k then C.sc (ix3 b i k) else low

/-- The item logits, the taken ones masked. -/
def ilog (b : Fin 64) (k : Fin 50) : EReal := if T b k then low else kLog C s (ix2 b k)

/-- The item a trip selects. -/
def sel (b : Fin 64) : Fin 50 := first (soft (ilog C s T b))

/-- The node logits, the occupied ones masked. -/
def nlog (b : Fin 64) (k : Fin 50) : EReal :=
  if s.nodes (ix3 b k 15) < Ideal.ofBits .f32 1056964608#32 then
    Ideal.div (∑ x, kNod C s (ix3 b k x) * ∑ y, kEnc C s (ix3 b (sel C s T b) y) * C.wp (ix2 y x)) (Scalar.sqrt (Ideal.ofBits .f32 1124073472#32))
  else low

/-- The node a trip chooses. -/
def place (b : Fin 64) : Fin 50 := first (soft (nlog C s T b))

/-- What the reading of a trip needs of the state: the lanes are numbered, and the taken items are marked by ones and zeros. -/
structure Marked : Prop where
  lane : ∀ b k, C.lane (ix2 b k) = BitVec.ofNat 32 k.val
  mark : ∀ b k, s.selm (ix2 b k) = if T b k then 1 else 0

variable {C s T}

theorem half_lt_one : Ideal.ofBits .f32 1056964608#32 < (1 : EReal) := by
  rw [show Ideal.ofBits .f32 1056964608#32 = ((1 / 2 : ℝ) : EReal) by simp [Ideal.ofBits, Ideal.ieee]; rw [← EReal.coe_mul]; norm_num]
  exact_mod_cast (by norm_num : (1 / 2 : ℝ) < 1)

theorem zero_lt_half : (0 : EReal) < Ideal.ofBits .f32 1056964608#32 := by
  rw [show Ideal.ofBits .f32 1056964608#32 = ((1 / 2 : ℝ) : EReal) by simp [Ideal.ofBits, Ideal.ieee]; rw [← EReal.coe_mul]; norm_num]
  exact_mod_cast (by norm_num : (0 : ℝ) < 1 / 2)

theorem one_sub_one : (1 : EReal) - 1 = 0 := by
  rw [← EReal.coe_one, ← EReal.coe_sub, sub_self, EReal.coe_zero]

theorem kExpo_at (h : Marked C s T) (b : Fin 64) (i k : Fin 50) :
    k0_pay5 (F := Ideal) s.selm C.sc (ix3 b i k) = Ideal.exp (row C T b i k - peak (row C T b i)) := by
  have key : ∀ k, Scalar.select (IntOp.ori (BitVec.ofBool (decide (Ideal.ofBits .f32 1056964608#32
      < (1 - s.selm (ix2 b i)) * (1 - s.selm (ix2 b k))))) (IntOp.cmpi .eq (BitVec.ofNat 32 i.val) (BitVec.ofNat 32 k.val)))
      (C.sc (ix3 b i k)) (Ideal.ofBits .f32 3463342888#32) = row C T b i k := by
    intro k
    have e : IntOp.cmpi .eq (BitVec.ofNat 32 i.val) (BitVec.ofNat 32 k.val) = BitVec.ofBool (decide (i = k)) := by
      show BitVec.ofBool _ = _
      congr 1
      have := ofNat_inj (m := i.val) (n := k.val) (by omega) (by omega)
      rw [Bool.eq_iff_iff]
      simp [this, Fin.ext_iff]
    rw [e, h.mark, h.mark]
    unfold row sees low
    cases T b i <;> cases T b k <;> by_cases hik : i = k <;>
      simp [hik, one_sub_one, half_lt_one, zero_lt_half.le, zero_lt_half.not_gt, Scalar.select, IntOp.ori]
  pointwise [k0_pay5]
  simp only [fold_eq_peak]
  exact congrArg Ideal.exp (congrArg₂ (· - ·) (key k) (congrArg peak (funext key)))

theorem kEnc_at (h : Marked C s T) (b : Fin 64) (i : Fin 50) (x : Fin 128) :
    kEnc C s (ix3 b i x) = C.vit (ix3 b i x) + ∑ k, soft (row C T b i) k * C.vit (ix3 b k x) := by
  unfold kEnc
  have e := tree3 s.selm C.sc b i
  have key : ∀ (g : FVec Ideal S64x50x50 .f32) (u v : FVec Ideal S64x50x1 .f32),
      k0_pay9 (F := Ideal) C.vit g u v (ix3 b i x)
        = C.vit (ix3 b i x) + ∑ k, Ideal.div (g (ix3 b i k)) (u (ix3 b i 0) + v (ix3 b i 0)) * C.vit (ix3 b k x) := by
    intro g u v
    pointwise [k0_pay9]
  rw [key, e]
  simp only [kExpo_at h, soft]

theorem kAcc_at (b : Fin 64) (x : Fin 128) :
    kAcc C s (ix2 b x) = kNod C s (ix3 b 0 x) + kNod C s (ix3 b 1 x) + kNod C s (ix3 b 2 x) + kNod C s (ix3 b 3 x) + kNod C s (ix3 b 4 x) + kNod C s (ix3 b 5 x) + kNod C s (ix3 b 6 x) + kNod C s (ix3 b 7 x) + kNod C s (ix3 b 8 x) + kNod C s (ix3 b 9 x) + kNod C s (ix3 b 10 x) + kNod C s (ix3 b 11 x) + kNod C s (ix3 b 12 x) + kNod C s (ix3 b 13 x) + kNod C s (ix3 b 14 x) + kNod C s (ix3 b 15 x) + kNod C s (ix3 b 16 x) + kNod C s (ix3 b 17 x) + kNod C s (ix3 b 18 x) + kNod C s (ix3 b 19 x) + kNod C s (ix3 b 20 x) + kNod C s (ix3 b 21 x) + kNod C s (ix3 b 22 x) + kNod C s (ix3 b 23 x) + kNod C s (ix3 b 24 x) + kNod C s (ix3 b 25 x) + kNod C s (ix3 b 26 x) + kNod C s (ix3 b 27 x) + kNod C s (ix3 b 28 x) + kNod C s (ix3 b 29 x) + kNod C s (ix3 b 30 x) + kNod C s (ix3 b 31 x) + kNod C s (ix3 b 32 x) + kNod C s (ix3 b 33 x) + kNod C s (ix3 b 34 x) := by
  have h : k0_pay10 C.wn C.we C.edges s.nodes = kNod C s := rfl
  unfold kAcc k0_pay11 k0_pay12
  rw [h]
  generalize kNod C s = N
  pointwise [k0_pay13]

/-- The item logits: the mean node encoding, queried and met with the item encodings. -/
theorem kLog_at (b : Fin 64) (i : Fin 50) :
    kLog C s (ix2 b i) = Ideal.div (∑ x, kEnc C s (ix3 b i x)
      * ∑ y, ((∑ k, kNod C s (ix3 b k y)) * ((1 / 50 : ℝ) : EReal)) * C.wq (ix2 y x)) (Scalar.sqrt (Ideal.ofBits .f32 1124073472#32)) := by
  have hn : Named.named (F := Ideal) Cert.KernelIdeal.κ "inv_n" (φ := .f32) 1017370378#32 = ((1 / 50 : ℝ) : EReal) :=
    IdealRules.named_const.ideal_named_scalar Cert.KernelIdeal.κ "inv_n" _ _ rfl
  simp only [sum50 fun k => kNod C s (ix3 b k _)]
  pointwise [kLog, k0_pay15, k0_pay14]
  simp only [kAcc_at, hn, add_assoc]

theorem kProb_at (h : Marked C s T) (b : Fin 64) :
    (fun i => k0_pay17 (F := Ideal) (kLog C s) (kTak s) kNeg (ix2 b i)) = soft (ilog C s T b) := by
  funext i
  rw [soft17]
  congr 1
  funext k
  have e : kTak s (ix2 b k) = BitVec.ofBool (decide (Ideal.ofBits .f32 1056964608#32 < s.selm (ix2 b k))) := by
    pointwise [kTak, k0_pay16]
  rw [e, h.mark]
  unfold ilog low kNeg
  cases T b k <;> simp [half_lt_one, zero_lt_half.not_gt, zero_lt_half.le, Scalar.select] <;> rfl

theorem kIP_at (h : Marked C s T) (b : Fin 64) (i : Fin 50) : kIP C s (ix3 0 b i) = soft (ilog C s T b) i := by
  rw [← kProb_at h b]
  unfold kIP k0_pay18
  generalize k0_pay17 (F := Ideal) (kLog C s) (kTak s) kNeg = g
  pointwise []

theorem kTop_at (h : Marked C s T) (b : Fin 64) :
    k0_pay19 (F := Ideal) (kLog C s) (kTak s) kNeg (ix1 b) = peak (soft (ilog C s T b)) := by
  rw [← kProb_at h b, ← fold_eq_peak]
  generalize hl : kLog C s = l
  generalize hk : kTak s = t
  pointwise [k0_pay19]

theorem kSel_at (h : Marked C s T) (b : Fin 64) : kSel C s (ix1 b) = BitVec.ofNat 32 (sel C s T b).val := by
  have hp := kProb_at h b
  have ht := kTop_at h b
  unfold kSel sel
  rw [← first_of_min]
  generalize kLog C s = l at hp ht ⊢
  generalize kTak s = t at hp ht ⊢
  have hp' := congrFun hp
  pointwise [k0_pay20]
  simp only [hp', ht, h.lane]

theorem kSA_at (h : Marked C s T) (b : Fin 64) : kSA C s (ix2 0 b) = BitVec.ofNat 32 (sel C s T b).val := by
  rw [← kSel_at h b]
  unfold kSA kSel
  pointwise [k0_pay22]

theorem kIL_at (h : Marked C s T) (b : Fin 64) :
    kIL C s (ix2 0 b) = Ideal.log (peak (soft (ilog C s T b)) + Ideal.ofBits .f32 507307272#32) := by
  rw [← kTop_at h b]
  unfold kIL
  generalize kLog C s = l
  generalize kTak s = t
  pointwise [k0_pay21]

theorem kHot_at (h : Marked C s T) (b : Fin 64) (i : Fin 50) :
    k0_pay23 (F := Ideal) C.lane (kSel C s) (ix2 b i) = if i = sel C s T b then 1 else 0 := by
  rw [← hot, ← kSel_at h b, ← h.lane b i]
  generalize kSel C s = g
  pointwise [k0_pay23]

theorem kExp_at (h : Marked C s T) (b : Fin 64) (i : Fin 50) :
    kExp C s (ix2 b i) = Ideal.exp (nlog C s T b i - peak (nlog C s T b)) := by
  have h25 : ∀ k, k0_pay25 (F := Ideal) s.nodes (ix2 b k) = s.nodes (ix3 b k 15) := by
    intro k
    pointwise [k0_pay25]
  have hh := kHot_at h b
  rw [show nlog C s T b = fun k => nlog C s T b k from rfl, ← fold_eq_peak]
  unfold nlog low
  unfold kExp
  generalize kSel C s = g at hh ⊢
  pointwise [k0_pay26]
  simp only [h25, hh, pick]

theorem kNodeProb (h : Marked C s T) (b : Fin 64) :
    (fun i => k0_pay28 (F := Ideal) (kExp C s) (kPair C s) (ix2 b i)) = soft (nlog C s T b) := by
  funext i
  have e : kPair C s (ix2 b 0) + kPair C s (ix2 b 1) = ∑ k, kExp C s (ix2 b k) := tree2 _ _ _ _ _ _ _
  have e2 : k0_pay28 (F := Ideal) (kExp C s) (kPair C s) (ix2 b i)
      = Ideal.div (kExp C s (ix2 b i)) (kPair C s (ix2 b 0) + kPair C s (ix2 b 1)) := by
    generalize kExp C s = g
    generalize kPair C s = u
    pointwise [k0_pay28]
  rw [e2, e]
  simp only [kExp_at h, soft]

theorem kNP_at (h : Marked C s T) (b : Fin 64) (i : Fin 50) : kNP C s (ix3 0 b i) = soft (nlog C s T b) i := by
  rw [← kNodeProb h b]
  unfold kNP
  generalize kExp C s = g
  generalize kPair C s = u
  pointwise [k0_pay29]

theorem kNTop_at (h : Marked C s T) (b : Fin 64) :
    k0_pay30 (F := Ideal) (kExp C s) (kPair C s) (ix1 b) = peak (soft (nlog C s T b)) := by
  rw [← kNodeProb h b, ← fold_eq_peak]
  generalize kExp C s = g
  generalize kPair C s = u
  pointwise [k0_pay30]

theorem kNSel_at (h : Marked C s T) (b : Fin 64) :
    k0_pay31 (F := Ideal) C.lane (kExp C s) (kPair C s) (ix1 b) = BitVec.ofNat 32 (place C s T b).val := by
  have hp := congrFun (kNodeProb h b)
  have ht := kNTop_at h b
  unfold place
  rw [← first_of_min]
  generalize kExp C s = g at hp ht ⊢
  generalize kPair C s = u at hp ht ⊢
  pointwise [k0_pay31]
  simp only [hp, ht, h.lane]

theorem kPA_at (h : Marked C s T) (b : Fin 64) : kPA C s (ix2 0 b) = BitVec.ofNat 32 (place C s T b).val := by
  rw [← kNSel_at h b]
  unfold kPA
  generalize kExp C s = g
  generalize kPair C s = u
  pointwise [k0_pay33]

theorem kNL_at (h : Marked C s T) (b : Fin 64) :
    kNL C s (ix2 0 b) = Ideal.log (peak (soft (nlog C s T b)) + Ideal.ofBits .f32 507307272#32) := by
  rw [← kNTop_at h b]
  unfold kNL
  generalize kExp C s = g
  generalize kPair C s = u
  pointwise [k0_pay32]

theorem kNHot_at (h : Marked C s T) (b : Fin 64) (i : Fin 50) :
    k0_pay34 (F := Ideal) C.lane (kExp C s) (kPair C s) (ix2 b i) = if i = place C s T b then 1 else 0 := by
  rw [← hot, ← kNSel_at h b, ← h.lane b i]
  generalize kExp C s = g
  generalize kPair C s = u
  pointwise [k0_pay34]

/-- The marks a trip leaves. -/
theorem next_selm (h : Marked C s T) (b : Fin 64) (k : Fin 50) :
    (next C s).selm (ix2 b k) = if T b k || decide (k = sel C s T b) then 1 else 0 := by
  have hh := kHot_at h b k
  have hm := h.mark b k
  show k0_pay24 (F := Ideal) C.lane s.selm (kSel C s) (ix2 b k) = _
  generalize kSel C s = g at hh ⊢
  pointwise [k0_pay24]
  rw [hh, hm]
  cases T b k <;> by_cases e : k = sel C s T b <;> simp [e]

/-- The nodes a trip leaves: the chosen place holds the selected item, its flag set. -/
theorem next_nodes (h : Marked C s T) (b : Fin 64) (i : Fin 50) (x : Fin 16) :
    (next C s).nodes (ix3 b i x) = if i = place C s T b then (if x = 15 then 1 else C.items (ix3 b (sel C s T b) x)) else s.nodes (ix3 b i x) := by
  have hh := kHot_at h b
  have hn := kNHot_at h b i
  show k0_pay3 (F := Ideal) C.items s.nodes (k0_pay34 C.lane (kExp C s) (kPair C s)) (k0_pay36 (k0_pay23 C.lane (kSel C s))) (ix3 b i x) = _
  have h36 : ∀ k, k0_pay36 (F := Ideal) (k0_pay23 C.lane (kSel C s)) (ix3 b k 0) = if k = sel C s T b then 1 else 0 := by
    intro k
    rw [← hh k]
    generalize k0_pay23 (F := Ideal) C.lane (kSel C s) = g
    pointwise [k0_pay36]
  generalize k0_pay34 (F := Ideal) C.lane (kExp C s) (kPair C s) = g at hn ⊢
  generalize k0_pay36 (F := Ideal) (k0_pay23 C.lane (kSel C s)) = u at h36 ⊢
  pointwise [k0_pay3]
  have ex : IntOp.cmpi .eq (BitVec.ofNat 32 x.val) 15#32 = BitVec.ofBool (decide (x = 15)) := by
    revert x; decide
  simp only [h36, hn, pick, ex]
  by_cases e : i = place C s T b <;> by_cases e' : x = 15 <;> simp [e, e', one_sub_one, Scalar.select]

/-- The failure count a trip leaves. -/
theorem next_fail (h : Marked C s T) (b : Fin 64) :
    (next C s).fail (ix2 0 b) = max (s.fail (ix2 0 b))
      (if Ideal.ofBits .f32 1056964608#32 < s.nodes (ix3 b (place C s T b) 15) then 1 else 0) := by
  have hn := kNHot_at h b
  have h25 : ∀ k, k0_pay25 (F := Ideal) s.nodes (ix2 b k) = s.nodes (ix3 b k 15) := by
    intro k
    pointwise [k0_pay25]
  show k0_pay35 (F := Ideal) C.lane (k0_pay25 s.nodes) (kExp C s) (kPair C s) s.fail (ix2 0 b) = _
  generalize kExp C s = g at hn ⊢
  generalize kPair C s = u at hn ⊢
  pointwise [k0_pay35]
  simp only [hn, h25, pick']
  congr 1
  by_cases e : Ideal.ofBits .f32 1056964608#32 < s.nodes (ix3 b (place C s T b) 15) <;> simp [e, sitofp_word]

end Cert.Proof.Same

end
-- ==== Proof.RefStep.lean ====
/- One trip of the reference's loop, as plain definitions. `State` is what a trip hands on to the next: the carried
   values that the body writes, and the arguments, which no trip changes. Each operation of the body is a value `b‹n›` of the trip's
   number and the state, in the body's order; `init` is the first state, `step` one trip, and `R_…` are the results as functions
   of the last state. -/
module

public import proofs.«01_k».proof.ReferenceIdeal
public import proofs.«01_k».proof.Proof.Gen.ReferenceIdeal

@[expose] public section

set_option maxRecDepth 16384

noncomputable section

namespace Cert.Proof.RefStep

open Idealize.ShloMosaic Cert.ReferenceIdeal Cert.ReferenceIdeal.Gen

variable {F : FTy → Type} [FloatOps F]

/-- What a trip hands the next. -/
structure State (F : FTy → Type) [FloatOps F] where
  main_v9_9 : (⟨S64x50x16, .f32⟩ : BufTy).Contents (Elt F)
  main_v9_10 : (⟨S64x50, .i1⟩ : BufTy).Contents (Elt F)
  main_v9_11 : (⟨S64x50x50, .i1⟩ : BufTy).Contents (Elt F)
  main_v9_12 : (⟨S50x64x50, .f32⟩ : BufTy).Contents (Elt F)
  main_v9_13 : (⟨S50x64x50, .f32⟩ : BufTy).Contents (Elt F)
  main_v9_14 : (⟨S50x64, .f32⟩ : BufTy).Contents (Elt F)
  main_v9_15 : (⟨S50x64, .f32⟩ : BufTy).Contents (Elt F)
  main_v9_16 : (⟨S50x64x2, .i32⟩ : BufTy).Contents (Elt F)
  main_v9_17 : (⟨S50x64, .f32⟩ : BufTy).Contents (Elt F)
  main_v9_0 : (⟨S64x50x16, .f32⟩ : BufTy).Contents (Elt F)
  main_v9_1 : (⟨S16x128, .f32⟩ : BufTy).Contents (Elt F)
  main_v9_2 : (⟨S16x128, .f32⟩ : BufTy).Contents (Elt F)
  main_v9_3 : (⟨S64x50x50, .f32⟩ : BufTy).Contents (Elt F)
  main_v9_4 : (⟨S128x128, .f32⟩ : BufTy).Contents (Elt F)
  main_v9_5 : (⟨S128x128, .f32⟩ : BufTy).Contents (Elt F)
  main_v9_7 : (⟨S128x128, .f32⟩ : BufTy).Contents (Elt F)

/-! What @main computes before the loop without reading an argument. -/

def K_main_v0 : (⟨S64, .i32⟩ : BufTy).Contents (Elt F) := iotaInDim S64 32 0
def K_main_c : (⟨S_, .i1⟩ : BufTy).Contents (Elt F) := constantI S_ 1 0#1
def K_main_v1 : (⟨S64x50, .i1⟩ : BufTy).Contents (Elt F) := broadcastInDim S64x50 ![] bcast_S_S64x50 ((K_main_c (F := F)))
def K_main_c_0 : (⟨S_, .i1⟩ : BufTy).Contents (Elt F) := constantI S_ 1 1#1
def K_main_v2 : (⟨S64x50x50, .i1⟩ : BufTy).Contents (Elt F) := broadcastInDim S64x50x50 ![] bcast_S_S64x50x50 ((K_main_c_0 (F := F)))
def K_main_cst : (⟨S_, .f32⟩ : BufTy).Contents (Elt F) := constant S_ .f32 0x00000000#32
def K_main_v3 : (⟨S50x64x50, .f32⟩ : BufTy).Contents (Elt F) := broadcastInDim S50x64x50 ![] bcast_S_S50x64x50 ((K_main_cst (F := F)))
def K_main_cst_1 : (⟨S_, .f32⟩ : BufTy).Contents (Elt F) := constant S_ .f32 0x00000000#32
def K_main_v4 : (⟨S50x64x50, .f32⟩ : BufTy).Contents (Elt F) := broadcastInDim S50x64x50 ![] bcast_S_S50x64x50 ((K_main_cst_1 (F := F)))
def K_main_cst_2 : (⟨S_, .f32⟩ : BufTy).Contents (Elt F) := constant S_ .f32 0x00000000#32
def K_main_v5 : (⟨S50x64, .f32⟩ : BufTy).Contents (Elt F) := broadcastInDim S50x64 ![] bcast_S_S50x64 ((K_main_cst_2 (F := F)))
def K_main_cst_3 : (⟨S_, .f32⟩ : BufTy).Contents (Elt F) := constant S_ .f32 0x00000000#32
def K_main_v6 : (⟨S50x64, .f32⟩ : BufTy).Contents (Elt F) := broadcastInDim S50x64 ![] bcast_S_S50x64 ((K_main_cst_3 (F := F)))
def K_main_c_4 : (⟨S_, .i32⟩ : BufTy).Contents (Elt F) := constantI S_ 32 0#32
def K_main_v7 : (⟨S50x64x2, .i32⟩ : BufTy).Contents (Elt F) := broadcastInDim S50x64x2 ![] bcast_S_S50x64x2 ((K_main_c_4 (F := F)))
def K_main_cst_5 : (⟨S_, .f32⟩ : BufTy).Contents (Elt F) := constant S_ .f32 0x00000000#32
def K_main_v8 : (⟨S50x64, .f32⟩ : BufTy).Contents (Elt F) := broadcastInDim S50x64 ![] bcast_S_S50x64 ((K_main_cst_5 (F := F)))
def K_main_c_6 : (⟨S_, .i32⟩ : BufTy).Contents (Elt F) := constantI S_ 32 0#32

/-! One trip's values, in the body's order. -/

def b0 (j : ℕ) (s : State F) : (⟨S64x50x128, .f32⟩ : BufTy).Contents (Elt F) :=
  Host.dotGeneral dot_S64x50x16_S16x128_S64x50x128_2_0_01_1_n_n none (s.main_v9_0) (s.main_v9_1)
def b1 (j : ℕ) (s : State F) : (⟨S64x50x128, .f32⟩ : BufTy).Contents (Elt F) :=
  Host.tanh ((b0 j s))
def b2 (j : ℕ) (s : State F) : (⟨S64x128x50, .f32⟩ : BufTy).Contents (Elt F) :=
  transpose S64x128x50 [0, 2, 1] ((b1 j s)) transposes_S64x50x128_S64x128x50_0_2_1
def b3 (j : ℕ) (s : State F) : (⟨S64x50x50, .f32⟩ : BufTy).Contents (Elt F) :=
  Host.dotGeneral dot_S64x50x128_S64x128x50_S64x50x50_2_1_1_2_0_0 none ((b1 j s)) ((b2 j s))
def b4 (j : ℕ) (s : State F) : (⟨S_, .f32⟩ : BufTy).Contents (Elt F) :=
  constant S_ .f32 0x43000000#32
def b5 (j : ℕ) (s : State F) : (⟨S_, .f32⟩ : BufTy).Contents (Elt F) :=
  Host.sqrt ((b4 j s))
def b6 (j : ℕ) (s : State F) : (⟨S_, .f32⟩ : BufTy).Contents (Elt F) := b5 j s
theorem b6_id (j : ℕ) (s : State F) : b6 j s = b5 j s := rfl
def b7 (j : ℕ) (s : State F) : (⟨S64x50x50, .f32⟩ : BufTy).Contents (Elt F) :=
  broadcastInDim S64x50x50 ![] bcast_S_S64x50x50 ((b6 j s))
def b8 (j : ℕ) (s : State F) : (⟨S64x50x50, .f32⟩ : BufTy).Contents (Elt F) :=
  Host.divf ((b3 j s)) ((b7 j s))
def b9 (j : ℕ) (s : State F) : (⟨S_, .f32⟩ : BufTy).Contents (Elt F) :=
  constant S_ .f32 0xCE6E6B28#32
def b10 (j : ℕ) (s : State F) : (⟨S_, .f32⟩ : BufTy).Contents (Elt F) := b9 j s
theorem b10_id (j : ℕ) (s : State F) : b10 j s = b9 j s := rfl
def b11 (j : ℕ) (s : State F) : (⟨S64x50x50, .f32⟩ : BufTy).Contents (Elt F) :=
  broadcastInDim S64x50x50 ![] bcast_S_S64x50x50 ((b10 j s))
def b12 (j : ℕ) (s : State F) : (⟨S64x50x50, .f32⟩ : BufTy).Contents (Elt F) :=
  select (s.main_v9_11) ((b8 j s)) ((b11 j s))
def b13 (j : ℕ) (s : State F) : (⟨S_, .f32⟩ : BufTy).Contents (Elt F) :=
  constant S_ .f32 0xFF800000#32
def b14 (j : ℕ) (s : State F) : (⟨S64x50, .f32⟩ : BufTy).Contents (Elt F) :=
  Host.reduce FloatOps.maximumf ((b12 j s)) ((b13 j s)) reducesTo_S64x50x50_S64x50_d2 h_S_
def b15 (j : ℕ) (s : State F) : (⟨S_, .f32⟩ : BufTy).Contents (Elt F) :=
  constant S_ .f32 0xFF800000#32
def b16 (j : ℕ) (s : State F) : (⟨S64x50, .f32⟩ : BufTy).Contents (Elt F) :=
  broadcastInDim S64x50 ![] bcast_S_S64x50 ((b15 j s))
def b17 (j : ℕ) (s : State F) : (⟨S64x50, .f32⟩ : BufTy).Contents (Elt F) :=
  maximumf ((b16 j s)) ((b14 j s))
def b18 (j : ℕ) (s : State F) : (⟨S64x50x1, .f32⟩ : BufTy).Contents (Elt F) :=
  broadcastInDim S64x50x1 ![0, 1] bcast_S64x50_S64x50x1_0_1 ((b17 j s))
def b19 (j : ℕ) (s : State F) : (⟨S64x50x50, .f32⟩ : BufTy).Contents (Elt F) :=
  broadcastInDim S64x50x50 ![0, 1, 2] bcast_S64x50x1_S64x50x50_0_1_2 ((b18 j s))
def b20 (j : ℕ) (s : State F) : (⟨S64x50x50, .f32⟩ : BufTy).Contents (Elt F) :=
  subf ((b12 j s)) ((b19 j s))
def b21 (j : ℕ) (s : State F) : (⟨S64x50x50, .f32⟩ : BufTy).Contents (Elt F) :=
  Host.exp ((b20 j s))
def b22 (j : ℕ) (s : State F) : (⟨S_, .f32⟩ : BufTy).Contents (Elt F) :=
  constant S_ .f32 0x00000000#32
def b23 (j : ℕ) (s : State F) : (⟨S64x50, .f32⟩ : BufTy).Contents (Elt F) :=
  Host.reduceAdd ((b21 j s)) ((b22 j s)) reducesTo_S64x50x50_S64x50_d2 h_S_
def b24 (j : ℕ) (s : State F) : (⟨S64x50x1, .f32⟩ : BufTy).Contents (Elt F) :=
  broadcastInDim S64x50x1 ![0, 1] bcast_S64x50_S64x50x1_0_1 ((b23 j s))
def b25 (j : ℕ) (s : State F) : (⟨S64x50x50, .f32⟩ : BufTy).Contents (Elt F) :=
  broadcastInDim S64x50x50 ![0, 1, 2] bcast_S64x50x1_S64x50x50_0_1_2 ((b24 j s))
def b26 (j : ℕ) (s : State F) : (⟨S64x50x50, .f32⟩ : BufTy).Contents (Elt F) :=
  Host.divf ((b21 j s)) ((b25 j s))
def b27 (j : ℕ) (s : State F) : (⟨S64x50x128, .f32⟩ : BufTy).Contents (Elt F) :=
  Host.dotGeneral dot_S64x50x50_S64x50x128_S64x50x128_2_1_1_2_0_0 none ((b26 j s)) ((b1 j s))
def b28 (j : ℕ) (s : State F) : (⟨S64x50x128, .f32⟩ : BufTy).Contents (Elt F) :=
  addf ((b1 j s)) ((b27 j s))
def b29 (j : ℕ) (s : State F) : (⟨S64x50x128, .f32⟩ : BufTy).Contents (Elt F) :=
  Host.dotGeneral dot_S64x50x16_S16x128_S64x50x128_2_0_01_1_n_n none (s.main_v9_9) (s.main_v9_2)
def b30 (j : ℕ) (s : State F) : (⟨S64x50x128, .f32⟩ : BufTy).Contents (Elt F) :=
  Host.tanh ((b29 j s))
def b31 (j : ℕ) (s : State F) : (⟨S64x50x128, .f32⟩ : BufTy).Contents (Elt F) :=
  Host.dotGeneral dot_S64x50x50_S64x50x128_S64x50x128_2_1_1_2_0_0 none (s.main_v9_3) ((b30 j s))
def b32 (j : ℕ) (s : State F) : (⟨S64x50x128, .f32⟩ : BufTy).Contents (Elt F) :=
  Host.dotGeneral dot_S64x50x128_S128x128_S64x50x128_2_0_01_1_n_n none ((b31 j s)) (s.main_v9_4)
def b33 (j : ℕ) (s : State F) : (⟨S64x50x128, .f32⟩ : BufTy).Contents (Elt F) :=
  addf ((b30 j s)) ((b32 j s))
def b34 (j : ℕ) (s : State F) : (⟨S_, .f32⟩ : BufTy).Contents (Elt F) :=
  constant S_ .f32 0x00000000#32
def b35 (j : ℕ) (s : State F) : (⟨S64x128, .f32⟩ : BufTy).Contents (Elt F) :=
  Host.reduceAdd ((b33 j s)) ((b34 j s)) reducesTo_S64x50x128_S64x128_d1 h_S_
def b36 (j : ℕ) (s : State F) : (⟨S_, .f32⟩ : BufTy).Contents (Elt F) :=
  constant S_ .f32 0x42480000#32
def b37 (j : ℕ) (s : State F) : (⟨S64x128, .f32⟩ : BufTy).Contents (Elt F) :=
  broadcastInDim S64x128 ![] bcast_S_S64x128 ((b36 j s))
def b38 (j : ℕ) (s : State F) : (⟨S64x128, .f32⟩ : BufTy).Contents (Elt F) :=
  Host.divf ((b35 j s)) ((b37 j s))
def b39 (j : ℕ) (s : State F) : (⟨S64x128, .f32⟩ : BufTy).Contents (Elt F) :=
  Host.dotGeneral dot_S64x128_S128x128_S64x128_1_0_0_1_n_n none ((b38 j s)) (s.main_v9_5)
def b40 (j : ℕ) (s : State F) : (⟨S64x50, .f32⟩ : BufTy).Contents (Elt F) :=
  Host.dotGeneral dot_S64x50x128_S64x128_S64x50_2_1_1_n_0_0 none ((b28 j s)) ((b39 j s))
def b41 (j : ℕ) (s : State F) : (⟨S_, .f32⟩ : BufTy).Contents (Elt F) :=
  constant S_ .f32 0x43000000#32
def b42 (j : ℕ) (s : State F) : (⟨S_, .f32⟩ : BufTy).Contents (Elt F) :=
  Host.sqrt ((b41 j s))
def b43 (j : ℕ) (s : State F) : (⟨S_, .f32⟩ : BufTy).Contents (Elt F) := b42 j s
theorem b43_id (j : ℕ) (s : State F) : b43 j s = b42 j s := rfl
def b44 (j : ℕ) (s : State F) : (⟨S64x50, .f32⟩ : BufTy).Contents (Elt F) :=
  broadcastInDim S64x50 ![] bcast_S_S64x50 ((b43 j s))
def b45 (j : ℕ) (s : State F) : (⟨S64x50, .f32⟩ : BufTy).Contents (Elt F) :=
  Host.divf ((b40 j s)) ((b44 j s))
def b46 (j : ℕ) (s : State F) : (⟨S_, .f32⟩ : BufTy).Contents (Elt F) :=
  constant S_ .f32 0xCE6E6B28#32
def b47 (j : ℕ) (s : State F) : (⟨S_, .f32⟩ : BufTy).Contents (Elt F) := b46 j s
theorem b47_id (j : ℕ) (s : State F) : b47 j s = b46 j s := rfl
def b48 (j : ℕ) (s : State F) : (⟨S64x50, .f32⟩ : BufTy).Contents (Elt F) :=
  broadcastInDim S64x50 ![] bcast_S_S64x50 ((b47 j s))
def b49 (j : ℕ) (s : State F) : (⟨S64x50, .f32⟩ : BufTy).Contents (Elt F) :=
  select (s.main_v9_10) ((b48 j s)) ((b45 j s))
def b50 (j : ℕ) (s : State F) : (⟨S_, .f32⟩ : BufTy).Contents (Elt F) :=
  constant S_ .f32 0xFF800000#32
def b51 (j : ℕ) (s : State F) : (⟨S64, .f32⟩ : BufTy).Contents (Elt F) :=
  Host.reduce FloatOps.maximumf ((b49 j s)) ((b50 j s)) reducesTo_S64x50_S64_d1 h_S_
def b52 (j : ℕ) (s : State F) : (⟨S_, .f32⟩ : BufTy).Contents (Elt F) :=
  constant S_ .f32 0xFF800000#32
def b53 (j : ℕ) (s : State F) : (⟨S64, .f32⟩ : BufTy).Contents (Elt F) :=
  broadcastInDim S64 ![] bcast_S_S64 ((b52 j s))
def b54 (j : ℕ) (s : State F) : (⟨S64, .f32⟩ : BufTy).Contents (Elt F) :=
  maximumf ((b53 j s)) ((b51 j s))
def b55 (j : ℕ) (s : State F) : (⟨S64x1, .f32⟩ : BufTy).Contents (Elt F) :=
  broadcastInDim S64x1 ![0] bcast_S64_S64x1_0 ((b54 j s))
def b56 (j : ℕ) (s : State F) : (⟨S64x50, .f32⟩ : BufTy).Contents (Elt F) :=
  broadcastInDim S64x50 ![0, 1] bcast_S64x1_S64x50_0_1 ((b55 j s))
def b57 (j : ℕ) (s : State F) : (⟨S64x50, .f32⟩ : BufTy).Contents (Elt F) :=
  subf ((b49 j s)) ((b56 j s))
def b58 (j : ℕ) (s : State F) : (⟨S64x50, .f32⟩ : BufTy).Contents (Elt F) :=
  Host.exp ((b57 j s))
def b59 (j : ℕ) (s : State F) : (⟨S_, .f32⟩ : BufTy).Contents (Elt F) :=
  constant S_ .f32 0x00000000#32
def b60 (j : ℕ) (s : State F) : (⟨S64, .f32⟩ : BufTy).Contents (Elt F) :=
  Host.reduceAdd ((b58 j s)) ((b59 j s)) reducesTo_S64x50_S64_d1 h_S_
def b61 (j : ℕ) (s : State F) : (⟨S64x1, .f32⟩ : BufTy).Contents (Elt F) :=
  broadcastInDim S64x1 ![0] bcast_S64_S64x1_0 ((b60 j s))
def b62 (j : ℕ) (s : State F) : (⟨S64x50, .f32⟩ : BufTy).Contents (Elt F) :=
  broadcastInDim S64x50 ![0, 1] bcast_S64x1_S64x50_0_1 ((b61 j s))
def b63 (j : ℕ) (s : State F) : (⟨S64x50, .f32⟩ : BufTy).Contents (Elt F) :=
  Host.divf ((b58 j s)) ((b62 j s))
def b64 (j : ℕ) (s : State F) : (⟨S64x50, .i32⟩ : BufTy).Contents (Elt F) :=
  iotaInDim S64x50 32 1
def b65 (j : ℕ) (s : State F) : (⟨S_, .f32⟩ : BufTy).Contents (Elt F) :=
  constant S_ .f32 0xFF800000#32
def b66 (j : ℕ) (s : State F) : (⟨S_, .i32⟩ : BufTy).Contents (Elt F) :=
  constantI S_ 32 0#32
def b67 (j : ℕ) (s : State F) : (⟨S64, .f32⟩ : BufTy).Contents (Elt F) :=
  fun i => (Host.argReduce reducer_argmax_f32_i32 ((b63 j s)) ((b64 j s)) ((b65 j s)) ((b66 j s)) reducesTo_S64x50_S64_d1 h_S_ i).1
def b68 (j : ℕ) (s : State F) : (⟨S64, .i32⟩ : BufTy).Contents (Elt F) :=
  fun i => (Host.argReduce reducer_argmax_f32_i32 ((b63 j s)) ((b64 j s)) ((b65 j s)) ((b66 j s)) reducesTo_S64x50_S64_d1 h_S_ i).2
def b69 (j : ℕ) (s : State F) : (⟨S_, .i32⟩ : BufTy).Contents (Elt F) :=
  constantI S_ 32 0#32
def b70 (j : ℕ) (s : State F) : (⟨S64, .i32⟩ : BufTy).Contents (Elt F) :=
  broadcastInDim S64 ![] bcast_S_S64 ((b69 j s))
def b71 (j : ℕ) (s : State F) : (⟨S64, .i1⟩ : BufTy).Contents (Elt F) :=
  cmpi .slt ((K_main_v0 (F := F))) ((b70 j s))
def b72 (j : ℕ) (s : State F) : (⟨S_, .i32⟩ : BufTy).Contents (Elt F) :=
  constantI S_ 32 64#32
def b73 (j : ℕ) (s : State F) : (⟨S64, .i32⟩ : BufTy).Contents (Elt F) :=
  broadcastInDim S64 ![] bcast_S_S64 ((b72 j s))
def b74 (j : ℕ) (s : State F) : (⟨S64, .i32⟩ : BufTy).Contents (Elt F) :=
  addi ((K_main_v0 (F := F))) ((b73 j s))
def b75 (j : ℕ) (s : State F) : (⟨S64, .i32⟩ : BufTy).Contents (Elt F) :=
  select ((b71 j s)) ((b74 j s)) ((K_main_v0 (F := F)))
def b76 (j : ℕ) (s : State F) : (⟨S_, .i32⟩ : BufTy).Contents (Elt F) :=
  constantI S_ 32 0#32
def b77 (j : ℕ) (s : State F) : (⟨S64, .i32⟩ : BufTy).Contents (Elt F) :=
  broadcastInDim S64 ![] bcast_S_S64 ((b76 j s))
def b78 (j : ℕ) (s : State F) : (⟨S64, .i1⟩ : BufTy).Contents (Elt F) :=
  cmpi .slt ((b68 j s)) ((b77 j s))
def b79 (j : ℕ) (s : State F) : (⟨S_, .i32⟩ : BufTy).Contents (Elt F) :=
  constantI S_ 32 50#32
def b80 (j : ℕ) (s : State F) : (⟨S64, .i32⟩ : BufTy).Contents (Elt F) :=
  broadcastInDim S64 ![] bcast_S_S64 ((b79 j s))
def b81 (j : ℕ) (s : State F) : (⟨S64, .i32⟩ : BufTy).Contents (Elt F) :=
  addi ((b68 j s)) ((b80 j s))
def b82 (j : ℕ) (s : State F) : (⟨S64, .i32⟩ : BufTy).Contents (Elt F) :=
  select ((b78 j s)) ((b81 j s)) ((b68 j s))
def b83 (j : ℕ) (s : State F) : (⟨S64x1, .i32⟩ : BufTy).Contents (Elt F) :=
  broadcastInDim S64x1 ![0] bcast_S64_S64x1_0 ((b75 j s))
def b84 (j : ℕ) (s : State F) : (⟨S64x1, .i32⟩ : BufTy).Contents (Elt F) :=
  broadcastInDim S64x1 ![0] bcast_S64_S64x1_0 ((b82 j s))
def b85 (j : ℕ) (s : State F) : (⟨S64x2, .i32⟩ : BufTy).Contents (Elt F) :=
  concatenate S64x2 1 [⟨S64x1, ((b83 j s))⟩, ⟨S64x1, ((b84 j s))⟩] concatenates_S64x1_S64x1_S64x2_d1
def b86 (j : ℕ) (s : State F) : (⟨S64, .f32⟩ : BufTy).Contents (Elt F) :=
  Host.gather gather_S64x50_S64x2_S64_n_01_n_n_01_1_11 ((b63 j s)) ((b85 j s))
def b87 (j : ℕ) (s : State F) : (⟨S_, .f32⟩ : BufTy).Contents (Elt F) :=
  constant S_ .f32 0x1E3CE508#32
def b88 (j : ℕ) (s : State F) : (⟨S64, .f32⟩ : BufTy).Contents (Elt F) :=
  broadcastInDim S64 ![] bcast_S_S64 ((b87 j s))
def b89 (j : ℕ) (s : State F) : (⟨S64, .f32⟩ : BufTy).Contents (Elt F) :=
  addf ((b86 j s)) ((b88 j s))
def b90 (j : ℕ) (s : State F) : (⟨S64, .f32⟩ : BufTy).Contents (Elt F) :=
  Host.log ((b89 j s))
def b91 (j : ℕ) (s : State F) : (⟨S_, .i32⟩ : BufTy).Contents (Elt F) :=
  constantI S_ 32 0#32
def b92 (j : ℕ) (s : State F) : (⟨S64, .i32⟩ : BufTy).Contents (Elt F) :=
  broadcastInDim S64 ![] bcast_S_S64 ((b91 j s))
def b93 (j : ℕ) (s : State F) : (⟨S64, .i1⟩ : BufTy).Contents (Elt F) :=
  cmpi .slt ((K_main_v0 (F := F))) ((b92 j s))
def b94 (j : ℕ) (s : State F) : (⟨S_, .i32⟩ : BufTy).Contents (Elt F) :=
  constantI S_ 32 64#32
def b95 (j : ℕ) (s : State F) : (⟨S64, .i32⟩ : BufTy).Contents (Elt F) :=
  broadcastInDim S64 ![] bcast_S_S64 ((b94 j s))
def b96 (j : ℕ) (s : State F) : (⟨S64, .i32⟩ : BufTy).Contents (Elt F) :=
  addi ((K_main_v0 (F := F))) ((b95 j s))
def b97 (j : ℕ) (s : State F) : (⟨S64, .i32⟩ : BufTy).Contents (Elt F) :=
  select ((b93 j s)) ((b96 j s)) ((K_main_v0 (F := F)))
def b98 (j : ℕ) (s : State F) : (⟨S_, .i32⟩ : BufTy).Contents (Elt F) :=
  constantI S_ 32 0#32
def b99 (j : ℕ) (s : State F) : (⟨S64, .i32⟩ : BufTy).Contents (Elt F) :=
  broadcastInDim S64 ![] bcast_S_S64 ((b98 j s))
def b100 (j : ℕ) (s : State F) : (⟨S64, .i1⟩ : BufTy).Contents (Elt F) :=
  cmpi .slt ((b68 j s)) ((b99 j s))
def b101 (j : ℕ) (s : State F) : (⟨S_, .i32⟩ : BufTy).Contents (Elt F) :=
  constantI S_ 32 50#32
def b102 (j : ℕ) (s : State F) : (⟨S64, .i32⟩ : BufTy).Contents (Elt F) :=
  broadcastInDim S64 ![] bcast_S_S64 ((b101 j s))
def b103 (j : ℕ) (s : State F) : (⟨S64, .i32⟩ : BufTy).Contents (Elt F) :=
  addi ((b68 j s)) ((b102 j s))
def b104 (j : ℕ) (s : State F) : (⟨S64, .i32⟩ : BufTy).Contents (Elt F) :=
  select ((b100 j s)) ((b103 j s)) ((b68 j s))
def b105 (j : ℕ) (s : State F) : (⟨S64x1, .i32⟩ : BufTy).Contents (Elt F) :=
  broadcastInDim S64x1 ![0] bcast_S64_S64x1_0 ((b97 j s))
def b106 (j : ℕ) (s : State F) : (⟨S64x1, .i32⟩ : BufTy).Contents (Elt F) :=
  broadcastInDim S64x1 ![0] bcast_S64_S64x1_0 ((b104 j s))
def b107 (j : ℕ) (s : State F) : (⟨S64x2, .i32⟩ : BufTy).Contents (Elt F) :=
  concatenate S64x2 1 [⟨S64x1, ((b105 j s))⟩, ⟨S64x1, ((b106 j s))⟩] concatenates_S64x1_S64x1_S64x2_d1
def b108 (j : ℕ) (s : State F) : (⟨S_, .i1⟩ : BufTy).Contents (Elt F) :=
  constantI S_ 1 1#1
def b109 (j : ℕ) (s : State F) : (⟨S64, .i1⟩ : BufTy).Contents (Elt F) :=
  broadcastInDim S64 ![] bcast_S_S64 ((b108 j s))
def b110 (j : ℕ) (s : State F) : (⟨S64x50, .i1⟩ : BufTy).Contents (Elt F) :=
  Host.scatter scatter_S64x50_S64x2_S64_n_01_01_1 (fun _ b => b) (s.main_v9_10) ((b107 j s)) ((b109 j s))
def b111 (j : ℕ) (s : State F) : (⟨S_, .i32⟩ : BufTy).Contents (Elt F) :=
  constantI S_ 32 0#32
def b112 (j : ℕ) (s : State F) : (⟨S64, .i32⟩ : BufTy).Contents (Elt F) :=
  broadcastInDim S64 ![] bcast_S_S64 ((b111 j s))
def b113 (j : ℕ) (s : State F) : (⟨S64, .i1⟩ : BufTy).Contents (Elt F) :=
  cmpi .slt ((K_main_v0 (F := F))) ((b112 j s))
def b114 (j : ℕ) (s : State F) : (⟨S_, .i32⟩ : BufTy).Contents (Elt F) :=
  constantI S_ 32 64#32
def b115 (j : ℕ) (s : State F) : (⟨S64, .i32⟩ : BufTy).Contents (Elt F) :=
  broadcastInDim S64 ![] bcast_S_S64 ((b114 j s))
def b116 (j : ℕ) (s : State F) : (⟨S64, .i32⟩ : BufTy).Contents (Elt F) :=
  addi ((K_main_v0 (F := F))) ((b115 j s))
def b117 (j : ℕ) (s : State F) : (⟨S64, .i32⟩ : BufTy).Contents (Elt F) :=
  select ((b113 j s)) ((b116 j s)) ((K_main_v0 (F := F)))
def b118 (j : ℕ) (s : State F) : (⟨S_, .i32⟩ : BufTy).Contents (Elt F) :=
  constantI S_ 32 0#32
def b119 (j : ℕ) (s : State F) : (⟨S64, .i32⟩ : BufTy).Contents (Elt F) :=
  broadcastInDim S64 ![] bcast_S_S64 ((b118 j s))
def b120 (j : ℕ) (s : State F) : (⟨S64, .i1⟩ : BufTy).Contents (Elt F) :=
  cmpi .slt ((b68 j s)) ((b119 j s))
def b121 (j : ℕ) (s : State F) : (⟨S_, .i32⟩ : BufTy).Contents (Elt F) :=
  constantI S_ 32 50#32
def b122 (j : ℕ) (s : State F) : (⟨S64, .i32⟩ : BufTy).Contents (Elt F) :=
  broadcastInDim S64 ![] bcast_S_S64 ((b121 j s))
def b123 (j : ℕ) (s : State F) : (⟨S64, .i32⟩ : BufTy).Contents (Elt F) :=
  addi ((b68 j s)) ((b122 j s))
def b124 (j : ℕ) (s : State F) : (⟨S64, .i32⟩ : BufTy).Contents (Elt F) :=
  select ((b120 j s)) ((b123 j s)) ((b68 j s))
def b125 (j : ℕ) (s : State F) : (⟨S64x1, .i32⟩ : BufTy).Contents (Elt F) :=
  broadcastInDim S64x1 ![0] bcast_S64_S64x1_0 ((b117 j s))
def b126 (j : ℕ) (s : State F) : (⟨S64x1, .i32⟩ : BufTy).Contents (Elt F) :=
  broadcastInDim S64x1 ![0] bcast_S64_S64x1_0 ((b124 j s))
def b127 (j : ℕ) (s : State F) : (⟨S64x2, .i32⟩ : BufTy).Contents (Elt F) :=
  concatenate S64x2 1 [⟨S64x1, ((b125 j s))⟩, ⟨S64x1, ((b126 j s))⟩] concatenates_S64x1_S64x1_S64x2_d1
def b128 (j : ℕ) (s : State F) : (⟨S_, .i1⟩ : BufTy).Contents (Elt F) :=
  constantI S_ 1 0#1
def b129 (j : ℕ) (s : State F) : (⟨S64x50, .i1⟩ : BufTy).Contents (Elt F) :=
  broadcastInDim S64x50 ![] bcast_S_S64x50 ((b128 j s))
def b130 (j : ℕ) (s : State F) : (⟨S64x50x50, .i1⟩ : BufTy).Contents (Elt F) :=
  Host.scatter scatter_S64x50x50_S64x2_S64x50_1_01_01_1 (fun _ b => b) (s.main_v9_11) ((b127 j s)) ((b129 j s))
def b131 (j : ℕ) (s : State F) : (⟨S_, .i32⟩ : BufTy).Contents (Elt F) :=
  constantI S_ 32 0#32
def b132 (j : ℕ) (s : State F) : (⟨S64, .i32⟩ : BufTy).Contents (Elt F) :=
  broadcastInDim S64 ![] bcast_S_S64 ((b131 j s))
def b133 (j : ℕ) (s : State F) : (⟨S64, .i1⟩ : BufTy).Contents (Elt F) :=
  cmpi .slt ((K_main_v0 (F := F))) ((b132 j s))
def b134 (j : ℕ) (s : State F) : (⟨S_, .i32⟩ : BufTy).Contents (Elt F) :=
  constantI S_ 32 64#32
def b135 (j : ℕ) (s : State F) : (⟨S64, .i32⟩ : BufTy).Contents (Elt F) :=
  broadcastInDim S64 ![] bcast_S_S64 ((b134 j s))
def b136 (j : ℕ) (s : State F) : (⟨S64, .i32⟩ : BufTy).Contents (Elt F) :=
  addi ((K_main_v0 (F := F))) ((b135 j s))
def b137 (j : ℕ) (s : State F) : (⟨S64, .i32⟩ : BufTy).Contents (Elt F) :=
  select ((b133 j s)) ((b136 j s)) ((K_main_v0 (F := F)))
def b138 (j : ℕ) (s : State F) : (⟨S_, .i32⟩ : BufTy).Contents (Elt F) :=
  constantI S_ 32 0#32
def b139 (j : ℕ) (s : State F) : (⟨S64, .i32⟩ : BufTy).Contents (Elt F) :=
  broadcastInDim S64 ![] bcast_S_S64 ((b138 j s))
def b140 (j : ℕ) (s : State F) : (⟨S64, .i1⟩ : BufTy).Contents (Elt F) :=
  cmpi .slt ((b68 j s)) ((b139 j s))
def b141 (j : ℕ) (s : State F) : (⟨S_, .i32⟩ : BufTy).Contents (Elt F) :=
  constantI S_ 32 50#32
def b142 (j : ℕ) (s : State F) : (⟨S64, .i32⟩ : BufTy).Contents (Elt F) :=
  broadcastInDim S64 ![] bcast_S_S64 ((b141 j s))
def b143 (j : ℕ) (s : State F) : (⟨S64, .i32⟩ : BufTy).Contents (Elt F) :=
  addi ((b68 j s)) ((b142 j s))
def b144 (j : ℕ) (s : State F) : (⟨S64, .i32⟩ : BufTy).Contents (Elt F) :=
  select ((b140 j s)) ((b143 j s)) ((b68 j s))
def b145 (j : ℕ) (s : State F) : (⟨S64x1, .i32⟩ : BufTy).Contents (Elt F) :=
  broadcastInDim S64x1 ![0] bcast_S64_S64x1_0 ((b137 j s))
def b146 (j : ℕ) (s : State F) : (⟨S64x1, .i32⟩ : BufTy).Contents (Elt F) :=
  broadcastInDim S64x1 ![0] bcast_S64_S64x1_0 ((b144 j s))
def b147 (j : ℕ) (s : State F) : (⟨S64x2, .i32⟩ : BufTy).Contents (Elt F) :=
  concatenate S64x2 1 [⟨S64x1, ((b145 j s))⟩, ⟨S64x1, ((b146 j s))⟩] concatenates_S64x1_S64x1_S64x2_d1
def b148 (j : ℕ) (s : State F) : (⟨S_, .i1⟩ : BufTy).Contents (Elt F) :=
  constantI S_ 1 0#1
def b149 (j : ℕ) (s : State F) : (⟨S64x50, .i1⟩ : BufTy).Contents (Elt F) :=
  broadcastInDim S64x50 ![] bcast_S_S64x50 ((b148 j s))
def b150 (j : ℕ) (s : State F) : (⟨S64x50x50, .i1⟩ : BufTy).Contents (Elt F) :=
  Host.scatter scatter_S64x50x50_S64x2_S64x50_1_02_02_1 (fun _ b => b) ((b130 j s)) ((b147 j s)) ((b149 j s))
def b151 (j : ℕ) (s : State F) : (⟨S_, .i32⟩ : BufTy).Contents (Elt F) :=
  constantI S_ 32 0#32
def b152 (j : ℕ) (s : State F) : (⟨S64, .i32⟩ : BufTy).Contents (Elt F) :=
  broadcastInDim S64 ![] bcast_S_S64 ((b151 j s))
def b153 (j : ℕ) (s : State F) : (⟨S64, .i1⟩ : BufTy).Contents (Elt F) :=
  cmpi .slt ((K_main_v0 (F := F))) ((b152 j s))
def b154 (j : ℕ) (s : State F) : (⟨S_, .i32⟩ : BufTy).Contents (Elt F) :=
  constantI S_ 32 64#32
def b155 (j : ℕ) (s : State F) : (⟨S64, .i32⟩ : BufTy).Contents (Elt F) :=
  broadcastInDim S64 ![] bcast_S_S64 ((b154 j s))
def b156 (j : ℕ) (s : State F) : (⟨S64, .i32⟩ : BufTy).Contents (Elt F) :=
  addi ((K_main_v0 (F := F))) ((b155 j s))
def b157 (j : ℕ) (s : State F) : (⟨S64, .i32⟩ : BufTy).Contents (Elt F) :=
  select ((b153 j s)) ((b156 j s)) ((K_main_v0 (F := F)))
def b158 (j : ℕ) (s : State F) : (⟨S_, .i32⟩ : BufTy).Contents (Elt F) :=
  constantI S_ 32 0#32
def b159 (j : ℕ) (s : State F) : (⟨S64, .i32⟩ : BufTy).Contents (Elt F) :=
  broadcastInDim S64 ![] bcast_S_S64 ((b158 j s))
def b160 (j : ℕ) (s : State F) : (⟨S64, .i1⟩ : BufTy).Contents (Elt F) :=
  cmpi .slt ((b68 j s)) ((b159 j s))
def b161 (j : ℕ) (s : State F) : (⟨S_, .i32⟩ : BufTy).Contents (Elt F) :=
  constantI S_ 32 50#32
def b162 (j : ℕ) (s : State F) : (⟨S64, .i32⟩ : BufTy).Contents (Elt F) :=
  broadcastInDim S64 ![] bcast_S_S64 ((b161 j s))
def b163 (j : ℕ) (s : State F) : (⟨S64, .i32⟩ : BufTy).Contents (Elt F) :=
  addi ((b68 j s)) ((b162 j s))
def b164 (j : ℕ) (s : State F) : (⟨S64, .i32⟩ : BufTy).Contents (Elt F) :=
  select ((b160 j s)) ((b163 j s)) ((b68 j s))
def b165 (j : ℕ) (s : State F) : (⟨S_, .i32⟩ : BufTy).Contents (Elt F) :=
  constantI S_ 32 0#32
def b166 (j : ℕ) (s : State F) : (⟨S64, .i32⟩ : BufTy).Contents (Elt F) :=
  broadcastInDim S64 ![] bcast_S_S64 ((b165 j s))
def b167 (j : ℕ) (s : State F) : (⟨S64, .i1⟩ : BufTy).Contents (Elt F) :=
  cmpi .slt ((b68 j s)) ((b166 j s))
def b168 (j : ℕ) (s : State F) : (⟨S_, .i32⟩ : BufTy).Contents (Elt F) :=
  constantI S_ 32 50#32
def b169 (j : ℕ) (s : State F) : (⟨S64, .i32⟩ : BufTy).Contents (Elt F) :=
  broadcastInDim S64 ![] bcast_S_S64 ((b168 j s))
def b170 (j : ℕ) (s : State F) : (⟨S64, .i32⟩ : BufTy).Contents (Elt F) :=
  addi ((b68 j s)) ((b169 j s))
def b171 (j : ℕ) (s : State F) : (⟨S64, .i32⟩ : BufTy).Contents (Elt F) :=
  select ((b167 j s)) ((b170 j s)) ((b68 j s))
def b172 (j : ℕ) (s : State F) : (⟨S64x1, .i32⟩ : BufTy).Contents (Elt F) :=
  broadcastInDim S64x1 ![0] bcast_S64_S64x1_0 ((b157 j s))
def b173 (j : ℕ) (s : State F) : (⟨S64x1, .i32⟩ : BufTy).Contents (Elt F) :=
  broadcastInDim S64x1 ![0] bcast_S64_S64x1_0 ((b164 j s))
def b174 (j : ℕ) (s : State F) : (⟨S64x1, .i32⟩ : BufTy).Contents (Elt F) :=
  broadcastInDim S64x1 ![0] bcast_S64_S64x1_0 ((b171 j s))
def b175 (j : ℕ) (s : State F) : (⟨S64x3, .i32⟩ : BufTy).Contents (Elt F) :=
  (concatenate S64x3 1 [⟨S64x1, (((b172 j s)) : (⟨S64x1, .i32⟩ : BufTy).Contents (Elt F))⟩, ⟨S64x1, (((b173 j s)) : (⟨S64x1, .i32⟩ : BufTy).Contents (Elt F))⟩, ⟨S64x1, (((b174 j s)) : (⟨S64x1, .i32⟩ : BufTy).Contents (Elt F))⟩] concatenates_S64x1_S64x1_S64x1_S64x3_d1 : (⟨S64x3, .i32⟩ : BufTy).Contents (Elt F))
def b176 (j : ℕ) (s : State F) : (⟨S_, .i1⟩ : BufTy).Contents (Elt F) :=
  constantI S_ 1 1#1
def b177 (j : ℕ) (s : State F) : (⟨S64, .i1⟩ : BufTy).Contents (Elt F) :=
  broadcastInDim S64 ![] bcast_S_S64 ((b176 j s))
def b178 (j : ℕ) (s : State F) : (⟨S64x50x50, .i1⟩ : BufTy).Contents (Elt F) :=
  Host.scatter scatter_S64x50x50_S64x3_S64_n_012_012_1 (fun _ b => b) ((b150 j s)) ((b175 j s)) ((b177 j s))
def b179 (j : ℕ) (s : State F) : (⟨S_, .i32⟩ : BufTy).Contents (Elt F) :=
  constantI S_ 32 0#32
def b180 (j : ℕ) (s : State F) : (⟨S64, .i32⟩ : BufTy).Contents (Elt F) :=
  broadcastInDim S64 ![] bcast_S_S64 ((b179 j s))
def b181 (j : ℕ) (s : State F) : (⟨S64, .i1⟩ : BufTy).Contents (Elt F) :=
  cmpi .slt ((K_main_v0 (F := F))) ((b180 j s))
def b182 (j : ℕ) (s : State F) : (⟨S_, .i32⟩ : BufTy).Contents (Elt F) :=
  constantI S_ 32 64#32
def b183 (j : ℕ) (s : State F) : (⟨S64, .i32⟩ : BufTy).Contents (Elt F) :=
  broadcastInDim S64 ![] bcast_S_S64 ((b182 j s))
def b184 (j : ℕ) (s : State F) : (⟨S64, .i32⟩ : BufTy).Contents (Elt F) :=
  addi ((K_main_v0 (F := F))) ((b183 j s))
def b185 (j : ℕ) (s : State F) : (⟨S64, .i32⟩ : BufTy).Contents (Elt F) :=
  select ((b181 j s)) ((b184 j s)) ((K_main_v0 (F := F)))
def b186 (j : ℕ) (s : State F) : (⟨S_, .i32⟩ : BufTy).Contents (Elt F) :=
  constantI S_ 32 0#32
def b187 (j : ℕ) (s : State F) : (⟨S64, .i32⟩ : BufTy).Contents (Elt F) :=
  broadcastInDim S64 ![] bcast_S_S64 ((b186 j s))
def b188 (j : ℕ) (s : State F) : (⟨S64, .i1⟩ : BufTy).Contents (Elt F) :=
  cmpi .slt ((b68 j s)) ((b187 j s))
def b189 (j : ℕ) (s : State F) : (⟨S_, .i32⟩ : BufTy).Contents (Elt F) :=
  constantI S_ 32 50#32
def b190 (j : ℕ) (s : State F) : (⟨S64, .i32⟩ : BufTy).Contents (Elt F) :=
  broadcastInDim S64 ![] bcast_S_S64 ((b189 j s))
def b191 (j : ℕ) (s : State F) : (⟨S64, .i32⟩ : BufTy).Contents (Elt F) :=
  addi ((b68 j s)) ((b190 j s))
def b192 (j : ℕ) (s : State F) : (⟨S64, .i32⟩ : BufTy).Contents (Elt F) :=
  select ((b188 j s)) ((b191 j s)) ((b68 j s))
def b193 (j : ℕ) (s : State F) : (⟨S64x1, .i32⟩ : BufTy).Contents (Elt F) :=
  broadcastInDim S64x1 ![0] bcast_S64_S64x1_0 ((b185 j s))
def b194 (j : ℕ) (s : State F) : (⟨S64x1, .i32⟩ : BufTy).Contents (Elt F) :=
  broadcastInDim S64x1 ![0] bcast_S64_S64x1_0 ((b192 j s))
def b195 (j : ℕ) (s : State F) : (⟨S64x2, .i32⟩ : BufTy).Contents (Elt F) :=
  concatenate S64x2 1 [⟨S64x1, ((b193 j s))⟩, ⟨S64x1, ((b194 j s))⟩] concatenates_S64x1_S64x1_S64x2_d1
def b196 (j : ℕ) (s : State F) : (⟨S64x128, .f32⟩ : BufTy).Contents (Elt F) :=
  Host.gather gather_S64x50x128_S64x2_S64x128_1_01_n_n_01_1_11128 ((b28 j s)) ((b195 j s))
def b197 (j : ℕ) (s : State F) : (⟨S64x1x128, .f32⟩ : BufTy).Contents (Elt F) :=
  shapeCast S64x1x128 ((b196 j s)) shapeCasts_S64x128_S64x1x128
def b198 (j : ℕ) (s : State F) : (⟨S64x50x1, .f32⟩ : BufTy).Contents (Elt F) :=
  extractStridedSlice S64x50x1 ![0, 0, 15] (s.main_v9_9) slices_S64x50x16_S64x50x1_0_0_15
def b199 (j : ℕ) (s : State F) : (⟨S64x50, .f32⟩ : BufTy).Contents (Elt F) :=
  shapeCast S64x50 ((b198 j s)) shapeCasts_S64x50x1_S64x50
def b200 (j : ℕ) (s : State F) : (⟨S_, .f32⟩ : BufTy).Contents (Elt F) :=
  constant S_ .f32 0x00000000#32
def b201 (j : ℕ) (s : State F) : (⟨S64x50, .f32⟩ : BufTy).Contents (Elt F) :=
  broadcastInDim S64x50 ![] bcast_S_S64x50 ((b200 j s))
def b202 (j : ℕ) (s : State F) : (⟨S64x50, .i1⟩ : BufTy).Contents (Elt F) :=
  cmpf .une ((b199 j s)) ((b201 j s))
def b203 (j : ℕ) (s : State F) : (⟨S64x50, .i1⟩ : BufTy).Contents (Elt F) := b202 j s
theorem b203_id (j : ℕ) (s : State F) : b203 j s = b202 j s := rfl
def b204 (j : ℕ) (s : State F) : (⟨S64x50, .i1⟩ : BufTy).Contents (Elt F) :=
  noti ((b203 j s))
def b205 (j : ℕ) (s : State F) : (⟨S64x1x50, .i1⟩ : BufTy).Contents (Elt F) :=
  shapeCast S64x1x50 ((b204 j s)) shapeCasts_S64x50_S64x1x50
def b206 (j : ℕ) (s : State F) : (⟨S64x128, .f32⟩ : BufTy).Contents (Elt F) :=
  shapeCast S64x128 ((b197 j s)) shapeCasts_S64x1x128_S64x128
def b207 (j : ℕ) (s : State F) : (⟨S64x128, .f32⟩ : BufTy).Contents (Elt F) :=
  Host.dotGeneral dot_S64x128_S128x128_S64x128_1_0_0_1_n_n none ((b206 j s)) (s.main_v9_7)
def b208 (j : ℕ) (s : State F) : (⟨S64x50, .f32⟩ : BufTy).Contents (Elt F) :=
  Host.dotGeneral dot_S64x50x128_S64x128_S64x50_2_1_1_n_0_0 none ((b33 j s)) ((b207 j s))
def b209 (j : ℕ) (s : State F) : (⟨S_, .f32⟩ : BufTy).Contents (Elt F) :=
  constant S_ .f32 0x43000000#32
def b210 (j : ℕ) (s : State F) : (⟨S_, .f32⟩ : BufTy).Contents (Elt F) :=
  Host.sqrt ((b209 j s))
def b211 (j : ℕ) (s : State F) : (⟨S_, .f32⟩ : BufTy).Contents (Elt F) := b210 j s
theorem b211_id (j : ℕ) (s : State F) : b211 j s = b210 j s := rfl
def b212 (j : ℕ) (s : State F) : (⟨S64x50, .f32⟩ : BufTy).Contents (Elt F) :=
  broadcastInDim S64x50 ![] bcast_S_S64x50 ((b211 j s))
def b213 (j : ℕ) (s : State F) : (⟨S64x50, .f32⟩ : BufTy).Contents (Elt F) :=
  Host.divf ((b208 j s)) ((b212 j s))
def b214 (j : ℕ) (s : State F) : (⟨S64x50, .i1⟩ : BufTy).Contents (Elt F) :=
  shapeCast S64x50 ((b205 j s)) shapeCasts_S64x1x50_S64x50
def b215 (j : ℕ) (s : State F) : (⟨S_, .f32⟩ : BufTy).Contents (Elt F) :=
  constant S_ .f32 0xCE6E6B28#32
def b216 (j : ℕ) (s : State F) : (⟨S_, .f32⟩ : BufTy).Contents (Elt F) := b215 j s
theorem b216_id (j : ℕ) (s : State F) : b216 j s = b215 j s := rfl
def b217 (j : ℕ) (s : State F) : (⟨S64x50, .f32⟩ : BufTy).Contents (Elt F) :=
  broadcastInDim S64x50 ![] bcast_S_S64x50 ((b216 j s))
def b218 (j : ℕ) (s : State F) : (⟨S64x50, .f32⟩ : BufTy).Contents (Elt F) :=
  select ((b214 j s)) ((b213 j s)) ((b217 j s))
def b219 (j : ℕ) (s : State F) : (⟨S_, .f32⟩ : BufTy).Contents (Elt F) :=
  constant S_ .f32 0xFF800000#32
def b220 (j : ℕ) (s : State F) : (⟨S64, .f32⟩ : BufTy).Contents (Elt F) :=
  Host.reduce FloatOps.maximumf ((b218 j s)) ((b219 j s)) reducesTo_S64x50_S64_d1 h_S_
def b221 (j : ℕ) (s : State F) : (⟨S_, .f32⟩ : BufTy).Contents (Elt F) :=
  constant S_ .f32 0xFF800000#32
def b222 (j : ℕ) (s : State F) : (⟨S64, .f32⟩ : BufTy).Contents (Elt F) :=
  broadcastInDim S64 ![] bcast_S_S64 ((b221 j s))
def b223 (j : ℕ) (s : State F) : (⟨S64, .f32⟩ : BufTy).Contents (Elt F) :=
  maximumf ((b222 j s)) ((b220 j s))
def b224 (j : ℕ) (s : State F) : (⟨S64x1, .f32⟩ : BufTy).Contents (Elt F) :=
  broadcastInDim S64x1 ![0] bcast_S64_S64x1_0 ((b223 j s))
def b225 (j : ℕ) (s : State F) : (⟨S64x50, .f32⟩ : BufTy).Contents (Elt F) :=
  broadcastInDim S64x50 ![0, 1] bcast_S64x1_S64x50_0_1 ((b224 j s))
def b226 (j : ℕ) (s : State F) : (⟨S64x50, .f32⟩ : BufTy).Contents (Elt F) :=
  subf ((b218 j s)) ((b225 j s))
def b227 (j : ℕ) (s : State F) : (⟨S64x50, .f32⟩ : BufTy).Contents (Elt F) :=
  Host.exp ((b226 j s))
def b228 (j : ℕ) (s : State F) : (⟨S_, .f32⟩ : BufTy).Contents (Elt F) :=
  constant S_ .f32 0x00000000#32
def b229 (j : ℕ) (s : State F) : (⟨S64, .f32⟩ : BufTy).Contents (Elt F) :=
  Host.reduceAdd ((b227 j s)) ((b228 j s)) reducesTo_S64x50_S64_d1 h_S_
def b230 (j : ℕ) (s : State F) : (⟨S64x1, .f32⟩ : BufTy).Contents (Elt F) :=
  broadcastInDim S64x1 ![0] bcast_S64_S64x1_0 ((b229 j s))
def b231 (j : ℕ) (s : State F) : (⟨S64x50, .f32⟩ : BufTy).Contents (Elt F) :=
  broadcastInDim S64x50 ![0, 1] bcast_S64x1_S64x50_0_1 ((b230 j s))
def b232 (j : ℕ) (s : State F) : (⟨S64x50, .f32⟩ : BufTy).Contents (Elt F) :=
  Host.divf ((b227 j s)) ((b231 j s))
def b233 (j : ℕ) (s : State F) : (⟨S64x50, .i32⟩ : BufTy).Contents (Elt F) :=
  iotaInDim S64x50 32 1
def b234 (j : ℕ) (s : State F) : (⟨S_, .f32⟩ : BufTy).Contents (Elt F) :=
  constant S_ .f32 0xFF800000#32
def b235 (j : ℕ) (s : State F) : (⟨S_, .i32⟩ : BufTy).Contents (Elt F) :=
  constantI S_ 32 0#32
def b236 (j : ℕ) (s : State F) : (⟨S64, .f32⟩ : BufTy).Contents (Elt F) :=
  fun i => (Host.argReduce reducer_argmax_f32_i32 ((b232 j s)) ((b233 j s)) ((b234 j s)) ((b235 j s)) reducesTo_S64x50_S64_d1 h_S_ i).1
def b237 (j : ℕ) (s : State F) : (⟨S64, .i32⟩ : BufTy).Contents (Elt F) :=
  fun i => (Host.argReduce reducer_argmax_f32_i32 ((b232 j s)) ((b233 j s)) ((b234 j s)) ((b235 j s)) reducesTo_S64x50_S64_d1 h_S_ i).2
def b238 (j : ℕ) (s : State F) : (⟨S_, .i32⟩ : BufTy).Contents (Elt F) :=
  constantI S_ 32 0#32
def b239 (j : ℕ) (s : State F) : (⟨S64, .i32⟩ : BufTy).Contents (Elt F) :=
  broadcastInDim S64 ![] bcast_S_S64 ((b238 j s))
def b240 (j : ℕ) (s : State F) : (⟨S64, .i1⟩ : BufTy).Contents (Elt F) :=
  cmpi .slt ((K_main_v0 (F := F))) ((b239 j s))
def b241 (j : ℕ) (s : State F) : (⟨S_, .i32⟩ : BufTy).Contents (Elt F) :=
  constantI S_ 32 64#32
def b242 (j : ℕ) (s : State F) : (⟨S64, .i32⟩ : BufTy).Contents (Elt F) :=
  broadcastInDim S64 ![] bcast_S_S64 ((b241 j s))
def b243 (j : ℕ) (s : State F) : (⟨S64, .i32⟩ : BufTy).Contents (Elt F) :=
  addi ((K_main_v0 (F := F))) ((b242 j s))
def b244 (j : ℕ) (s : State F) : (⟨S64, .i32⟩ : BufTy).Contents (Elt F) :=
  select ((b240 j s)) ((b243 j s)) ((K_main_v0 (F := F)))
def b245 (j : ℕ) (s : State F) : (⟨S_, .i32⟩ : BufTy).Contents (Elt F) :=
  constantI S_ 32 0#32
def b246 (j : ℕ) (s : State F) : (⟨S64, .i32⟩ : BufTy).Contents (Elt F) :=
  broadcastInDim S64 ![] bcast_S_S64 ((b245 j s))
def b247 (j : ℕ) (s : State F) : (⟨S64, .i1⟩ : BufTy).Contents (Elt F) :=
  cmpi .slt ((b237 j s)) ((b246 j s))
def b248 (j : ℕ) (s : State F) : (⟨S_, .i32⟩ : BufTy).Contents (Elt F) :=
  constantI S_ 32 50#32
def b249 (j : ℕ) (s : State F) : (⟨S64, .i32⟩ : BufTy).Contents (Elt F) :=
  broadcastInDim S64 ![] bcast_S_S64 ((b248 j s))
def b250 (j : ℕ) (s : State F) : (⟨S64, .i32⟩ : BufTy).Contents (Elt F) :=
  addi ((b237 j s)) ((b249 j s))
def b251 (j : ℕ) (s : State F) : (⟨S64, .i32⟩ : BufTy).Contents (Elt F) :=
  select ((b247 j s)) ((b250 j s)) ((b237 j s))
def b252 (j : ℕ) (s : State F) : (⟨S64x1, .i32⟩ : BufTy).Contents (Elt F) :=
  broadcastInDim S64x1 ![0] bcast_S64_S64x1_0 ((b244 j s))
def b253 (j : ℕ) (s : State F) : (⟨S64x1, .i32⟩ : BufTy).Contents (Elt F) :=
  broadcastInDim S64x1 ![0] bcast_S64_S64x1_0 ((b251 j s))
def b254 (j : ℕ) (s : State F) : (⟨S64x2, .i32⟩ : BufTy).Contents (Elt F) :=
  concatenate S64x2 1 [⟨S64x1, ((b252 j s))⟩, ⟨S64x1, ((b253 j s))⟩] concatenates_S64x1_S64x1_S64x2_d1
def b255 (j : ℕ) (s : State F) : (⟨S64, .f32⟩ : BufTy).Contents (Elt F) :=
  Host.gather gather_S64x50_S64x2_S64_n_01_n_n_01_1_11 ((b232 j s)) ((b254 j s))
def b256 (j : ℕ) (s : State F) : (⟨S_, .f32⟩ : BufTy).Contents (Elt F) :=
  constant S_ .f32 0x1E3CE508#32
def b257 (j : ℕ) (s : State F) : (⟨S64, .f32⟩ : BufTy).Contents (Elt F) :=
  broadcastInDim S64 ![] bcast_S_S64 ((b256 j s))
def b258 (j : ℕ) (s : State F) : (⟨S64, .f32⟩ : BufTy).Contents (Elt F) :=
  addf ((b255 j s)) ((b257 j s))
def b259 (j : ℕ) (s : State F) : (⟨S64, .f32⟩ : BufTy).Contents (Elt F) :=
  Host.log ((b258 j s))
def b260 (j : ℕ) (s : State F) : (⟨S_, .i32⟩ : BufTy).Contents (Elt F) :=
  constantI S_ 32 0#32
def b261 (j : ℕ) (s : State F) : (⟨S64, .i32⟩ : BufTy).Contents (Elt F) :=
  broadcastInDim S64 ![] bcast_S_S64 ((b260 j s))
def b262 (j : ℕ) (s : State F) : (⟨S64, .i1⟩ : BufTy).Contents (Elt F) :=
  cmpi .slt ((K_main_v0 (F := F))) ((b261 j s))
def b263 (j : ℕ) (s : State F) : (⟨S_, .i32⟩ : BufTy).Contents (Elt F) :=
  constantI S_ 32 64#32
def b264 (j : ℕ) (s : State F) : (⟨S64, .i32⟩ : BufTy).Contents (Elt F) :=
  broadcastInDim S64 ![] bcast_S_S64 ((b263 j s))
def b265 (j : ℕ) (s : State F) : (⟨S64, .i32⟩ : BufTy).Contents (Elt F) :=
  addi ((K_main_v0 (F := F))) ((b264 j s))
def b266 (j : ℕ) (s : State F) : (⟨S64, .i32⟩ : BufTy).Contents (Elt F) :=
  select ((b262 j s)) ((b265 j s)) ((K_main_v0 (F := F)))
def b267 (j : ℕ) (s : State F) : (⟨S_, .i32⟩ : BufTy).Contents (Elt F) :=
  constantI S_ 32 0#32
def b268 (j : ℕ) (s : State F) : (⟨S64, .i32⟩ : BufTy).Contents (Elt F) :=
  broadcastInDim S64 ![] bcast_S_S64 ((b267 j s))
def b269 (j : ℕ) (s : State F) : (⟨S64, .i1⟩ : BufTy).Contents (Elt F) :=
  cmpi .slt ((b237 j s)) ((b268 j s))
def b270 (j : ℕ) (s : State F) : (⟨S_, .i32⟩ : BufTy).Contents (Elt F) :=
  constantI S_ 32 50#32
def b271 (j : ℕ) (s : State F) : (⟨S64, .i32⟩ : BufTy).Contents (Elt F) :=
  broadcastInDim S64 ![] bcast_S_S64 ((b270 j s))
def b272 (j : ℕ) (s : State F) : (⟨S64, .i32⟩ : BufTy).Contents (Elt F) :=
  addi ((b237 j s)) ((b271 j s))
def b273 (j : ℕ) (s : State F) : (⟨S64, .i32⟩ : BufTy).Contents (Elt F) :=
  select ((b269 j s)) ((b272 j s)) ((b237 j s))
def b274 (j : ℕ) (s : State F) : (⟨S_, .i32⟩ : BufTy).Contents (Elt F) :=
  constantI S_ 32 15#32
def b275 (j : ℕ) (s : State F) : (⟨S64, .i32⟩ : BufTy).Contents (Elt F) :=
  broadcastInDim S64 ![] bcast_S_S64 ((b274 j s))
def b276 (j : ℕ) (s : State F) : (⟨S64, .i32⟩ : BufTy).Contents (Elt F) := b275 j s
theorem b276_id (j : ℕ) (s : State F) : b276 j s = b275 j s := rfl
def b277 (j : ℕ) (s : State F) : (⟨S64x1, .i32⟩ : BufTy).Contents (Elt F) :=
  broadcastInDim S64x1 ![0] bcast_S64_S64x1_0 ((b266 j s))
def b278 (j : ℕ) (s : State F) : (⟨S64x1, .i32⟩ : BufTy).Contents (Elt F) :=
  broadcastInDim S64x1 ![0] bcast_S64_S64x1_0 ((b273 j s))
def b279 (j : ℕ) (s : State F) : (⟨S64x1, .i32⟩ : BufTy).Contents (Elt F) :=
  broadcastInDim S64x1 ![0] bcast_S64_S64x1_0 ((b276 j s))
def b280 (j : ℕ) (s : State F) : (⟨S64x3, .i32⟩ : BufTy).Contents (Elt F) :=
  (concatenate S64x3 1 [⟨S64x1, (((b277 j s)) : (⟨S64x1, .i32⟩ : BufTy).Contents (Elt F))⟩, ⟨S64x1, (((b278 j s)) : (⟨S64x1, .i32⟩ : BufTy).Contents (Elt F))⟩, ⟨S64x1, (((b279 j s)) : (⟨S64x1, .i32⟩ : BufTy).Contents (Elt F))⟩] concatenates_S64x1_S64x1_S64x1_S64x3_d1 : (⟨S64x3, .i32⟩ : BufTy).Contents (Elt F))
def b281 (j : ℕ) (s : State F) : (⟨S64, .f32⟩ : BufTy).Contents (Elt F) :=
  Host.gather gather_S64x50x16_S64x3_S64_n_012_n_n_012_1_111 (s.main_v9_9) ((b280 j s))
def b282 (j : ℕ) (s : State F) : (⟨S_, .f32⟩ : BufTy).Contents (Elt F) :=
  constant S_ .f32 0x3F000000#32
def b283 (j : ℕ) (s : State F) : (⟨S64, .f32⟩ : BufTy).Contents (Elt F) :=
  broadcastInDim S64 ![] bcast_S_S64 ((b282 j s))
def b284 (j : ℕ) (s : State F) : (⟨S64, .i1⟩ : BufTy).Contents (Elt F) :=
  cmpf .ogt ((b281 j s)) ((b283 j s))
def b285 (j : ℕ) (s : State F) : (⟨S_, .i32⟩ : BufTy).Contents (Elt F) :=
  constantI S_ 32 0#32
def b286 (j : ℕ) (s : State F) : (⟨S64, .i32⟩ : BufTy).Contents (Elt F) :=
  broadcastInDim S64 ![] bcast_S_S64 ((b285 j s))
def b287 (j : ℕ) (s : State F) : (⟨S64, .i1⟩ : BufTy).Contents (Elt F) :=
  cmpi .slt ((K_main_v0 (F := F))) ((b286 j s))
def b288 (j : ℕ) (s : State F) : (⟨S_, .i32⟩ : BufTy).Contents (Elt F) :=
  constantI S_ 32 64#32
def b289 (j : ℕ) (s : State F) : (⟨S64, .i32⟩ : BufTy).Contents (Elt F) :=
  broadcastInDim S64 ![] bcast_S_S64 ((b288 j s))
def b290 (j : ℕ) (s : State F) : (⟨S64, .i32⟩ : BufTy).Contents (Elt F) :=
  addi ((K_main_v0 (F := F))) ((b289 j s))
def b291 (j : ℕ) (s : State F) : (⟨S64, .i32⟩ : BufTy).Contents (Elt F) :=
  select ((b287 j s)) ((b290 j s)) ((K_main_v0 (F := F)))
def b292 (j : ℕ) (s : State F) : (⟨S_, .i32⟩ : BufTy).Contents (Elt F) :=
  constantI S_ 32 0#32
def b293 (j : ℕ) (s : State F) : (⟨S64, .i32⟩ : BufTy).Contents (Elt F) :=
  broadcastInDim S64 ![] bcast_S_S64 ((b292 j s))
def b294 (j : ℕ) (s : State F) : (⟨S64, .i1⟩ : BufTy).Contents (Elt F) :=
  cmpi .slt ((b68 j s)) ((b293 j s))
def b295 (j : ℕ) (s : State F) : (⟨S_, .i32⟩ : BufTy).Contents (Elt F) :=
  constantI S_ 32 50#32
def b296 (j : ℕ) (s : State F) : (⟨S64, .i32⟩ : BufTy).Contents (Elt F) :=
  broadcastInDim S64 ![] bcast_S_S64 ((b295 j s))
def b297 (j : ℕ) (s : State F) : (⟨S64, .i32⟩ : BufTy).Contents (Elt F) :=
  addi ((b68 j s)) ((b296 j s))
def b298 (j : ℕ) (s : State F) : (⟨S64, .i32⟩ : BufTy).Contents (Elt F) :=
  select ((b294 j s)) ((b297 j s)) ((b68 j s))
def b299 (j : ℕ) (s : State F) : (⟨S64x1, .i32⟩ : BufTy).Contents (Elt F) :=
  broadcastInDim S64x1 ![0] bcast_S64_S64x1_0 ((b291 j s))
def b300 (j : ℕ) (s : State F) : (⟨S64x1, .i32⟩ : BufTy).Contents (Elt F) :=
  broadcastInDim S64x1 ![0] bcast_S64_S64x1_0 ((b298 j s))
def b301 (j : ℕ) (s : State F) : (⟨S_, .i32⟩ : BufTy).Contents (Elt F) :=
  constantI S_ 32 0#32
def b302 (j : ℕ) (s : State F) : (⟨S64x1, .i32⟩ : BufTy).Contents (Elt F) :=
  broadcastInDim S64x1 ![] bcast_S_S64x1 ((b301 j s))
def b303 (j : ℕ) (s : State F) : (⟨S64x3, .i32⟩ : BufTy).Contents (Elt F) :=
  (concatenate S64x3 1 [⟨S64x1, (((b299 j s)) : (⟨S64x1, .i32⟩ : BufTy).Contents (Elt F))⟩, ⟨S64x1, (((b300 j s)) : (⟨S64x1, .i32⟩ : BufTy).Contents (Elt F))⟩, ⟨S64x1, (((b302 j s)) : (⟨S64x1, .i32⟩ : BufTy).Contents (Elt F))⟩] concatenates_S64x1_S64x1_S64x1_S64x3_d1 : (⟨S64x3, .i32⟩ : BufTy).Contents (Elt F))
def b304 (j : ℕ) (s : State F) : (⟨S64x15, .f32⟩ : BufTy).Contents (Elt F) :=
  Host.gather gather_S64x50x16_S64x3_S64x15_1_01_n_n_012_1_1115 (s.main_v9_0) ((b303 j s))
def b305 (j : ℕ) (s : State F) : (⟨S_, .f32⟩ : BufTy).Contents (Elt F) :=
  constant S_ .f32 0x3F800000#32
def b306 (j : ℕ) (s : State F) : (⟨S64x1, .f32⟩ : BufTy).Contents (Elt F) :=
  broadcastInDim S64x1 ![] bcast_S_S64x1 ((b305 j s))
def b307 (j : ℕ) (s : State F) : (⟨S64x16, .f32⟩ : BufTy).Contents (Elt F) :=
  concatenate S64x16 1 [⟨S64x15, ((b304 j s))⟩, ⟨S64x1, ((b306 j s))⟩] concatenates_S64x15_S64x1_S64x16_d1
def b308 (j : ℕ) (s : State F) : (⟨S_, .i32⟩ : BufTy).Contents (Elt F) :=
  constantI S_ 32 0#32
def b309 (j : ℕ) (s : State F) : (⟨S64, .i32⟩ : BufTy).Contents (Elt F) :=
  broadcastInDim S64 ![] bcast_S_S64 ((b308 j s))
def b310 (j : ℕ) (s : State F) : (⟨S64, .i1⟩ : BufTy).Contents (Elt F) :=
  cmpi .slt ((K_main_v0 (F := F))) ((b309 j s))
def b311 (j : ℕ) (s : State F) : (⟨S_, .i32⟩ : BufTy).Contents (Elt F) :=
  constantI S_ 32 64#32
def b312 (j : ℕ) (s : State F) : (⟨S64, .i32⟩ : BufTy).Contents (Elt F) :=
  broadcastInDim S64 ![] bcast_S_S64 ((b311 j s))
def b313 (j : ℕ) (s : State F) : (⟨S64, .i32⟩ : BufTy).Contents (Elt F) :=
  addi ((K_main_v0 (F := F))) ((b312 j s))
def b314 (j : ℕ) (s : State F) : (⟨S64, .i32⟩ : BufTy).Contents (Elt F) :=
  select ((b310 j s)) ((b313 j s)) ((K_main_v0 (F := F)))
def b315 (j : ℕ) (s : State F) : (⟨S_, .i32⟩ : BufTy).Contents (Elt F) :=
  constantI S_ 32 0#32
def b316 (j : ℕ) (s : State F) : (⟨S64, .i32⟩ : BufTy).Contents (Elt F) :=
  broadcastInDim S64 ![] bcast_S_S64 ((b315 j s))
def b317 (j : ℕ) (s : State F) : (⟨S64, .i1⟩ : BufTy).Contents (Elt F) :=
  cmpi .slt ((b237 j s)) ((b316 j s))
def b318 (j : ℕ) (s : State F) : (⟨S_, .i32⟩ : BufTy).Contents (Elt F) :=
  constantI S_ 32 50#32
def b319 (j : ℕ) (s : State F) : (⟨S64, .i32⟩ : BufTy).Contents (Elt F) :=
  broadcastInDim S64 ![] bcast_S_S64 ((b318 j s))
def b320 (j : ℕ) (s : State F) : (⟨S64, .i32⟩ : BufTy).Contents (Elt F) :=
  addi ((b237 j s)) ((b319 j s))
def b321 (j : ℕ) (s : State F) : (⟨S64, .i32⟩ : BufTy).Contents (Elt F) :=
  select ((b317 j s)) ((b320 j s)) ((b237 j s))
def b322 (j : ℕ) (s : State F) : (⟨S64x1, .i32⟩ : BufTy).Contents (Elt F) :=
  broadcastInDim S64x1 ![0] bcast_S64_S64x1_0 ((b314 j s))
def b323 (j : ℕ) (s : State F) : (⟨S64x1, .i32⟩ : BufTy).Contents (Elt F) :=
  broadcastInDim S64x1 ![0] bcast_S64_S64x1_0 ((b321 j s))
def b324 (j : ℕ) (s : State F) : (⟨S64x2, .i32⟩ : BufTy).Contents (Elt F) :=
  concatenate S64x2 1 [⟨S64x1, ((b322 j s))⟩, ⟨S64x1, ((b323 j s))⟩] concatenates_S64x1_S64x1_S64x2_d1
def b325 (j : ℕ) (s : State F) : (⟨S64x50x16, .f32⟩ : BufTy).Contents (Elt F) :=
  Host.scatter scatter_S64x50x16_S64x2_S64x16_1_01_01_1 (fun _ b => b) (s.main_v9_9) ((b324 j s)) ((b307 j s))
def b326 (j : ℕ) (s : State F) : (⟨S64, .i1⟩ : BufTy).Contents (Elt F) :=
  noti ((b284 j s))
def b327 (j : ℕ) (s : State F) : (⟨S64, .i32⟩ : BufTy).Contents (Elt F) :=
  extui 32 ((b326 j s)) natLt_1_32
def b328 (j : ℕ) (s : State F) : (⟨S64, .f32⟩ : BufTy).Contents (Elt F) :=
  sitofp .f32 ((b327 j s))
def b329 (j : ℕ) (s : State F) : (⟨S_, .f32⟩ : BufTy).Contents (Elt F) :=
  constant S_ .f32 0x3F800000#32
def b330 (j : ℕ) (s : State F) : (⟨S64, .f32⟩ : BufTy).Contents (Elt F) :=
  broadcastInDim S64 ![] bcast_S_S64 ((b329 j s))
def b331 (j : ℕ) (s : State F) : (⟨S64, .f32⟩ : BufTy).Contents (Elt F) :=
  subf ((b328 j s)) ((b330 j s))
def b332 (j : ℕ) (s : State F) : (⟨S64x1, .i32⟩ : BufTy).Contents (Elt F) :=
  broadcastInDim S64x1 ![0] bcast_S64_S64x1_0 ((b68 j s))
def b333 (j : ℕ) (s : State F) : (⟨S64x1, .i32⟩ : BufTy).Contents (Elt F) :=
  broadcastInDim S64x1 ![0] bcast_S64_S64x1_0 ((b237 j s))
def b334 (j : ℕ) (s : State F) : (⟨S64x2, .i32⟩ : BufTy).Contents (Elt F) :=
  concatenate S64x2 1 [⟨S64x1, ((b332 j s))⟩, ⟨S64x1, ((b333 j s))⟩] concatenates_S64x1_S64x1_S64x2_d1
def b335 (j : ℕ) (s : State F) : (⟨S1x64x50, .f32⟩ : BufTy).Contents (Elt F) :=
  broadcastInDim S1x64x50 ![1, 2] bcast_S64x50_S1x64x50_1_2 ((b63 j s))
def b336 (j : ℕ) (s : State F) : (⟨S_, .i32⟩ : BufTy).Contents (Elt F) :=
  constantI S_ 32 0#32
def b337 (j : ℕ) (s : State F) : (⟨S_, .i32⟩ : BufTy).Contents (Elt F) :=
  constantI S_ 32 0#32
def b338 (j : ℕ) (s : State F) : (⟨S50x64x50, .f32⟩ : BufTy).Contents (Elt F) :=
  Host.dynamicUpdateSlice (s.main_v9_12) ((b335 j s)) (fun k => (((![(constantI S_ 32 (BitVec.ofNat 32 j) : (⟨S_, .i32⟩ : BufTy).Contents (Elt F)), (b336 j s), (b337 j s)] : Fin 3 → (⟨S_, .i32⟩ : BufTy).Contents (Elt F))) k (Shape.Idx.first h_S_)).toInt) updateFits_S50x64x50_S1x64x50
def b339 (j : ℕ) (s : State F) : (⟨S1x64x50, .f32⟩ : BufTy).Contents (Elt F) :=
  broadcastInDim S1x64x50 ![1, 2] bcast_S64x50_S1x64x50_1_2 ((b232 j s))
def b340 (j : ℕ) (s : State F) : (⟨S_, .i32⟩ : BufTy).Contents (Elt F) :=
  constantI S_ 32 0#32
def b341 (j : ℕ) (s : State F) : (⟨S_, .i32⟩ : BufTy).Contents (Elt F) :=
  constantI S_ 32 0#32
def b342 (j : ℕ) (s : State F) : (⟨S50x64x50, .f32⟩ : BufTy).Contents (Elt F) :=
  Host.dynamicUpdateSlice (s.main_v9_13) ((b339 j s)) (fun k => (((![(constantI S_ 32 (BitVec.ofNat 32 j) : (⟨S_, .i32⟩ : BufTy).Contents (Elt F)), (b340 j s), (b341 j s)] : Fin 3 → (⟨S_, .i32⟩ : BufTy).Contents (Elt F))) k (Shape.Idx.first h_S_)).toInt) updateFits_S50x64x50_S1x64x50
def b343 (j : ℕ) (s : State F) : (⟨S1x64, .f32⟩ : BufTy).Contents (Elt F) :=
  broadcastInDim S1x64 ![1] bcast_S64_S1x64_1 ((b90 j s))
def b344 (j : ℕ) (s : State F) : (⟨S_, .i32⟩ : BufTy).Contents (Elt F) :=
  constantI S_ 32 0#32
def b345 (j : ℕ) (s : State F) : (⟨S50x64, .f32⟩ : BufTy).Contents (Elt F) :=
  Host.dynamicUpdateSlice (s.main_v9_14) ((b343 j s)) (fun k => (((![(constantI S_ 32 (BitVec.ofNat 32 j) : (⟨S_, .i32⟩ : BufTy).Contents (Elt F)), (b344 j s)] : Fin 2 → (⟨S_, .i32⟩ : BufTy).Contents (Elt F))) k (Shape.Idx.first h_S_)).toInt) updateFits_S50x64_S1x64
def b346 (j : ℕ) (s : State F) : (⟨S1x64, .f32⟩ : BufTy).Contents (Elt F) :=
  broadcastInDim S1x64 ![1] bcast_S64_S1x64_1 ((b259 j s))
def b347 (j : ℕ) (s : State F) : (⟨S_, .i32⟩ : BufTy).Contents (Elt F) :=
  constantI S_ 32 0#32
def b348 (j : ℕ) (s : State F) : (⟨S50x64, .f32⟩ : BufTy).Contents (Elt F) :=
  Host.dynamicUpdateSlice (s.main_v9_15) ((b346 j s)) (fun k => (((![(constantI S_ 32 (BitVec.ofNat 32 j) : (⟨S_, .i32⟩ : BufTy).Contents (Elt F)), (b347 j s)] : Fin 2 → (⟨S_, .i32⟩ : BufTy).Contents (Elt F))) k (Shape.Idx.first h_S_)).toInt) updateFits_S50x64_S1x64
def b349 (j : ℕ) (s : State F) : (⟨S1x64x2, .i32⟩ : BufTy).Contents (Elt F) :=
  broadcastInDim S1x64x2 ![1, 2] bcast_S64x2_S1x64x2_1_2 ((b334 j s))
def b350 (j : ℕ) (s : State F) : (⟨S_, .i32⟩ : BufTy).Contents (Elt F) :=
  constantI S_ 32 0#32
def b351 (j : ℕ) (s : State F) : (⟨S_, .i32⟩ : BufTy).Contents (Elt F) :=
  constantI S_ 32 0#32
def b352 (j : ℕ) (s : State F) : (⟨S50x64x2, .i32⟩ : BufTy).Contents (Elt F) :=
  Host.dynamicUpdateSlice (s.main_v9_16) ((b349 j s)) (fun k => (((![(constantI S_ 32 (BitVec.ofNat 32 j) : (⟨S_, .i32⟩ : BufTy).Contents (Elt F)), (b350 j s), (b351 j s)] : Fin 3 → (⟨S_, .i32⟩ : BufTy).Contents (Elt F))) k (Shape.Idx.first h_S_)).toInt) updateFits_S50x64x2_S1x64x2
def b353 (j : ℕ) (s : State F) : (⟨S1x64, .f32⟩ : BufTy).Contents (Elt F) :=
  broadcastInDim S1x64 ![1] bcast_S64_S1x64_1 ((b331 j s))
def b354 (j : ℕ) (s : State F) : (⟨S_, .i32⟩ : BufTy).Contents (Elt F) :=
  constantI S_ 32 0#32
def b355 (j : ℕ) (s : State F) : (⟨S50x64, .f32⟩ : BufTy).Contents (Elt F) :=
  Host.dynamicUpdateSlice (s.main_v9_17) ((b353 j s)) (fun k => (((![(constantI S_ 32 (BitVec.ofNat 32 j) : (⟨S_, .i32⟩ : BufTy).Contents (Elt F)), (b354 j s)] : Fin 2 → (⟨S_, .i32⟩ : BufTy).Contents (Elt F))) k (Shape.Idx.first h_S_)).toInt) updateFits_S50x64_S1x64

/-- The state @main hands the first trip, of the arguments it copies in. -/
def init (main_arg1 : (⟨S64x50x16, .f32⟩ : BufTy).Contents (Elt F)) (main_arg0 : (⟨S64x50x16, .f32⟩ : BufTy).Contents (Elt F)) (main_arg3 : (⟨S16x128, .f32⟩ : BufTy).Contents (Elt F)) (main_arg4 : (⟨S16x128, .f32⟩ : BufTy).Contents (Elt F)) (main_arg2 : (⟨S64x50x50, .f32⟩ : BufTy).Contents (Elt F)) (main_arg5 : (⟨S128x128, .f32⟩ : BufTy).Contents (Elt F)) (main_arg6 : (⟨S128x128, .f32⟩ : BufTy).Contents (Elt F)) (main_arg7 : (⟨S128x128, .f32⟩ : BufTy).Contents (Elt F)) : State F :=
  { main_v9_9 := main_arg1, main_v9_10 := K_main_v1 (F := F), main_v9_11 := K_main_v2 (F := F), main_v9_12 := K_main_v3 (F := F), main_v9_13 := K_main_v4 (F := F), main_v9_14 := K_main_v5 (F := F), main_v9_15 := K_main_v6 (F := F), main_v9_16 := K_main_v7 (F := F), main_v9_17 := K_main_v8 (F := F), main_v9_0 := main_arg0, main_v9_1 := main_arg3, main_v9_2 := main_arg4, main_v9_3 := main_arg2, main_v9_4 := main_arg5, main_v9_5 := main_arg6, main_v9_7 := main_arg7 }

/-- One trip. -/
def step (j : ℕ) (s : State F) : State F :=
  { main_v9_9 := b325 j s, main_v9_10 := b110 j s, main_v9_11 := b178 j s, main_v9_12 := b338 j s, main_v9_13 := b342 j s, main_v9_14 := b345 j s, main_v9_15 := b348 j s, main_v9_16 := b352 j s, main_v9_17 := b355 j s, main_v9_0 := s.main_v9_0, main_v9_1 := s.main_v9_1, main_v9_2 := s.main_v9_2, main_v9_3 := s.main_v9_3, main_v9_4 := s.main_v9_4, main_v9_5 := s.main_v9_5, main_v9_7 := s.main_v9_7 }
theorem step_main_v9_9 (j : ℕ) (s : State F) : (step j s).main_v9_9 = b325 j s := by simp only [step]
theorem step_main_v9_10 (j : ℕ) (s : State F) : (step j s).main_v9_10 = b110 j s := by simp only [step]
theorem step_main_v9_11 (j : ℕ) (s : State F) : (step j s).main_v9_11 = b178 j s := by simp only [step]
theorem step_main_v9_12 (j : ℕ) (s : State F) : (step j s).main_v9_12 = b338 j s := by simp only [step]
theorem step_main_v9_13 (j : ℕ) (s : State F) : (step j s).main_v9_13 = b342 j s := by simp only [step]
theorem step_main_v9_14 (j : ℕ) (s : State F) : (step j s).main_v9_14 = b345 j s := by simp only [step]
theorem step_main_v9_15 (j : ℕ) (s : State F) : (step j s).main_v9_15 = b348 j s := by simp only [step]
theorem step_main_v9_16 (j : ℕ) (s : State F) : (step j s).main_v9_16 = b352 j s := by simp only [step]
theorem step_main_v9_17 (j : ℕ) (s : State F) : (step j s).main_v9_17 = b355 j s := by simp only [step]

/-- `main_v19`, which the operations after the loop make, of the loop's last state. -/
def R_main_v19 (s : State F) : (⟨S64x50x50, .f32⟩ : BufTy).Contents (Elt F) :=
  transpose S64x50x50 [1, 0, 2] (s.main_v9_12) transposes_S50x64x50_S64x50x50_1_0_2

/-- `main_v20`, which the operations after the loop make, of the loop's last state. -/
def R_main_v20 (s : State F) : (⟨S64x50x50, .f32⟩ : BufTy).Contents (Elt F) :=
  transpose S64x50x50 [1, 0, 2] (s.main_v9_13) transposes_S50x64x50_S64x50x50_1_0_2

/-- `main_v21`, which the operations after the loop make, of the loop's last state. -/
def R_main_v21 (s : State F) : (⟨S64x50, .f32⟩ : BufTy).Contents (Elt F) :=
  transpose S64x50 [1, 0] (s.main_v9_14) transposes_S50x64_S64x50_1_0

/-- `main_v22`, which the operations after the loop make, of the loop's last state. -/
def R_main_v22 (s : State F) : (⟨S64x50, .f32⟩ : BufTy).Contents (Elt F) :=
  transpose S64x50 [1, 0] (s.main_v9_15) transposes_S50x64_S64x50_1_0

/-- `main_v24`, which the operations after the loop make, of the loop's last state. -/
def R_main_v24 (s : State F) : (⟨S64x100, .i32⟩ : BufTy).Contents (Elt F) :=
  shapeCast _ (transpose S64x50x2 [1, 0, 2] (s.main_v9_16) transposes_S50x64x2_S64x50x2_1_0_2) shapeCasts_S64x50x2_S64x100

/-- `main_v18`, which the operations after the loop make, of the loop's last state. -/
def R_main_v18 (s : State F) : (⟨S64, .f32⟩ : BufTy).Contents (Elt F) :=
  addf (mulf (uitofp .f32 (id (cmpf .une (Host.reduceAdd (s.main_v9_17) (constant S_ .f32 0x00000000#32) reducesTo_S50x64_S64_d0 h_S_) (broadcastInDim S64 ![] bcast_S_S64 (constant S_ .f32 0x00000000#32))))) (broadcastInDim S64 ![] bcast_S_S64 (constant S_ .f32 0xC0000000#32))) (broadcastInDim S64 ![] bcast_S_S64 (constant S_ .f32 0x3F800000#32))

end Cert.Proof.RefStep

end
-- ==== Proof.RefIdx.lean ====
/- The reference's gathers and scatters, read at an entry: each row's index columns hold the row's number and a place in it, so a
   gather reads that place and a scatter writes it and nothing else. -/
module

public import proofs.«01_k».proof.Proof.Math
public import Idealize.ShloMosaic.Lib.Routing.OpsSet
public import proofs.«01_k».proof.Proof.RefStep

@[expose] public section

set_option maxRecDepth 16384

noncomputable section

namespace Cert.Proof.Same

open Cert.ReferenceIdeal Cert.ReferenceIdeal.Gen
open Idealize.ShloMosaic Idealize.ShloMosaic.TcCoe Idealize.ShloMosaic.Tactic
open Cert.Proof.RefStep

theorem toInt_row (b : Fin 64) : (BitVec.ofNat 32 b.val).toInt = (b.val : Int) := toInt_small (by omega)
theorem toInt_lane (k : Fin 50) : (BitVec.ofNat 32 k.val).toInt = (k.val : Int) := toInt_small (by omega)

variable {α : Type}

/-! Gathers. -/

theorem take2 (x : S64x50.Idx → α) (idx : IVec S64x2 32) (b : Fin 64) (a : Fin 50) (h0 : idx (ix2 b 0) = BitVec.ofNat 32 b.val)
    (h1 : idx (ix2 b 1) = BitVec.ofNat 32 a.val) :
    Host.gather gather_S64x50_S64x2_S64_n_01_n_n_01_1_11 x idx (ix1 b) = x (ix2 b a) := by
  have hs : ∀ c, gather_S64x50_S64x2_S64_n_01_n_n_01_1_11.siIdx (ix1 b) c = ix2 b c := by
    intro c
    funext y
    match y with
    | ⟨0, _⟩ => rfl
    | ⟨1, _⟩ => rfl
  have hb := b.isLt
  have ha := a.isLt
  unfold Host.gather
  refine congrArg x (funext fun y => Fin.ext ?_)
  match y with
  | ⟨0, _⟩ =>
    have g : gather_S64x50_S64x2_S64_n_01_n_n_01_1_11.start (ix1 b) idx 0 = min (idx (ix2 b 0)).toInt.toNat 63 :=
      congrArg (fun q => min (idx q).toInt.toNat 63) (hs ⟨0, by decide⟩)
    have e : (idx (ix2 b 0)).toInt = (b.val : Int) := (congrArg BitVec.toInt h0).trans (toInt_row b)
    show gather_S64x50_S64x2_S64_n_01_n_n_01_1_11.start (ix1 b) idx 0 + 0 + 0 = b.val
    rw [g, e]
    omega
  | ⟨1, _⟩ =>
    have g : gather_S64x50_S64x2_S64_n_01_n_n_01_1_11.start (ix1 b) idx 1 = min (idx (ix2 b 1)).toInt.toNat 49 :=
      congrArg (fun q => min (idx q).toInt.toNat 49) (hs ⟨1, by decide⟩)
    have e : (idx (ix2 b 1)).toInt = (a.val : Int) := (congrArg BitVec.toInt h1).trans (toInt_lane a)
    show gather_S64x50_S64x2_S64_n_01_n_n_01_1_11.start (ix1 b) idx 1 + 0 + 0 = a.val
    rw [g, e]
    omega

theorem takeRow (x : S64x50x128.Idx → α) (idx : IVec S64x2 32) (b : Fin 64) (a : Fin 50) (v : Fin 128) (h0 : idx (ix2 b 0) = BitVec.ofNat 32 b.val)
    (h1 : idx (ix2 b 1) = BitVec.ofNat 32 a.val) :
    Host.gather gather_S64x50x128_S64x2_S64x128_1_01_n_n_01_1_11128 x idx (ix2 b v) = x (ix3 b a v) := by
  have hs : ∀ c, gather_S64x50x128_S64x2_S64x128_1_01_n_n_01_1_11128.siIdx (ix2 b v) c = ix2 b c := by
    intro c
    funext y
    match y with
    | ⟨0, _⟩ => rfl
    | ⟨1, _⟩ => rfl
  have hb := b.isLt
  have ha := a.isLt
  unfold Host.gather
  refine congrArg x (funext fun y => Fin.ext ?_)
  match y with
  | ⟨0, _⟩ =>
    have g : gather_S64x50x128_S64x2_S64x128_1_01_n_n_01_1_11128.start (ix2 b v) idx 0 = min (idx (ix2 b 0)).toInt.toNat 63 :=
      congrArg (fun q => min (idx q).toInt.toNat 63) (hs ⟨0, by decide⟩)
    have e : (idx (ix2 b 0)).toInt = (b.val : Int) := (congrArg BitVec.toInt h0).trans (toInt_row b)
    show gather_S64x50x128_S64x2_S64x128_1_01_n_n_01_1_11128.start (ix2 b v) idx 0 + 0 + 0 = b.val
    rw [g, e]
    omega
  | ⟨1, _⟩ =>
    have g : gather_S64x50x128_S64x2_S64x128_1_01_n_n_01_1_11128.start (ix2 b v) idx 1 = min (idx (ix2 b 1)).toInt.toNat 49 :=
      congrArg (fun q => min (idx q).toInt.toNat 49) (hs ⟨1, by decide⟩)
    have e : (idx (ix2 b 1)).toInt = (a.val : Int) := (congrArg BitVec.toInt h1).trans (toInt_lane a)
    show gather_S64x50x128_S64x2_S64x128_1_01_n_n_01_1_11128.start (ix2 b v) idx 1 + 0 + 0 = a.val
    rw [g, e]
    omega
  | ⟨2, _⟩ =>
    show 0 + 0 + v.val = v.val
    omega

theorem take3 (x : S64x50x16.Idx → α) (idx : IVec S64x3 32) (b : Fin 64) (a : Fin 50) (h0 : idx (ix2 b 0) = BitVec.ofNat 32 b.val)
    (h1 : idx (ix2 b 1) = BitVec.ofNat 32 a.val)
    (h2 : idx (ix2 b 2) = 15#32) :
    Host.gather gather_S64x50x16_S64x3_S64_n_012_n_n_012_1_111 x idx (ix1 b) = x (ix3 b a 15) := by
  have hs : ∀ c, gather_S64x50x16_S64x3_S64_n_012_n_n_012_1_111.siIdx (ix1 b) c = ix2 b c := by
    intro c
    funext y
    match y with
    | ⟨0, _⟩ => rfl
    | ⟨1, _⟩ => rfl
  have hb := b.isLt
  have ha := a.isLt
  unfold Host.gather
  refine congrArg x (funext fun y => Fin.ext ?_)
  match y with
  | ⟨0, _⟩ =>
    have g : gather_S64x50x16_S64x3_S64_n_012_n_n_012_1_111.start (ix1 b) idx 0 = min (idx (ix2 b 0)).toInt.toNat 63 :=
      congrArg (fun q => min (idx q).toInt.toNat 63) (hs ⟨0, by decide⟩)
    have e : (idx (ix2 b 0)).toInt = (b.val : Int) := (congrArg BitVec.toInt h0).trans (toInt_row b)
    show gather_S64x50x16_S64x3_S64_n_012_n_n_012_1_111.start (ix1 b) idx 0 + 0 + 0 = b.val
    rw [g, e]
    omega
  | ⟨1, _⟩ =>
    have g : gather_S64x50x16_S64x3_S64_n_012_n_n_012_1_111.start (ix1 b) idx 1 = min (idx (ix2 b 1)).toInt.toNat 49 :=
      congrArg (fun q => min (idx q).toInt.toNat 49) (hs ⟨1, by decide⟩)
    have e : (idx (ix2 b 1)).toInt = (a.val : Int) := (congrArg BitVec.toInt h1).trans (toInt_lane a)
    show gather_S64x50x16_S64x3_S64_n_012_n_n_012_1_111.start (ix1 b) idx 1 + 0 + 0 = a.val
    rw [g, e]
    omega
  | ⟨2, _⟩ =>
    have g : gather_S64x50x16_S64x3_S64_n_012_n_n_012_1_111.start (ix1 b) idx 2 = min (idx (ix2 b 2)).toInt.toNat 15 :=
      congrArg (fun q => min (idx q).toInt.toNat 15) (hs ⟨2, by decide⟩)
    have e : (idx (ix2 b 2)).toInt = (15 : Int) := (congrArg BitVec.toInt h2).trans (by decide)
    show gather_S64x50x16_S64x3_S64_n_012_n_n_012_1_111.start (ix1 b) idx 2 + 0 + 0 = 15
    rw [g, e]
    omega

theorem takeItem (x : S64x50x16.Idx → α) (idx : IVec S64x3 32) (b : Fin 64) (a : Fin 50) (v : Fin 15) (h0 : idx (ix2 b 0) = BitVec.ofNat 32 b.val)
    (h1 : idx (ix2 b 1) = BitVec.ofNat 32 a.val)
    (h2 : idx (ix2 b 2) = 0#32) :
    Host.gather gather_S64x50x16_S64x3_S64x15_1_01_n_n_012_1_1115 x idx (ix2 b v) = x (ix3 b a (v.castLE (by omega))) := by
  have hs : ∀ c, gather_S64x50x16_S64x3_S64x15_1_01_n_n_012_1_1115.siIdx (ix2 b v) c = ix2 b c := by
    intro c
    funext y
    match y with
    | ⟨0, _⟩ => rfl
    | ⟨1, _⟩ => rfl
  have hb := b.isLt
  have ha := a.isLt
  unfold Host.gather
  refine congrArg x (funext fun y => Fin.ext ?_)
  match y with
  | ⟨0, _⟩ =>
    have g : gather_S64x50x16_S64x3_S64x15_1_01_n_n_012_1_1115.start (ix2 b v) idx 0 = min (idx (ix2 b 0)).toInt.toNat 63 :=
      congrArg (fun q => min (idx q).toInt.toNat 63) (hs ⟨0, by decide⟩)
    have e : (idx (ix2 b 0)).toInt = (b.val : Int) := (congrArg BitVec.toInt h0).trans (toInt_row b)
    show gather_S64x50x16_S64x3_S64x15_1_01_n_n_012_1_1115.start (ix2 b v) idx 0 + 0 + 0 = b.val
    rw [g, e]
    omega
  | ⟨1, _⟩ =>
    have g : gather_S64x50x16_S64x3_S64x15_1_01_n_n_012_1_1115.start (ix2 b v) idx 1 = min (idx (ix2 b 1)).toInt.toNat 49 :=
      congrArg (fun q => min (idx q).toInt.toNat 49) (hs ⟨1, by decide⟩)
    have e : (idx (ix2 b 1)).toInt = (a.val : Int) := (congrArg BitVec.toInt h1).trans (toInt_lane a)
    show gather_S64x50x16_S64x3_S64x15_1_01_n_n_012_1_1115.start (ix2 b v) idx 1 + 0 + 0 = a.val
    rw [g, e]
    omega
  | ⟨2, _⟩ =>
    have g : gather_S64x50x16_S64x3_S64x15_1_01_n_n_012_1_1115.start (ix2 b v) idx 2 = min (idx (ix2 b 2)).toInt.toNat 1 :=
      congrArg (fun q => min (idx q).toInt.toNat 1) (hs ⟨2, by decide⟩)
    have e : (idx (ix2 b 2)).toInt = (0 : Int) := (congrArg BitVec.toInt h2).trans (by decide)
    show gather_S64x50x16_S64x3_S64x15_1_01_n_n_012_1_1115.start (ix2 b v) idx 2 + 0 + v.val = v.val
    rw [g, e]
    omega

/-! Scatters. -/

theorem put2_lands (idx : IVec S64x2 32) (a : Fin 64 → Fin 50)
    (h0 : ∀ b, idx (ix2 b 0) = BitVec.ofNat 32 b.val)
    (h1 : ∀ b, idx (ix2 b 1) = BitVec.ofNat 32 (a b).val) (b' : Fin 64) (b : Fin 64) (k : Fin 50) :
    scatter_S64x50_S64x2_S64_n_01_01_1.resultIdx? (ix1 b') idx = some (ix2 b k) ↔ b' = b ∧ a b' = k := by
  have hs : ∀ c, scatter_S64x50_S64x2_S64_n_01_01_1.siIdx (ix1 b') c = ix2 b' c := by
    intro c
    funext y
    match y with
    | ⟨0, _⟩ => rfl
    | ⟨1, _⟩ => rfl
  have e0 : scatter_S64x50_S64x2_S64_n_01_01_1.start (ix1 b') idx 0 = (b'.val : Int) := by
    show (idx (scatter_S64x50_S64x2_S64_n_01_01_1.siIdx (ix1 b') ⟨0, by decide⟩)).toInt = _
    rw [hs]
    exact (congrArg BitVec.toInt (h0 b')).trans (toInt_row _)
  have w0 : scatter_S64x50_S64x2_S64_n_01_01_1.window (ix1 b') 0 = 0 := rfl
  have e1 : scatter_S64x50_S64x2_S64_n_01_01_1.start (ix1 b') idx 1 = ((a b').val : Int) := by
    show (idx (scatter_S64x50_S64x2_S64_n_01_01_1.siIdx (ix1 b') ⟨1, by decide⟩)).toInt = _
    rw [hs]
    exact (congrArg BitVec.toInt (h1 b')).trans (toInt_lane _)
  have w1 : scatter_S64x50_S64x2_S64_n_01_01_1.window (ix1 b') 1 = 0 := rfl
  rw [Routing.resultIdx?_eq_some]
  constructor
  · intro h
    have g0 := h 0
    rw [e0, w0] at g0
    have g1 := h 1
    rw [e1, w1] at g1
    refine ⟨Fin.ext ?_, Fin.ext ?_⟩
    · have : (((ix2 b k) 0 : Fin _).val : Int) = b.val := rfl
      omega
    · have : (((ix2 b k) 1 : Fin _).val : Int) = k.val := rfl
      omega
  · rintro ⟨rfl, rfl⟩ y
    match y with
    | ⟨0, _⟩ =>
      show scatter_S64x50_S64x2_S64_n_01_01_1.start (ix1 b') idx 0 + (scatter_S64x50_S64x2_S64_n_01_01_1.window (ix1 b') 0 : Int) = _
      rw [e0, w0]
      first | rfl | exact Int.add_zero _ | exact Int.zero_add _
    | ⟨1, _⟩ =>
      show scatter_S64x50_S64x2_S64_n_01_01_1.start (ix1 b') idx 1 + (scatter_S64x50_S64x2_S64_n_01_01_1.window (ix1 b') 1 : Int) = _
      rw [e1, w1]
      first | rfl | exact Int.add_zero _ | exact Int.zero_add _

theorem put2 (x0 : S64x50.Idx → α) (idx : IVec S64x2 32) (upd : S64.Idx → α) (a : Fin 64 → Fin 50)
    (h0 : ∀ b, idx (ix2 b 0) = BitVec.ofNat 32 b.val)
    (h1 : ∀ b, idx (ix2 b 1) = BitVec.ofNat 32 (a b).val) (b : Fin 64) (k : Fin 50) :
    Host.scatter scatter_S64x50_S64x2_S64_n_01_01_1 (fun _ b => b) x0 idx upd (ix2 b k) = if k = a b then upd (ix1 b) else x0 (ix2 b k) := by
  have land := put2_lands idx a h0 h1
  split
  · next e =>
    refine Routing.scatter_set_hit _ x0 idx upd _ _ (fun q hq => ?_) (ix1 b) ((land b b k).2 ?_)
    · obtain ⟨b', rfl⟩ : ∃ b' : Fin 64, q = ix1 b' := ⟨q 0, funext fun y => match y with | ⟨0, _⟩ => rfl⟩
      have := (land b' b k).1 hq
      simp [this]
    · simp [e]
  · next e =>
    refine Routing.scatter_set_miss _ x0 idx upd _ fun q hq => e ?_
    obtain ⟨b', rfl⟩ : ∃ b' : Fin 64, q = ix1 b' := ⟨q 0, funext fun y => match y with | ⟨0, _⟩ => rfl⟩
    have t := (land b' b k).1 hq
    obtain ⟨rfl, rfl⟩ := t
    simp

theorem putRow_lands (idx : IVec S64x2 32) (a : Fin 64 → Fin 50)
    (h0 : ∀ b, idx (ix2 b 0) = BitVec.ofNat 32 b.val)
    (h1 : ∀ b, idx (ix2 b 1) = BitVec.ofNat 32 (a b).val) (b' : Fin 64) (v : Fin 50) (b : Fin 64) (i : Fin 50) (k : Fin 50) :
    scatter_S64x50x50_S64x2_S64x50_1_01_01_1.resultIdx? (ix2 b' v) idx = some (ix3 b i k) ↔ b' = b ∧ a b' = i ∧ v = k := by
  have hs : ∀ c, scatter_S64x50x50_S64x2_S64x50_1_01_01_1.siIdx (ix2 b' v) c = ix2 b' c := by
    intro c
    funext y
    match y with
    | ⟨0, _⟩ => rfl
    | ⟨1, _⟩ => rfl
  have e0 : scatter_S64x50x50_S64x2_S64x50_1_01_01_1.start (ix2 b' v) idx 0 = (b'.val : Int) := by
    show (idx (scatter_S64x50x50_S64x2_S64x50_1_01_01_1.siIdx (ix2 b' v) ⟨0, by decide⟩)).toInt = _
    rw [hs]
    exact (congrArg BitVec.toInt (h0 b')).trans (toInt_row _)
  have w0 : scatter_S64x50x50_S64x2_S64x50_1_01_01_1.window (ix2 b' v) 0 = 0 := rfl
  have e1 : scatter_S64x50x50_S64x2_S64x50_1_01_01_1.start (ix2 b' v) idx 1 = ((a b').val : Int) := by
    show (idx (scatter_S64x50x50_S64x2_S64x50_1_01_01_1.siIdx (ix2 b' v) ⟨1, by decide⟩)).toInt = _
    rw [hs]
    exact (congrArg BitVec.toInt (h1 b')).trans (toInt_lane _)
  have w1 : scatter_S64x50x50_S64x2_S64x50_1_01_01_1.window (ix2 b' v) 1 = 0 := rfl
  have e2 : scatter_S64x50x50_S64x2_S64x50_1_01_01_1.start (ix2 b' v) idx 2 = 0 := rfl
  have w2 : scatter_S64x50x50_S64x2_S64x50_1_01_01_1.window (ix2 b' v) 2 = v.val := rfl
  rw [Routing.resultIdx?_eq_some]
  constructor
  · intro h
    have g0 := h 0
    rw [e0, w0] at g0
    have g1 := h 1
    rw [e1, w1] at g1
    have g2 := h 2
    rw [e2, w2] at g2
    refine ⟨Fin.ext ?_, Fin.ext ?_, Fin.ext ?_⟩
    · have : (((ix3 b i k) 0 : Fin _).val : Int) = b.val := rfl
      omega
    · have : (((ix3 b i k) 1 : Fin _).val : Int) = i.val := rfl
      omega
    · have : (((ix3 b i k) 2 : Fin _).val : Int) = k.val := rfl
      omega
  · rintro ⟨rfl, rfl, rfl⟩ y
    match y with
    | ⟨0, _⟩ =>
      show scatter_S64x50x50_S64x2_S64x50_1_01_01_1.start (ix2 b' v) idx 0 + (scatter_S64x50x50_S64x2_S64x50_1_01_01_1.window (ix2 b' v) 0 : Int) = _
      rw [e0, w0]
      first | rfl | exact Int.add_zero _ | exact Int.zero_add _
    | ⟨1, _⟩ =>
      show scatter_S64x50x50_S64x2_S64x50_1_01_01_1.start (ix2 b' v) idx 1 + (scatter_S64x50x50_S64x2_S64x50_1_01_01_1.window (ix2 b' v) 1 : Int) = _
      rw [e1, w1]
      first | rfl | exact Int.add_zero _ | exact Int.zero_add _
    | ⟨2, _⟩ =>
      show scatter_S64x50x50_S64x2_S64x50_1_01_01_1.start (ix2 b' v) idx 2 + (scatter_S64x50x50_S64x2_S64x50_1_01_01_1.window (ix2 b' v) 2 : Int) = _
      rw [e2, w2]
      first | rfl | exact Int.add_zero _ | exact Int.zero_add _

theorem putRow (x0 : S64x50x50.Idx → α) (idx : IVec S64x2 32) (upd : S64x50.Idx → α) (a : Fin 64 → Fin 50)
    (h0 : ∀ b, idx (ix2 b 0) = BitVec.ofNat 32 b.val)
    (h1 : ∀ b, idx (ix2 b 1) = BitVec.ofNat 32 (a b).val) (b : Fin 64) (i : Fin 50) (k : Fin 50) :
    Host.scatter scatter_S64x50x50_S64x2_S64x50_1_01_01_1 (fun _ b => b) x0 idx upd (ix3 b i k) = if i = a b then upd (ix2 b k) else x0 (ix3 b i k) := by
  have land := putRow_lands idx a h0 h1
  split
  · next e =>
    refine Routing.scatter_set_hit _ x0 idx upd _ _ (fun q hq => ?_) (ix2 b k) ((land b k b i k).2 ?_)
    · obtain ⟨b', v, rfl⟩ : ∃ (b' : Fin 64) (v : Fin 50), q = ix2 b' v := ⟨q 0, q 1, funext fun y => match y with | ⟨0, _⟩ => rfl | ⟨1, _⟩ => rfl⟩
      have := (land b' v b i k).1 hq
      simp [this]
    · simp [e]
  · next e =>
    refine Routing.scatter_set_miss _ x0 idx upd _ fun q hq => e ?_
    obtain ⟨b', v, rfl⟩ : ∃ (b' : Fin 64) (v : Fin 50), q = ix2 b' v := ⟨q 0, q 1, funext fun y => match y with | ⟨0, _⟩ => rfl | ⟨1, _⟩ => rfl⟩
    have t := (land b' v b i k).1 hq
    obtain ⟨rfl, rfl, rfl⟩ := t
    simp

theorem putCol_lands (idx : IVec S64x2 32) (a : Fin 64 → Fin 50)
    (h0 : ∀ b, idx (ix2 b 0) = BitVec.ofNat 32 b.val)
    (h1 : ∀ b, idx (ix2 b 1) = BitVec.ofNat 32 (a b).val) (b' : Fin 64) (v : Fin 50) (b : Fin 64) (i : Fin 50) (k : Fin 50) :
    scatter_S64x50x50_S64x2_S64x50_1_02_02_1.resultIdx? (ix2 b' v) idx = some (ix3 b i k) ↔ b' = b ∧ v = i ∧ a b' = k := by
  have hs : ∀ c, scatter_S64x50x50_S64x2_S64x50_1_02_02_1.siIdx (ix2 b' v) c = ix2 b' c := by
    intro c
    funext y
    match y with
    | ⟨0, _⟩ => rfl
    | ⟨1, _⟩ => rfl
  have e0 : scatter_S64x50x50_S64x2_S64x50_1_02_02_1.start (ix2 b' v) idx 0 = (b'.val : Int) := by
    show (idx (scatter_S64x50x50_S64x2_S64x50_1_02_02_1.siIdx (ix2 b' v) ⟨0, by decide⟩)).toInt = _
    rw [hs]
    exact (congrArg BitVec.toInt (h0 b')).trans (toInt_row _)
  have w0 : scatter_S64x50x50_S64x2_S64x50_1_02_02_1.window (ix2 b' v) 0 = 0 := rfl
  have e1 : scatter_S64x50x50_S64x2_S64x50_1_02_02_1.start (ix2 b' v) idx 1 = 0 := rfl
  have w1 : scatter_S64x50x50_S64x2_S64x50_1_02_02_1.window (ix2 b' v) 1 = v.val := rfl
  have e2 : scatter_S64x50x50_S64x2_S64x50_1_02_02_1.start (ix2 b' v) idx 2 = ((a b').val : Int) := by
    show (idx (scatter_S64x50x50_S64x2_S64x50_1_02_02_1.siIdx (ix2 b' v) ⟨1, by decide⟩)).toInt = _
    rw [hs]
    exact (congrArg BitVec.toInt (h1 b')).trans (toInt_lane _)
  have w2 : scatter_S64x50x50_S64x2_S64x50_1_02_02_1.window (ix2 b' v) 2 = 0 := rfl
  rw [Routing.resultIdx?_eq_some]
  constructor
  · intro h
    have g0 := h 0
    rw [e0, w0] at g0
    have g1 := h 1
    rw [e1, w1] at g1
    have g2 := h 2
    rw [e2, w2] at g2
    refine ⟨Fin.ext ?_, Fin.ext ?_, Fin.ext ?_⟩
    · have : (((ix3 b i k) 0 : Fin _).val : Int) = b.val := rfl
      omega
    · have : (((ix3 b i k) 1 : Fin _).val : Int) = i.val := rfl
      omega
    · have : (((ix3 b i k) 2 : Fin _).val : Int) = k.val := rfl
      omega
  · rintro ⟨rfl, rfl, rfl⟩ y
    match y with
    | ⟨0, _⟩ =>
      show scatter_S64x50x50_S64x2_S64x50_1_02_02_1.start (ix2 b' v) idx 0 + (scatter_S64x50x50_S64x2_S64x50_1_02_02_1.window (ix2 b' v) 0 : Int) = _
      rw [e0, w0]
      first | rfl | exact Int.add_zero _ | exact Int.zero_add _
    | ⟨1, _⟩ =>
      show scatter_S64x50x50_S64x2_S64x50_1_02_02_1.start (ix2 b' v) idx 1 + (scatter_S64x50x50_S64x2_S64x50_1_02_02_1.window (ix2 b' v) 1 : Int) = _
      rw [e1, w1]
      first | rfl | exact Int.add_zero _ | exact Int.zero_add _
    | ⟨2, _⟩ =>
      show scatter_S64x50x50_S64x2_S64x50_1_02_02_1.start (ix2 b' v) idx 2 + (scatter_S64x50x50_S64x2_S64x50_1_02_02_1.window (ix2 b' v) 2 : Int) = _
      rw [e2, w2]
      first | rfl | exact Int.add_zero _ | exact Int.zero_add _

theorem putCol (x0 : S64x50x50.Idx → α) (idx : IVec S64x2 32) (upd : S64x50.Idx → α) (a : Fin 64 → Fin 50)
    (h0 : ∀ b, idx (ix2 b 0) = BitVec.ofNat 32 b.val)
    (h1 : ∀ b, idx (ix2 b 1) = BitVec.ofNat 32 (a b).val) (b : Fin 64) (i : Fin 50) (k : Fin 50) :
    Host.scatter scatter_S64x50x50_S64x2_S64x50_1_02_02_1 (fun _ b => b) x0 idx upd (ix3 b i k) = if k = a b then upd (ix2 b i) else x0 (ix3 b i k) := by
  have land := putCol_lands idx a h0 h1
  split
  · next e =>
    refine Routing.scatter_set_hit _ x0 idx upd _ _ (fun q hq => ?_) (ix2 b i) ((land b i b i k).2 ?_)
    · obtain ⟨b', v, rfl⟩ : ∃ (b' : Fin 64) (v : Fin 50), q = ix2 b' v := ⟨q 0, q 1, funext fun y => match y with | ⟨0, _⟩ => rfl | ⟨1, _⟩ => rfl⟩
      have := (land b' v b i k).1 hq
      simp [this]
    · simp [e]
  · next e =>
    refine Routing.scatter_set_miss _ x0 idx upd _ fun q hq => e ?_
    obtain ⟨b', v, rfl⟩ : ∃ (b' : Fin 64) (v : Fin 50), q = ix2 b' v := ⟨q 0, q 1, funext fun y => match y with | ⟨0, _⟩ => rfl | ⟨1, _⟩ => rfl⟩
    have t := (land b' v b i k).1 hq
    obtain ⟨rfl, rfl, rfl⟩ := t
    simp

theorem putDiag_lands (idx : IVec S64x3 32) (a : Fin 64 → Fin 50)
    (h0 : ∀ b, idx (ix2 b 0) = BitVec.ofNat 32 b.val)
    (h1 : ∀ b, idx (ix2 b 1) = BitVec.ofNat 32 (a b).val)
    (h2 : ∀ b, idx (ix2 b 2) = BitVec.ofNat 32 (a b).val) (b' : Fin 64) (b : Fin 64) (i : Fin 50) (k : Fin 50) :
    scatter_S64x50x50_S64x3_S64_n_012_012_1.resultIdx? (ix1 b') idx = some (ix3 b i k) ↔ b' = b ∧ a b' = i ∧ a b' = k := by
  have hs : ∀ c, scatter_S64x50x50_S64x3_S64_n_012_012_1.siIdx (ix1 b') c = ix2 b' c := by
    intro c
    funext y
    match y with
    | ⟨0, _⟩ => rfl
    | ⟨1, _⟩ => rfl
  have e0 : scatter_S64x50x50_S64x3_S64_n_012_012_1.start (ix1 b') idx 0 = (b'.val : Int) := by
    show (idx (scatter_S64x50x50_S64x3_S64_n_012_012_1.siIdx (ix1 b') ⟨0, by decide⟩)).toInt = _
    rw [hs]
    exact (congrArg BitVec.toInt (h0 b')).trans (toInt_row _)
  have w0 : scatter_S64x50x50_S64x3_S64_n_012_012_1.window (ix1 b') 0 = 0 := rfl
  have e1 : scatter_S64x50x50_S64x3_S64_n_012_012_1.start (ix1 b') idx 1 = ((a b').val : Int) := by
    show (idx (scatter_S64x50x50_S64x3_S64_n_012_012_1.siIdx (ix1 b') ⟨1, by decide⟩)).toInt = _
    rw [hs]
    exact (congrArg BitVec.toInt (h1 b')).trans (toInt_lane _)
  have w1 : scatter_S64x50x50_S64x3_S64_n_012_012_1.window (ix1 b') 1 = 0 := rfl
  have e2 : scatter_S64x50x50_S64x3_S64_n_012_012_1.start (ix1 b') idx 2 = ((a b').val : Int) := by
    show (idx (scatter_S64x50x50_S64x3_S64_n_012_012_1.siIdx (ix1 b') ⟨2, by decide⟩)).toInt = _
    rw [hs]
    exact (congrArg BitVec.toInt (h2 b')).trans (toInt_lane _)
  have w2 : scatter_S64x50x50_S64x3_S64_n_012_012_1.window (ix1 b') 2 = 0 := rfl
  rw [Routing.resultIdx?_eq_some]
  constructor
  · intro h
    have g0 := h 0
    rw [e0, w0] at g0
    have g1 := h 1
    rw [e1, w1] at g1
    have g2 := h 2
    rw [e2, w2] at g2
    refine ⟨Fin.ext ?_, Fin.ext ?_, Fin.ext ?_⟩
    · have : (((ix3 b i k) 0 : Fin _).val : Int) = b.val := rfl
      omega
    · have : (((ix3 b i k) 1 : Fin _).val : Int) = i.val := rfl
      omega
    · have : (((ix3 b i k) 2 : Fin _).val : Int) = k.val := rfl
      omega
  · rintro ⟨rfl, rfl, rfl⟩ y
    match y with
    | ⟨0, _⟩ =>
      show scatter_S64x50x50_S64x3_S64_n_012_012_1.start (ix1 b') idx 0 + (scatter_S64x50x50_S64x3_S64_n_012_012_1.window (ix1 b') 0 : Int) = _
      rw [e0, w0]
      first | rfl | exact Int.add_zero _ | exact Int.zero_add _
    | ⟨1, _⟩ =>
      show scatter_S64x50x50_S64x3_S64_n_012_012_1.start (ix1 b') idx 1 + (scatter_S64x50x50_S64x3_S64_n_012_012_1.window (ix1 b') 1 : Int) = _
      rw [e1, w1]
      first | rfl | exact Int.add_zero _ | exact Int.zero_add _
    | ⟨2, _⟩ =>
      show scatter_S64x50x50_S64x3_S64_n_012_012_1.start (ix1 b') idx 2 + (scatter_S64x50x50_S64x3_S64_n_012_012_1.window (ix1 b') 2 : Int) = _
      rw [e2, w2]
      first | rfl | exact Int.add_zero _ | exact Int.zero_add _

theorem putDiag (x0 : S64x50x50.Idx → α) (idx : IVec S64x3 32) (upd : S64.Idx → α) (a : Fin 64 → Fin 50)
    (h0 : ∀ b, idx (ix2 b 0) = BitVec.ofNat 32 b.val)
    (h1 : ∀ b, idx (ix2 b 1) = BitVec.ofNat 32 (a b).val)
    (h2 : ∀ b, idx (ix2 b 2) = BitVec.ofNat 32 (a b).val) (b : Fin 64) (i : Fin 50) (k : Fin 50) :
    Host.scatter scatter_S64x50x50_S64x3_S64_n_012_012_1 (fun _ b => b) x0 idx upd (ix3 b i k) = if i = a b ∧ k = a b then upd (ix1 b) else x0 (ix3 b i k) := by
  have land := putDiag_lands idx a h0 h1 h2
  split
  · next e =>
    refine Routing.scatter_set_hit _ x0 idx upd _ _ (fun q hq => ?_) (ix1 b) ((land b b i k).2 ?_)
    · obtain ⟨b', rfl⟩ : ∃ b' : Fin 64, q = ix1 b' := ⟨q 0, funext fun y => match y with | ⟨0, _⟩ => rfl⟩
      have := (land b' b i k).1 hq
      simp [this]
    · simp [e]
  · next e =>
    refine Routing.scatter_set_miss _ x0 idx upd _ fun q hq => e ?_
    obtain ⟨b', rfl⟩ : ∃ b' : Fin 64, q = ix1 b' := ⟨q 0, funext fun y => match y with | ⟨0, _⟩ => rfl⟩
    have t := (land b' b i k).1 hq
    obtain ⟨rfl, rfl, rfl⟩ := t
    simp

theorem putNode_lands (idx : IVec S64x2 32) (a : Fin 64 → Fin 50)
    (h0 : ∀ b, idx (ix2 b 0) = BitVec.ofNat 32 b.val)
    (h1 : ∀ b, idx (ix2 b 1) = BitVec.ofNat 32 (a b).val) (b' : Fin 64) (v : Fin 16) (b : Fin 64) (i : Fin 50) (x : Fin 16) :
    scatter_S64x50x16_S64x2_S64x16_1_01_01_1.resultIdx? (ix2 b' v) idx = some (ix3 b i x) ↔ b' = b ∧ a b' = i ∧ v = x := by
  have hs : ∀ c, scatter_S64x50x16_S64x2_S64x16_1_01_01_1.siIdx (ix2 b' v) c = ix2 b' c := by
    intro c
    funext y
    match y with
    | ⟨0, _⟩ => rfl
    | ⟨1, _⟩ => rfl
  have e0 : scatter_S64x50x16_S64x2_S64x16_1_01_01_1.start (ix2 b' v) idx 0 = (b'.val : Int) := by
    show (idx (scatter_S64x50x16_S64x2_S64x16_1_01_01_1.siIdx (ix2 b' v) ⟨0, by decide⟩)).toInt = _
    rw [hs]
    exact (congrArg BitVec.toInt (h0 b')).trans (toInt_row _)
  have w0 : scatter_S64x50x16_S64x2_S64x16_1_01_01_1.window (ix2 b' v) 0 = 0 := rfl
  have e1 : scatter_S64x50x16_S64x2_S64x16_1_01_01_1.start (ix2 b' v) idx 1 = ((a b').val : Int) := by
    show (idx (scatter_S64x50x16_S64x2_S64x16_1_01_01_1.siIdx (ix2 b' v) ⟨1, by decide⟩)).toInt = _
    rw [hs]
    exact (congrArg BitVec.toInt (h1 b')).trans (toInt_lane _)
  have w1 : scatter_S64x50x16_S64x2_S64x16_1_01_01_1.window (ix2 b' v) 1 = 0 := rfl
  have e2 : scatter_S64x50x16_S64x2_S64x16_1_01_01_1.start (ix2 b' v) idx 2 = 0 := rfl
  have w2 : scatter_S64x50x16_S64x2_S64x16_1_01_01_1.window (ix2 b' v) 2 = v.val := rfl
  rw [Routing.resultIdx?_eq_some]
  constructor
  · intro h
    have g0 := h 0
    rw [e0, w0] at g0
    have g1 := h 1
    rw [e1, w1] at g1
    have g2 := h 2
    rw [e2, w2] at g2
    refine ⟨Fin.ext ?_, Fin.ext ?_, Fin.ext ?_⟩
    · have : (((ix3 b i x) 0 : Fin _).val : Int) = b.val := rfl
      omega
    · have : (((ix3 b i x) 1 : Fin _).val : Int) = i.val := rfl
      omega
    · have : (((ix3 b i x) 2 : Fin _).val : Int) = x.val := rfl
      omega
  · rintro ⟨rfl, rfl, rfl⟩ y
    match y with
    | ⟨0, _⟩ =>
      show scatter_S64x50x16_S64x2_S64x16_1_01_01_1.start (ix2 b' v) idx 0 + (scatter_S64x50x16_S64x2_S64x16_1_01_01_1.window (ix2 b' v) 0 : Int) = _
      rw [e0, w0]
      first | rfl | exact Int.add_zero _ | exact Int.zero_add _
    | ⟨1, _⟩ =>
      show scatter_S64x50x16_S64x2_S64x16_1_01_01_1.start (ix2 b' v) idx 1 + (scatter_S64x50x16_S64x2_S64x16_1_01_01_1.window (ix2 b' v) 1 : Int) = _
      rw [e1, w1]
      first | rfl | exact Int.add_zero _ | exact Int.zero_add _
    | ⟨2, _⟩ =>
      show scatter_S64x50x16_S64x2_S64x16_1_01_01_1.start (ix2 b' v) idx 2 + (scatter_S64x50x16_S64x2_S64x16_1_01_01_1.window (ix2 b' v) 2 : Int) = _
      rw [e2, w2]
      first | rfl | exact Int.add_zero _ | exact Int.zero_add _

theorem putNode (x0 : S64x50x16.Idx → α) (idx : IVec S64x2 32) (upd : S64x16.Idx → α) (a : Fin 64 → Fin 50)
    (h0 : ∀ b, idx (ix2 b 0) = BitVec.ofNat 32 b.val)
    (h1 : ∀ b, idx (ix2 b 1) = BitVec.ofNat 32 (a b).val) (b : Fin 64) (i : Fin 50) (x : Fin 16) :
    Host.scatter scatter_S64x50x16_S64x2_S64x16_1_01_01_1 (fun _ b => b) x0 idx upd (ix3 b i x) = if i = a b then upd (ix2 b x) else x0 (ix3 b i x) := by
  have land := putNode_lands idx a h0 h1
  split
  · next e =>
    refine Routing.scatter_set_hit _ x0 idx upd _ _ (fun q hq => ?_) (ix2 b x) ((land b x b i x).2 ?_)
    · obtain ⟨b', v, rfl⟩ : ∃ (b' : Fin 64) (v : Fin 16), q = ix2 b' v := ⟨q 0, q 1, funext fun y => match y with | ⟨0, _⟩ => rfl | ⟨1, _⟩ => rfl⟩
      have := (land b' v b i x).1 hq
      simp [this]
    · simp [e]
  · next e =>
    refine Routing.scatter_set_miss _ x0 idx upd _ fun q hq => e ?_
    obtain ⟨b', v, rfl⟩ : ∃ (b' : Fin 64) (v : Fin 16), q = ix2 b' v := ⟨q 0, q 1, funext fun y => match y with | ⟨0, _⟩ => rfl | ⟨1, _⟩ => rfl⟩
    have t := (land b' v b i x).1 hq
    obtain ⟨rfl, rfl, rfl⟩ := t
    simp

end Cert.Proof.Same

end
-- ==== Proof.RMath.lean ====
/- The quantities of one trip of the reference's loop, read entry by entry, at a state that agrees with a state of the kernel's loop:
   each is the kernel's quantity of the same name. -/
module

public import proofs.«01_k».proof.Proof.KMath
public import proofs.«01_k».proof.Proof.RefIdx

@[expose] public section

set_option maxRecDepth 16384

noncomputable section

namespace Cert.Proof.Same

open Cert.ReferenceIdeal Cert.ReferenceIdeal.Gen
open Idealize.ShloMosaic Idealize.ShloMosaic.TcCoe Idealize.ShloMosaic.Tactic
open Cert.Proof.RefStep
open Cert.KernelIdeal.Roll (Fix St kEnc kNod kLog)

/-- The reference's search along the rows of a matrix. -/
theorem arg_row (x : FVec Ideal S64x50 .f32) (y : IVec S64x50 32) (ix : FVec Ideal S_ .f32) (iy : IVec S_ 32) (b : Fin 64) (p : Fin 50 → EReal)
    (hx : ∀ k, x (ix2 b k) = p k) (hy : ∀ k, y (ix2 b k) = BitVec.ofNat 32 k.val) (hix : ∀ i, ix i = (⊥ : EReal)) (hiy : ∀ i, iy i = 0#32) :
    (Host.argReduce (F := Ideal) reducer_argmax_f32_i32 x y ix iy reducesTo_S64x50_S64_d1 h_S_ (ix1 b)).2 = BitVec.ofNat 32 (first p).val := by
  rw [Ideal.argReduce_eq_reduce2, Host.reduce2_eq_foldl_fiber, hix, hiy, Host.argReduceFiber]
  have hf : ∀ i : S64x50.Idx, reducesTo_S64x50_S64_d1.drop i = ix1 b → i = ix2 b (i 1) := by
    intro i hi
    obtain ⟨k, hk⟩ := (Shape.ReducesTo.fiber_r2_a1 reducesTo_S64x50_S64_d1 (ix1 b) i).1 hi
    subst hk
    rfl
  have e : ((List.finRange S64x50.numel).filter fun n => reducesTo_S64x50_S64_d1.drop (S64x50.rowMajor.symm n) = ix1 b).map
        (fun n => (x (S64x50.rowMajor.symm n), y (S64x50.rowMajor.symm n)))
      = (((List.finRange S64x50.numel).filter fun n => reducesTo_S64x50_S64_d1.drop (S64x50.rowMajor.symm n) = ix1 b).map
          fun n => (show Fin 50 from S64x50.rowMajor.symm n 1)).map fun k => (p k, BitVec.ofNat 32 k.val) := by
    rw [List.map_map]
    refine List.map_congr_left fun n hn => ?_
    have := hf _ (of_decide_eq_true (List.mem_filter.1 hn).2)
    exact Prod.ext ((congrArg x this).trans (hx _)) ((congrArg y this).trans (hy _))
  rw [e]
  refine first_of_arg p _ fun k => List.mem_map.2 ⟨S64x50.rowMajor (ix2 b k), List.mem_filter.2 ⟨List.mem_finRange _, decide_eq_true ?_⟩, ?_⟩
  · rw [Equiv.symm_apply_apply]
    exact (Shape.ReducesTo.fiber_r2_a1 reducesTo_S64x50_S64_d1 (ix1 b) _).2 ⟨k, rfl⟩
  · rw [Equiv.symm_apply_apply]
    rfl

theorem wrap_row (b : Fin 64) (a : BitVec 32) :
    Scalar.select (IntOp.cmpi .slt (BitVec.ofNat 32 b.val) 0#32) a (BitVec.ofNat 32 b.val) = BitVec.ofNat 32 b.val :=
  Routing.wrap_of_lt _ _ (by rw [BitVec.toNat_ofNat]; omega)

theorem wrap_lane (k : Fin 50) (a : BitVec 32) :
    Scalar.select (IntOp.cmpi .slt (BitVec.ofNat 32 k.val) 0#32) a (BitVec.ofNat 32 k.val) = BitVec.ofNat 32 k.val :=
  Routing.wrap_of_lt _ _ (by rw [BitVec.toNat_ofNat]; omega)

/-! The index columns. -/

section
variable (j : ℕ) (r : State Ideal)

theorem col85_0 (b : Fin 64) : b85 j r (ix2 b 0) = BitVec.ofNat 32 b.val := by
  pointwise [b85, b84, b83, b82, b81, b80, b79, b78, b77, b76, b75, b74, b73, b72, b71, b70, b69, K_main_v0]
  exact wrap_row b _

theorem col85_1 (b : Fin 64) (a : Fin 50) (h : b68 j r (ix1 b) = BitVec.ofNat 32 a.val) : b85 j r (ix2 b 1) = BitVec.ofNat 32 a.val := by
  pointwise [b85, b84, b83, b82, b81, b80, b79, b78, b77, b76, b75, b74, b73, b72, b71, b70, b69, K_main_v0]
  rw [h]
  exact wrap_lane a _

theorem col107_0 (b : Fin 64) : b107 j r (ix2 b 0) = BitVec.ofNat 32 b.val := by
  pointwise [b107, b106, b105, b104, b103, b102, b101, b100, b99, b98, b97, b96, b95, b94, b93, b92, b91, K_main_v0]
  exact wrap_row b _

theorem col107_1 (b : Fin 64) (a : Fin 50) (h : b68 j r (ix1 b) = BitVec.ofNat 32 a.val) : b107 j r (ix2 b 1) = BitVec.ofNat 32 a.val := by
  pointwise [b107, b106, b105, b104, b103, b102, b101, b100, b99, b98, b97, b96, b95, b94, b93, b92, b91, K_main_v0]
  rw [h]
  exact wrap_lane a _

theorem col127_0 (b : Fin 64) : b127 j r (ix2 b 0) = BitVec.ofNat 32 b.val := by
  pointwise [b127, b126, b125, b124, b123, b122, b121, b120, b119, b118, b117, b116, b115, b114, b113, b112, b111, K_main_v0]
  exact wrap_row b _

theorem col127_1 (b : Fin 64) (a : Fin 50) (h : b68 j r (ix1 b) = BitVec.ofNat 32 a.val) : b127 j r (ix2 b 1) = BitVec.ofNat 32 a.val := by
  pointwise [b127, b126, b125, b124, b123, b122, b121, b120, b119, b118, b117, b116, b115, b114, b113, b112, b111, K_main_v0]
  rw [h]
  exact wrap_lane a _

theorem col147_0 (b : Fin 64) : b147 j r (ix2 b 0) = BitVec.ofNat 32 b.val := by
  pointwise [b147, b146, b145, b144, b143, b142, b141, b140, b139, b138, b137, b136, b135, b134, b133, b132, b131, K_main_v0]
  exact wrap_row b _

theorem col147_1 (b : Fin 64) (a : Fin 50) (h : b68 j r (ix1 b) = BitVec.ofNat 32 a.val) : b147 j r (ix2 b 1) = BitVec.ofNat 32 a.val := by
  pointwise [b147, b146, b145, b144, b143, b142, b141, b140, b139, b138, b137, b136, b135, b134, b133, b132, b131, K_main_v0]
  rw [h]
  exact wrap_lane a _

theorem col175_0 (b : Fin 64) : b175 j r (ix2 b 0) = BitVec.ofNat 32 b.val := by
  pointwise [b175, b174, b173, b172, b171, b170, b169, b168, b167, b166, b165, b164, b163, b162, b161, b160, b159, b158, b157, b156, b155, b154, b153, b152, b151, K_main_v0]
  exact wrap_row b _

theorem col175_1 (b : Fin 64) (a : Fin 50) (h : b68 j r (ix1 b) = BitVec.ofNat 32 a.val) : b175 j r (ix2 b 1) = BitVec.ofNat 32 a.val := by
  pointwise [b175, b174, b173, b172, b171, b170, b169, b168, b167, b166, b165, b164, b163, b162, b161, b160, b159, b158, b157, b156, b155, b154, b153, b152, b151, K_main_v0]
  rw [h]
  exact wrap_lane a _

theorem col175_2 (b : Fin 64) (a : Fin 50) (h : b68 j r (ix1 b) = BitVec.ofNat 32 a.val) : b175 j r (ix2 b 2) = BitVec.ofNat 32 a.val := by
  pointwise [b175, b174, b173, b172, b171, b170, b169, b168, b167, b166, b165, b164, b163, b162, b161, b160, b159, b158, b157, b156, b155, b154, b153, b152, b151, K_main_v0]
  rw [h]
  exact wrap_lane a _

theorem col195_0 (b : Fin 64) : b195 j r (ix2 b 0) = BitVec.ofNat 32 b.val := by
  pointwise [b195, b194, b193, b192, b191, b190, b189, b188, b187, b186, b185, b184, b183, b182, b181, b180, b179, K_main_v0]
  exact wrap_row b _

theorem col195_1 (b : Fin 64) (a : Fin 50) (h : b68 j r (ix1 b) = BitVec.ofNat 32 a.val) : b195 j r (ix2 b 1) = BitVec.ofNat 32 a.val := by
  pointwise [b195, b194, b193, b192, b191, b190, b189, b188, b187, b186, b185, b184, b183, b182, b181, b180, b179, K_main_v0]
  rw [h]
  exact wrap_lane a _

theorem col254_0 (b : Fin 64) : b254 j r (ix2 b 0) = BitVec.ofNat 32 b.val := by
  pointwise [b254, b253, b252, b251, b250, b249, b248, b247, b246, b245, b244, b243, b242, b241, b240, b239, b238, K_main_v0]
  exact wrap_row b _

theorem col254_1 (b : Fin 64) (a : Fin 50) (h : b237 j r (ix1 b) = BitVec.ofNat 32 a.val) : b254 j r (ix2 b 1) = BitVec.ofNat 32 a.val := by
  pointwise [b254, b253, b252, b251, b250, b249, b248, b247, b246, b245, b244, b243, b242, b241, b240, b239, b238, K_main_v0]
  rw [h]
  exact wrap_lane a _

theorem col280_0 (b : Fin 64) : b280 j r (ix2 b 0) = BitVec.ofNat 32 b.val := by
  pointwise [b280, b279, b278, b277, b276, b275, b274, b273, b272, b271, b270, b269, b268, b267, b266, b265, b264, b263, b262, b261, b260, K_main_v0]
  exact wrap_row b _

theorem col280_1 (b : Fin 64) (a : Fin 50) (h : b237 j r (ix1 b) = BitVec.ofNat 32 a.val) : b280 j r (ix2 b 1) = BitVec.ofNat 32 a.val := by
  pointwise [b280, b279, b278, b277, b276, b275, b274, b273, b272, b271, b270, b269, b268, b267, b266, b265, b264, b263, b262, b261, b260, K_main_v0]
  rw [h]
  exact wrap_lane a _

theorem col280_2 (b : Fin 64) : b280 j r (ix2 b 2) = 15#32 := by
  pointwise [b280, b279, b278, b277, b276, b275, b274, b273, b272, b271, b270, b269, b268, b267, b266, b265, b264, b263, b262, b261, b260, K_main_v0]

theorem col303_0 (b : Fin 64) : b303 j r (ix2 b 0) = BitVec.ofNat 32 b.val := by
  pointwise [b303, b302, b301, b300, b299, b298, b297, b296, b295, b294, b293, b292, b291, b290, b289, b288, b287, b286, b285, K_main_v0]
  exact wrap_row b _

theorem col303_1 (b : Fin 64) (a : Fin 50) (h : b68 j r (ix1 b) = BitVec.ofNat 32 a.val) : b303 j r (ix2 b 1) = BitVec.ofNat 32 a.val := by
  pointwise [b303, b302, b301, b300, b299, b298, b297, b296, b295, b294, b293, b292, b291, b290, b289, b288, b287, b286, b285, K_main_v0]
  rw [h]
  exact wrap_lane a _

theorem col303_2 (b : Fin 64) : b303 j r (ix2 b 2) = 0#32 := by
  pointwise [b303, b302, b301, b300, b299, b298, b297, b296, b295, b294, b293, b292, b291, b290, b289, b288, b287, b286, b285, K_main_v0]

theorem col324_0 (b : Fin 64) : b324 j r (ix2 b 0) = BitVec.ofNat 32 b.val := by
  pointwise [b324, b323, b322, b321, b320, b319, b318, b317, b316, b315, b314, b313, b312, b311, b310, b309, b308, K_main_v0]
  exact wrap_row b _

theorem col324_1 (b : Fin 64) (a : Fin 50) (h : b237 j r (ix1 b) = BitVec.ofNat 32 a.val) : b324 j r (ix2 b 1) = BitVec.ofNat 32 a.val := by
  pointwise [b324, b323, b322, b321, b320, b319, b318, b317, b316, b315, b314, b313, b312, b311, b310, b309, b308, K_main_v0]
  rw [h]
  exact wrap_lane a _

end

/-- A state of the kernel's loop and one of the reference's that hold the same: the taken items `T` are marked in both, the nodes are the same
    and their flags zeros and ones, and what no trip writes is the same. -/
structure Agree (C : Fix Ideal) (s : St Ideal) (T : Fin 64 → Fin 50 → Bool) (r : State Ideal) : Prop where
  marked : Marked C s T
  nodes : ∀ b i x, r.main_v9_9 (ix3 b i x) = s.nodes (ix3 b i x)
  taken : ∀ b i, r.main_v9_10 (ix2 b i) = BitVec.ofBool (T b i)
  seen : ∀ b i k, r.main_v9_11 (ix3 b i k) = BitVec.ofBool (sees T b i k)
  flag : ∀ b i, s.nodes (ix3 b i 15) = 0 ∨ s.nodes (ix3 b i 15) = 1
  items : r.main_v9_0 = C.items
  wn : r.main_v9_2 = C.wn
  edges : r.main_v9_3 = C.edges
  we : r.main_v9_4 = C.we
  wq : r.main_v9_5 = C.wq
  wp : r.main_v9_7 = C.wp
  vit : ∀ b i x, C.vit (ix3 b i x) = Ideal.tanh (∑ y, r.main_v9_0 (ix3 b i y) * r.main_v9_1 (ix2 y x))
  sc : ∀ b i k, C.sc (ix3 b i k) = Ideal.div (∑ x, C.vit (ix3 b i x) * C.vit (ix3 b k x)) (Ideal.sqrt (Ideal.ofBits .f32 1124073472#32))

section
variable {C : Fix Ideal} {s : St Ideal} {T : Fin 64 → Fin 50 → Bool} {r : State Ideal} (h : Agree C s T r) (j : ℕ)
include h

theorem r1 (b : Fin 64) (i : Fin 50) (x : Fin 128) : b1 j r (ix3 b i x) = C.vit (ix3 b i x) := by
  rw [h.vit]
  pointwise [b1, b0]

theorem r12 (b : Fin 64) (i k : Fin 50) : b12 j r (ix3 b i k) = row C T b i k := by
  have e := r1 h j
  unfold row low
  pointwise [b12, b11, b10, b9, b8, b7, b6, b5, b4, b3, b2]
  rw [h.seen]
  simp only [e, ← h.sc]
  cases sees T b i k <;> rfl

theorem bot_max (x : EReal) : max (Ideal.ofBits .f32 4286578688#32) x = x := by
  rw [show Ideal.ofBits .f32 4286578688#32 = (⊥ : EReal) by simp [Ideal.ofBits, Ideal.ieee]]
  exact max_eq_right bot_le

theorem r26 (b : Fin 64) (i k : Fin 50) : b26 j r (ix3 b i k) = soft (row C T b i) k := by
  have e := r12 h j b i
  have e21 : ∀ k, b21 j r (ix3 b i k) = Ideal.exp (row C T b i k - peak (row C T b i)) := by
    intro k
    pointwise [b21, b20, b19, b18, b17, b16, b15, b14, b13]
    simp only [e, bot_max h, fold_eq_peak]
  unfold soft
  pointwise [b26, b25, b24, b23, b22]
  simp only [e21]

theorem r28 (b : Fin 64) (i : Fin 50) (x : Fin 128) : b28 j r (ix3 b i x) = kEnc C s (ix3 b i x) := by
  have e := r26 h j b i
  have e1 := r1 h j
  rw [kEnc_at h.marked]
  pointwise [b28, b27]
  simp only [e, e1]

theorem r33 (b : Fin 64) (i : Fin 50) (x : Fin 128) : b33 j r (ix3 b i x) = kNod C s (ix3 b i x) := by
  pointwise [b33, b32, b31, b30, b29, kNod, Cert.KernelIdeal.Gen.k0_pay10]
  simp only [h.nodes, h.wn, h.edges, h.we]

theorem r49 (b : Fin 64) (i : Fin 50) : b49 j r (ix2 b i) = ilog C s T b i := by
  have e28 := r28 h j
  have e33 := r33 h j
  unfold ilog low
  rw [kLog_at]
  pointwise [b49, b48, b47, b46, b45, b44, b43, b42, b41, b40, b39, b38, b37, b36, b35, b34]
  rw [h.taken]
  simp only [e28, e33, h.wq, div_fifty]
  cases T b i <;> rfl

theorem r63 (b : Fin 64) (i : Fin 50) : b63 j r (ix2 b i) = soft (ilog C s T b) i := by
  have e := r49 h j b
  have e58 : ∀ k, b58 j r (ix2 b k) = Ideal.exp (ilog C s T b k - peak (ilog C s T b)) := by
    intro k
    pointwise [b58, b57, b56, b55, b54, b53, b52, b51, b50]
    simp only [e, bot_max h, fold_eq_peak]
  unfold soft
  pointwise [b63, b62, b61, b60, b59]
  simp only [e58]

theorem r68 (b : Fin 64) : b68 j r (ix1 b) = BitVec.ofNat 32 (sel C s T b).val := by
  refine arg_row (b63 j r) (b64 j r) (b65 j r) (b66 j r) b _ (r63 h j b) (fun k => ?_) (fun i => ?_) (fun i => ?_)
  · pointwise [b64]
  · show Ideal.ofBits .f32 4286578688#32 = (⊥ : EReal)
    simp [Ideal.ofBits, Ideal.ieee]
  · rfl

theorem r90 (b : Fin 64) : b90 j r (ix1 b) = Ideal.log (peak (soft (ilog C s T b)) + Ideal.ofBits .f32 507307272#32) := by
  have e : b86 j r (ix1 b) = peak (soft (ilog C s T b)) := by
    unfold b86
    rw [take2 _ _ b (sel C s T b) (col85_0 j r b) (col85_1 j r b _ (r68 h j b)), r63 h]
    exact (first_spec _).1
  rw [← e]
  pointwise [b90, b89, b88, b87]

/-- The taken items after the trip. -/
theorem r110 (b : Fin 64) (k : Fin 50) : b110 j r (ix2 b k) = BitVec.ofBool (T b k || decide (k = sel C s T b)) := by
  unfold b110
  rw [put2 _ _ _ (sel C s T) (col107_0 j r) (fun b => col107_1 j r b _ (r68 h j b)), h.taken]
  have e : b109 j r (ix1 b) = 1#1 := by
    pointwise [b109, b108]
  rw [e]
  cases T b k <;> by_cases e : k = sel C s T b <;> simp [e]

/-- Which items see which after the trip. -/
theorem r178 (b : Fin 64) (i k : Fin 50) :
    b178 j r (ix3 b i k) = BitVec.ofBool (sees (fun b k => T b k || decide (k = sel C s T b)) b i k) := by
  have e129 : b129 j r (ix2 b k) = 0#1 := by
    pointwise [b129, b128]
  have e149 : b149 j r (ix2 b i) = 0#1 := by
    pointwise [b149, b148]
  have e177 : b177 j r (ix1 b) = 1#1 := by
    pointwise [b177, b176]
  have e68 := r68 h j
  have e130 : b130 j r (ix3 b i k) = if i = sel C s T b then 0#1 else BitVec.ofBool (sees T b i k) := by
    unfold b130
    rw [putRow _ _ _ (sel C s T) (col127_0 j r) (fun b => col127_1 j r b _ (e68 b)), e129, h.seen]
  have e150 : b150 j r (ix3 b i k) = if k = sel C s T b then 0#1 else if i = sel C s T b then 0#1 else BitVec.ofBool (sees T b i k) := by
    unfold b150
    rw [putCol _ _ _ (sel C s T) (col147_0 j r) (fun b => col147_1 j r b _ (e68 b)), e149, e130]
  unfold b178
  rw [putDiag _ _ _ (sel C s T) (col175_0 j r) (fun b => col175_1 j r b _ (e68 b)) (fun b => col175_2 j r b _ (e68 b)), e177, e150]
  unfold sees
  by_cases e1 : i = sel C s T b
  · by_cases e2 : k = sel C s T b
    · simp [e1, e2]
    · have : ¬ sel C s T b = k := fun q => e2 q.symm
      simp [e1, e2, this]
  · by_cases e2 : k = sel C s T b
    · have : ¬ i = sel C s T b := e1
      simp [e1, e2]
    · simp [e1, e2]

theorem r196 (b : Fin 64) (x : Fin 128) : b196 j r (ix2 b x) = kEnc C s (ix3 b (sel C s T b) x) := by
  unfold b196
  rw [takeRow _ _ b (sel C s T b) x (col195_0 j r b) (col195_1 j r b _ (r68 h j b)), r28 h]

theorem r218 (b : Fin 64) (i : Fin 50) : b218 j r (ix2 b i) = nlog C s T b i := by
  have e33 := r33 h j
  have e196 := r196 h j
  unfold nlog low
  pointwise [b218, b217, b216, b215, b214, b213, b212, b211, b210, b209, b208, b207, b206, b205, b204, b203, b202, b201, b200, b199, b198, b197]
  simp only [e33, e196, h.wp, h.nodes]
  rcases h.flag b i with e | e <;> (simp [e, zero_lt_half, half_lt_one.le, half_lt_one.not_gt, Scalar.select, Ideal.cmp]; try rfl)

theorem r232 (b : Fin 64) (i : Fin 50) : b232 j r (ix2 b i) = soft (nlog C s T b) i := by
  have e := r218 h j b
  have e58 : ∀ k, b227 j r (ix2 b k) = Ideal.exp (nlog C s T b k - peak (nlog C s T b)) := by
    intro k
    pointwise [b227, b226, b225, b224, b223, b222, b221, b220, b219]
    simp only [e, bot_max h, fold_eq_peak]
  unfold soft
  pointwise [b232, b231, b230, b229, b228]
  simp only [e58]

theorem r237 (b : Fin 64) : b237 j r (ix1 b) = BitVec.ofNat 32 (place C s T b).val := by
  refine arg_row (b232 j r) (b233 j r) (b234 j r) (b235 j r) b _ (r232 h j b) (fun k => ?_) (fun i => ?_) (fun i => ?_)
  · pointwise [b233]
  · show Ideal.ofBits .f32 4286578688#32 = (⊥ : EReal)
    simp [Ideal.ofBits, Ideal.ieee]
  · rfl

theorem r259 (b : Fin 64) : b259 j r (ix1 b) = Ideal.log (peak (soft (nlog C s T b)) + Ideal.ofBits .f32 507307272#32) := by
  have e : b255 j r (ix1 b) = peak (soft (nlog C s T b)) := by
    unfold b255
    rw [take2 _ _ b (place C s T b) (col254_0 j r b) (col254_1 j r b _ (r237 h j b)), r232 h]
    exact (first_spec _).1
  rw [← e]
  pointwise [b259, b258, b257, b256]

/-- The trip's reward: nothing at a free place, minus one at an occupied one. -/
theorem r331 (b : Fin 64) :
    b331 j r (ix1 b) = if Ideal.ofBits .f32 1056964608#32 < s.nodes (ix3 b (place C s T b) 15) then (-1 : EReal) else 0 := by
  have e : b281 j r (ix1 b) = s.nodes (ix3 b (place C s T b) 15) := by
    unfold b281
    rw [take3 _ _ b (place C s T b) (col280_0 j r b) (col280_1 j r b _ (r237 h j b)) (col280_2 j r b), h.nodes]
  pointwise [b331, b330, b329, b328, b327, b326, b284, b283, b282]
  rw [e]
  by_cases q : Ideal.ofBits .f32 1056964608#32 < s.nodes (ix3 b (place C s T b) 15) <;>
    simp [q, sitofp_word, one_sub_one, Ideal.cmp]

/-- The nodes after the trip. -/
theorem r325 (b : Fin 64) (i : Fin 50) (x : Fin 16) :
    b325 j r (ix3 b i x) = if i = place C s T b then (if x = 15 then 1 else C.items (ix3 b (sel C s T b) x)) else s.nodes (ix3 b i x) := by
  have e304 : ∀ v : Fin 15, b304 j r (ix2 b v) = C.items (ix3 b (sel C s T b) (v.castLE (by omega))) := by
    intro v
    unfold b304
    rw [takeItem _ _ b (sel C s T b) v (col303_0 j r b) (col303_1 j r b _ (r68 h j b)) (col303_2 j r b), h.items]
  unfold b325
  rw [putNode _ _ _ (place C s T) (col324_0 j r) (fun b => col324_1 j r b _ (r237 h j b)), h.nodes]
  congr 1
  pointwise [b307, b306, b305]
  by_cases q : x = 15
  · subst q; rfl
  · have hx : x.val < 15 := by
      have : x.val ≠ 15 := fun t => q (Fin.ext t)
      omega
    rw [dif_pos hx, e304, if_neg q]
    rfl

end

end Cert.Proof.Same

end
-- ==== Proof.RefLoop.lean ====
/- The reference program as three stretches of operations, the middle one a counted loop of 50 trips. `run_fold`: every weakly fair
   execution of it ends with every buffer holding what running the stretches in order leaves there. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.RefRun

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The program as stretches of operations -/

/-- 36 host operations of @main, in order. -/
abbrev hostOps0 : List (HloOp τ sig (Elt F)) :=
  ( StableHlo.nullary main_v0 (iotaInDim S64 32 0)
  :: StableHlo.nullary main_c (constantI S_ 1 0#1)
  :: StableHlo.unary main_c main_v1 (broadcastInDim S64x50 ![] bcast_S_S64x50 : (⟨S_, .i1⟩ : BufTy).Contents (Elt F) → (⟨S64x50, .i1⟩ : BufTy).Contents (Elt F))
  :: StableHlo.nullary main_c_0 (constantI S_ 1 1#1)
  :: StableHlo.unary main_c_0 main_v2 (broadcastInDim S64x50x50 ![] bcast_S_S64x50x50 : (⟨S_, .i1⟩ : BufTy).Contents (Elt F) → (⟨S64x50x50, .i1⟩ : BufTy).Contents (Elt F))
  :: StableHlo.nullary main_cst (constant S_ .f32 0x00000000#32)
  :: StableHlo.unary main_cst main_v3 (broadcastInDim S50x64x50 ![] bcast_S_S50x64x50 : (⟨S_, .f32⟩ : BufTy).Contents (Elt F) → (⟨S50x64x50, .f32⟩ : BufTy).Contents (Elt F))
  :: StableHlo.nullary main_cst_1 (constant S_ .f32 0x00000000#32)
  :: StableHlo.unary main_cst_1 main_v4 (broadcastInDim S50x64x50 ![] bcast_S_S50x64x50 : (⟨S_, .f32⟩ : BufTy).Contents (Elt F) → (⟨S50x64x50, .f32⟩ : BufTy).Contents (Elt F))
  :: StableHlo.nullary main_cst_2 (constant S_ .f32 0x00000000#32)
  :: StableHlo.unary main_cst_2 main_v5 (broadcastInDim S50x64 ![] bcast_S_S50x64 : (⟨S_, .f32⟩ : BufTy).Contents (Elt F) → (⟨S50x64, .f32⟩ : BufTy).Contents (Elt F))
  :: StableHlo.nullary main_cst_3 (constant S_ .f32 0x00000000#32)
  :: StableHlo.unary main_cst_3 main_v6 (broadcastInDim S50x64 ![] bcast_S_S50x64 : (⟨S_, .f32⟩ : BufTy).Contents (Elt F) → (⟨S50x64, .f32⟩ : BufTy).Contents (Elt F))
  :: StableHlo.nullary main_c_4 (constantI S_ 32 0#32)
  :: StableHlo.unary main_c_4 main_v7 (broadcastInDim S50x64x2 ![] bcast_S_S50x64x2 : (⟨S_, .i32⟩ : BufTy).Contents (Elt F) → (⟨S50x64x2, .i32⟩ : BufTy).Contents (Elt F))
  :: StableHlo.nullary main_cst_5 (constant S_ .f32 0x00000000#32)
  :: StableHlo.unary main_cst_5 main_v8 (broadcastInDim S50x64 ![] bcast_S_S50x64 : (⟨S_, .f32⟩ : BufTy).Contents (Elt F) → (⟨S50x64, .f32⟩ : BufTy).Contents (Elt F))
  :: StableHlo.nullary main_c_6 (constantI S_ 32 0#32)
  :: StableHlo.unary main_arg0 main_v9_0 id
  :: StableHlo.unary main_arg3 main_v9_1 id
  :: StableHlo.unary main_arg4 main_v9_2 id
  :: StableHlo.unary main_arg2 main_v9_3 id
  :: StableHlo.unary main_arg5 main_v9_4 id
  :: StableHlo.unary main_arg6 main_v9_5 id
  :: StableHlo.unary main_v0 main_v9_6 id
  :: StableHlo.unary main_arg7 main_v9_7 id
  :: StableHlo.unary main_c_6 main_v9_8 id
  :: StableHlo.unary main_arg1 main_v9_9 id
  :: StableHlo.unary main_v1 main_v9_10 id
  :: StableHlo.unary main_v2 main_v9_11 id
  :: StableHlo.unary main_v3 main_v9_12 id
  :: StableHlo.unary main_v4 main_v9_13 id
  :: StableHlo.unary main_v5 main_v9_14 id
  :: StableHlo.unary main_v6 main_v9_15 id
  :: StableHlo.unary main_v7 main_v9_16 id
  :: StableHlo.unary main_v8 main_v9_17 id
  :: [] )
theorem hostOps0_sub : (hostOps0 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 19 host operations of @main, in order. -/
abbrev hostOps0_1 : List (HloOp τ sig (Elt F)) :=
  [ StableHlo.nullary main_cst_7 (constant S_ .f32 0x00000000#32),
    StableHlo.binary main_v9_17 main_cst_7 main_v10 ((fun x v => Host.reduceAdd x v reducesTo_S50x64_S64_d0 h_S_) : (⟨S50x64, .f32⟩ : BufTy).Contents (Elt F) → (⟨S_, .f32⟩ : BufTy).Contents (Elt F) → (⟨S64, .f32⟩ : BufTy).Contents (Elt F)),
    StableHlo.nullary main_cst_8 (constant S_ .f32 0x00000000#32),
    StableHlo.unary main_cst_8 main_v11 (broadcastInDim S64 ![] bcast_S_S64 : (⟨S_, .f32⟩ : BufTy).Contents (Elt F) → (⟨S64, .f32⟩ : BufTy).Contents (Elt F)),
    StableHlo.binary main_v10 main_v11 main_v12 (cmpf .une : (⟨S64, .f32⟩ : BufTy).Contents (Elt F) → (⟨S64, .f32⟩ : BufTy).Contents (Elt F) → (⟨S64, .i1⟩ : BufTy).Contents (Elt F)),
    StableHlo.unary main_v12 main_v13 (id : (⟨S64, .i1⟩ : BufTy).Contents (Elt F) → (⟨S64, .i1⟩ : BufTy).Contents (Elt F)),
    StableHlo.unary main_v13 main_v14 (uitofp .f32 : (⟨S64, .i1⟩ : BufTy).Contents (Elt F) → (⟨S64, .f32⟩ : BufTy).Contents (Elt F)),
    StableHlo.nullary main_cst_9 (constant S_ .f32 0xC0000000#32),
    StableHlo.unary main_cst_9 main_v15 (broadcastInDim S64 ![] bcast_S_S64 : (⟨S_, .f32⟩ : BufTy).Contents (Elt F) → (⟨S64, .f32⟩ : BufTy).Contents (Elt F)),
    StableHlo.binary main_v14 main_v15 main_v16 (mulf : (⟨S64, .f32⟩ : BufTy).Contents (Elt F) → (⟨S64, .f32⟩ : BufTy).Contents (Elt F) → (⟨S64, .f32⟩ : BufTy).Contents (Elt F)),
    StableHlo.nullary main_cst_10 (constant S_ .f32 0x3F800000#32),
    StableHlo.unary main_cst_10 main_v17 (broadcastInDim S64 ![] bcast_S_S64 : (⟨S_, .f32⟩ : BufTy).Contents (Elt F) → (⟨S64, .f32⟩ : BufTy).Contents (Elt F)),
    StableHlo.binary main_v16 main_v17 main_v18 (addf : (⟨S64, .f32⟩ : BufTy).Contents (Elt F) → (⟨S64, .f32⟩ : BufTy).Contents (Elt F) → (⟨S64, .f32⟩ : BufTy).Contents (Elt F)),
    StableHlo.unary main_v9_12 main_v19 ((transpose S64x50x50 [1, 0, 2] · transposes_S50x64x50_S64x50x50_1_0_2) : (⟨S50x64x50, .f32⟩ : BufTy).Contents (Elt F) → (⟨S64x50x50, .f32⟩ : BufTy).Contents (Elt F)),
    StableHlo.unary main_v9_13 main_v20 ((transpose S64x50x50 [1, 0, 2] · transposes_S50x64x50_S64x50x50_1_0_2) : (⟨S50x64x50, .f32⟩ : BufTy).Contents (Elt F) → (⟨S64x50x50, .f32⟩ : BufTy).Contents (Elt F)),
    StableHlo.unary main_v9_14 main_v21 ((transpose S64x50 [1, 0] · transposes_S50x64_S64x50_1_0) : (⟨S50x64, .f32⟩ : BufTy).Contents (Elt F) → (⟨S64x50, .f32⟩ : BufTy).Contents (Elt F)),
    StableHlo.unary main_v9_15 main_v22 ((transpose S64x50 [1, 0] · transposes_S50x64_S64x50_1_0) : (⟨S50x64, .f32⟩ : BufTy).Contents (Elt F) → (⟨S64x50, .f32⟩ : BufTy).Contents (Elt F)),
    StableHlo.unary main_v9_16 main_v23 ((transpose S64x50x2 [1, 0, 2] · transposes_S50x64x2_S64x50x2_1_0_2) : (⟨S50x64x2, .i32⟩ : BufTy).Contents (Elt F) → (⟨S64x50x2, .i32⟩ : BufTy).Contents (Elt F)),
    StableHlo.reshape main_v23 main_v24 (rfl : (.i32 : EltTy) = .i32) shapeCasts_S64x50x2_S64x100 ]
theorem hostOps0_1_sub : (hostOps0_1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.reshape_bufs_sub ..⟩
/-- `main` is its stretches of operations, one after another. -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- 10 host operations of host loop 0's body region, in order. -/
abbrev while0Ops0 : List (HloOp τ sig (Elt F)) :=
  [ StableHlo.binary main_v9_0 main_v9_1 main_while0b_v25 ((fun l r => Host.dotGeneral dot_S64x50x16_S16x128_S64x50x128_2_0_01_1_n_n none l r) : (⟨S64x50x16, .f32⟩ : BufTy).Contents (Elt F) → (⟨S16x128, .f32⟩ : BufTy).Contents (Elt F) → (⟨S64x50x128, .f32⟩ : BufTy).Contents (Elt F)),
    StableHlo.unary main_while0b_v25 main_while0b_v26 (Host.tanh : (⟨S64x50x128, .f32⟩ : BufTy).Contents (Elt F) → (⟨S64x50x128, .f32⟩ : BufTy).Contents (Elt F)),
    StableHlo.unary main_while0b_v26 main_while0b_v27 ((transpose S64x128x50 [0, 2, 1] · transposes_S64x50x128_S64x128x50_0_2_1) : (⟨S64x50x128, .f32⟩ : BufTy).Contents (Elt F) → (⟨S64x128x50, .f32⟩ : BufTy).Contents (Elt F)),
    StableHlo.binary main_while0b_v26 main_while0b_v27 main_while0b_v28 ((fun l r => Host.dotGeneral dot_S64x50x128_S64x128x50_S64x50x50_2_1_1_2_0_0 none l r) : (⟨S64x50x128, .f32⟩ : BufTy).Contents (Elt F) → (⟨S64x128x50, .f32⟩ : BufTy).Contents (Elt F) → (⟨S64x50x50, .f32⟩ : BufTy).Contents (Elt F)),
    StableHlo.nullary main_while0b_cst_28 (constant S_ .f32 0x43000000#32),
    StableHlo.unary main_while0b_cst_28 main_while0b_v29 (Host.sqrt : (⟨S_, .f32⟩ : BufTy).Contents (Elt F) → (⟨S_, .f32⟩ : BufTy).Contents (Elt F)),
    StableHlo.unary main_while0b_v29 main_while0b_v30 (id : (⟨S_, .f32⟩ : BufTy).Contents (Elt F) → (⟨S_, .f32⟩ : BufTy).Contents (Elt F)),
    StableHlo.unary main_while0b_v30 main_while0b_v31 (broadcastInDim S64x50x50 ![] bcast_S_S64x50x50 : (⟨S_, .f32⟩ : BufTy).Contents (Elt F) → (⟨S64x50x50, .f32⟩ : BufTy).Contents (Elt F)),
    StableHlo.binary main_while0b_v28 main_while0b_v31 main_while0b_v32 (Host.divf : (⟨S64x50x50, .f32⟩ : BufTy).Contents (Elt F) → (⟨S64x50x50, .f32⟩ : BufTy).Contents (Elt F) → (⟨S64x50x50, .f32⟩ : BufTy).Contents (Elt F)),
    StableHlo.nullary main_while0b_cst_29 (constant S_ .f32 0xCE6E6B28#32) ]
theorem while0Ops0_sub : (while0Ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub ..⟩
/-- 3 host operations of @_where (main_while0b_call0), in order. -/
abbrev while0Ops0_1 : List (HloOp τ sig (Elt F)) :=
  [ StableHlo.TRef.unary (.of main_while0b_cst_29 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S64x50x50, .f32⟩) (broadcastInDim S64x50x50 ![] bcast_S_S64x50x50),
    StableHlo.TRef.ternary (.of main_v9_11 : StableHlo.TRef sig ⟨S64x50x50, .i1⟩) (.of main_while0b_v32 : StableHlo.TRef sig ⟨S64x50x50, .f32⟩) (.of main_while0b_call0_v1 : StableHlo.TRef sig ⟨S64x50x50, .f32⟩) (.of main_while0b_v33 : StableHlo.TRef sig ⟨S64x50x50, .f32⟩) select ]
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 34 host operations of host loop 0's body region, in order. -/
abbrev while0Ops0_2 : List (HloOp τ sig (Elt F)) :=
  ( StableHlo.nullary main_while0b_cst_30 (constant S_ .f32 0xFF800000#32)
  :: StableHlo.binary main_while0b_v33 main_while0b_cst_30 main_while0b_v34 ((fun x v => Host.reduce FloatOps.maximumf x v reducesTo_S64x50x50_S64x50_d2 h_S_) : (⟨S64x50x50, .f32⟩ : BufTy).Contents (Elt F) → (⟨S_, .f32⟩ : BufTy).Contents (Elt F) → (⟨S64x50, .f32⟩ : BufTy).Contents (Elt F))
  :: StableHlo.nullary main_while0b_cst_31 (constant S_ .f32 0xFF800000#32)
  :: StableHlo.unary main_while0b_cst_31 main_while0b_v35 (broadcastInDim S64x50 ![] bcast_S_S64x50 : (⟨S_, .f32⟩ : BufTy).Contents (Elt F) → (⟨S64x50, .f32⟩ : BufTy).Contents (Elt F))
  :: StableHlo.binary main_while0b_v35 main_while0b_v34 main_while0b_v36 (maximumf : (⟨S64x50, .f32⟩ : BufTy).Contents (Elt F) → (⟨S64x50, .f32⟩ : BufTy).Contents (Elt F) → (⟨S64x50, .f32⟩ : BufTy).Contents (Elt F))
  :: StableHlo.unary main_while0b_v36 main_while0b_v37 (broadcastInDim S64x50x1 ![0, 1] bcast_S64x50_S64x50x1_0_1 : (⟨S64x50, .f32⟩ : BufTy).Contents (Elt F) → (⟨S64x50x1, .f32⟩ : BufTy).Contents (Elt F))
  :: StableHlo.unary main_while0b_v37 main_while0b_v38 (broadcastInDim S64x50x50 ![0, 1, 2] bcast_S64x50x1_S64x50x50_0_1_2 : (⟨S64x50x1, .f32⟩ : BufTy).Contents (Elt F) → (⟨S64x50x50, .f32⟩ : BufTy).Contents (Elt F))
  :: StableHlo.binary main_while0b_v33 main_while0b_v38 main_while0b_v39 (subf : (⟨S64x50x50, .f32⟩ : BufTy).Contents (Elt F) → (⟨S64x50x50, .f32⟩ : BufTy).Contents (Elt F) → (⟨S64x50x50, .f32⟩ : BufTy).Contents (Elt F))
  :: StableHlo.unary main_while0b_v39 main_while0b_v40 (Host.exp : (⟨S64x50x50, .f32⟩ : BufTy).Contents (Elt F) → (⟨S64x50x50, .f32⟩ : BufTy).Contents (Elt F))
  :: StableHlo.nullary main_while0b_cst_32 (constant S_ .f32 0x00000000#32)
  :: StableHlo.binary main_while0b_v40 main_while0b_cst_32 main_while0b_v41 ((fun x v => Host.reduceAdd x v reducesTo_S64x50x50_S64x50_d2 h_S_) : (⟨S64x50x50, .f32⟩ : BufTy).Contents (Elt F) → (⟨S_, .f32⟩ : BufTy).Contents (Elt F) → (⟨S64x50, .f32⟩ : BufTy).Contents (Elt F))
  :: StableHlo.unary main_while0b_v41 main_while0b_v42 (broadcastInDim S64x50x1 ![0, 1] bcast_S64x50_S64x50x1_0_1 : (⟨S64x50, .f32⟩ : BufTy).Contents (Elt F) → (⟨S64x50x1, .f32⟩ : BufTy).Contents (Elt F))
  :: StableHlo.unary main_while0b_v42 main_while0b_v43 (broadcastInDim S64x50x50 ![0, 1, 2] bcast_S64x50x1_S64x50x50_0_1_2 : (⟨S64x50x1, .f32⟩ : BufTy).Contents (Elt F) → (⟨S64x50x50, .f32⟩ : BufTy).Contents (Elt F))
  :: StableHlo.binary main_while0b_v40 main_while0b_v43 main_while0b_v44 (Host.divf : (⟨S64x50x50, .f32⟩ : BufTy).Contents (Elt F) → (⟨S64x50x50, .f32⟩ : BufTy).Contents (Elt F) → (⟨S64x50x50, .f32⟩ : BufTy).Contents (Elt F))
  :: StableHlo.binary main_while0b_v44 main_while0b_v26 main_while0b_v45 ((fun l r => Host.dotGeneral dot_S64x50x50_S64x50x128_S64x50x128_2_1_1_2_0_0 none l r) : (⟨S64x50x50, .f32⟩ : BufTy).Contents (Elt F) → (⟨S64x50x128, .f32⟩ : BufTy).Contents (Elt F) → (⟨S64x50x128, .f32⟩ : BufTy).Contents (Elt F))
  :: StableHlo.binary main_while0b_v26 main_while0b_v45 main_while0b_v46 (addf : (⟨S64x50x128, .f32⟩ : BufTy).Contents (Elt F) → (⟨S64x50x128, .f32⟩ : BufTy).Contents (Elt F) → (⟨S64x50x128, .f32⟩ : BufTy).Contents (Elt F))
  :: StableHlo.binary main_v9_9 main_v9_2 main_while0b_v47 ((fun l r => Host.dotGeneral dot_S64x50x16_S16x128_S64x50x128_2_0_01_1_n_n none l r) : (⟨S64x50x16, .f32⟩ : BufTy).Contents (Elt F) → (⟨S16x128, .f32⟩ : BufTy).Contents (Elt F) → (⟨S64x50x128, .f32⟩ : BufTy).Contents (Elt F))
  :: StableHlo.unary main_while0b_v47 main_while0b_v48 (Host.tanh : (⟨S64x50x128, .f32⟩ : BufTy).Contents (Elt F) → (⟨S64x50x128, .f32⟩ : BufTy).Contents (Elt F))
  :: StableHlo.binary main_v9_3 main_while0b_v48 main_while0b_v49 ((fun l r => Host.dotGeneral dot_S64x50x50_S64x50x128_S64x50x128_2_1_1_2_0_0 none l r) : (⟨S64x50x50, .f32⟩ : BufTy).Contents (Elt F) → (⟨S64x50x128, .f32⟩ : BufTy).Contents (Elt F) → (⟨S64x50x128, .f32⟩ : BufTy).Contents (Elt F))
  :: StableHlo.binary main_while0b_v49 main_v9_4 main_while0b_v50 ((fun l r => Host.dotGeneral dot_S64x50x128_S128x128_S64x50x128_2_0_01_1_n_n none l r) : (⟨S64x50x128, .f32⟩ : BufTy).Contents (Elt F) → (⟨S128x128, .f32⟩ : BufTy).Contents (Elt F) → (⟨S64x50x128, .f32⟩ : BufTy).Contents (Elt F))
  :: StableHlo.binary main_while0b_v48 main_while0b_v50 main_while0b_v51 (addf : (⟨S64x50x128, .f32⟩ : BufTy).Contents (Elt F) → (⟨S64x50x128, .f32⟩ : BufTy).Contents (Elt F) → (⟨S64x50x128, .f32⟩ : BufTy).Contents (Elt F))
  :: StableHlo.nullary main_while0b_cst_33 (constant S_ .f32 0x00000000#32)
  :: StableHlo.binary main_while0b_v51 main_while0b_cst_33 main_while0b_v52 ((fun x v => Host.reduceAdd x v reducesTo_S64x50x128_S64x128_d1 h_S_) : (⟨S64x50x128, .f32⟩ : BufTy).Contents (Elt F) → (⟨S_, .f32⟩ : BufTy).Contents (Elt F) → (⟨S64x128, .f32⟩ : BufTy).Contents (Elt F))
  :: StableHlo.nullary main_while0b_cst_34 (constant S_ .f32 0x42480000#32)
  :: StableHlo.unary main_while0b_cst_34 main_while0b_v53 (broadcastInDim S64x128 ![] bcast_S_S64x128 : (⟨S_, .f32⟩ : BufTy).Contents (Elt F) → (⟨S64x128, .f32⟩ : BufTy).Contents (Elt F))
  :: StableHlo.binary main_while0b_v52 main_while0b_v53 main_while0b_v54 (Host.divf : (⟨S64x128, .f32⟩ : BufTy).Contents (Elt F) → (⟨S64x128, .f32⟩ : BufTy).Contents (Elt F) → (⟨S64x128, .f32⟩ : BufTy).Contents (Elt F))
  :: StableHlo.binary main_while0b_v54 main_v9_5 main_while0b_v55 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F))
  :: StableHlo.binary main_while0b_v46 main_while0b_v55 main_while0b_v56 ((fun l r => Host.dotGeneral dot_S64x50x128_S64x128_S64x50_2_1_1_n_0_0 none l r) : (⟨S64x50x128, .f32⟩ : BufTy).Contents (Elt F) → (⟨S64x128, .f32⟩ : BufTy).Contents (Elt F) → (⟨S64x50, .f32⟩ : BufTy).Contents (Elt F))
  :: StableHlo.nullary main_while0b_cst_35 (constant S_ .f32 0x43000000#32)
  :: StableHlo.unary main_while0b_cst_35 main_while0b_v57 (Host.sqrt : (⟨S_, .f32⟩ : BufTy).Contents (Elt F) → (⟨S_, .f32⟩ : BufTy).Contents (Elt F))
  :: StableHlo.unary main_while0b_v57 main_while0b_v58 (id : (⟨S_, .f32⟩ : BufTy).Contents (Elt F) → (⟨S_, .f32⟩ : BufTy).Contents (Elt F))
  :: StableHlo.unary main_while0b_v58 main_while0b_v59 (broadcastInDim S64x50 ![] bcast_S_S64x50 : (⟨S_, .f32⟩ : BufTy).Contents (Elt F) → (⟨S64x50, .f32⟩ : BufTy).Contents (Elt F))
  :: StableHlo.binary main_while0b_v56 main_while0b_v59 main_while0b_v60 (Host.divf : (⟨S64x50, .f32⟩ : BufTy).Contents (Elt F) → (⟨S64x50, .f32⟩ : BufTy).Contents (Elt F) → (⟨S64x50, .f32⟩ : BufTy).Contents (Elt F))
  :: StableHlo.nullary main_while0b_cst_36 (constant S_ .f32 0xCE6E6B28#32)
  :: [] )
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub ..⟩
/-- 3 host operations of @_where_0 (main_while0b_call1), in order. -/
abbrev while0Ops0_3 : List (HloOp τ sig (Elt F)) :=
  [ StableHlo.TRef.unary (.of main_while0b_cst_36 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S64x50, .f32⟩) (broadcastInDim S64x50 ![] bcast_S_S64x50),
    StableHlo.TRef.ternary (.of main_v9_10 : StableHlo.TRef sig ⟨S64x50, .i1⟩) (.of main_while0b_call1_v1 : StableHlo.TRef sig ⟨S64x50, .f32⟩) (.of main_while0b_v60 : StableHlo.TRef sig ⟨S64x50, .f32⟩) (.of main_while0b_v61 : StableHlo.TRef sig ⟨S64x50, .f32⟩) select ]
theorem while0Ops0_3_sub : (while0Ops0_3 : List (HloOp τ sig (Elt F))).Forall fun op => op.bufs ⊆ StableHlo.tcRefs τ sig :=
  ⟨StableHlo.unary_bufs_sub .., StableHlo.unary_bufs_sub .., StableHlo.ternary_bufs_sub ..⟩
/-- 14 host operations of host loop 0's body region, in order. -/
abbrev while0Ops0_4 : List (HloOp τ sig (Elt F)) :=
  [ StableHlo.nullary main_while0b_cst_37 (constant S_ .f32 0xFF800000#32),
    StableHlo.binary main_while0b_v61 main_while0b_cst_37 main_while0b_v62 ((fun x v => Host.reduce FloatOps.maximumf x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.nullary main_while0b_cst_38 (constant S_ .f32 0xFF800000#32),
    StableHlo.unary main_while0b_cst_38 main_while0b_v63 (broadcastInDim S64 ![] bcast_S_S64 : (⟨S_, .f32⟩ : BufTy).Contents (Elt F) → (⟨S64, .f32⟩ : BufTy).Contents (Elt F)),
    StableHlo.binary main_while0b_v63 main_while0b_v62 main_while0b_v64 (maximumf : (⟨S64, .f32⟩ : BufTy).Contents (Elt F) → (⟨S64, .f32⟩ : BufTy).Contents (Elt F) → (⟨S64, .f32⟩ : BufTy).Contents (Elt F)),
    StableHlo.unary main_while0b_v64 main_while0b_v65 (broadcastInDim S64x1 ![0] bcast_S64_S64x1_0 : (⟨S64, .f32⟩ : BufTy).Contents (Elt F) → (⟨S64x1, .f32⟩ : BufTy).Contents (Elt F)),
    StableHlo.unary main_while0b_v65 main_while0b_v66 (broadcastInDim S64x50 ![0, 1] bcast_S64x1_S64x50_0_1 : (⟨S64x1, .f32⟩ : BufTy).Contents (Elt F) → (⟨S64x50, .f32⟩ : BufTy).Contents (Elt F)),
    StableHlo.binary main_while0b_v61 main_while0b_v66 main_while0b_v67 (subf : (⟨S64x50, .f32⟩ : BufTy).Contents (Elt F) → (⟨S64x50, .f32⟩ : BufTy).Contents (Elt F) → (⟨S64x50, .f32⟩ : BufTy).Contents (Elt F)),
    StableHlo.unary main_while0b_v67 main_while0b_v68 (Host.exp : (⟨S64x50, .f32⟩ : BufTy).Contents (Elt F) → (⟨S64x50, .f32⟩ : BufTy).Contents (Elt F)),
    StableHlo.nullary main_while0b_cst_39 (constant S_ .f32 0x00000000#32),
    StableHlo.binary main_while0b_v68 main_while0b_cst_39 main_while0b_v69 ((fun x v => Host.reduceAdd x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.unary main_while0b_v69 main_while0b_v70 (broadcastInDim S64x1 ![0] bcast_S64_S64x1_0 : (⟨S64, .f32⟩ : BufTy).Contents (Elt F) → (⟨S64x1, .f32⟩ : BufTy).Contents (Elt F)),
    StableHlo.unary main_while0b_v70 main_while0b_v71 (broadcastInDim S64x50 ![0, 1] bcast_S64x1_S64x50_0_1 : (⟨S64x1, .f32⟩ : BufTy).Contents (Elt F) → (⟨S64x50, .f32⟩ : BufTy).Contents (Elt F)),
    StableHlo.binary main_while0b_v68 main_while0b_v71 main_while0b_v72 (Host.divf : (⟨S64x50, .f32⟩ : BufTy).Contents (Elt F) → (⟨S64x50, .f32⟩ : BufTy).Contents (Elt F) → (⟨S64x50, .f32⟩ : BufTy).Contents (Elt F)) ]
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- 5 host operations of @argmax (main_while0b_call2), in order. -/
abbrev while0Ops0_5 : List (HloOp τ sig (Elt F)) :=
  [ StableHlo.TRef.nullary (.of main_while0b_call2_v0 : StableHlo.TRef sig ⟨S64x50, .i32⟩) (iotaInDim S64x50 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v72 : StableHlo.TRef sig ⟨S64x50, .f32⟩) (.of main_while0b_call2_v0 : StableHlo.TRef sig ⟨S64x50, .i32⟩) (.of main_while0b_call2_cst : StableHlo.TRef sig ⟨S_, .f32⟩) (.of main_while0b_call2_c : StableHlo.TRef sig ⟨S_, .i32⟩) (.of main_while0b_call2_v1_0 : StableHlo.TRef sig ⟨S64, .f32⟩) (fun x y u v j => (Host.argReduce reducer_argmax_f32_i32 x y u v reducesTo_S64x50_S64_d1 h_S_ j).1),
    StableHlo.TRef.quaternary (.of main_while0b_v72 : StableHlo.TRef sig ⟨S64x50, .f32⟩) (.of main_while0b_call2_v0 : StableHlo.TRef sig ⟨S64x50, .i32⟩) (.of main_while0b_call2_cst : StableHlo.TRef sig ⟨S_, .f32⟩) (.of main_while0b_call2_c : StableHlo.TRef sig ⟨S_, .i32⟩) (.of main_while0b_v73 : StableHlo.TRef sig ⟨S64, .i32⟩) (fun x y u v j => (Host.argReduce reducer_argmax_f32_i32 x y u v reducesTo_S64x50_S64_d1 h_S_ j).2) ]
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long stretch: its list (or the term over it) exceeds the default budget
/-- 147 host operations of host loop 0's body region, in order. -/
abbrev while0Ops0_6 : List (HloOp τ sig (Elt F)) :=
  ( StableHlo.nullary main_while0b_c_40 (constantI S_ 32 0#32)
  :: StableHlo.unary main_while0b_c_40 main_while0b_v74 (broadcastInDim S64 ![] bcast_S_S64 : (⟨S_, .i32⟩ : BufTy).Contents (Elt F) → (⟨S64, .i32⟩ : BufTy).Contents (Elt F))
  :: StableHlo.binary main_v9_6 main_while0b_v74 main_while0b_v75 (cmpi .slt : (⟨S64, .i32⟩ : BufTy).Contents (Elt F) → (⟨S64, .i32⟩ : BufTy).Contents (Elt F) → (⟨S64, .i1⟩ : BufTy).Contents (Elt F))
  :: StableHlo.nullary main_while0b_c_41 (constantI S_ 32 64#32)
  :: StableHlo.unary main_while0b_c_41 main_while0b_v76 (broadcastInDim S64 ![] bcast_S_S64 : (⟨S_, .i32⟩ : BufTy).Contents (Elt F) → (⟨S64, .i32⟩ : BufTy).Contents (Elt F))
  :: StableHlo.binary main_v9_6 main_while0b_v76 main_while0b_v77 (addi : (⟨S64, .i32⟩ : BufTy).Contents (Elt F) → (⟨S64, .i32⟩ : BufTy).Contents (Elt F) → (⟨S64, .i32⟩ : BufTy).Contents (Elt F))
  :: StableHlo.ternary main_while0b_v75 main_while0b_v77 main_v9_6 main_while0b_v78 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_42 (constantI S_ 32 0#32)
  :: StableHlo.unary main_while0b_c_42 main_while0b_v79 (broadcastInDim S64 ![] bcast_S_S64 : (⟨S_, .i32⟩ : BufTy).Contents (Elt F) → (⟨S64, .i32⟩ : BufTy).Contents (Elt F))
  :: StableHlo.binary main_while0b_v73 main_while0b_v79 main_while0b_v80 (cmpi .slt : (⟨S64, .i32⟩ : BufTy).Contents (Elt F) → (⟨S64, .i32⟩ : BufTy).Contents (Elt F) → (⟨S64, .i1⟩ : BufTy).Contents (Elt F))
  :: StableHlo.nullary main_while0b_c_43 (constantI S_ 32 50#32)
  :: StableHlo.unary main_while0b_c_43 main_while0b_v81 (broadcastInDim S64 ![] bcast_S_S64 : (⟨S_, .i32⟩ : BufTy).Contents (Elt F) → (⟨S64, .i32⟩ : BufTy).Contents (Elt F))
  :: StableHlo.binary main_while0b_v73 main_while0b_v81 main_while0b_v82 (addi : (⟨S64, .i32⟩ : BufTy).Contents (Elt F) → (⟨S64, .i32⟩ : BufTy).Contents (Elt F) → (⟨S64, .i32⟩ : BufTy).Contents (Elt F))
  :: StableHlo.ternary main_while0b_v80 main_while0b_v82 main_while0b_v73 main_while0b_v83 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v78 main_while0b_v84 (broadcastInDim S64x1 ![0] bcast_S64_S64x1_0 : (⟨S64, .i32⟩ : BufTy).Contents (Elt F) → (⟨S64x1, .i32⟩ : BufTy).Contents (Elt F))
  :: StableHlo.unary main_while0b_v83 main_while0b_v85 (broadcastInDim S64x1 ![0] bcast_S64_S64x1_0 : (⟨S64, .i32⟩ : BufTy).Contents (Elt F) → (⟨S64x1, .i32⟩ : BufTy).Contents (Elt F))
  :: StableHlo.binary main_while0b_v84 main_while0b_v85 main_while0b_v86 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_while0b_v72 main_while0b_v86 main_while0b_v87 ((fun x i => Host.gather gather_S64x50_S64x2_S64_n_01_n_n_01_1_11 x i) : (⟨S64x50, .f32⟩ : BufTy).Contents (Elt F) → (⟨S64x2, .i32⟩ : BufTy).Contents (Elt F) → (⟨S64, .f32⟩ : BufTy).Contents (Elt F))
  :: StableHlo.nullary main_while0b_cst_44 (constant S_ .f32 0x1E3CE508#32)
  :: StableHlo.unary main_while0b_cst_44 main_while0b_v88 (broadcastInDim S64 ![] bcast_S_S64 : (⟨S_, .f32⟩ : BufTy).Contents (Elt F) → (⟨S64, .f32⟩ : BufTy).Contents (Elt F))
  :: StableHlo.binary main_while0b_v87 main_while0b_v88 main_while0b_v89 (addf : (⟨S64, .f32⟩ : BufTy).Contents (Elt F) → (⟨S64, .f32⟩ : BufTy).Contents (Elt F) → (⟨S64, .f32⟩ : BufTy).Contents (Elt F))
  :: StableHlo.unary main_while0b_v89 main_while0b_v90 (Host.log : (⟨S64, .f32⟩ : BufTy).Contents (Elt F) → (⟨S64, .f32⟩ : BufTy).Contents (Elt F))
  :: StableHlo.nullary main_while0b_c_45 (constantI S_ 32 0#32)
  :: StableHlo.unary main_while0b_c_45 main_while0b_v91 (broadcastInDim S64 ![] bcast_S_S64 : (⟨S_, .i32⟩ : BufTy).Contents (Elt F) → (⟨S64, .i32⟩ : BufTy).Contents (Elt F))
  :: StableHlo.binary main_v9_6 main_while0b_v91 main_while0b_v92 (cmpi .slt : (⟨S64, .i32⟩ : BufTy).Contents (Elt F) → (⟨S64, .i32⟩ : BufTy).Contents (Elt F) → (⟨S64, .i1⟩ : BufTy).Contents (Elt F))
  :: StableHlo.nullary main_while0b_c_46 (constantI S_ 32 64#32)
  :: StableHlo.unary main_while0b_c_46 main_while0b_v93 (broadcastInDim S64 ![] bcast_S_S64 : (⟨S_, .i32⟩ : BufTy).Contents (Elt F) → (⟨S64, .i32⟩ : BufTy).Contents (Elt F))
  :: StableHlo.binary main_v9_6 main_while0b_v93 main_while0b_v94 (addi : (⟨S64, .i32⟩ : BufTy).Contents (Elt F) → (⟨S64, .i32⟩ : BufTy).Contents (Elt F) → (⟨S64, .i32⟩ : BufTy).Contents (Elt F))
  :: StableHlo.ternary main_while0b_v92 main_while0b_v94 main_v9_6 main_while0b_v95 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_47 (constantI S_ 32 0#32)
  :: StableHlo.unary main_while0b_c_47 main_while0b_v96 (broadcastInDim S64 ![] bcast_S_S64 : (⟨S_, .i32⟩ : BufTy).Contents (Elt F) → (⟨S64, .i32⟩ : BufTy).Contents (Elt F))
  :: StableHlo.binary main_while0b_v73 main_while0b_v96 main_while0b_v97 (cmpi .slt : (⟨S64, .i32⟩ : BufTy).Contents (Elt F) → (⟨S64, .i32⟩ : BufTy).Contents (Elt F) → (⟨S64, .i1⟩ : BufTy).Contents (Elt F))
  :: StableHlo.nullary main_while0b_c_48 (constantI S_ 32 50#32)
  :: StableHlo.unary main_while0b_c_48 main_while0b_v98 (broadcastInDim S64 ![] bcast_S_S64 : (⟨S_, .i32⟩ : BufTy).Contents (Elt F) → (⟨S64, .i32⟩ : BufTy).Contents (Elt F))
  :: StableHlo.binary main_while0b_v73 main_while0b_v98 main_while0b_v99 (addi : (⟨S64, .i32⟩ : BufTy).Contents (Elt F) → (⟨S64, .i32⟩ : BufTy).Contents (Elt F) → (⟨S64, .i32⟩ : BufTy).Contents (Elt F))
  :: StableHlo.ternary main_while0b_v97 main_while0b_v99 main_while0b_v73 main_while0b_v100 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v95 main_while0b_v101 (broadcastInDim S64x1 ![0] bcast_S64_S64x1_0 : (⟨S64, .i32⟩ : BufTy).Contents (Elt F) → (⟨S64x1, .i32⟩ : BufTy).Contents (Elt F))
  :: StableHlo.unary main_while0b_v100 main_while0b_v102 (broadcastInDim S64x1 ![0] bcast_S64_S64x1_0 : (⟨S64, .i32⟩ : BufTy).Contents (Elt F) → (⟨S64x1, .i32⟩ : BufTy).Contents (Elt F))
  :: StableHlo.binary main_while0b_v101 main_while0b_v102 main_while0b_v103 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.nullary main_while0b_c_49 (constantI S_ 1 1#1)
  :: StableHlo.unary main_while0b_c_49 main_while0b_v104 (broadcastInDim S64 ![] bcast_S_S64 : (⟨S_, .i1⟩ : BufTy).Contents (Elt F) → (⟨S64, .i1⟩ : BufTy).Contents (Elt F))
  :: StableHlo.ternary main_v9_10 main_while0b_v103 main_while0b_v104 main_while0b_v105 ((fun x i u => Host.scatter scatter_S64x50_S64x2_S64_n_01_01_1 (fun _ b => b) x i u) : (⟨S64x50, .i1⟩ : BufTy).Contents (Elt F) → (⟨S64x2, .i32⟩ : BufTy).Contents (Elt F) → (⟨S64, .i1⟩ : BufTy).Contents (Elt F) → (⟨S64x50, .i1⟩ : BufTy).Contents (Elt F))
  :: StableHlo.nullary main_while0b_c_50 (constantI S_ 32 0#32)
  :: StableHlo.unary main_while0b_c_50 main_while0b_v106 (broadcastInDim S64 ![] bcast_S_S64 : (⟨S_, .i32⟩ : BufTy).Contents (Elt F) → (⟨S64, .i32⟩ : BufTy).Contents (Elt F))
  :: StableHlo.binary main_v9_6 main_while0b_v106 main_while0b_v107 (cmpi .slt : (⟨S64, .i32⟩ : BufTy).Contents (Elt F) → (⟨S64, .i32⟩ : BufTy).Contents (Elt F) → (⟨S64, .i1⟩ : BufTy).Contents (Elt F))
  :: StableHlo.nullary main_while0b_c_51 (constantI S_ 32 64#32)
  :: StableHlo.unary main_while0b_c_51 main_while0b_v108 (broadcastInDim S64 ![] bcast_S_S64 : (⟨S_, .i32⟩ : BufTy).Contents (Elt F) → (⟨S64, .i32⟩ : BufTy).Contents (Elt F))
  :: StableHlo.binary main_v9_6 main_while0b_v108 main_while0b_v109 (addi : (⟨S64, .i32⟩ : BufTy).Contents (Elt F) → (⟨S64, .i32⟩ : BufTy).Contents (Elt F) → (⟨S64, .i32⟩ : BufTy).Contents (Elt F))
  :: StableHlo.ternary main_while0b_v107 main_while0b_v109 main_v9_6 main_while0b_v110 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_52 (constantI S_ 32 0#32)
  :: StableHlo.unary main_while0b_c_52 main_while0b_v111 (broadcastInDim S64 ![] bcast_S_S64 : (⟨S_, .i32⟩ : BufTy).Contents (Elt F) → (⟨S64, .i32⟩ : BufTy).Contents (Elt F))
  :: StableHlo.binary main_while0b_v73 main_while0b_v111 main_while0b_v112 (cmpi .slt : (⟨S64, .i32⟩ : BufTy).Contents (Elt F) → (⟨S64, .i32⟩ : BufTy).Contents (Elt F) → (⟨S64, .i1⟩ : BufTy).Contents (Elt F))
  :: StableHlo.nullary main_while0b_c_53 (constantI S_ 32 50#32)
  :: StableHlo.unary main_while0b_c_53 main_while0b_v113 (broadcastInDim S64 ![] bcast_S_S64 : (⟨S_, .i32⟩ : BufTy).Contents (Elt F) → (⟨S64, .i32⟩ : BufTy).Contents (Elt F))
  :: StableHlo.binary main_while0b_v73 main_while0b_v113 main_while0b_v114 (addi : (⟨S64, .i32⟩ : BufTy).Contents (Elt F) → (⟨S64, .i32⟩ : BufTy).Contents (Elt F) → (⟨S64, .i32⟩ : BufTy).Contents (Elt F))
  :: StableHlo.ternary main_while0b_v112 main_while0b_v114 main_while0b_v73 main_while0b_v115 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v110 main_while0b_v116 (broadcastInDim S64x1 ![0] bcast_S64_S64x1_0 : (⟨S64, .i32⟩ : BufTy).Contents (Elt F) → (⟨S64x1, .i32⟩ : BufTy).Contents (Elt F))
  :: StableHlo.unary main_while0b_v115 main_while0b_v117 (broadcastInDim S64x1 ![0] bcast_S64_S64x1_0 : (⟨S64, .i32⟩ : BufTy).Contents (Elt F) → (⟨S64x1, .i32⟩ : BufTy).Contents (Elt F))
  :: StableHlo.binary main_while0b_v116 main_while0b_v117 main_while0b_v118 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.nullary main_while0b_c_54 (constantI S_ 1 0#1)
  :: StableHlo.unary main_while0b_c_54 main_while0b_v119 (broadcastInDim S64x50 ![] bcast_S_S64x50 : (⟨S_, .i1⟩ : BufTy).Contents (Elt F) → (⟨S64x50, .i1⟩ : BufTy).Contents (Elt F))
  :: StableHlo.ternary main_v9_11 main_while0b_v118 main_while0b_v119 main_while0b_v120 ((fun x i u => Host.scatter scatter_S64x50x50_S64x2_S64x50_1_01_01_1 (fun _ b => b) x i u) : (⟨S64x50x50, .i1⟩ : BufTy).Contents (Elt F) → (⟨S64x2, .i32⟩ : BufTy).Contents (Elt F) → (⟨S64x50, .i1⟩ : BufTy).Contents (Elt F) → (⟨S64x50x50, .i1⟩ : BufTy).Contents (Elt F))
  :: StableHlo.nullary main_while0b_c_55 (constantI S_ 32 0#32)
  :: StableHlo.unary main_while0b_c_55 main_while0b_v121 (broadcastInDim S64 ![] bcast_S_S64 : (⟨S_, .i32⟩ : BufTy).Contents (Elt F) → (⟨S64, .i32⟩ : BufTy).Contents (Elt F))
  :: StableHlo.binary main_v9_6 main_while0b_v121 main_while0b_v122 (cmpi .slt : (⟨S64, .i32⟩ : BufTy).Contents (Elt F) → (⟨S64, .i32⟩ : BufTy).Contents (Elt F) → (⟨S64, .i1⟩ : BufTy).Contents (Elt F))
  :: StableHlo.nullary main_while0b_c_56 (constantI S_ 32 64#32)
  :: StableHlo.unary main_while0b_c_56 main_while0b_v123 (broadcastInDim S64 ![] bcast_S_S64 : (⟨S_, .i32⟩ : BufTy).Contents (Elt F) → (⟨S64, .i32⟩ : BufTy).Contents (Elt F))
  :: StableHlo.binary main_v9_6 main_while0b_v123 main_while0b_v124 (addi : (⟨S64, .i32⟩ : BufTy).Contents (Elt F) → (⟨S64, .i32⟩ : BufTy).Contents (Elt F) → (⟨S64, .i32⟩ : BufTy).Contents (Elt F))
  :: StableHlo.ternary main_while0b_v122 main_while0b_v124 main_v9_6 main_while0b_v125 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_57 (constantI S_ 32 0#32)
  :: StableHlo.unary main_while0b_c_57 main_while0b_v126 (broadcastInDim S64 ![] bcast_S_S64 : (⟨S_, .i32⟩ : BufTy).Contents (Elt F) → (⟨S64, .i32⟩ : BufTy).Contents (Elt F))
  :: StableHlo.binary main_while0b_v73 main_while0b_v126 main_while0b_v127 (cmpi .slt : (⟨S64, .i32⟩ : BufTy).Contents (Elt F) → (⟨S64, .i32⟩ : BufTy).Contents (Elt F) → (⟨S64, .i1⟩ : BufTy).Contents (Elt F))
  :: StableHlo.nullary main_while0b_c_58 (constantI S_ 32 50#32)
  :: StableHlo.unary main_while0b_c_58 main_while0b_v128 (broadcastInDim S64 ![] bcast_S_S64 : (⟨S_, .i32⟩ : BufTy).Contents (Elt F) → (⟨S64, .i32⟩ : BufTy).Contents (Elt F))
  :: StableHlo.binary main_while0b_v73 main_while0b_v128 main_while0b_v129 (addi : (⟨S64, .i32⟩ : BufTy).Contents (Elt F) → (⟨S64, .i32⟩ : BufTy).Contents (Elt F) → (⟨S64, .i32⟩ : BufTy).Contents (Elt F))
  :: StableHlo.ternary main_while0b_v127 main_while0b_v129 main_while0b_v73 main_while0b_v130 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v125 main_while0b_v131 (broadcastInDim S64x1 ![0] bcast_S64_S64x1_0 : (⟨S64, .i32⟩ : BufTy).Contents (Elt F) → (⟨S64x1, .i32⟩ : BufTy).Contents (Elt F))
  :: StableHlo.unary main_while0b_v130 main_while0b_v132 (broadcastInDim S64x1 ![0] bcast_S64_S64x1_0 : (⟨S64, .i32⟩ : BufTy).Contents (Elt F) → (⟨S64x1, .i32⟩ : BufTy).Contents (Elt F))
  :: StableHlo.binary main_while0b_v131 main_while0b_v132 main_while0b_v133 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.nullary main_while0b_c_59 (constantI S_ 1 0#1)
  :: StableHlo.unary main_while0b_c_59 main_while0b_v134 (broadcastInDim S64x50 ![] bcast_S_S64x50 : (⟨S_, .i1⟩ : BufTy).Contents (Elt F) → (⟨S64x50, .i1⟩ : BufTy).Contents (Elt F))
  :: StableHlo.ternary main_while0b_v120 main_while0b_v133 main_while0b_v134 main_while0b_v135 ((fun x i u => Host.scatter scatter_S64x50x50_S64x2_S64x50_1_02_02_1 (fun _ b => b) x i u) : (⟨S64x50x50, .i1⟩ : BufTy).Contents (Elt F) → (⟨S64x2, .i32⟩ : BufTy).Contents (Elt F) → (⟨S64x50, .i1⟩ : BufTy).Contents (Elt F) → (⟨S64x50x50, .i1⟩ : BufTy).Contents (Elt F))
  :: StableHlo.nullary main_while0b_c_60 (constantI S_ 32 0#32)
  :: StableHlo.unary main_while0b_c_60 main_while0b_v136 (broadcastInDim S64 ![] bcast_S_S64 : (⟨S_, .i32⟩ : BufTy).Contents (Elt F) → (⟨S64, .i32⟩ : BufTy).Contents (Elt F))
  :: StableHlo.binary main_v9_6 main_while0b_v136 main_while0b_v137 (cmpi .slt : (⟨S64, .i32⟩ : BufTy).Contents (Elt F) → (⟨S64, .i32⟩ : BufTy).Contents (Elt F) → (⟨S64, .i1⟩ : BufTy).Contents (Elt F))
  :: StableHlo.nullary main_while0b_c_61 (constantI S_ 32 64#32)
  :: StableHlo.unary main_while0b_c_61 main_while0b_v138 (broadcastInDim S64 ![] bcast_S_S64 : (⟨S_, .i32⟩ : BufTy).Contents (Elt F) → (⟨S64, .i32⟩ : BufTy).Contents (Elt F))
  :: StableHlo.binary main_v9_6 main_while0b_v138 main_while0b_v139 (addi : (⟨S64, .i32⟩ : BufTy).Contents (Elt F) → (⟨S64, .i32⟩ : BufTy).Contents (Elt F) → (⟨S64, .i32⟩ : BufTy).Contents (Elt F))
  :: StableHlo.ternary main_while0b_v137 main_while0b_v139 main_v9_6 main_while0b_v140 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_62 (constantI S_ 32 0#32)
  :: StableHlo.unary main_while0b_c_62 main_while0b_v141 (broadcastInDim S64 ![] bcast_S_S64 : (⟨S_, .i32⟩ : BufTy).Contents (Elt F) → (⟨S64, .i32⟩ : BufTy).Contents (Elt F))
  :: StableHlo.binary main_while0b_v73 main_while0b_v141 main_while0b_v142 (cmpi .slt : (⟨S64, .i32⟩ : BufTy).Contents (Elt F) → (⟨S64, .i32⟩ : BufTy).Contents (Elt F) → (⟨S64, .i1⟩ : BufTy).Contents (Elt F))
  :: StableHlo.nullary main_while0b_c_63 (constantI S_ 32 50#32)
  :: StableHlo.unary main_while0b_c_63 main_while0b_v143 (broadcastInDim S64 ![] bcast_S_S64 : (⟨S_, .i32⟩ : BufTy).Contents (Elt F) → (⟨S64, .i32⟩ : BufTy).Contents (Elt F))
  :: StableHlo.binary main_while0b_v73 main_while0b_v143 main_while0b_v144 (addi : (⟨S64, .i32⟩ : BufTy).Contents (Elt F) → (⟨S64, .i32⟩ : BufTy).Contents (Elt F) → (⟨S64, .i32⟩ : BufTy).Contents (Elt F))
  :: StableHlo.ternary main_while0b_v142 main_while0b_v144 main_while0b_v73 main_while0b_v145 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_64 (constantI S_ 32 0#32)
  :: StableHlo.unary main_while0b_c_64 main_while0b_v146 (broadcastInDim S64 ![] bcast_S_S64 : (⟨S_, .i32⟩ : BufTy).Contents (Elt F) → (⟨S64, .i32⟩ : BufTy).Contents (Elt F))
  :: StableHlo.binary main_while0b_v73 main_while0b_v146 main_while0b_v147 (cmpi .slt : (⟨S64, .i32⟩ : BufTy).Contents (Elt F) → (⟨S64, .i32⟩ : BufTy).Contents (Elt F) → (⟨S64, .i1⟩ : BufTy).Contents (Elt F))
  :: StableHlo.nullary main_while0b_c_65 (constantI S_ 32 50#32)
  :: StableHlo.unary main_while0b_c_65 main_while0b_v148 (broadcastInDim S64 ![] bcast_S_S64 : (⟨S_, .i32⟩ : BufTy).Contents (Elt F) → (⟨S64, .i32⟩ : BufTy).Contents (Elt F))
  :: StableHlo.binary main_while0b_v73 main_while0b_v148 main_while0b_v149 (addi : (⟨S64, .i32⟩ : BufTy).Contents (Elt F) → (⟨S64, .i32⟩ : BufTy).Contents (Elt F) → (⟨S64, .i32⟩ : BufTy).Contents (Elt F))
  :: StableHlo.ternary main_while0b_v147 main_while0b_v149 main_while0b_v73 main_while0b_v150 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v140 main_while0b_v151 (broadcastInDim S64x1 ![0] bcast_S64_S64x1_0 : (⟨S64, .i32⟩ : BufTy).Contents (Elt F) → (⟨S64x1, .i32⟩ : BufTy).Contents (Elt F))
  :: StableHlo.unary main_while0b_v145 main_while0b_v152 (broadcastInDim S64x1 ![0] bcast_S64_S64x1_0 : (⟨S64, .i32⟩ : BufTy).Contents (Elt F) → (⟨S64x1, .i32⟩ : BufTy).Contents (Elt F))
  :: StableHlo.unary main_while0b_v150 main_while0b_v153 (broadcastInDim S64x1 ![0] bcast_S64_S64x1_0 : (⟨S64, .i32⟩ : BufTy).Contents (Elt F) → (⟨S64x1, .i32⟩ : BufTy).Contents (Elt F))
  :: StableHlo.nary ![main_while0b_v151, main_while0b_v152, main_while0b_v153] main_while0b_v154 (fun u => (concatenate S64x3 1 [⟨S64x1, (u 0 : (⟨S64x1, .i32⟩ : BufTy).Contents (Elt F))⟩, ⟨S64x1, (u 1 : (⟨S64x1, .i32⟩ : BufTy).Contents (Elt F))⟩, ⟨S64x1, (u 2 : (⟨S64x1, .i32⟩ : BufTy).Contents (Elt F))⟩] concatenates_S64x1_S64x1_S64x1_S64x3_d1 : (⟨S64x3, .i32⟩ : BufTy).Contents (Elt F)))
  :: StableHlo.nullary main_while0b_c_66 (constantI S_ 1 1#1)
  :: StableHlo.unary main_while0b_c_66 main_while0b_v155 (broadcastInDim S64 ![] bcast_S_S64 : (⟨S_, .i1⟩ : BufTy).Contents (Elt F) → (⟨S64, .i1⟩ : BufTy).Contents (Elt F))
  :: StableHlo.ternary main_while0b_v135 main_while0b_v154 main_while0b_v155 main_while0b_v156 ((fun x i u => Host.scatter scatter_S64x50x50_S64x3_S64_n_012_012_1 (fun _ b => b) x i u) : (⟨S64x50x50, .i1⟩ : BufTy).Contents (Elt F) → (⟨S64x3, .i32⟩ : BufTy).Contents (Elt F) → (⟨S64, .i1⟩ : BufTy).Contents (Elt F) → (⟨S64x50x50, .i1⟩ : BufTy).Contents (Elt F))
  :: StableHlo.nullary main_while0b_c_67 (constantI S_ 32 0#32)
  :: StableHlo.unary main_while0b_c_67 main_while0b_v157 (broadcastInDim S64 ![] bcast_S_S64 : (⟨S_, .i32⟩ : BufTy).Contents (Elt F) → (⟨S64, .i32⟩ : BufTy).Contents (Elt F))
  :: StableHlo.binary main_v9_6 main_while0b_v157 main_while0b_v158 (cmpi .slt : (⟨S64, .i32⟩ : BufTy).Contents (Elt F) → (⟨S64, .i32⟩ : BufTy).Contents (Elt F) → (⟨S64, .i1⟩ : BufTy).Contents (Elt F))
  :: StableHlo.nullary main_while0b_c_68 (constantI S_ 32 64#32)
  :: StableHlo.unary main_while0b_c_68 main_while0b_v159 (broadcastInDim S64 ![] bcast_S_S64 : (⟨S_, .i32⟩ : BufTy).Contents (Elt F) → (⟨S64, .i32⟩ : BufTy).Contents (Elt F))
  :: StableHlo.binary main_v9_6 main_while0b_v159 main_while0b_v160 (addi : (⟨S64, .i32⟩ : BufTy).Contents (Elt F) → (⟨S64, .i32⟩ : BufTy).Contents (Elt F) → (⟨S64, .i32⟩ : BufTy).Contents (Elt F))
  :: StableHlo.ternary main_while0b_v158 main_while0b_v160 main_v9_6 main_while0b_v161 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_69 (constantI S_ 32 0#32)
  :: StableHlo.unary main_while0b_c_69 main_while0b_v162 (broadcastInDim S64 ![] bcast_S_S64 : (⟨S_, .i32⟩ : BufTy).Contents (Elt F) → (⟨S64, .i32⟩ : BufTy).Contents (Elt F))
  :: StableHlo.binary main_while0b_v73 main_while0b_v162 main_while0b_v163 (cmpi .slt : (⟨S64, .i32⟩ : BufTy).Contents (Elt F) → (⟨S64, .i32⟩ : BufTy).Contents (Elt F) → (⟨S64, .i1⟩ : BufTy).Contents (Elt F))
  :: StableHlo.nullary main_while0b_c_70 (constantI S_ 32 50#32)
  :: StableHlo.unary main_while0b_c_70 main_while0b_v164 (broadcastInDim S64 ![] bcast_S_S64 : (⟨S_, .i32⟩ : BufTy).Contents (Elt F) → (⟨S64, .i32⟩ : BufTy).Contents (Elt F))
  :: StableHlo.binary main_while0b_v73 main_while0b_v164 main_while0b_v165 (addi : (⟨S64, .i32⟩ : BufTy).Contents (Elt F) → (⟨S64, .i32⟩ : BufTy).Contents (Elt F) → (⟨S64, .i32⟩ : BufTy).Contents (Elt F))
  :: StableHlo.ternary main_while0b_v163 main_while0b_v165 main_while0b_v73 main_while0b_v166 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v161 main_while0b_v167 (broadcastInDim S64x1 ![0] bcast_S64_S64x1_0 : (⟨S64, .i32⟩ : BufTy).Contents (Elt F) → (⟨S64x1, .i32⟩ : BufTy).Contents (Elt F))
  :: StableHlo.unary main_while0b_v166 main_while0b_v168 (broadcastInDim S64x1 ![0] bcast_S64_S64x1_0 : (⟨S64, .i32⟩ : BufTy).Contents (Elt F) → (⟨S64x1, .i32⟩ : BufTy).Contents (Elt F))
  :: StableHlo.binary main_while0b_v167 main_while0b_v168 main_while0b_v169 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_while0b_v46 main_while0b_v169 main_while0b_v170 ((fun x i => Host.gather gather_S64x50x128_S64x2_S64x128_1_01_n_n_01_1_11128 x i) : (⟨S64x50x128, .f32⟩ : BufTy).Contents (Elt F) → (⟨S64x2, .i32⟩ : BufTy).Contents (Elt F) → (⟨S64x128, .f32⟩ : BufTy).Contents (Elt F))
  :: StableHlo.reshape main_while0b_v170 main_while0b_v171 (rfl : (.f32 : EltTy) = .f32) shapeCasts_S64x128_S64x1x128
  :: StableHlo.unary main_v9_9 main_while0b_v172 ((extractStridedSlice S64x50x1 ![0, 0, 15] · slices_S64x50x16_S64x50x1_0_0_15) : (⟨S64x50x16, .f32⟩ : BufTy).Contents (Elt F) → (⟨S64x50x1, .f32⟩ : BufTy).Contents (Elt F))
  :: StableHlo.reshape main_while0b_v172 main_while0b_v173 (rfl : (.f32 : EltTy) = .f32) shapeCasts_S64x50x1_S64x50
  :: StableHlo.nullary main_while0b_cst_71 (constant S_ .f32 0x00000000#32)
  :: StableHlo.unary main_while0b_cst_71 main_while0b_v174 (broadcastInDim S64x50 ![] bcast_S_S64x50 : (⟨S_, .f32⟩ : BufTy).Contents (Elt F) → (⟨S64x50, .f32⟩ : BufTy).Contents (Elt F))
  :: StableHlo.binary main_while0b_v173 main_while0b_v174 main_while0b_v175 (cmpf .une : (⟨S64x50, .f32⟩ : BufTy).Contents (Elt F) → (⟨S64x50, .f32⟩ : BufTy).Contents (Elt F) → (⟨S64x50, .i1⟩ : BufTy).Contents (Elt F))
  :: StableHlo.unary main_while0b_v175 main_while0b_v176 (id : (⟨S64x50, .i1⟩ : BufTy).Contents (Elt F) → (⟨S64x50, .i1⟩ : BufTy).Contents (Elt F))
  :: StableHlo.unary main_while0b_v176 main_while0b_v177 (noti : (⟨S64x50, .i1⟩ : BufTy).Contents (Elt F) → (⟨S64x50, .i1⟩ : BufTy).Contents (Elt F))
  :: StableHlo.reshape main_while0b_v177 main_while0b_v178 (rfl : (.i1 : EltTy) = .i1) shapeCasts_S64x50_S64x1x50
  :: StableHlo.reshape main_while0b_v171 main_while0b_v179 (rfl : (.f32 : EltTy) = .f32) shapeCasts_S64x1x128_S64x128
  :: StableHlo.binary main_while0b_v179 main_v9_7 main_while0b_v180 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F))
  :: StableHlo.binary main_while0b_v51 main_while0b_v180 main_while0b_v181 ((fun l r => Host.dotGeneral dot_S64x50x128_S64x128_S64x50_2_1_1_n_0_0 none l r) : (⟨S64x50x128, .f32⟩ : BufTy).Contents (Elt F) → (⟨S64x128, .f32⟩ : BufTy).Contents (Elt F) → (⟨S64x50, .f32⟩ : BufTy).Contents (Elt F))
  :: StableHlo.nullary main_while0b_cst_72 (constant S_ .f32 0x43000000#32)
  :: StableHlo.unary main_while0b_cst_72 main_while0b_v182 (Host.sqrt : (⟨S_, .f32⟩ : BufTy).Contents (Elt F) → (⟨S_, .f32⟩ : BufTy).Contents (Elt F))
  :: StableHlo.unary main_while0b_v182 main_while0b_v183 (id : (⟨S_, .f32⟩ : BufTy).Contents (Elt F) → (⟨S_, .f32⟩ : BufTy).Contents (Elt F))
  :: StableHlo.unary main_while0b_v183 main_while0b_v184 (broadcastInDim S64x50 ![] bcast_S_S64x50 : (⟨S_, .f32⟩ : BufTy).Contents (Elt F) → (⟨S64x50, .f32⟩ : BufTy).Contents (Elt F))
  :: StableHlo.binary main_while0b_v181 main_while0b_v184 main_while0b_v185 (Host.divf : (⟨S64x50, .f32⟩ : BufTy).Contents (Elt F) → (⟨S64x50, .f32⟩ : BufTy).Contents (Elt F) → (⟨S64x50, .f32⟩ : BufTy).Contents (Elt F))
  :: StableHlo.reshape main_while0b_v178 main_while0b_v186 (rfl : (.i1 : EltTy) = .i1) shapeCasts_S64x1x50_S64x50
  :: StableHlo.nullary main_while0b_cst_73 (constant S_ .f32 0xCE6E6B28#32)
  :: [] )
set_option maxHeartbeats 40000000 in  -- a long stretch: its list (or the term over it) exceeds the default budget
theorem while0Ops0_6_sub : (while0Ops0_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.reshape_bufs_sub .., StableHlo.reshape_bufs_sub .., StableHlo.binary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub ..⟩
/-- 3 host operations of @_where_1 (main_while0b_call3), in order. -/
abbrev while0Ops0_7 : List (HloOp τ sig (Elt F)) :=
  [ StableHlo.TRef.unary (.of main_while0b_cst_73 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S64x50, .f32⟩) (broadcastInDim S64x50 ![] bcast_S_S64x50),
    StableHlo.TRef.ternary (.of main_while0b_v186 : StableHlo.TRef sig ⟨S64x50, .i1⟩) (.of main_while0b_v185 : StableHlo.TRef sig ⟨S64x50, .f32⟩) (.of main_while0b_call3_v1 : StableHlo.TRef sig ⟨S64x50, .f32⟩) (.of main_while0b_v187 : StableHlo.TRef sig ⟨S64x50, .f32⟩) select ]
theorem while0Ops0_7_sub : (while0Ops0_7 : List (HloOp τ sig (Elt F))).Forall fun op => op.bufs ⊆ StableHlo.tcRefs τ sig :=
  ⟨StableHlo.unary_bufs_sub .., StableHlo.unary_bufs_sub .., StableHlo.ternary_bufs_sub ..⟩
/-- 14 host operations of host loop 0's body region, in order. -/
abbrev while0Ops0_8 : List (HloOp τ sig (Elt F)) :=
  [ StableHlo.nullary main_while0b_cst_74 (constant S_ .f32 0xFF800000#32),
    StableHlo.binary main_while0b_v187 main_while0b_cst_74 main_while0b_v188 ((fun x v => Host.reduce FloatOps.maximumf x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.nullary main_while0b_cst_75 (constant S_ .f32 0xFF800000#32),
    StableHlo.unary main_while0b_cst_75 main_while0b_v189 (broadcastInDim S64 ![] bcast_S_S64 : (⟨S_, .f32⟩ : BufTy).Contents (Elt F) → (⟨S64, .f32⟩ : BufTy).Contents (Elt F)),
    StableHlo.binary main_while0b_v189 main_while0b_v188 main_while0b_v190 (maximumf : (⟨S64, .f32⟩ : BufTy).Contents (Elt F) → (⟨S64, .f32⟩ : BufTy).Contents (Elt F) → (⟨S64, .f32⟩ : BufTy).Contents (Elt F)),
    StableHlo.unary main_while0b_v190 main_while0b_v191 (broadcastInDim S64x1 ![0] bcast_S64_S64x1_0 : (⟨S64, .f32⟩ : BufTy).Contents (Elt F) → (⟨S64x1, .f32⟩ : BufTy).Contents (Elt F)),
    StableHlo.unary main_while0b_v191 main_while0b_v192 (broadcastInDim S64x50 ![0, 1] bcast_S64x1_S64x50_0_1 : (⟨S64x1, .f32⟩ : BufTy).Contents (Elt F) → (⟨S64x50, .f32⟩ : BufTy).Contents (Elt F)),
    StableHlo.binary main_while0b_v187 main_while0b_v192 main_while0b_v193 (subf : (⟨S64x50, .f32⟩ : BufTy).Contents (Elt F) → (⟨S64x50, .f32⟩ : BufTy).Contents (Elt F) → (⟨S64x50, .f32⟩ : BufTy).Contents (Elt F)),
    StableHlo.unary main_while0b_v193 main_while0b_v194 (Host.exp : (⟨S64x50, .f32⟩ : BufTy).Contents (Elt F) → (⟨S64x50, .f32⟩ : BufTy).Contents (Elt F)),
    StableHlo.nullary main_while0b_cst_76 (constant S_ .f32 0x00000000#32),
    StableHlo.binary main_while0b_v194 main_while0b_cst_76 main_while0b_v195 ((fun x v => Host.reduceAdd x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.unary main_while0b_v195 main_while0b_v196 (broadcastInDim S64x1 ![0] bcast_S64_S64x1_0 : (⟨S64, .f32⟩ : BufTy).Contents (Elt F) → (⟨S64x1, .f32⟩ : BufTy).Contents (Elt F)),
    StableHlo.unary main_while0b_v196 main_while0b_v197 (broadcastInDim S64x50 ![0, 1] bcast_S64x1_S64x50_0_1 : (⟨S64x1, .f32⟩ : BufTy).Contents (Elt F) → (⟨S64x50, .f32⟩ : BufTy).Contents (Elt F)),
    StableHlo.binary main_while0b_v194 main_while0b_v197 main_while0b_v198 (Host.divf : (⟨S64x50, .f32⟩ : BufTy).Contents (Elt F) → (⟨S64x50, .f32⟩ : BufTy).Contents (Elt F) → (⟨S64x50, .f32⟩ : BufTy).Contents (Elt F)) ]
theorem while0Ops0_8_sub : (while0Ops0_8 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- 5 host operations of @argmax (main_while0b_call4), in order. -/
abbrev while0Ops0_9 : List (HloOp τ sig (Elt F)) :=
  [ StableHlo.TRef.nullary (.of main_while0b_call4_v0 : StableHlo.TRef sig ⟨S64x50, .i32⟩) (iotaInDim S64x50 32 1),
    StableHlo.TRef.nullary (.of main_while0b_call4_cst : StableHlo.TRef sig ⟨S_, .f32⟩) (constant S_ .f32 0xFF800000#32),
    StableHlo.TRef.nullary (.of main_while0b_call4_c : StableHlo.TRef sig ⟨S_, .i32⟩) (constantI S_ 32 0#32),
    StableHlo.TRef.quaternary (.of main_while0b_v198 : StableHlo.TRef sig ⟨S64x50, .f32⟩) (.of main_while0b_call4_v0 : StableHlo.TRef sig ⟨S64x50, .i32⟩) (.of main_while0b_call4_cst : StableHlo.TRef sig ⟨S_, .f32⟩) (.of main_while0b_call4_c : StableHlo.TRef sig ⟨S_, .i32⟩) (.of main_while0b_call4_v1_0 : StableHlo.TRef sig ⟨S64, .f32⟩) (fun x y u v j => (Host.argReduce reducer_argmax_f32_i32 x y u v reducesTo_S64x50_S64_d1 h_S_ j).1),
    StableHlo.TRef.quaternary (.of main_while0b_v198 : StableHlo.TRef sig ⟨S64x50, .f32⟩) (.of main_while0b_call4_v0 : StableHlo.TRef sig ⟨S64x50, .i32⟩) (.of main_while0b_call4_cst : StableHlo.TRef sig ⟨S_, .f32⟩) (.of main_while0b_call4_c : StableHlo.TRef sig ⟨S_, .i32⟩) (.of main_while0b_v199 : StableHlo.TRef sig ⟨S64, .i32⟩) (fun x y u v j => (Host.argReduce reducer_argmax_f32_i32 x y u v reducesTo_S64x50_S64_d1 h_S_ j).2) ]
theorem while0Ops0_9_sub : (while0Ops0_9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long stretch: its list (or the term over it) exceeds the default budget
/-- 97 host operations of host loop 0's body region, in order. -/
abbrev while0Ops0_10 : List (HloOp τ sig (Elt F)) :=
  ( StableHlo.nullary main_while0b_c_77 (constantI S_ 32 0#32)
  :: StableHlo.unary main_while0b_c_77 main_while0b_v200 (broadcastInDim S64 ![] bcast_S_S64 : (⟨S_, .i32⟩ : BufTy).Contents (Elt F) → (⟨S64, .i32⟩ : BufTy).Contents (Elt F))
  :: StableHlo.binary main_v9_6 main_while0b_v200 main_while0b_v201 (cmpi .slt : (⟨S64, .i32⟩ : BufTy).Contents (Elt F) → (⟨S64, .i32⟩ : BufTy).Contents (Elt F) → (⟨S64, .i1⟩ : BufTy).Contents (Elt F))
  :: StableHlo.nullary main_while0b_c_78 (constantI S_ 32 64#32)
  :: StableHlo.unary main_while0b_c_78 main_while0b_v202 (broadcastInDim S64 ![] bcast_S_S64 : (⟨S_, .i32⟩ : BufTy).Contents (Elt F) → (⟨S64, .i32⟩ : BufTy).Contents (Elt F))
  :: StableHlo.binary main_v9_6 main_while0b_v202 main_while0b_v203 (addi : (⟨S64, .i32⟩ : BufTy).Contents (Elt F) → (⟨S64, .i32⟩ : BufTy).Contents (Elt F) → (⟨S64, .i32⟩ : BufTy).Contents (Elt F))
  :: StableHlo.ternary main_while0b_v201 main_while0b_v203 main_v9_6 main_while0b_v204 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_79 (constantI S_ 32 0#32)
  :: StableHlo.unary main_while0b_c_79 main_while0b_v205 (broadcastInDim S64 ![] bcast_S_S64 : (⟨S_, .i32⟩ : BufTy).Contents (Elt F) → (⟨S64, .i32⟩ : BufTy).Contents (Elt F))
  :: StableHlo.binary main_while0b_v199 main_while0b_v205 main_while0b_v206 (cmpi .slt : (⟨S64, .i32⟩ : BufTy).Contents (Elt F) → (⟨S64, .i32⟩ : BufTy).Contents (Elt F) → (⟨S64, .i1⟩ : BufTy).Contents (Elt F))
  :: StableHlo.nullary main_while0b_c_80 (constantI S_ 32 50#32)
  :: StableHlo.unary main_while0b_c_80 main_while0b_v207 (broadcastInDim S64 ![] bcast_S_S64 : (⟨S_, .i32⟩ : BufTy).Contents (Elt F) → (⟨S64, .i32⟩ : BufTy).Contents (Elt F))
  :: StableHlo.binary main_while0b_v199 main_while0b_v207 main_while0b_v208 (addi : (⟨S64, .i32⟩ : BufTy).Contents (Elt F) → (⟨S64, .i32⟩ : BufTy).Contents (Elt F) → (⟨S64, .i32⟩ : BufTy).Contents (Elt F))
  :: StableHlo.ternary main_while0b_v206 main_while0b_v208 main_while0b_v199 main_while0b_v209 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v204 main_while0b_v210 (broadcastInDim S64x1 ![0] bcast_S64_S64x1_0 : (⟨S64, .i32⟩ : BufTy).Contents (Elt F) → (⟨S64x1, .i32⟩ : BufTy).Contents (Elt F))
  :: StableHlo.unary main_while0b_v209 main_while0b_v211 (broadcastInDim S64x1 ![0] bcast_S64_S64x1_0 : (⟨S64, .i32⟩ : BufTy).Contents (Elt F) → (⟨S64x1, .i32⟩ : BufTy).Contents (Elt F))
  :: StableHlo.binary main_while0b_v210 main_while0b_v211 main_while0b_v212 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_while0b_v198 main_while0b_v212 main_while0b_v213 ((fun x i => Host.gather gather_S64x50_S64x2_S64_n_01_n_n_01_1_11 x i) : (⟨S64x50, .f32⟩ : BufTy).Contents (Elt F) → (⟨S64x2, .i32⟩ : BufTy).Contents (Elt F) → (⟨S64, .f32⟩ : BufTy).Contents (Elt F))
  :: StableHlo.nullary main_while0b_cst_81 (constant S_ .f32 0x1E3CE508#32)
  :: StableHlo.unary main_while0b_cst_81 main_while0b_v214 (broadcastInDim S64 ![] bcast_S_S64 : (⟨S_, .f32⟩ : BufTy).Contents (Elt F) → (⟨S64, .f32⟩ : BufTy).Contents (Elt F))
  :: StableHlo.binary main_while0b_v213 main_while0b_v214 main_while0b_v215 (addf : (⟨S64, .f32⟩ : BufTy).Contents (Elt F) → (⟨S64, .f32⟩ : BufTy).Contents (Elt F) → (⟨S64, .f32⟩ : BufTy).Contents (Elt F))
  :: StableHlo.unary main_while0b_v215 main_while0b_v216 (Host.log : (⟨S64, .f32⟩ : BufTy).Contents (Elt F) → (⟨S64, .f32⟩ : BufTy).Contents (Elt F))
  :: StableHlo.nullary main_while0b_c_82 (constantI S_ 32 0#32)
  :: StableHlo.unary main_while0b_c_82 main_while0b_v217 (broadcastInDim S64 ![] bcast_S_S64 : (⟨S_, .i32⟩ : BufTy).Contents (Elt F) → (⟨S64, .i32⟩ : BufTy).Contents (Elt F))
  :: StableHlo.binary main_v9_6 main_while0b_v217 main_while0b_v218 (cmpi .slt : (⟨S64, .i32⟩ : BufTy).Contents (Elt F) → (⟨S64, .i32⟩ : BufTy).Contents (Elt F) → (⟨S64, .i1⟩ : BufTy).Contents (Elt F))
  :: StableHlo.nullary main_while0b_c_83 (constantI S_ 32 64#32)
  :: StableHlo.unary main_while0b_c_83 main_while0b_v219 (broadcastInDim S64 ![] bcast_S_S64 : (⟨S_, .i32⟩ : BufTy).Contents (Elt F) → (⟨S64, .i32⟩ : BufTy).Contents (Elt F))
  :: StableHlo.binary main_v9_6 main_while0b_v219 main_while0b_v220 (addi : (⟨S64, .i32⟩ : BufTy).Contents (Elt F) → (⟨S64, .i32⟩ : BufTy).Contents (Elt F) → (⟨S64, .i32⟩ : BufTy).Contents (Elt F))
  :: StableHlo.ternary main_while0b_v218 main_while0b_v220 main_v9_6 main_while0b_v221 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_84 (constantI S_ 32 0#32)
  :: StableHlo.unary main_while0b_c_84 main_while0b_v222 (broadcastInDim S64 ![] bcast_S_S64 : (⟨S_, .i32⟩ : BufTy).Contents (Elt F) → (⟨S64, .i32⟩ : BufTy).Contents (Elt F))
  :: StableHlo.binary main_while0b_v199 main_while0b_v222 main_while0b_v223 (cmpi .slt : (⟨S64, .i32⟩ : BufTy).Contents (Elt F) → (⟨S64, .i32⟩ : BufTy).Contents (Elt F) → (⟨S64, .i1⟩ : BufTy).Contents (Elt F))
  :: StableHlo.nullary main_while0b_c_85 (constantI S_ 32 50#32)
  :: StableHlo.unary main_while0b_c_85 main_while0b_v224 (broadcastInDim S64 ![] bcast_S_S64 : (⟨S_, .i32⟩ : BufTy).Contents (Elt F) → (⟨S64, .i32⟩ : BufTy).Contents (Elt F))
  :: StableHlo.binary main_while0b_v199 main_while0b_v224 main_while0b_v225 (addi : (⟨S64, .i32⟩ : BufTy).Contents (Elt F) → (⟨S64, .i32⟩ : BufTy).Contents (Elt F) → (⟨S64, .i32⟩ : BufTy).Contents (Elt F))
  :: StableHlo.ternary main_while0b_v223 main_while0b_v225 main_while0b_v199 main_while0b_v226 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_86 (constantI S_ 32 15#32)
  :: StableHlo.unary main_while0b_c_86 main_while0b_v227 (broadcastInDim S64 ![] bcast_S_S64 : (⟨S_, .i32⟩ : BufTy).Contents (Elt F) → (⟨S64, .i32⟩ : BufTy).Contents (Elt F))
  :: StableHlo.unary main_while0b_v227 main_while0b_v228 (id : (⟨S64, .i32⟩ : BufTy).Contents (Elt F) → (⟨S64, .i32⟩ : BufTy).Contents (Elt F))
  :: StableHlo.unary main_while0b_v221 main_while0b_v229 (broadcastInDim S64x1 ![0] bcast_S64_S64x1_0 : (⟨S64, .i32⟩ : BufTy).Contents (Elt F) → (⟨S64x1, .i32⟩ : BufTy).Contents (Elt F))
  :: StableHlo.unary main_while0b_v226 main_while0b_v230 (broadcastInDim S64x1 ![0] bcast_S64_S64x1_0 : (⟨S64, .i32⟩ : BufTy).Contents (Elt F) → (⟨S64x1, .i32⟩ : BufTy).Contents (Elt F))
  :: StableHlo.unary main_while0b_v228 main_while0b_v231 (broadcastInDim S64x1 ![0] bcast_S64_S64x1_0 : (⟨S64, .i32⟩ : BufTy).Contents (Elt F) → (⟨S64x1, .i32⟩ : BufTy).Contents (Elt F))
  :: StableHlo.nary ![main_while0b_v229, main_while0b_v230, main_while0b_v231] main_while0b_v232 (fun u => (concatenate S64x3 1 [⟨S64x1, (u 0 : (⟨S64x1, .i32⟩ : BufTy).Contents (Elt F))⟩, ⟨S64x1, (u 1 : (⟨S64x1, .i32⟩ : BufTy).Contents (Elt F))⟩, ⟨S64x1, (u 2 : (⟨S64x1, .i32⟩ : BufTy).Contents (Elt F))⟩] concatenates_S64x1_S64x1_S64x1_S64x3_d1 : (⟨S64x3, .i32⟩ : BufTy).Contents (Elt F)))
  :: StableHlo.binary main_v9_9 main_while0b_v232 main_while0b_v233 ((fun x i => Host.gather gather_S64x50x16_S64x3_S64_n_012_n_n_012_1_111 x i) : (⟨S64x50x16, .f32⟩ : BufTy).Contents (Elt F) → (⟨S64x3, .i32⟩ : BufTy).Contents (Elt F) → (⟨S64, .f32⟩ : BufTy).Contents (Elt F))
  :: StableHlo.nullary main_while0b_cst_87 (constant S_ .f32 0x3F000000#32)
  :: StableHlo.unary main_while0b_cst_87 main_while0b_v234 (broadcastInDim S64 ![] bcast_S_S64 : (⟨S_, .f32⟩ : BufTy).Contents (Elt F) → (⟨S64, .f32⟩ : BufTy).Contents (Elt F))
  :: StableHlo.binary main_while0b_v233 main_while0b_v234 main_while0b_v235 (cmpf .ogt : (⟨S64, .f32⟩ : BufTy).Contents (Elt F) → (⟨S64, .f32⟩ : BufTy).Contents (Elt F) → (⟨S64, .i1⟩ : BufTy).Contents (Elt F))
  :: StableHlo.nullary main_while0b_c_88 (constantI S_ 32 0#32)
  :: StableHlo.unary main_while0b_c_88 main_while0b_v236 (broadcastInDim S64 ![] bcast_S_S64 : (⟨S_, .i32⟩ : BufTy).Contents (Elt F) → (⟨S64, .i32⟩ : BufTy).Contents (Elt F))
  :: StableHlo.binary main_v9_6 main_while0b_v236 main_while0b_v237 (cmpi .slt : (⟨S64, .i32⟩ : BufTy).Contents (Elt F) → (⟨S64, .i32⟩ : BufTy).Contents (Elt F) → (⟨S64, .i1⟩ : BufTy).Contents (Elt F))
  :: StableHlo.nullary main_while0b_c_89 (constantI S_ 32 64#32)
  :: StableHlo.unary main_while0b_c_89 main_while0b_v238 (broadcastInDim S64 ![] bcast_S_S64 : (⟨S_, .i32⟩ : BufTy).Contents (Elt F) → (⟨S64, .i32⟩ : BufTy).Contents (Elt F))
  :: StableHlo.binary main_v9_6 main_while0b_v238 main_while0b_v239 (addi : (⟨S64, .i32⟩ : BufTy).Contents (Elt F) → (⟨S64, .i32⟩ : BufTy).Contents (Elt F) → (⟨S64, .i32⟩ : BufTy).Contents (Elt F))
  :: StableHlo.ternary main_while0b_v237 main_while0b_v239 main_v9_6 main_while0b_v240 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_90 (constantI S_ 32 0#32)
  :: StableHlo.unary main_while0b_c_90 main_while0b_v241 (broadcastInDim S64 ![] bcast_S_S64 : (⟨S_, .i32⟩ : BufTy).Contents (Elt F) → (⟨S64, .i32⟩ : BufTy).Contents (Elt F))
  :: StableHlo.binary main_while0b_v73 main_while0b_v241 main_while0b_v242 (cmpi .slt : (⟨S64, .i32⟩ : BufTy).Contents (Elt F) → (⟨S64, .i32⟩ : BufTy).Contents (Elt F) → (⟨S64, .i1⟩ : BufTy).Contents (Elt F))
  :: StableHlo.nullary main_while0b_c_91 (constantI S_ 32 50#32)
  :: StableHlo.unary main_while0b_c_91 main_while0b_v243 (broadcastInDim S64 ![] bcast_S_S64 : (⟨S_, .i32⟩ : BufTy).Contents (Elt F) → (⟨S64, .i32⟩ : BufTy).Contents (Elt F))
  :: StableHlo.binary main_while0b_v73 main_while0b_v243 main_while0b_v244 (addi : (⟨S64, .i32⟩ : BufTy).Contents (Elt F) → (⟨S64, .i32⟩ : BufTy).Contents (Elt F) → (⟨S64, .i32⟩ : BufTy).Contents (Elt F))
  :: StableHlo.ternary main_while0b_v242 main_while0b_v244 main_while0b_v73 main_while0b_v245 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v240 main_while0b_v246 (broadcastInDim S64x1 ![0] bcast_S64_S64x1_0 : (⟨S64, .i32⟩ : BufTy).Contents (Elt F) → (⟨S64x1, .i32⟩ : BufTy).Contents (Elt F))
  :: StableHlo.unary main_while0b_v245 main_while0b_v247 (broadcastInDim S64x1 ![0] bcast_S64_S64x1_0 : (⟨S64, .i32⟩ : BufTy).Contents (Elt F) → (⟨S64x1, .i32⟩ : BufTy).Contents (Elt F))
  :: StableHlo.nullary main_while0b_c_92 (constantI S_ 32 0#32)
  :: StableHlo.unary main_while0b_c_92 main_while0b_v248 (broadcastInDim S64x1 ![] bcast_S_S64x1 : (⟨S_, .i32⟩ : BufTy).Contents (Elt F) → (⟨S64x1, .i32⟩ : BufTy).Contents (Elt F))
  :: StableHlo.nary ![main_while0b_v246, main_while0b_v247, main_while0b_v248] main_while0b_v249 (fun u => (concatenate S64x3 1 [⟨S64x1, (u 0 : (⟨S64x1, .i32⟩ : BufTy).Contents (Elt F))⟩, ⟨S64x1, (u 1 : (⟨S64x1, .i32⟩ : BufTy).Contents (Elt F))⟩, ⟨S64x1, (u 2 : (⟨S64x1, .i32⟩ : BufTy).Contents (Elt F))⟩] concatenates_S64x1_S64x1_S64x1_S64x3_d1 : (⟨S64x3, .i32⟩ : BufTy).Contents (Elt F)))
  :: StableHlo.binary main_v9_0 main_while0b_v249 main_while0b_v250 ((fun x i => Host.gather gather_S64x50x16_S64x3_S64x15_1_01_n_n_012_1_1115 x i) : (⟨S64x50x16, .f32⟩ : BufTy).Contents (Elt F) → (⟨S64x3, .i32⟩ : BufTy).Contents (Elt F) → (⟨S64x15, .f32⟩ : BufTy).Contents (Elt F))
  :: StableHlo.nullary main_while0b_cst_93 (constant S_ .f32 0x3F800000#32)
  :: StableHlo.unary main_while0b_cst_93 main_while0b_v251 (broadcastInDim S64x1 ![] bcast_S_S64x1 : (⟨S_, .f32⟩ : BufTy).Contents (Elt F) → (⟨S64x1, .f32⟩ : BufTy).Contents (Elt F))
  :: StableHlo.binary main_while0b_v250 main_while0b_v251 main_while0b_v252 ((fun a b => concatenate S64x16 1 [⟨S64x15, a⟩, ⟨S64x1, b⟩] concatenates_S64x15_S64x1_S64x16_d1) : (⟨S64x15, .f32⟩ : BufTy).Contents (Elt F) → (⟨S64x1, .f32⟩ : BufTy).Contents (Elt F) → (⟨S64x16, .f32⟩ : BufTy).Contents (Elt F))
  :: StableHlo.nullary main_while0b_c_94 (constantI S_ 32 0#32)
  :: StableHlo.unary main_while0b_c_94 main_while0b_v253 (broadcastInDim S64 ![] bcast_S_S64 : (⟨S_, .i32⟩ : BufTy).Contents (Elt F) → (⟨S64, .i32⟩ : BufTy).Contents (Elt F))
  :: StableHlo.binary main_v9_6 main_while0b_v253 main_while0b_v254 (cmpi .slt : (⟨S64, .i32⟩ : BufTy).Contents (Elt F) → (⟨S64, .i32⟩ : BufTy).Contents (Elt F) → (⟨S64, .i1⟩ : BufTy).Contents (Elt F))
  :: StableHlo.nullary main_while0b_c_95 (constantI S_ 32 64#32)
  :: StableHlo.unary main_while0b_c_95 main_while0b_v255 (broadcastInDim S64 ![] bcast_S_S64 : (⟨S_, .i32⟩ : BufTy).Contents (Elt F) → (⟨S64, .i32⟩ : BufTy).Contents (Elt F))
  :: StableHlo.binary main_v9_6 main_while0b_v255 main_while0b_v256 (addi : (⟨S64, .i32⟩ : BufTy).Contents (Elt F) → (⟨S64, .i32⟩ : BufTy).Contents (Elt F) → (⟨S64, .i32⟩ : BufTy).Contents (Elt F))
  :: StableHlo.ternary main_while0b_v254 main_while0b_v256 main_v9_6 main_while0b_v257 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_while0b_c_96 (constantI S_ 32 0#32)
  :: StableHlo.unary main_while0b_c_96 main_while0b_v258 (broadcastInDim S64 ![] bcast_S_S64 : (⟨S_, .i32⟩ : BufTy).Contents (Elt F) → (⟨S64, .i32⟩ : BufTy).Contents (Elt F))
  :: StableHlo.binary main_while0b_v199 main_while0b_v258 main_while0b_v259 (cmpi .slt : (⟨S64, .i32⟩ : BufTy).Contents (Elt F) → (⟨S64, .i32⟩ : BufTy).Contents (Elt F) → (⟨S64, .i1⟩ : BufTy).Contents (Elt F))
  :: StableHlo.nullary main_while0b_c_97 (constantI S_ 32 50#32)
  :: StableHlo.unary main_while0b_c_97 main_while0b_v260 (broadcastInDim S64 ![] bcast_S_S64 : (⟨S_, .i32⟩ : BufTy).Contents (Elt F) → (⟨S64, .i32⟩ : BufTy).Contents (Elt F))
  :: StableHlo.binary main_while0b_v199 main_while0b_v260 main_while0b_v261 (addi : (⟨S64, .i32⟩ : BufTy).Contents (Elt F) → (⟨S64, .i32⟩ : BufTy).Contents (Elt F) → (⟨S64, .i32⟩ : BufTy).Contents (Elt F))
  :: StableHlo.ternary main_while0b_v259 main_while0b_v261 main_while0b_v199 main_while0b_v262 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_while0b_v257 main_while0b_v263 (broadcastInDim S64x1 ![0] bcast_S64_S64x1_0 : (⟨S64, .i32⟩ : BufTy).Contents (Elt F) → (⟨S64x1, .i32⟩ : BufTy).Contents (Elt F))
  :: StableHlo.unary main_while0b_v262 main_while0b_v264 (broadcastInDim S64x1 ![0] bcast_S64_S64x1_0 : (⟨S64, .i32⟩ : BufTy).Contents (Elt F) → (⟨S64x1, .i32⟩ : BufTy).Contents (Elt F))
  :: StableHlo.binary main_while0b_v263 main_while0b_v264 main_while0b_v265 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.ternary main_v9_9 main_while0b_v265 main_while0b_v252 main_while0b_v266 ((fun x i u => Host.scatter scatter_S64x50x16_S64x2_S64x16_1_01_01_1 (fun _ b => b) x i u) : (⟨S64x50x16, .f32⟩ : BufTy).Contents (Elt F) → (⟨S64x2, .i32⟩ : BufTy).Contents (Elt F) → (⟨S64x16, .f32⟩ : BufTy).Contents (Elt F) → (⟨S64x50x16, .f32⟩ : BufTy).Contents (Elt F))
  :: StableHlo.unary main_while0b_v235 main_while0b_v267 (noti : (⟨S64, .i1⟩ : BufTy).Contents (Elt F) → (⟨S64, .i1⟩ : BufTy).Contents (Elt F))
  :: StableHlo.unary main_while0b_v267 main_while0b_v268 ((extui 32 · natLt_1_32) : (⟨S64, .i1⟩ : BufTy).Contents (Elt F) → (⟨S64, .i32⟩ : BufTy).Contents (Elt F))
  :: StableHlo.unary main_while0b_v268 main_while0b_v269 (sitofp .f32 : (⟨S64, .i32⟩ : BufTy).Contents (Elt F) → (⟨S64, .f32⟩ : BufTy).Contents (Elt F))
  :: StableHlo.nullary main_while0b_cst_98 (constant S_ .f32 0x3F800000#32)
  :: StableHlo.unary main_while0b_cst_98 main_while0b_v270 (broadcastInDim S64 ![] bcast_S_S64 : (⟨S_, .f32⟩ : BufTy).Contents (Elt F) → (⟨S64, .f32⟩ : BufTy).Contents (Elt F))
  :: StableHlo.binary main_while0b_v269 main_while0b_v270 main_while0b_v271 (subf : (⟨S64, .f32⟩ : BufTy).Contents (Elt F) → (⟨S64, .f32⟩ : BufTy).Contents (Elt F) → (⟨S64, .f32⟩ : BufTy).Contents (Elt F))
  :: StableHlo.unary main_while0b_v73 main_while0b_v272 (broadcastInDim S64x1 ![0] bcast_S64_S64x1_0 : (⟨S64, .i32⟩ : BufTy).Contents (Elt F) → (⟨S64x1, .i32⟩ : BufTy).Contents (Elt F))
  :: StableHlo.unary main_while0b_v199 main_while0b_v273 (broadcastInDim S64x1 ![0] bcast_S64_S64x1_0 : (⟨S64, .i32⟩ : BufTy).Contents (Elt F) → (⟨S64x1, .i32⟩ : BufTy).Contents (Elt F))
  :: StableHlo.binary main_while0b_v272 main_while0b_v273 main_while0b_v274 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: [] )
set_option maxHeartbeats 40000000 in  -- a long stretch: its list (or the term over it) exceeds the default budget
theorem while0Ops0_10_sub : (while0Ops0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.nullary_bufs_sub .., StableHlo.unary_bufs_sub .., StableHlo.nary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub ..⟩
/-- 4 host operations of @dynamic_update_index_in_dim (main_while0b_call5), in order. -/
abbrev while0Ops0_11 : List (HloOp τ sig (Elt F)) :=
  [ StableHlo.TRef.unary (.of main_while0b_v72 : StableHlo.TRef sig ⟨S64x50, .f32⟩) (.of main_while0b_call5_v0 : StableHlo.TRef sig ⟨S1x64x50, .f32⟩) (broadcastInDim S1x64x50 ![1, 2] bcast_S64x50_S1x64x50_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v9_12 : StableHlo.TRef sig ⟨S50x64x50, .f32⟩) (.of main_while0b_call5_v0 : StableHlo.TRef sig ⟨S1x64x50, .f32⟩) ![(.of main_v9_8 : StableHlo.TRef sig ⟨S_, .i32⟩), (.of main_while0b_call5_c : StableHlo.TRef sig ⟨S_, .i32⟩), (.of main_while0b_call5_c_0 : StableHlo.TRef sig ⟨S_, .i32⟩)] (.of main_while0b_v275 : StableHlo.TRef sig ⟨S50x64x50, .f32⟩) (fun x u i => Host.dynamicUpdateSlice x u (fun k => (i k (Shape.Idx.first h_S_)).toInt) updateFits_S50x64x50_S1x64x50) ]
theorem while0Ops0_11_sub : (while0Ops0_11 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call6), in order. -/
abbrev while0Ops0_12 : List (HloOp τ sig (Elt F)) :=
  [ StableHlo.TRef.unary (.of main_while0b_v198 : StableHlo.TRef sig ⟨S64x50, .f32⟩) (.of main_while0b_call6_v0 : StableHlo.TRef sig ⟨S1x64x50, .f32⟩) (broadcastInDim S1x64x50 ![1, 2] bcast_S64x50_S1x64x50_1_2),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.binaryIndexed (.of main_v9_13 : StableHlo.TRef sig ⟨S50x64x50, .f32⟩) (.of main_while0b_call6_v0 : StableHlo.TRef sig ⟨S1x64x50, .f32⟩) ![(.of main_v9_8 : StableHlo.TRef sig ⟨S_, .i32⟩), (.of main_while0b_call6_c : StableHlo.TRef sig ⟨S_, .i32⟩), (.of main_while0b_call6_c_0 : StableHlo.TRef sig ⟨S_, .i32⟩)] (.of main_while0b_v276 : StableHlo.TRef sig ⟨S50x64x50, .f32⟩) (fun x u i => Host.dynamicUpdateSlice x u (fun k => (i k (Shape.Idx.first h_S_)).toInt) updateFits_S50x64x50_S1x64x50) ]
theorem while0Ops0_12_sub : (while0Ops0_12 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 3 host operations of @dynamic_update_index_in_dim_2 (main_while0b_call7), in order. -/
abbrev while0Ops0_13 : List (HloOp τ sig (Elt F)) :=
  [ StableHlo.TRef.unary (.of main_while0b_v90 : StableHlo.TRef sig ⟨S64, .f32⟩) (.of main_while0b_call7_v0 : StableHlo.TRef sig ⟨S1x64, .f32⟩) (broadcastInDim S1x64 ![1] bcast_S64_S1x64_1),
    StableHlo.TRef.nullary (.of main_while0b_call7_c : StableHlo.TRef sig ⟨S_, .i32⟩) (constantI S_ 32 0#32),
    StableHlo.TRef.binaryIndexed (.of main_v9_14 : StableHlo.TRef sig ⟨S50x64, .f32⟩) (.of main_while0b_call7_v0 : StableHlo.TRef sig ⟨S1x64, .f32⟩) ![(.of main_v9_8 : StableHlo.TRef sig ⟨S_, .i32⟩), (.of main_while0b_call7_c : StableHlo.TRef sig ⟨S_, .i32⟩)] (.of main_while0b_v277 : StableHlo.TRef sig ⟨S50x64, .f32⟩) (fun x u i => Host.dynamicUpdateSlice x u (fun k => (i k (Shape.Idx.first h_S_)).toInt) updateFits_S50x64_S1x64) ]
theorem while0Ops0_13_sub : (while0Ops0_13 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_2 (main_while0b_call8), in order. -/
abbrev while0Ops0_14 : List (HloOp τ sig (Elt F)) :=
  [ StableHlo.TRef.unary (.of main_while0b_v216 : StableHlo.TRef sig ⟨S64, .f32⟩) (.of main_while0b_call8_v0 : StableHlo.TRef sig ⟨S1x64, .f32⟩) (broadcastInDim S1x64 ![1] bcast_S64_S1x64_1),
    StableHlo.TRef.nullary (.of main_while0b_call8_c : StableHlo.TRef sig ⟨S_, .i32⟩) (constantI S_ 32 0#32),
    StableHlo.TRef.binaryIndexed (.of main_v9_15 : StableHlo.TRef sig ⟨S50x64, .f32⟩) (.of main_while0b_call8_v0 : StableHlo.TRef sig ⟨S1x64, .f32⟩) ![(.of main_v9_8 : StableHlo.TRef sig ⟨S_, .i32⟩), (.of main_while0b_call8_c : StableHlo.TRef sig ⟨S_, .i32⟩)] (.of main_while0b_v278 : StableHlo.TRef sig ⟨S50x64, .f32⟩) (fun x u i => Host.dynamicUpdateSlice x u (fun k => (i k (Shape.Idx.first h_S_)).toInt) updateFits_S50x64_S1x64) ]
theorem while0Ops0_14_sub : (while0Ops0_14 : List (HloOp τ sig (Elt F))).Forall fun op => op.bufs ⊆ StableHlo.tcRefs τ sig :=
  ⟨StableHlo.unary_bufs_sub .., StableHlo.nullary_bufs_sub .., StableHlo.binaryIndexed_bufs_sub ..⟩
/-- 4 host operations of @dynamic_update_index_in_dim_3 (main_while0b_call9), in order. -/
abbrev while0Ops0_15 : List (HloOp τ sig (Elt F)) :=
  [ StableHlo.TRef.unary (.of main_while0b_v274 : StableHlo.TRef sig ⟨S64x2, .i32⟩) (.of main_while0b_call9_v0 : StableHlo.TRef sig ⟨S1x64x2, .i32⟩) (broadcastInDim S1x64x2 ![1, 2] bcast_S64x2_S1x64x2_1_2),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.binaryIndexed (.of main_v9_16 : StableHlo.TRef sig ⟨S50x64x2, .i32⟩) (.of main_while0b_call9_v0 : StableHlo.TRef sig ⟨S1x64x2, .i32⟩) ![(.of main_v9_8 : StableHlo.TRef sig ⟨S_, .i32⟩), (.of main_while0b_call9_c : StableHlo.TRef sig ⟨S_, .i32⟩), (.of main_while0b_call9_c_0 : StableHlo.TRef sig ⟨S_, .i32⟩)] (.of main_while0b_v279 : StableHlo.TRef sig ⟨S50x64x2, .i32⟩) (fun x u i => Host.dynamicUpdateSlice x u (fun k => (i k (Shape.Idx.first h_S_)).toInt) updateFits_S50x64x2_S1x64x2) ]
theorem while0Ops0_15_sub : (while0Ops0_15 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 3 host operations of @dynamic_update_index_in_dim_2 (main_while0b_call10), in order. -/
abbrev while0Ops0_16 : List (HloOp τ sig (Elt F)) :=
  [ StableHlo.TRef.unary (.of main_while0b_v271 : StableHlo.TRef sig ⟨S64, .f32⟩) (.of main_while0b_call10_v0 : StableHlo.TRef sig ⟨S1x64, .f32⟩) (broadcastInDim S1x64 ![1] bcast_S64_S1x64_1),
    StableHlo.TRef.nullary (.of main_while0b_call10_c : StableHlo.TRef sig ⟨S_, .i32⟩) (constantI S_ 32 0#32),
    StableHlo.TRef.binaryIndexed (.of main_v9_17 : StableHlo.TRef sig ⟨S50x64, .f32⟩) (.of main_while0b_call10_v0 : StableHlo.TRef sig ⟨S1x64, .f32⟩) ![(.of main_v9_8 : StableHlo.TRef sig ⟨S_, .i32⟩), (.of main_while0b_call10_c : StableHlo.TRef sig ⟨S_, .i32⟩)] (.of main_while0b_v280 : StableHlo.TRef sig ⟨S50x64, .f32⟩) (fun x u i => Host.dynamicUpdateSlice x u (fun k => (i k (Shape.Idx.first h_S_)).toInt) updateFits_S50x64_S1x64) ]
theorem while0Ops0_16_sub : (while0Ops0_16 : List (HloOp τ sig (Elt F))).Forall fun op => op.bufs ⊆ StableHlo.tcRefs τ sig :=
  ⟨StableHlo.unary_bufs_sub .., StableHlo.nullary_bufs_sub .., StableHlo.binaryIndexed_bufs_sub ..⟩
/-- 12 host operations of host loop 0's body region, in order. -/
abbrev while0Ops0_17 : List (HloOp τ sig (Elt F)) :=
  [ StableHlo.nullary main_while0b_c_99 (constantI S_ 32 1#32),
    StableHlo.binary main_v9_8 main_while0b_c_99 main_while0b_v281 (addi : (⟨S_, .i32⟩ : BufTy).Contents (Elt F) → (⟨S_, .i32⟩ : BufTy).Contents (Elt F) → (⟨S_, .i32⟩ : BufTy).Contents (Elt F)),
    StableHlo.unary main_while0b_v281 main_v9_8 id,
    StableHlo.unary main_while0b_v266 main_v9_9 id,
    StableHlo.unary main_while0b_v105 main_v9_10 id,
    StableHlo.unary main_while0b_v156 main_v9_11 id,
    StableHlo.unary main_while0b_v275 main_v9_12 id,
    StableHlo.unary main_while0b_v276 main_v9_13 id,
    StableHlo.unary main_while0b_v277 main_v9_14 id,
    StableHlo.unary main_while0b_v278 main_v9_15 id,
    StableHlo.unary main_while0b_v279 main_v9_16 id,
    StableHlo.unary main_while0b_v280 main_v9_17 id ]
theorem while0Ops0_17_sub : (while0Ops0_17 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is its stretches of operations, one after another. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13,
    StableHlo.seq while0Ops0_14,
    StableHlo.seq while0Ops0_15,
    StableHlo.seq while0Ops0_16,
    StableHlo.seq while0Ops0_17 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.Proof.RefRun

namespace Cert.Proof.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

theorem hostOps0_fresh : (hostOps0 : List (HloOp τ sig (Elt F))).Forall fun op => op.fresh = ∅ :=
  StableHlo.forall_fresh_of_map rfl
abbrev hostOps0_W : List (Ref sig .tc) := [main_v0, main_c, main_v1, main_c_0, main_v2, main_cst, main_v3, main_cst_1, main_v4, main_cst_2, main_v5, main_cst_3, main_v6, main_c_4, main_v7, main_cst_5, main_v8, main_c_6, main_v9_0, main_v9_1, main_v9_2, main_v9_3, main_v9_4, main_v9_5, main_v9_6, main_v9_7, main_v9_8, main_v9_9, main_v9_10, main_v9_11, main_v9_12, main_v9_13, main_v9_14, main_v9_15, main_v9_16, main_v9_17]
theorem hostOps0_writes : (hostOps0 : List (HloOp τ sig (Elt F))).Forall fun op => op.writes ⊆ (hostOps0_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_v25, main_while0b_v26, main_while0b_v27, main_while0b_v28, main_while0b_cst_28, main_while0b_v29, main_while0b_v30, main_while0b_v31, main_while0b_v32, main_while0b_cst_29]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call0_v0, main_while0b_call0_v1, main_while0b_v33]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_cst_30, main_while0b_v34, main_while0b_cst_31, main_while0b_v35, main_while0b_v36, main_while0b_v37, main_while0b_v38, main_while0b_v39, main_while0b_v40, main_while0b_cst_32, main_while0b_v41, main_while0b_v42, main_while0b_v43, main_while0b_v44, main_while0b_v45, main_while0b_v46, main_while0b_v47, main_while0b_v48, main_while0b_v49, main_while0b_v50, main_while0b_v51, main_while0b_cst_33, main_while0b_v52, main_while0b_cst_34, main_while0b_v53, main_while0b_v54, main_while0b_v55, main_while0b_v56, main_while0b_cst_35, main_while0b_v57, main_while0b_v58, main_while0b_v59, main_while0b_v60, main_while0b_cst_36]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_call1_v0, main_while0b_call1_v1, main_while0b_v61]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl
abbrev while0Ops0_4_W : List (Ref sig .tc) := [main_while0b_cst_37, main_while0b_v62, main_while0b_cst_38, main_while0b_v63, main_while0b_v64, main_while0b_v65, main_while0b_v66, main_while0b_v67, main_while0b_v68, main_while0b_cst_39, main_while0b_v69, main_while0b_v70, main_while0b_v71, main_while0b_v72]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_5_fresh : (while0Ops0_5 : List (HloOp τ sig (Elt F))).Forall fun op => op.fresh = ∅ :=
  StableHlo.forall_fresh_of_map rfl
abbrev while0Ops0_5_W : List (Ref sig .tc) := [main_while0b_call2_v0, main_while0b_call2_cst, main_while0b_call2_c, main_while0b_call2_v1_0, main_while0b_v73]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem while0Ops0_6_fresh : (while0Ops0_6 : List (HloOp τ sig (Elt F))).Forall fun op => op.fresh = ∅ :=
  StableHlo.forall_fresh_of_map rfl
abbrev while0Ops0_6_W : List (Ref sig .tc) := [main_while0b_c_40, main_while0b_v74, main_while0b_v75, main_while0b_c_41, main_while0b_v76, main_while0b_v77, main_while0b_v78, main_while0b_c_42, main_while0b_v79, main_while0b_v80, main_while0b_c_43, main_while0b_v81, main_while0b_v82, main_while0b_v83, main_while0b_v84, main_while0b_v85, main_while0b_v86, main_while0b_v87, main_while0b_cst_44, main_while0b_v88, main_while0b_v89, main_while0b_v90, main_while0b_c_45, main_while0b_v91, main_while0b_v92, main_while0b_c_46, main_while0b_v93, main_while0b_v94, main_while0b_v95, main_while0b_c_47, main_while0b_v96, main_while0b_v97, main_while0b_c_48, main_while0b_v98, main_while0b_v99, main_while0b_v100, main_while0b_v101, main_while0b_v102, main_while0b_v103, main_while0b_c_49, main_while0b_v104, main_while0b_v105, main_while0b_c_50, main_while0b_v106, main_while0b_v107, main_while0b_c_51, main_while0b_v108, main_while0b_v109, main_while0b_v110, main_while0b_c_52, main_while0b_v111, main_while0b_v112, main_while0b_c_53, main_while0b_v113, main_while0b_v114, main_while0b_v115, main_while0b_v116, main_while0b_v117, main_while0b_v118, main_while0b_c_54, main_while0b_v119, main_while0b_v120, main_while0b_c_55, main_while0b_v121, main_while0b_v122, main_while0b_c_56, main_while0b_v123, main_while0b_v124, main_while0b_v125, main_while0b_c_57, main_while0b_v126, main_while0b_v127, main_while0b_c_58, main_while0b_v128, main_while0b_v129, main_while0b_v130, main_while0b_v131, main_while0b_v132, main_while0b_v133, main_while0b_c_59, main_while0b_v134, main_while0b_v135, main_while0b_c_60, main_while0b_v136, main_while0b_v137, main_while0b_c_61, main_while0b_v138, main_while0b_v139, main_while0b_v140, main_while0b_c_62, main_while0b_v141, main_while0b_v142, main_while0b_c_63, main_while0b_v143, main_while0b_v144, main_while0b_v145, main_while0b_c_64, main_while0b_v146, main_while0b_v147, main_while0b_c_65, main_while0b_v148, main_while0b_v149, main_while0b_v150, main_while0b_v151, main_while0b_v152, main_while0b_v153, main_while0b_v154, main_while0b_c_66, main_while0b_v155, main_while0b_v156, main_while0b_c_67, main_while0b_v157, main_while0b_v158, main_while0b_c_68, main_while0b_v159, main_while0b_v160, main_while0b_v161, main_while0b_c_69, main_while0b_v162, main_while0b_v163, main_while0b_c_70, main_while0b_v164, main_while0b_v165, main_while0b_v166, main_while0b_v167, main_while0b_v168, main_while0b_v169, main_while0b_v170, main_while0b_v171, main_while0b_v172, main_while0b_v173, main_while0b_cst_71, main_while0b_v174, main_while0b_v175, main_while0b_v176, main_while0b_v177, main_while0b_v178, main_while0b_v179, main_while0b_v180, main_while0b_v181, main_while0b_cst_72, main_while0b_v182, main_while0b_v183, main_while0b_v184, main_while0b_v185, main_while0b_v186, main_while0b_cst_73]
theorem while0Ops0_6_writes : (while0Ops0_6 : List (HloOp τ sig (Elt F))).Forall fun op => op.writes ⊆ (while0Ops0_6_W.map (Proc.devRef (τ := τ) .tc)).toFinset :=
  StableHlo.forall_writes_sub_of_map rfl
theorem while0Ops0_7_fresh : (while0Ops0_7 : List (HloOp τ sig (Elt F))).Forall fun op => op.fresh = ∅ :=
  StableHlo.forall_fresh_of_map rfl
abbrev while0Ops0_7_W : List (Ref sig .tc) := [main_while0b_call3_v0, main_while0b_call3_v1, main_while0b_v187]
theorem while0Ops0_7_writes : (while0Ops0_7 : List (HloOp τ sig (Elt F))).Forall fun op => op.writes ⊆ (while0Ops0_7_W.map (Proc.devRef (τ := τ) .tc)).toFinset :=
  StableHlo.forall_writes_sub_of_map rfl
theorem while0Ops0_8_fresh : (while0Ops0_8 : List (HloOp τ sig (Elt F))).Forall fun op => op.fresh = ∅ :=
  StableHlo.forall_fresh_of_map rfl
abbrev while0Ops0_8_W : List (Ref sig .tc) := [main_while0b_cst_74, main_while0b_v188, main_while0b_cst_75, main_while0b_v189, main_while0b_v190, main_while0b_v191, main_while0b_v192, main_while0b_v193, main_while0b_v194, main_while0b_cst_76, main_while0b_v195, main_while0b_v196, main_while0b_v197, main_while0b_v198]
theorem while0Ops0_8_writes : (while0Ops0_8 : List (HloOp τ sig (Elt F))).Forall fun op => op.writes ⊆ (while0Ops0_8_W.map (Proc.devRef (τ := τ) .tc)).toFinset :=
  StableHlo.forall_writes_sub_of_map rfl
theorem while0Ops0_9_fresh : (while0Ops0_9 : List (HloOp τ sig (Elt F))).Forall fun op => op.fresh = ∅ :=
  StableHlo.forall_fresh_of_map rfl
abbrev while0Ops0_9_W : List (Ref sig .tc) := [main_while0b_call4_v0, main_while0b_call4_cst, main_while0b_call4_c, main_while0b_call4_v1_0, main_while0b_v199]
theorem while0Ops0_9_writes : (while0Ops0_9 : List (HloOp τ sig (Elt F))).Forall fun op => op.writes ⊆ (while0Ops0_9_W.map (Proc.devRef (τ := τ) .tc)).toFinset :=
  StableHlo.forall_writes_sub_of_map rfl
theorem while0Ops0_10_fresh : (while0Ops0_10 : List (HloOp τ sig (Elt F))).Forall fun op => op.fresh = ∅ :=
  StableHlo.forall_fresh_of_map rfl
abbrev while0Ops0_10_W : List (Ref sig .tc) := [main_while0b_c_77, main_while0b_v200, main_while0b_v201, main_while0b_c_78, main_while0b_v202, main_while0b_v203, main_while0b_v204, main_while0b_c_79, main_while0b_v205, main_while0b_v206, main_while0b_c_80, main_while0b_v207, main_while0b_v208, main_while0b_v209, main_while0b_v210, main_while0b_v211, main_while0b_v212, main_while0b_v213, main_while0b_cst_81, main_while0b_v214, main_while0b_v215, main_while0b_v216, main_while0b_c_82, main_while0b_v217, main_while0b_v218, main_while0b_c_83, main_while0b_v219, main_while0b_v220, main_while0b_v221, main_while0b_c_84, main_while0b_v222, main_while0b_v223, main_while0b_c_85, main_while0b_v224, main_while0b_v225, main_while0b_v226, main_while0b_c_86, main_while0b_v227, main_while0b_v228, main_while0b_v229, main_while0b_v230, main_while0b_v231, main_while0b_v232, main_while0b_v233, main_while0b_cst_87, main_while0b_v234, main_while0b_v235, main_while0b_c_88, main_while0b_v236, main_while0b_v237, main_while0b_c_89, main_while0b_v238, main_while0b_v239, main_while0b_v240, main_while0b_c_90, main_while0b_v241, main_while0b_v242, main_while0b_c_91, main_while0b_v243, main_while0b_v244, main_while0b_v245, main_while0b_v246, main_while0b_v247, main_while0b_c_92, main_while0b_v248, main_while0b_v249, main_while0b_v250, main_while0b_cst_93, main_while0b_v251, main_while0b_v252, main_while0b_c_94, main_while0b_v253, main_while0b_v254, main_while0b_c_95, main_while0b_v255, main_while0b_v256, main_while0b_v257, main_while0b_c_96, main_while0b_v258, main_while0b_v259, main_while0b_c_97, main_while0b_v260, main_while0b_v261, main_while0b_v262, main_while0b_v263, main_while0b_v264, main_while0b_v265, main_while0b_v266, main_while0b_v267, main_while0b_v268, main_while0b_v269, main_while0b_cst_98, main_while0b_v270, main_while0b_v271, main_while0b_v272, main_while0b_v273, main_while0b_v274]
theorem while0Ops0_10_writes : (while0Ops0_10 : List (HloOp τ sig (Elt F))).Forall fun op => op.writes ⊆ (while0Ops0_10_W.map (Proc.devRef (τ := τ) .tc)).toFinset :=
  StableHlo.forall_writes_sub_of_map rfl
theorem while0Ops0_11_fresh : (while0Ops0_11 : List (HloOp τ sig (Elt F))).Forall fun op => op.fresh = ∅ :=
  StableHlo.forall_fresh_of_map rfl
abbrev while0Ops0_11_W : List (Ref sig .tc) := [main_while0b_call5_v0, main_while0b_call5_c, main_while0b_call5_c_0, main_while0b_v275]
theorem while0Ops0_11_writes : (while0Ops0_11 : List (HloOp τ sig (Elt F))).Forall fun op => op.writes ⊆ (while0Ops0_11_W.map (Proc.devRef (τ := τ) .tc)).toFinset :=
  StableHlo.forall_writes_sub_of_map rfl
theorem while0Ops0_12_fresh : (while0Ops0_12 : List (HloOp τ sig (Elt F))).Forall fun op => op.fresh = ∅ :=
  StableHlo.forall_fresh_of_map rfl
abbrev while0Ops0_12_W : List (Ref sig .tc) := [main_while0b_call6_v0, main_while0b_call6_c, main_while0b_call6_c_0, main_while0b_v276]
theorem while0Ops0_12_writes : (while0Ops0_12 : List (HloOp τ sig (Elt F))).Forall fun op => op.writes ⊆ (while0Ops0_12_W.map (Proc.devRef (τ := τ) .tc)).toFinset :=
  StableHlo.forall_writes_sub_of_map rfl
theorem while0Ops0_13_fresh : (while0Ops0_13 : List (HloOp τ sig (Elt F))).Forall fun op => op.fresh = ∅ :=
  StableHlo.forall_fresh_of_map rfl
abbrev while0Ops0_13_W : List (Ref sig .tc) := [main_while0b_call7_v0, main_while0b_call7_c, main_while0b_v277]
theorem while0Ops0_13_writes : (while0Ops0_13 : List (HloOp τ sig (Elt F))).Forall fun op => op.writes ⊆ (while0Ops0_13_W.map (Proc.devRef (τ := τ) .tc)).toFinset :=
  StableHlo.forall_writes_sub_of_map rfl
theorem while0Ops0_14_fresh : (while0Ops0_14 : List (HloOp τ sig (Elt F))).Forall fun op => op.fresh = ∅ :=
  StableHlo.forall_fresh_of_map rfl
abbrev while0Ops0_14_W : List (Ref sig .tc) := [main_while0b_call8_v0, main_while0b_call8_c, main_while0b_v278]
theorem while0Ops0_14_writes : (while0Ops0_14 : List (HloOp τ sig (Elt F))).Forall fun op => op.writes ⊆ (while0Ops0_14_W.map (Proc.devRef (τ := τ) .tc)).toFinset :=
  StableHlo.forall_writes_sub_of_map rfl
theorem while0Ops0_15_fresh : (while0Ops0_15 : List (HloOp τ sig (Elt F))).Forall fun op => op.fresh = ∅ :=
  StableHlo.forall_fresh_of_map rfl
abbrev while0Ops0_15_W : List (Ref sig .tc) := [main_while0b_call9_v0, main_while0b_call9_c, main_while0b_call9_c_0, main_while0b_v279]
theorem while0Ops0_15_writes : (while0Ops0_15 : List (HloOp τ sig (Elt F))).Forall fun op => op.writes ⊆ (while0Ops0_15_W.map (Proc.devRef (τ := τ) .tc)).toFinset :=
  StableHlo.forall_writes_sub_of_map rfl
theorem while0Ops0_16_fresh : (while0Ops0_16 : List (HloOp τ sig (Elt F))).Forall fun op => op.fresh = ∅ :=
  StableHlo.forall_fresh_of_map rfl
abbrev while0Ops0_16_W : List (Ref sig .tc) := [main_while0b_call10_v0, main_while0b_call10_c, main_while0b_v280]
theorem while0Ops0_16_writes : (while0Ops0_16 : List (HloOp τ sig (Elt F))).Forall fun op => op.writes ⊆ (while0Ops0_16_W.map (Proc.devRef (τ := τ) .tc)).toFinset :=
  StableHlo.forall_writes_sub_of_map rfl
theorem while0Ops0_17_fresh : (while0Ops0_17 : List (HloOp τ sig (Elt F))).Forall fun op => op.fresh = ∅ :=
  StableHlo.forall_fresh_of_map rfl
abbrev while0Ops0_17_W : List (Ref sig .tc) := [main_while0b_c_99, main_while0b_v281, main_v9_8, main_v9_9, main_v9_10, main_v9_11, main_v9_12, main_v9_13, main_v9_14, main_v9_15, main_v9_16, main_v9_17]
theorem while0Ops0_17_writes : (while0Ops0_17 : List (HloOp τ sig (Elt F))).Forall fun op => op.writes ⊆ (while0Ops0_17_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_cst_7, main_v10, main_cst_8, main_v11, main_v12, main_v13, main_v14, main_cst_9, main_v15, main_v16, main_cst_10, main_v17, main_v18, main_v19, main_v20, main_v21, main_v22, main_v23, main_v24]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_28 (constantI S_ 32 50#32),
    StableHlo.binary main_v9_8 main_while0c_c_28 main_while0c_v25 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.cons while0Ops0_12_sub (hf := List.forall_iff_forall_mem.mp while0Ops0_12_fresh) (.cons while0Ops0_13_sub (hf := List.forall_iff_forall_mem.mp while0Ops0_13_fresh) (.cons while0Ops0_14_sub (hf := List.forall_iff_forall_mem.mp while0Ops0_14_fresh) (.cons while0Ops0_15_sub (hf := List.forall_iff_forall_mem.mp while0Ops0_15_fresh) (.cons while0Ops0_16_sub (hf := List.forall_iff_forall_mem.mp while0Ops0_16_fresh) (.cons while0Ops0_17_sub (hf := List.forall_iff_forall_mem.mp while0Ops0_17_fresh) (.nil))))))))))))))))))
theorem hpost : Plain (postI (F := F)) := .cons hostOps0_1_sub (hf := List.forall_iff_forall_mem.mp hostOps0_1_fresh) (.nil)

abbrev condOps_W : List (Ref sig .tc) := [main_while0c_c_28, main_while0c_v25]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v9_8`) is written by one stretch of the body, `while0Ops0_17`: not by the condition, nor by the
    body's other stretches. -/
theorem ctr_cond (V : Valuation τ sig (Elt F)) : after condOps V (Proc.devRef .tc main_v9_8) = V (Proc.devRef .tc main_v9_8) :=
  after_of_writes_sub condOps V condOps_writes (by decide +kernel)
theorem ctr_while0Ops0 (V : Valuation τ sig (Elt F)) : after while0Ops0 V (Proc.devRef .tc main_v9_8) = V (Proc.devRef .tc main_v9_8) :=
  after_of_writes_sub while0Ops0 V while0Ops0_writes (by decide +kernel)
theorem ctr_while0Ops0_1 (V : Valuation τ sig (Elt F)) : after while0Ops0_1 V (Proc.devRef .tc main_v9_8) = V (Proc.devRef .tc main_v9_8) :=
  after_of_writes_sub while0Ops0_1 V while0Ops0_1_writes (by decide +kernel)
theorem ctr_while0Ops0_2 (V : Valuation τ sig (Elt F)) : after while0Ops0_2 V (Proc.devRef .tc main_v9_8) = V (Proc.devRef .tc main_v9_8) :=
  after_of_writes_sub while0Ops0_2 V while0Ops0_2_writes (by decide +kernel)
theorem ctr_while0Ops0_3 (V : Valuation τ sig (Elt F)) : after while0Ops0_3 V (Proc.devRef .tc main_v9_8) = V (Proc.devRef .tc main_v9_8) :=
  after_of_writes_sub while0Ops0_3 V while0Ops0_3_writes (by decide +kernel)
theorem ctr_while0Ops0_4 (V : Valuation τ sig (Elt F)) : after while0Ops0_4 V (Proc.devRef .tc main_v9_8) = V (Proc.devRef .tc main_v9_8) :=
  after_of_writes_sub while0Ops0_4 V while0Ops0_4_writes (by decide +kernel)
theorem ctr_while0Ops0_5 (V : Valuation τ sig (Elt F)) : after while0Ops0_5 V (Proc.devRef .tc main_v9_8) = V (Proc.devRef .tc main_v9_8) :=
  after_of_writes_sub while0Ops0_5 V while0Ops0_5_writes (by decide +kernel)
theorem ctr_while0Ops0_6 (V : Valuation τ sig (Elt F)) : after while0Ops0_6 V (Proc.devRef .tc main_v9_8) = V (Proc.devRef .tc main_v9_8) :=
  after_of_writes_sub while0Ops0_6 V while0Ops0_6_writes (by decide +kernel)
theorem ctr_while0Ops0_7 (V : Valuation τ sig (Elt F)) : after while0Ops0_7 V (Proc.devRef .tc main_v9_8) = V (Proc.devRef .tc main_v9_8) :=
  after_of_writes_sub while0Ops0_7 V while0Ops0_7_writes (by decide +kernel)
theorem ctr_while0Ops0_8 (V : Valuation τ sig (Elt F)) : after while0Ops0_8 V (Proc.devRef .tc main_v9_8) = V (Proc.devRef .tc main_v9_8) :=
  after_of_writes_sub while0Ops0_8 V while0Ops0_8_writes (by decide +kernel)
theorem ctr_while0Ops0_9 (V : Valuation τ sig (Elt F)) : after while0Ops0_9 V (Proc.devRef .tc main_v9_8) = V (Proc.devRef .tc main_v9_8) :=
  after_of_writes_sub while0Ops0_9 V while0Ops0_9_writes (by decide +kernel)
theorem ctr_while0Ops0_10 (V : Valuation τ sig (Elt F)) : after while0Ops0_10 V (Proc.devRef .tc main_v9_8) = V (Proc.devRef .tc main_v9_8) :=
  after_of_writes_sub while0Ops0_10 V while0Ops0_10_writes (by decide +kernel)
theorem ctr_while0Ops0_11 (V : Valuation τ sig (Elt F)) : after while0Ops0_11 V (Proc.devRef .tc main_v9_8) = V (Proc.devRef .tc main_v9_8) :=
  after_of_writes_sub while0Ops0_11 V while0Ops0_11_writes (by decide +kernel)
theorem ctr_while0Ops0_12 (V : Valuation τ sig (Elt F)) : after while0Ops0_12 V (Proc.devRef .tc main_v9_8) = V (Proc.devRef .tc main_v9_8) :=
  after_of_writes_sub while0Ops0_12 V while0Ops0_12_writes (by decide +kernel)
theorem ctr_while0Ops0_13 (V : Valuation τ sig (Elt F)) : after while0Ops0_13 V (Proc.devRef .tc main_v9_8) = V (Proc.devRef .tc main_v9_8) :=
  after_of_writes_sub while0Ops0_13 V while0Ops0_13_writes (by decide +kernel)
theorem ctr_while0Ops0_14 (V : Valuation τ sig (Elt F)) : after while0Ops0_14 V (Proc.devRef .tc main_v9_8) = V (Proc.devRef .tc main_v9_8) :=
  after_of_writes_sub while0Ops0_14 V while0Ops0_14_writes (by decide +kernel)
theorem ctr_while0Ops0_15 (V : Valuation τ sig (Elt F)) : after while0Ops0_15 V (Proc.devRef .tc main_v9_8) = V (Proc.devRef .tc main_v9_8) :=
  after_of_writes_sub while0Ops0_15 V while0Ops0_15_writes (by decide +kernel)
theorem ctr_while0Ops0_16 (V : Valuation τ sig (Elt F)) : after while0Ops0_16 V (Proc.devRef .tc main_v9_8) = V (Proc.devRef .tc main_v9_8) :=
  after_of_writes_sub while0Ops0_16 V while0Ops0_16_writes (by decide +kernel)

set_option maxRecDepth 100000 in
/-- `while0Ops0_17` leaves the counter one step on. -/
theorem ctr_step (X : Valuation τ sig (Elt F)) :
    after while0Ops0_17 X (Proc.devRef .tc main_v9_8) = addi (X (Proc.devRef .tc main_v9_8)) (constantI S_ 32 1#32) := by
  after_results
  rfl

/-- The counter is the loop's lower bound at the loop's entry: its last writer before the loop read back. -/
theorem ctr_entry (c : Dev nD) : entryContents preI m c (Proc.devRef .tc main_v9_8) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v9_8) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_16, ctr_while0Ops0_15, ctr_while0Ops0_14, ctr_while0Ops0_13, ctr_while0Ops0_12, ctr_while0Ops0_11, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 50 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v9_8 HostLoop.idx0)
        (HloOp.result _ (atK m k c) main_while0c_c_28 HostLoop.idx0) = 1#1) (k < 50)
    rw [nullary_result_ne _ _ _ _ (by decide), nullary_result, hctr]
    exact Scf.cmpi_slt_iv_ub_iff (lb := 0#32) (ub := 50#32) (st := 1#32) (by decide) (show k ≤ Scf.trips 0#32 50#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 50 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 50 m ρ (cond_spec m)

end Cert.Proof.RefRun

end
-- ==== Proof.RefWindows.lean ====
/- The loop body of the reference cut into short windows of operations, and the valuation after each window. -/
module

public import proofs.«01_k».proof.Proof.RefLoop

@[expose] public section

set_option maxRecDepth 16384

noncomputable section

namespace Cert.Proof.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic Idealize.ShloMosaic.TcCoe Idealize.ShloMosaic.Tactic
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

def fn_main_while0b_v86 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v103 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v118 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v133 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v154 : (main_while0b_v151 : Ref sig .tc).ty.Contents (Elt F) → (main_while0b_v152 : Ref sig .tc).ty.Contents (Elt F) → (main_while0b_v153 : Ref sig .tc).ty.Contents (Elt F) → (main_while0b_v154 : Ref sig .tc).ty.Contents (Elt F) :=
  (fun u0 u1 u2 => (concatenate S64x3 1 [⟨S64x1, (u0 : (⟨S64x1, .i32⟩ : BufTy).Contents (Elt F))⟩, ⟨S64x1, (u1 : (⟨S64x1, .i32⟩ : BufTy).Contents (Elt F))⟩, ⟨S64x1, (u2 : (⟨S64x1, .i32⟩ : BufTy).Contents (Elt F))⟩] concatenates_S64x1_S64x1_S64x1_S64x3_d1 : (⟨S64x3, .i32⟩ : BufTy).Contents (Elt F)))

def fn_main_while0b_v169 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v212 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v232 : (main_while0b_v229 : Ref sig .tc).ty.Contents (Elt F) → (main_while0b_v230 : Ref sig .tc).ty.Contents (Elt F) → (main_while0b_v231 : Ref sig .tc).ty.Contents (Elt F) → (main_while0b_v232 : Ref sig .tc).ty.Contents (Elt F) :=
  (fun u0 u1 u2 => (concatenate S64x3 1 [⟨S64x1, (u0 : (⟨S64x1, .i32⟩ : BufTy).Contents (Elt F))⟩, ⟨S64x1, (u1 : (⟨S64x1, .i32⟩ : BufTy).Contents (Elt F))⟩, ⟨S64x1, (u2 : (⟨S64x1, .i32⟩ : BufTy).Contents (Elt F))⟩] concatenates_S64x1_S64x1_S64x1_S64x3_d1 : (⟨S64x3, .i32⟩ : BufTy).Contents (Elt F)))

def fn_main_while0b_v249 : (main_while0b_v246 : Ref sig .tc).ty.Contents (Elt F) → (main_while0b_v247 : Ref sig .tc).ty.Contents (Elt F) → (main_while0b_v248 : Ref sig .tc).ty.Contents (Elt F) → (main_while0b_v249 : Ref sig .tc).ty.Contents (Elt F) :=
  (fun u0 u1 u2 => (concatenate S64x3 1 [⟨S64x1, (u0 : (⟨S64x1, .i32⟩ : BufTy).Contents (Elt F))⟩, ⟨S64x1, (u1 : (⟨S64x1, .i32⟩ : BufTy).Contents (Elt F))⟩, ⟨S64x1, (u2 : (⟨S64x1, .i32⟩ : BufTy).Contents (Elt F))⟩] concatenates_S64x1_S64x1_S64x1_S64x3_d1 : (⟨S64x3, .i32⟩ : BufTy).Contents (Elt F)))

def fn_main_while0b_v252 : (⟨S64x15, .f32⟩ : BufTy).Contents (Elt F) → (⟨S64x1, .f32⟩ : BufTy).Contents (Elt F) → (⟨S64x16, .f32⟩ : BufTy).Contents (Elt F) :=
  (fun a b => concatenate S64x16 1 [⟨S64x15, a⟩, ⟨S64x1, b⟩] concatenates_S64x15_S64x1_S64x16_d1)

def fn_main_while0b_v265 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

def fn_main_while0b_v274 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

abbrev trip_w0 : List (HloOp τ sig (Elt F)) :=
  [ StableHlo.binary main_v9_0 main_v9_1 main_while0b_v25 ((fun l r => Host.dotGeneral dot_S64x50x16_S16x128_S64x50x128_2_0_01_1_n_n none l r) : (⟨S64x50x16, .f32⟩ : BufTy).Contents (Elt F) → (⟨S16x128, .f32⟩ : BufTy).Contents (Elt F) → (⟨S64x50x128, .f32⟩ : BufTy).Contents (Elt F)),
    StableHlo.unary main_while0b_v25 main_while0b_v26 (Host.tanh : (⟨S64x50x128, .f32⟩ : BufTy).Contents (Elt F) → (⟨S64x50x128, .f32⟩ : BufTy).Contents (Elt F)),
    StableHlo.unary main_while0b_v26 main_while0b_v27 ((transpose S64x128x50 [0, 2, 1] · transposes_S64x50x128_S64x128x50_0_2_1) : (⟨S64x50x128, .f32⟩ : BufTy).Contents (Elt F) → (⟨S64x128x50, .f32⟩ : BufTy).Contents (Elt F)),
    StableHlo.binary main_while0b_v26 main_while0b_v27 main_while0b_v28 ((fun l r => Host.dotGeneral dot_S64x50x128_S64x128x50_S64x50x50_2_1_1_2_0_0 none l r) : (⟨S64x50x128, .f32⟩ : BufTy).Contents (Elt F) → (⟨S64x128x50, .f32⟩ : BufTy).Contents (Elt F) → (⟨S64x50x50, .f32⟩ : BufTy).Contents (Elt F)),
    StableHlo.nullary main_while0b_cst_28 (constant S_ .f32 0x43000000#32),
    StableHlo.unary main_while0b_cst_28 main_while0b_v29 (Host.sqrt : (⟨S_, .f32⟩ : BufTy).Contents (Elt F) → (⟨S_, .f32⟩ : BufTy).Contents (Elt F)),
    StableHlo.unary main_while0b_v29 main_while0b_v30 (id : (⟨S_, .f32⟩ : BufTy).Contents (Elt F) → (⟨S_, .f32⟩ : BufTy).Contents (Elt F)),
    StableHlo.unary main_while0b_v30 main_while0b_v31 (broadcastInDim S64x50x50 ![] bcast_S_S64x50x50 : (⟨S_, .f32⟩ : BufTy).Contents (Elt F) → (⟨S64x50x50, .f32⟩ : BufTy).Contents (Elt F)),
    StableHlo.binary main_while0b_v28 main_while0b_v31 main_while0b_v32 (Host.divf : (⟨S64x50x50, .f32⟩ : BufTy).Contents (Elt F) → (⟨S64x50x50, .f32⟩ : BufTy).Contents (Elt F) → (⟨S64x50x50, .f32⟩ : BufTy).Contents (Elt F)),
    StableHlo.nullary main_while0b_cst_29 (constant S_ .f32 0xCE6E6B28#32) ]

abbrev trip_W0 : List (Ref sig .tc) := [main_while0b_v25, main_while0b_v26, main_while0b_v27, main_while0b_v28, main_while0b_cst_28, main_while0b_v29, main_while0b_v30, main_while0b_v31, main_while0b_v32, main_while0b_cst_29]

theorem trip_writes0 : (trip_w0 : List (HloOp τ sig (Elt F))).Forall fun op => op.writes ⊆ (trip_W0.map (Proc.devRef (τ := τ) .tc)).toFinset :=
  StableHlo.forall_writes_sub_of_map rfl

abbrev trip_w1 : List (HloOp τ sig (Elt F)) :=
  [ StableHlo.TRef.unary (.of main_while0b_cst_29 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S64x50x50, .f32⟩) (broadcastInDim S64x50x50 ![] bcast_S_S64x50x50),
    StableHlo.TRef.ternary (.of main_v9_11 : StableHlo.TRef sig ⟨S64x50x50, .i1⟩) (.of main_while0b_v32 : StableHlo.TRef sig ⟨S64x50x50, .f32⟩) (.of main_while0b_call0_v1 : StableHlo.TRef sig ⟨S64x50x50, .f32⟩) (.of main_while0b_v33 : StableHlo.TRef sig ⟨S64x50x50, .f32⟩) select ]

abbrev trip_W1 : List (Ref sig .tc) := [main_while0b_call0_v0, main_while0b_call0_v1, main_while0b_v33]

theorem trip_writes1 : (trip_w1 : List (HloOp τ sig (Elt F))).Forall fun op => op.writes ⊆ (trip_W1.map (Proc.devRef (τ := τ) .tc)).toFinset :=
  StableHlo.forall_writes_sub_of_map rfl

abbrev trip_w2 : List (HloOp τ sig (Elt F)) :=
  [ StableHlo.nullary main_while0b_cst_30 (constant S_ .f32 0xFF800000#32),
    StableHlo.binary main_while0b_v33 main_while0b_cst_30 main_while0b_v34 ((fun x v => Host.reduce FloatOps.maximumf x v reducesTo_S64x50x50_S64x50_d2 h_S_) : (⟨S64x50x50, .f32⟩ : BufTy).Contents (Elt F) → (⟨S_, .f32⟩ : BufTy).Contents (Elt F) → (⟨S64x50, .f32⟩ : BufTy).Contents (Elt F)),
    StableHlo.nullary main_while0b_cst_31 (constant S_ .f32 0xFF800000#32),
    StableHlo.unary main_while0b_cst_31 main_while0b_v35 (broadcastInDim S64x50 ![] bcast_S_S64x50 : (⟨S_, .f32⟩ : BufTy).Contents (Elt F) → (⟨S64x50, .f32⟩ : BufTy).Contents (Elt F)),
    StableHlo.binary main_while0b_v35 main_while0b_v34 main_while0b_v36 (maximumf : (⟨S64x50, .f32⟩ : BufTy).Contents (Elt F) → (⟨S64x50, .f32⟩ : BufTy).Contents (Elt F) → (⟨S64x50, .f32⟩ : BufTy).Contents (Elt F)),
    StableHlo.unary main_while0b_v36 main_while0b_v37 (broadcastInDim S64x50x1 ![0, 1] bcast_S64x50_S64x50x1_0_1 : (⟨S64x50, .f32⟩ : BufTy).Contents (Elt F) → (⟨S64x50x1, .f32⟩ : BufTy).Contents (Elt F)),
    StableHlo.unary main_while0b_v37 main_while0b_v38 (broadcastInDim S64x50x50 ![0, 1, 2] bcast_S64x50x1_S64x50x50_0_1_2 : (⟨S64x50x1, .f32⟩ : BufTy).Contents (Elt F) → (⟨S64x50x50, .f32⟩ : BufTy).Contents (Elt F)),
    StableHlo.binary main_while0b_v33 main_while0b_v38 main_while0b_v39 (subf : (⟨S64x50x50, .f32⟩ : BufTy).Contents (Elt F) → (⟨S64x50x50, .f32⟩ : BufTy).Contents (Elt F) → (⟨S64x50x50, .f32⟩ : BufTy).Contents (Elt F)),
    StableHlo.unary main_while0b_v39 main_while0b_v40 (Host.exp : (⟨S64x50x50, .f32⟩ : BufTy).Contents (Elt F) → (⟨S64x50x50, .f32⟩ : BufTy).Contents (Elt F)),
    StableHlo.nullary main_while0b_cst_32 (constant S_ .f32 0x00000000#32),
    StableHlo.binary main_while0b_v40 main_while0b_cst_32 main_while0b_v41 ((fun x v => Host.reduceAdd x v reducesTo_S64x50x50_S64x50_d2 h_S_) : (⟨S64x50x50, .f32⟩ : BufTy).Contents (Elt F) → (⟨S_, .f32⟩ : BufTy).Contents (Elt F) → (⟨S64x50, .f32⟩ : BufTy).Contents (Elt F)),
    StableHlo.unary main_while0b_v41 main_while0b_v42 (broadcastInDim S64x50x1 ![0, 1] bcast_S64x50_S64x50x1_0_1 : (⟨S64x50, .f32⟩ : BufTy).Contents (Elt F) → (⟨S64x50x1, .f32⟩ : BufTy).Contents (Elt F)) ]

abbrev trip_W2 : List (Ref sig .tc) := [main_while0b_cst_30, main_while0b_v34, main_while0b_cst_31, main_while0b_v35, main_while0b_v36, main_while0b_v37, main_while0b_v38, main_while0b_v39, main_while0b_v40, main_while0b_cst_32, main_while0b_v41, main_while0b_v42]

theorem trip_writes2 : (trip_w2 : List (HloOp τ sig (Elt F))).Forall fun op => op.writes ⊆ (trip_W2.map (Proc.devRef (τ := τ) .tc)).toFinset :=
  StableHlo.forall_writes_sub_of_map rfl

abbrev trip_w3 : List (HloOp τ sig (Elt F)) :=
  [ StableHlo.unary main_while0b_v42 main_while0b_v43 (broadcastInDim S64x50x50 ![0, 1, 2] bcast_S64x50x1_S64x50x50_0_1_2 : (⟨S64x50x1, .f32⟩ : BufTy).Contents (Elt F) → (⟨S64x50x50, .f32⟩ : BufTy).Contents (Elt F)),
    StableHlo.binary main_while0b_v40 main_while0b_v43 main_while0b_v44 (Host.divf : (⟨S64x50x50, .f32⟩ : BufTy).Contents (Elt F) → (⟨S64x50x50, .f32⟩ : BufTy).Contents (Elt F) → (⟨S64x50x50, .f32⟩ : BufTy).Contents (Elt F)),
    StableHlo.binary main_while0b_v44 main_while0b_v26 main_while0b_v45 ((fun l r => Host.dotGeneral dot_S64x50x50_S64x50x128_S64x50x128_2_1_1_2_0_0 none l r) : (⟨S64x50x50, .f32⟩ : BufTy).Contents (Elt F) → (⟨S64x50x128, .f32⟩ : BufTy).Contents (Elt F) → (⟨S64x50x128, .f32⟩ : BufTy).Contents (Elt F)),
    StableHlo.binary main_while0b_v26 main_while0b_v45 main_while0b_v46 (addf : (⟨S64x50x128, .f32⟩ : BufTy).Contents (Elt F) → (⟨S64x50x128, .f32⟩ : BufTy).Contents (Elt F) → (⟨S64x50x128, .f32⟩ : BufTy).Contents (Elt F)),
    StableHlo.binary main_v9_9 main_v9_2 main_while0b_v47 ((fun l r => Host.dotGeneral dot_S64x50x16_S16x128_S64x50x128_2_0_01_1_n_n none l r) : (⟨S64x50x16, .f32⟩ : BufTy).Contents (Elt F) → (⟨S16x128, .f32⟩ : BufTy).Contents (Elt F) → (⟨S64x50x128, .f32⟩ : BufTy).Contents (Elt F)),
    StableHlo.unary main_while0b_v47 main_while0b_v48 (Host.tanh : (⟨S64x50x128, .f32⟩ : BufTy).Contents (Elt F) → (⟨S64x50x128, .f32⟩ : BufTy).Contents (Elt F)),
    StableHlo.binary main_v9_3 main_while0b_v48 main_while0b_v49 ((fun l r => Host.dotGeneral dot_S64x50x50_S64x50x128_S64x50x128_2_1_1_2_0_0 none l r) : (⟨S64x50x50, .f32⟩ : BufTy).Contents (Elt F) → (⟨S64x50x128, .f32⟩ : BufTy).Contents (Elt F) → (⟨S64x50x128, .f32⟩ : BufTy).Contents (Elt F)),
    StableHlo.binary main_while0b_v49 main_v9_4 main_while0b_v50 ((fun l r => Host.dotGeneral dot_S64x50x128_S128x128_S64x50x128_2_0_01_1_n_n none l r) : (⟨S64x50x128, .f32⟩ : BufTy).Contents (Elt F) → (⟨S128x128, .f32⟩ : BufTy).Contents (Elt F) → (⟨S64x50x128, .f32⟩ : BufTy).Contents (Elt F)),
    StableHlo.binary main_while0b_v48 main_while0b_v50 main_while0b_v51 (addf : (⟨S64x50x128, .f32⟩ : BufTy).Contents (Elt F) → (⟨S64x50x128, .f32⟩ : BufTy).Contents (Elt F) → (⟨S64x50x128, .f32⟩ : BufTy).Contents (Elt F)),
    StableHlo.nullary main_while0b_cst_33 (constant S_ .f32 0x00000000#32),
    StableHlo.binary main_while0b_v51 main_while0b_cst_33 main_while0b_v52 ((fun x v => Host.reduceAdd x v reducesTo_S64x50x128_S64x128_d1 h_S_) : (⟨S64x50x128, .f32⟩ : BufTy).Contents (Elt F) → (⟨S_, .f32⟩ : BufTy).Contents (Elt F) → (⟨S64x128, .f32⟩ : BufTy).Contents (Elt F)),
    StableHlo.nullary main_while0b_cst_34 (constant S_ .f32 0x42480000#32) ]

abbrev trip_W3 : List (Ref sig .tc) := [main_while0b_v43, main_while0b_v44, main_while0b_v45, main_while0b_v46, main_while0b_v47, main_while0b_v48, main_while0b_v49, main_while0b_v50, main_while0b_v51, main_while0b_cst_33, main_while0b_v52, main_while0b_cst_34]

theorem trip_writes3 : (trip_w3 : List (HloOp τ sig (Elt F))).Forall fun op => op.writes ⊆ (trip_W3.map (Proc.devRef (τ := τ) .tc)).toFinset :=
  StableHlo.forall_writes_sub_of_map rfl

abbrev trip_w4 : List (HloOp τ sig (Elt F)) :=
  [ StableHlo.unary main_while0b_cst_34 main_while0b_v53 (broadcastInDim S64x128 ![] bcast_S_S64x128 : (⟨S_, .f32⟩ : BufTy).Contents (Elt F) → (⟨S64x128, .f32⟩ : BufTy).Contents (Elt F)),
    StableHlo.binary main_while0b_v52 main_while0b_v53 main_while0b_v54 (Host.divf : (⟨S64x128, .f32⟩ : BufTy).Contents (Elt F) → (⟨S64x128, .f32⟩ : BufTy).Contents (Elt F) → (⟨S64x128, .f32⟩ : BufTy).Contents (Elt F)),
    StableHlo.binary main_while0b_v54 main_v9_5 main_while0b_v55 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.binary main_while0b_v46 main_while0b_v55 main_while0b_v56 ((fun l r => Host.dotGeneral dot_S64x50x128_S64x128_S64x50_2_1_1_n_0_0 none l r) : (⟨S64x50x128, .f32⟩ : BufTy).Contents (Elt F) → (⟨S64x128, .f32⟩ : BufTy).Contents (Elt F) → (⟨S64x50, .f32⟩ : BufTy).Contents (Elt F)),
    StableHlo.nullary main_while0b_cst_35 (constant S_ .f32 0x43000000#32),
    StableHlo.unary main_while0b_cst_35 main_while0b_v57 (Host.sqrt : (⟨S_, .f32⟩ : BufTy).Contents (Elt F) → (⟨S_, .f32⟩ : BufTy).Contents (Elt F)),
    StableHlo.unary main_while0b_v57 main_while0b_v58 (id : (⟨S_, .f32⟩ : BufTy).Contents (Elt F) → (⟨S_, .f32⟩ : BufTy).Contents (Elt F)),
    StableHlo.unary main_while0b_v58 main_while0b_v59 (broadcastInDim S64x50 ![] bcast_S_S64x50 : (⟨S_, .f32⟩ : BufTy).Contents (Elt F) → (⟨S64x50, .f32⟩ : BufTy).Contents (Elt F)),
    StableHlo.binary main_while0b_v56 main_while0b_v59 main_while0b_v60 (Host.divf : (⟨S64x50, .f32⟩ : BufTy).Contents (Elt F) → (⟨S64x50, .f32⟩ : BufTy).Contents (Elt F) → (⟨S64x50, .f32⟩ : BufTy).Contents (Elt F)),
    StableHlo.nullary main_while0b_cst_36 (constant S_ .f32 0xCE6E6B28#32) ]

abbrev trip_W4 : List (Ref sig .tc) := [main_while0b_v53, main_while0b_v54, main_while0b_v55, main_while0b_v56, main_while0b_cst_35, main_while0b_v57, main_while0b_v58, main_while0b_v59, main_while0b_v60, main_while0b_cst_36]

theorem trip_writes4 : (trip_w4 : List (HloOp τ sig (Elt F))).Forall fun op => op.writes ⊆ (trip_W4.map (Proc.devRef (τ := τ) .tc)).toFinset :=
  StableHlo.forall_writes_sub_of_map rfl

abbrev trip_w5 : List (HloOp τ sig (Elt F)) :=
  [ StableHlo.TRef.unary (.of main_while0b_cst_36 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S64x50, .f32⟩) (broadcastInDim S64x50 ![] bcast_S_S64x50),
    StableHlo.TRef.ternary (.of main_v9_10 : StableHlo.TRef sig ⟨S64x50, .i1⟩) (.of main_while0b_call1_v1 : StableHlo.TRef sig ⟨S64x50, .f32⟩) (.of main_while0b_v60 : StableHlo.TRef sig ⟨S64x50, .f32⟩) (.of main_while0b_v61 : StableHlo.TRef sig ⟨S64x50, .f32⟩) select ]

abbrev trip_W5 : List (Ref sig .tc) := [main_while0b_call1_v0, main_while0b_call1_v1, main_while0b_v61]

theorem trip_writes5 : (trip_w5 : List (HloOp τ sig (Elt F))).Forall fun op => op.writes ⊆ (trip_W5.map (Proc.devRef (τ := τ) .tc)).toFinset :=
  StableHlo.forall_writes_sub_of_map rfl

abbrev trip_w6 : List (HloOp τ sig (Elt F)) :=
  [ StableHlo.nullary main_while0b_cst_37 (constant S_ .f32 0xFF800000#32),
    StableHlo.binary main_while0b_v61 main_while0b_cst_37 main_while0b_v62 ((fun x v => Host.reduce FloatOps.maximumf x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.nullary main_while0b_cst_38 (constant S_ .f32 0xFF800000#32),
    StableHlo.unary main_while0b_cst_38 main_while0b_v63 (broadcastInDim S64 ![] bcast_S_S64 : (⟨S_, .f32⟩ : BufTy).Contents (Elt F) → (⟨S64, .f32⟩ : BufTy).Contents (Elt F)),
    StableHlo.binary main_while0b_v63 main_while0b_v62 main_while0b_v64 (maximumf : (⟨S64, .f32⟩ : BufTy).Contents (Elt F) → (⟨S64, .f32⟩ : BufTy).Contents (Elt F) → (⟨S64, .f32⟩ : BufTy).Contents (Elt F)),
    StableHlo.unary main_while0b_v64 main_while0b_v65 (broadcastInDim S64x1 ![0] bcast_S64_S64x1_0 : (⟨S64, .f32⟩ : BufTy).Contents (Elt F) → (⟨S64x1, .f32⟩ : BufTy).Contents (Elt F)),
    StableHlo.unary main_while0b_v65 main_while0b_v66 (broadcastInDim S64x50 ![0, 1] bcast_S64x1_S64x50_0_1 : (⟨S64x1, .f32⟩ : BufTy).Contents (Elt F) → (⟨S64x50, .f32⟩ : BufTy).Contents (Elt F)),
    StableHlo.binary main_while0b_v61 main_while0b_v66 main_while0b_v67 (subf : (⟨S64x50, .f32⟩ : BufTy).Contents (Elt F) → (⟨S64x50, .f32⟩ : BufTy).Contents (Elt F) → (⟨S64x50, .f32⟩ : BufTy).Contents (Elt F)),
    StableHlo.unary main_while0b_v67 main_while0b_v68 (Host.exp : (⟨S64x50, .f32⟩ : BufTy).Contents (Elt F) → (⟨S64x50, .f32⟩ : BufTy).Contents (Elt F)),
    StableHlo.nullary main_while0b_cst_39 (constant S_ .f32 0x00000000#32),
    StableHlo.binary main_while0b_v68 main_while0b_cst_39 main_while0b_v69 ((fun x v => Host.reduceAdd x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.unary main_while0b_v69 main_while0b_v70 (broadcastInDim S64x1 ![0] bcast_S64_S64x1_0 : (⟨S64, .f32⟩ : BufTy).Contents (Elt F) → (⟨S64x1, .f32⟩ : BufTy).Contents (Elt F)) ]

abbrev trip_W6 : List (Ref sig .tc) := [main_while0b_cst_37, main_while0b_v62, main_while0b_cst_38, main_while0b_v63, main_while0b_v64, main_while0b_v65, main_while0b_v66, main_while0b_v67, main_while0b_v68, main_while0b_cst_39, main_while0b_v69, main_while0b_v70]

theorem trip_writes6 : (trip_w6 : List (HloOp τ sig (Elt F))).Forall fun op => op.writes ⊆ (trip_W6.map (Proc.devRef (τ := τ) .tc)).toFinset :=
  StableHlo.forall_writes_sub_of_map rfl

abbrev trip_w7 : List (HloOp τ sig (Elt F)) :=
  [ StableHlo.unary main_while0b_v70 main_while0b_v71 (broadcastInDim S64x50 ![0, 1] bcast_S64x1_S64x50_0_1 : (⟨S64x1, .f32⟩ : BufTy).Contents (Elt F) → (⟨S64x50, .f32⟩ : BufTy).Contents (Elt F)),
    StableHlo.binary main_while0b_v68 main_while0b_v71 main_while0b_v72 (Host.divf : (⟨S64x50, .f32⟩ : BufTy).Contents (Elt F) → (⟨S64x50, .f32⟩ : BufTy).Contents (Elt F) → (⟨S64x50, .f32⟩ : BufTy).Contents (Elt F)) ]

abbrev trip_W7 : List (Ref sig .tc) := [main_while0b_v71, main_while0b_v72]

theorem trip_writes7 : (trip_w7 : List (HloOp τ sig (Elt F))).Forall fun op => op.writes ⊆ (trip_W7.map (Proc.devRef (τ := τ) .tc)).toFinset :=
  StableHlo.forall_writes_sub_of_map rfl

abbrev trip_w8 : List (HloOp τ sig (Elt F)) :=
  [ StableHlo.TRef.nullary (.of main_while0b_call2_v0 : StableHlo.TRef sig ⟨S64x50, .i32⟩) (iotaInDim S64x50 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v72 : StableHlo.TRef sig ⟨S64x50, .f32⟩) (.of main_while0b_call2_v0 : StableHlo.TRef sig ⟨S64x50, .i32⟩) (.of main_while0b_call2_cst : StableHlo.TRef sig ⟨S_, .f32⟩) (.of main_while0b_call2_c : StableHlo.TRef sig ⟨S_, .i32⟩) (.of main_while0b_call2_v1_0 : StableHlo.TRef sig ⟨S64, .f32⟩) (fun x y u v j => (Host.argReduce reducer_argmax_f32_i32 x y u v reducesTo_S64x50_S64_d1 h_S_ j).1),
    StableHlo.TRef.quaternary (.of main_while0b_v72 : StableHlo.TRef sig ⟨S64x50, .f32⟩) (.of main_while0b_call2_v0 : StableHlo.TRef sig ⟨S64x50, .i32⟩) (.of main_while0b_call2_cst : StableHlo.TRef sig ⟨S_, .f32⟩) (.of main_while0b_call2_c : StableHlo.TRef sig ⟨S_, .i32⟩) (.of main_while0b_v73 : StableHlo.TRef sig ⟨S64, .i32⟩) (fun x y u v j => (Host.argReduce reducer_argmax_f32_i32 x y u v reducesTo_S64x50_S64_d1 h_S_ j).2) ]

abbrev trip_W8 : List (Ref sig .tc) := [main_while0b_call2_v0, main_while0b_call2_cst, main_while0b_call2_c, main_while0b_call2_v1_0, main_while0b_v73]

theorem trip_writes8 : (trip_w8 : List (HloOp τ sig (Elt F))).Forall fun op => op.writes ⊆ (trip_W8.map (Proc.devRef (τ := τ) .tc)).toFinset :=
  StableHlo.forall_writes_sub_of_map rfl

abbrev trip_w9 : List (HloOp τ sig (Elt F)) :=
  [ StableHlo.nullary main_while0b_c_40 (constantI S_ 32 0#32),
    StableHlo.unary main_while0b_c_40 main_while0b_v74 (broadcastInDim S64 ![] bcast_S_S64 : (⟨S_, .i32⟩ : BufTy).Contents (Elt F) → (⟨S64, .i32⟩ : BufTy).Contents (Elt F)),
    StableHlo.binary main_v9_6 main_while0b_v74 main_while0b_v75 (cmpi .slt : (⟨S64, .i32⟩ : BufTy).Contents (Elt F) → (⟨S64, .i32⟩ : BufTy).Contents (Elt F) → (⟨S64, .i1⟩ : BufTy).Contents (Elt F)),
    StableHlo.nullary main_while0b_c_41 (constantI S_ 32 64#32),
    StableHlo.unary main_while0b_c_41 main_while0b_v76 (broadcastInDim S64 ![] bcast_S_S64 : (⟨S_, .i32⟩ : BufTy).Contents (Elt F) → (⟨S64, .i32⟩ : BufTy).Contents (Elt F)),
    StableHlo.binary main_v9_6 main_while0b_v76 main_while0b_v77 (addi : (⟨S64, .i32⟩ : BufTy).Contents (Elt F) → (⟨S64, .i32⟩ : BufTy).Contents (Elt F) → (⟨S64, .i32⟩ : BufTy).Contents (Elt F)),
    StableHlo.ternary main_while0b_v75 main_while0b_v77 main_v9_6 main_while0b_v78 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_42 (constantI S_ 32 0#32),
    StableHlo.unary main_while0b_c_42 main_while0b_v79 (broadcastInDim S64 ![] bcast_S_S64 : (⟨S_, .i32⟩ : BufTy).Contents (Elt F) → (⟨S64, .i32⟩ : BufTy).Contents (Elt F)),
    StableHlo.binary main_while0b_v73 main_while0b_v79 main_while0b_v80 (cmpi .slt : (⟨S64, .i32⟩ : BufTy).Contents (Elt F) → (⟨S64, .i32⟩ : BufTy).Contents (Elt F) → (⟨S64, .i1⟩ : BufTy).Contents (Elt F)),
    StableHlo.nullary main_while0b_c_43 (constantI S_ 32 50#32),
    StableHlo.unary main_while0b_c_43 main_while0b_v81 (broadcastInDim S64 ![] bcast_S_S64 : (⟨S_, .i32⟩ : BufTy).Contents (Elt F) → (⟨S64, .i32⟩ : BufTy).Contents (Elt F)) ]

abbrev trip_W9 : List (Ref sig .tc) := [main_while0b_c_40, main_while0b_v74, main_while0b_v75, main_while0b_c_41, main_while0b_v76, main_while0b_v77, main_while0b_v78, main_while0b_c_42, main_while0b_v79, main_while0b_v80, main_while0b_c_43, main_while0b_v81]

theorem trip_writes9 : (trip_w9 : List (HloOp τ sig (Elt F))).Forall fun op => op.writes ⊆ (trip_W9.map (Proc.devRef (τ := τ) .tc)).toFinset :=
  StableHlo.forall_writes_sub_of_map rfl

abbrev trip_w10 : List (HloOp τ sig (Elt F)) :=
  [ StableHlo.binary main_while0b_v73 main_while0b_v81 main_while0b_v82 (addi : (⟨S64, .i32⟩ : BufTy).Contents (Elt F) → (⟨S64, .i32⟩ : BufTy).Contents (Elt F) → (⟨S64, .i32⟩ : BufTy).Contents (Elt F)),
    StableHlo.ternary main_while0b_v80 main_while0b_v82 main_while0b_v73 main_while0b_v83 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v78 main_while0b_v84 (broadcastInDim S64x1 ![0] bcast_S64_S64x1_0 : (⟨S64, .i32⟩ : BufTy).Contents (Elt F) → (⟨S64x1, .i32⟩ : BufTy).Contents (Elt F)),
    StableHlo.unary main_while0b_v83 main_while0b_v85 (broadcastInDim S64x1 ![0] bcast_S64_S64x1_0 : (⟨S64, .i32⟩ : BufTy).Contents (Elt F) → (⟨S64x1, .i32⟩ : BufTy).Contents (Elt F)) ]

abbrev trip_W10 : List (Ref sig .tc) := [main_while0b_v82, main_while0b_v83, main_while0b_v84, main_while0b_v85]

theorem trip_writes10 : (trip_w10 : List (HloOp τ sig (Elt F))).Forall fun op => op.writes ⊆ (trip_W10.map (Proc.devRef (τ := τ) .tc)).toFinset :=
  StableHlo.forall_writes_sub_of_map rfl

abbrev trip_w11 : List (HloOp τ sig (Elt F)) :=
  [ StableHlo.binary main_while0b_v84 main_while0b_v85 main_while0b_v86 (fn_main_while0b_v86 (F := F)),
    StableHlo.binary main_while0b_v72 main_while0b_v86 main_while0b_v87 ((fun x i => Host.gather gather_S64x50_S64x2_S64_n_01_n_n_01_1_11 x i) : (⟨S64x50, .f32⟩ : BufTy).Contents (Elt F) → (⟨S64x2, .i32⟩ : BufTy).Contents (Elt F) → (⟨S64, .f32⟩ : BufTy).Contents (Elt F)),
    StableHlo.nullary main_while0b_cst_44 (constant S_ .f32 0x1E3CE508#32),
    StableHlo.unary main_while0b_cst_44 main_while0b_v88 (broadcastInDim S64 ![] bcast_S_S64 : (⟨S_, .f32⟩ : BufTy).Contents (Elt F) → (⟨S64, .f32⟩ : BufTy).Contents (Elt F)),
    StableHlo.binary main_while0b_v87 main_while0b_v88 main_while0b_v89 (addf : (⟨S64, .f32⟩ : BufTy).Contents (Elt F) → (⟨S64, .f32⟩ : BufTy).Contents (Elt F) → (⟨S64, .f32⟩ : BufTy).Contents (Elt F)),
    StableHlo.unary main_while0b_v89 main_while0b_v90 (Host.log : (⟨S64, .f32⟩ : BufTy).Contents (Elt F) → (⟨S64, .f32⟩ : BufTy).Contents (Elt F)),
    StableHlo.nullary main_while0b_c_45 (constantI S_ 32 0#32),
    StableHlo.unary main_while0b_c_45 main_while0b_v91 (broadcastInDim S64 ![] bcast_S_S64 : (⟨S_, .i32⟩ : BufTy).Contents (Elt F) → (⟨S64, .i32⟩ : BufTy).Contents (Elt F)) ]

abbrev trip_W11 : List (Ref sig .tc) := [main_while0b_v86, main_while0b_v87, main_while0b_cst_44, main_while0b_v88, main_while0b_v89, main_while0b_v90, main_while0b_c_45, main_while0b_v91]

theorem trip_writes11 : (trip_w11 : List (HloOp τ sig (Elt F))).Forall fun op => op.writes ⊆ (trip_W11.map (Proc.devRef (τ := τ) .tc)).toFinset :=
  StableHlo.forall_writes_sub_of_map rfl

abbrev trip_w12 : List (HloOp τ sig (Elt F)) :=
  [ StableHlo.binary main_v9_6 main_while0b_v91 main_while0b_v92 (cmpi .slt : (⟨S64, .i32⟩ : BufTy).Contents (Elt F) → (⟨S64, .i32⟩ : BufTy).Contents (Elt F) → (⟨S64, .i1⟩ : BufTy).Contents (Elt F)),
    StableHlo.nullary main_while0b_c_46 (constantI S_ 32 64#32),
    StableHlo.unary main_while0b_c_46 main_while0b_v93 (broadcastInDim S64 ![] bcast_S_S64 : (⟨S_, .i32⟩ : BufTy).Contents (Elt F) → (⟨S64, .i32⟩ : BufTy).Contents (Elt F)),
    StableHlo.binary main_v9_6 main_while0b_v93 main_while0b_v94 (addi : (⟨S64, .i32⟩ : BufTy).Contents (Elt F) → (⟨S64, .i32⟩ : BufTy).Contents (Elt F) → (⟨S64, .i32⟩ : BufTy).Contents (Elt F)),
    StableHlo.ternary main_while0b_v92 main_while0b_v94 main_v9_6 main_while0b_v95 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_47 (constantI S_ 32 0#32),
    StableHlo.unary main_while0b_c_47 main_while0b_v96 (broadcastInDim S64 ![] bcast_S_S64 : (⟨S_, .i32⟩ : BufTy).Contents (Elt F) → (⟨S64, .i32⟩ : BufTy).Contents (Elt F)),
    StableHlo.binary main_while0b_v73 main_while0b_v96 main_while0b_v97 (cmpi .slt : (⟨S64, .i32⟩ : BufTy).Contents (Elt F) → (⟨S64, .i32⟩ : BufTy).Contents (Elt F) → (⟨S64, .i1⟩ : BufTy).Contents (Elt F)),
    StableHlo.nullary main_while0b_c_48 (constantI S_ 32 50#32),
    StableHlo.unary main_while0b_c_48 main_while0b_v98 (broadcastInDim S64 ![] bcast_S_S64 : (⟨S_, .i32⟩ : BufTy).Contents (Elt F) → (⟨S64, .i32⟩ : BufTy).Contents (Elt F)),
    StableHlo.binary main_while0b_v73 main_while0b_v98 main_while0b_v99 (addi : (⟨S64, .i32⟩ : BufTy).Contents (Elt F) → (⟨S64, .i32⟩ : BufTy).Contents (Elt F) → (⟨S64, .i32⟩ : BufTy).Contents (Elt F)),
    StableHlo.ternary main_while0b_v97 main_while0b_v99 main_while0b_v73 main_while0b_v100 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ]

abbrev trip_W12 : List (Ref sig .tc) := [main_while0b_v92, main_while0b_c_46, main_while0b_v93, main_while0b_v94, main_while0b_v95, main_while0b_c_47, main_while0b_v96, main_while0b_v97, main_while0b_c_48, main_while0b_v98, main_while0b_v99, main_while0b_v100]

theorem trip_writes12 : (trip_w12 : List (HloOp τ sig (Elt F))).Forall fun op => op.writes ⊆ (trip_W12.map (Proc.devRef (τ := τ) .tc)).toFinset :=
  StableHlo.forall_writes_sub_of_map rfl

abbrev trip_w13 : List (HloOp τ sig (Elt F)) :=
  [ StableHlo.unary main_while0b_v95 main_while0b_v101 (broadcastInDim S64x1 ![0] bcast_S64_S64x1_0 : (⟨S64, .i32⟩ : BufTy).Contents (Elt F) → (⟨S64x1, .i32⟩ : BufTy).Contents (Elt F)),
    StableHlo.unary main_while0b_v100 main_while0b_v102 (broadcastInDim S64x1 ![0] bcast_S64_S64x1_0 : (⟨S64, .i32⟩ : BufTy).Contents (Elt F) → (⟨S64x1, .i32⟩ : BufTy).Contents (Elt F)) ]

abbrev trip_W13 : List (Ref sig .tc) := [main_while0b_v101, main_while0b_v102]

theorem trip_writes13 : (trip_w13 : List (HloOp τ sig (Elt F))).Forall fun op => op.writes ⊆ (trip_W13.map (Proc.devRef (τ := τ) .tc)).toFinset :=
  StableHlo.forall_writes_sub_of_map rfl

abbrev trip_w14 : List (HloOp τ sig (Elt F)) :=
  [ StableHlo.binary main_while0b_v101 main_while0b_v102 main_while0b_v103 (fn_main_while0b_v103 (F := F)),
    StableHlo.nullary main_while0b_c_49 (constantI S_ 1 1#1),
    StableHlo.unary main_while0b_c_49 main_while0b_v104 (broadcastInDim S64 ![] bcast_S_S64 : (⟨S_, .i1⟩ : BufTy).Contents (Elt F) → (⟨S64, .i1⟩ : BufTy).Contents (Elt F)),
    StableHlo.ternary main_v9_10 main_while0b_v103 main_while0b_v104 main_while0b_v105 ((fun x i u => Host.scatter scatter_S64x50_S64x2_S64_n_01_01_1 (fun _ b => b) x i u) : (⟨S64x50, .i1⟩ : BufTy).Contents (Elt F) → (⟨S64x2, .i32⟩ : BufTy).Contents (Elt F) → (⟨S64, .i1⟩ : BufTy).Contents (Elt F) → (⟨S64x50, .i1⟩ : BufTy).Contents (Elt F)),
    StableHlo.nullary main_while0b_c_50 (constantI S_ 32 0#32),
    StableHlo.unary main_while0b_c_50 main_while0b_v106 (broadcastInDim S64 ![] bcast_S_S64 : (⟨S_, .i32⟩ : BufTy).Contents (Elt F) → (⟨S64, .i32⟩ : BufTy).Contents (Elt F)),
    StableHlo.binary main_v9_6 main_while0b_v106 main_while0b_v107 (cmpi .slt : (⟨S64, .i32⟩ : BufTy).Contents (Elt F) → (⟨S64, .i32⟩ : BufTy).Contents (Elt F) → (⟨S64, .i1⟩ : BufTy).Contents (Elt F)),
    StableHlo.nullary main_while0b_c_51 (constantI S_ 32 64#32),
    StableHlo.unary main_while0b_c_51 main_while0b_v108 (broadcastInDim S64 ![] bcast_S_S64 : (⟨S_, .i32⟩ : BufTy).Contents (Elt F) → (⟨S64, .i32⟩ : BufTy).Contents (Elt F)),
    StableHlo.binary main_v9_6 main_while0b_v108 main_while0b_v109 (addi : (⟨S64, .i32⟩ : BufTy).Contents (Elt F) → (⟨S64, .i32⟩ : BufTy).Contents (Elt F) → (⟨S64, .i32⟩ : BufTy).Contents (Elt F)) ]

abbrev trip_W14 : List (Ref sig .tc) := [main_while0b_v103, main_while0b_c_49, main_while0b_v104, main_while0b_v105, main_while0b_c_50, main_while0b_v106, main_while0b_v107, main_while0b_c_51, main_while0b_v108, main_while0b_v109]

theorem trip_writes14 : (trip_w14 : List (HloOp τ sig (Elt F))).Forall fun op => op.writes ⊆ (trip_W14.map (Proc.devRef (τ := τ) .tc)).toFinset :=
  StableHlo.forall_writes_sub_of_map rfl

abbrev trip_w15 : List (HloOp τ sig (Elt F)) :=
  [ StableHlo.ternary main_while0b_v107 main_while0b_v109 main_v9_6 main_while0b_v110 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_52 (constantI S_ 32 0#32),
    StableHlo.unary main_while0b_c_52 main_while0b_v111 (broadcastInDim S64 ![] bcast_S_S64 : (⟨S_, .i32⟩ : BufTy).Contents (Elt F) → (⟨S64, .i32⟩ : BufTy).Contents (Elt F)),
    StableHlo.binary main_while0b_v73 main_while0b_v111 main_while0b_v112 (cmpi .slt : (⟨S64, .i32⟩ : BufTy).Contents (Elt F) → (⟨S64, .i32⟩ : BufTy).Contents (Elt F) → (⟨S64, .i1⟩ : BufTy).Contents (Elt F)),
    StableHlo.nullary main_while0b_c_53 (constantI S_ 32 50#32),
    StableHlo.unary main_while0b_c_53 main_while0b_v113 (broadcastInDim S64 ![] bcast_S_S64 : (⟨S_, .i32⟩ : BufTy).Contents (Elt F) → (⟨S64, .i32⟩ : BufTy).Contents (Elt F)),
    StableHlo.binary main_while0b_v73 main_while0b_v113 main_while0b_v114 (addi : (⟨S64, .i32⟩ : BufTy).Contents (Elt F) → (⟨S64, .i32⟩ : BufTy).Contents (Elt F) → (⟨S64, .i32⟩ : BufTy).Contents (Elt F)),
    StableHlo.ternary main_while0b_v112 main_while0b_v114 main_while0b_v73 main_while0b_v115 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v110 main_while0b_v116 (broadcastInDim S64x1 ![0] bcast_S64_S64x1_0 : (⟨S64, .i32⟩ : BufTy).Contents (Elt F) → (⟨S64x1, .i32⟩ : BufTy).Contents (Elt F)),
    StableHlo.unary main_while0b_v115 main_while0b_v117 (broadcastInDim S64x1 ![0] bcast_S64_S64x1_0 : (⟨S64, .i32⟩ : BufTy).Contents (Elt F) → (⟨S64x1, .i32⟩ : BufTy).Contents (Elt F)) ]

abbrev trip_W15 : List (Ref sig .tc) := [main_while0b_v110, main_while0b_c_52, main_while0b_v111, main_while0b_v112, main_while0b_c_53, main_while0b_v113, main_while0b_v114, main_while0b_v115, main_while0b_v116, main_while0b_v117]

theorem trip_writes15 : (trip_w15 : List (HloOp τ sig (Elt F))).Forall fun op => op.writes ⊆ (trip_W15.map (Proc.devRef (τ := τ) .tc)).toFinset :=
  StableHlo.forall_writes_sub_of_map rfl

abbrev trip_w16 : List (HloOp τ sig (Elt F)) :=
  [ StableHlo.binary main_while0b_v116 main_while0b_v117 main_while0b_v118 (fn_main_while0b_v118 (F := F)),
    StableHlo.nullary main_while0b_c_54 (constantI S_ 1 0#1),
    StableHlo.unary main_while0b_c_54 main_while0b_v119 (broadcastInDim S64x50 ![] bcast_S_S64x50 : (⟨S_, .i1⟩ : BufTy).Contents (Elt F) → (⟨S64x50, .i1⟩ : BufTy).Contents (Elt F)),
    StableHlo.ternary main_v9_11 main_while0b_v118 main_while0b_v119 main_while0b_v120 ((fun x i u => Host.scatter scatter_S64x50x50_S64x2_S64x50_1_01_01_1 (fun _ b => b) x i u) : (⟨S64x50x50, .i1⟩ : BufTy).Contents (Elt F) → (⟨S64x2, .i32⟩ : BufTy).Contents (Elt F) → (⟨S64x50, .i1⟩ : BufTy).Contents (Elt F) → (⟨S64x50x50, .i1⟩ : BufTy).Contents (Elt F)),
    StableHlo.nullary main_while0b_c_55 (constantI S_ 32 0#32),
    StableHlo.unary main_while0b_c_55 main_while0b_v121 (broadcastInDim S64 ![] bcast_S_S64 : (⟨S_, .i32⟩ : BufTy).Contents (Elt F) → (⟨S64, .i32⟩ : BufTy).Contents (Elt F)),
    StableHlo.binary main_v9_6 main_while0b_v121 main_while0b_v122 (cmpi .slt : (⟨S64, .i32⟩ : BufTy).Contents (Elt F) → (⟨S64, .i32⟩ : BufTy).Contents (Elt F) → (⟨S64, .i1⟩ : BufTy).Contents (Elt F)),
    StableHlo.nullary main_while0b_c_56 (constantI S_ 32 64#32),
    StableHlo.unary main_while0b_c_56 main_while0b_v123 (broadcastInDim S64 ![] bcast_S_S64 : (⟨S_, .i32⟩ : BufTy).Contents (Elt F) → (⟨S64, .i32⟩ : BufTy).Contents (Elt F)),
    StableHlo.binary main_v9_6 main_while0b_v123 main_while0b_v124 (addi : (⟨S64, .i32⟩ : BufTy).Contents (Elt F) → (⟨S64, .i32⟩ : BufTy).Contents (Elt F) → (⟨S64, .i32⟩ : BufTy).Contents (Elt F)),
    StableHlo.ternary main_while0b_v122 main_while0b_v124 main_v9_6 main_while0b_v125 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_57 (constantI S_ 32 0#32) ]

abbrev trip_W16 : List (Ref sig .tc) := [main_while0b_v118, main_while0b_c_54, main_while0b_v119, main_while0b_v120, main_while0b_c_55, main_while0b_v121, main_while0b_v122, main_while0b_c_56, main_while0b_v123, main_while0b_v124, main_while0b_v125, main_while0b_c_57]

theorem trip_writes16 : (trip_w16 : List (HloOp τ sig (Elt F))).Forall fun op => op.writes ⊆ (trip_W16.map (Proc.devRef (τ := τ) .tc)).toFinset :=
  StableHlo.forall_writes_sub_of_map rfl

abbrev trip_w17 : List (HloOp τ sig (Elt F)) :=
  [ StableHlo.unary main_while0b_c_57 main_while0b_v126 (broadcastInDim S64 ![] bcast_S_S64 : (⟨S_, .i32⟩ : BufTy).Contents (Elt F) → (⟨S64, .i32⟩ : BufTy).Contents (Elt F)),
    StableHlo.binary main_while0b_v73 main_while0b_v126 main_while0b_v127 (cmpi .slt : (⟨S64, .i32⟩ : BufTy).Contents (Elt F) → (⟨S64, .i32⟩ : BufTy).Contents (Elt F) → (⟨S64, .i1⟩ : BufTy).Contents (Elt F)) ]

abbrev trip_W17 : List (Ref sig .tc) := [main_while0b_v126, main_while0b_v127]

theorem trip_writes17 : (trip_w17 : List (HloOp τ sig (Elt F))).Forall fun op => op.writes ⊆ (trip_W17.map (Proc.devRef (τ := τ) .tc)).toFinset :=
  StableHlo.forall_writes_sub_of_map rfl

abbrev trip_w18 : List (HloOp τ sig (Elt F)) :=
  [ StableHlo.nullary main_while0b_c_58 (constantI S_ 32 50#32),
    StableHlo.unary main_while0b_c_58 main_while0b_v128 (broadcastInDim S64 ![] bcast_S_S64 : (⟨S_, .i32⟩ : BufTy).Contents (Elt F) → (⟨S64, .i32⟩ : BufTy).Contents (Elt F)),
    StableHlo.binary main_while0b_v73 main_while0b_v128 main_while0b_v129 (addi : (⟨S64, .i32⟩ : BufTy).Contents (Elt F) → (⟨S64, .i32⟩ : BufTy).Contents (Elt F) → (⟨S64, .i32⟩ : BufTy).Contents (Elt F)),
    StableHlo.ternary main_while0b_v127 main_while0b_v129 main_while0b_v73 main_while0b_v130 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v125 main_while0b_v131 (broadcastInDim S64x1 ![0] bcast_S64_S64x1_0 : (⟨S64, .i32⟩ : BufTy).Contents (Elt F) → (⟨S64x1, .i32⟩ : BufTy).Contents (Elt F)),
    StableHlo.unary main_while0b_v130 main_while0b_v132 (broadcastInDim S64x1 ![0] bcast_S64_S64x1_0 : (⟨S64, .i32⟩ : BufTy).Contents (Elt F) → (⟨S64x1, .i32⟩ : BufTy).Contents (Elt F)) ]

abbrev trip_W18 : List (Ref sig .tc) := [main_while0b_c_58, main_while0b_v128, main_while0b_v129, main_while0b_v130, main_while0b_v131, main_while0b_v132]

theorem trip_writes18 : (trip_w18 : List (HloOp τ sig (Elt F))).Forall fun op => op.writes ⊆ (trip_W18.map (Proc.devRef (τ := τ) .tc)).toFinset :=
  StableHlo.forall_writes_sub_of_map rfl

abbrev trip_w19 : List (HloOp τ sig (Elt F)) :=
  [ StableHlo.binary main_while0b_v131 main_while0b_v132 main_while0b_v133 (fn_main_while0b_v133 (F := F)),
    StableHlo.nullary main_while0b_c_59 (constantI S_ 1 0#1),
    StableHlo.unary main_while0b_c_59 main_while0b_v134 (broadcastInDim S64x50 ![] bcast_S_S64x50 : (⟨S_, .i1⟩ : BufTy).Contents (Elt F) → (⟨S64x50, .i1⟩ : BufTy).Contents (Elt F)),
    StableHlo.ternary main_while0b_v120 main_while0b_v133 main_while0b_v134 main_while0b_v135 ((fun x i u => Host.scatter scatter_S64x50x50_S64x2_S64x50_1_02_02_1 (fun _ b => b) x i u) : (⟨S64x50x50, .i1⟩ : BufTy).Contents (Elt F) → (⟨S64x2, .i32⟩ : BufTy).Contents (Elt F) → (⟨S64x50, .i1⟩ : BufTy).Contents (Elt F) → (⟨S64x50x50, .i1⟩ : BufTy).Contents (Elt F)),
    StableHlo.nullary main_while0b_c_60 (constantI S_ 32 0#32),
    StableHlo.unary main_while0b_c_60 main_while0b_v136 (broadcastInDim S64 ![] bcast_S_S64 : (⟨S_, .i32⟩ : BufTy).Contents (Elt F) → (⟨S64, .i32⟩ : BufTy).Contents (Elt F)),
    StableHlo.binary main_v9_6 main_while0b_v136 main_while0b_v137 (cmpi .slt : (⟨S64, .i32⟩ : BufTy).Contents (Elt F) → (⟨S64, .i32⟩ : BufTy).Contents (Elt F) → (⟨S64, .i1⟩ : BufTy).Contents (Elt F)),
    StableHlo.nullary main_while0b_c_61 (constantI S_ 32 64#32),
    StableHlo.unary main_while0b_c_61 main_while0b_v138 (broadcastInDim S64 ![] bcast_S_S64 : (⟨S_, .i32⟩ : BufTy).Contents (Elt F) → (⟨S64, .i32⟩ : BufTy).Contents (Elt F)),
    StableHlo.binary main_v9_6 main_while0b_v138 main_while0b_v139 (addi : (⟨S64, .i32⟩ : BufTy).Contents (Elt F) → (⟨S64, .i32⟩ : BufTy).Contents (Elt F) → (⟨S64, .i32⟩ : BufTy).Contents (Elt F)),
    StableHlo.ternary main_while0b_v137 main_while0b_v139 main_v9_6 main_while0b_v140 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_62 (constantI S_ 32 0#32) ]

abbrev trip_W19 : List (Ref sig .tc) := [main_while0b_v133, main_while0b_c_59, main_while0b_v134, main_while0b_v135, main_while0b_c_60, main_while0b_v136, main_while0b_v137, main_while0b_c_61, main_while0b_v138, main_while0b_v139, main_while0b_v140, main_while0b_c_62]

theorem trip_writes19 : (trip_w19 : List (HloOp τ sig (Elt F))).Forall fun op => op.writes ⊆ (trip_W19.map (Proc.devRef (τ := τ) .tc)).toFinset :=
  StableHlo.forall_writes_sub_of_map rfl

abbrev trip_w20 : List (HloOp τ sig (Elt F)) :=
  [ StableHlo.unary main_while0b_c_62 main_while0b_v141 (broadcastInDim S64 ![] bcast_S_S64 : (⟨S_, .i32⟩ : BufTy).Contents (Elt F) → (⟨S64, .i32⟩ : BufTy).Contents (Elt F)),
    StableHlo.binary main_while0b_v73 main_while0b_v141 main_while0b_v142 (cmpi .slt : (⟨S64, .i32⟩ : BufTy).Contents (Elt F) → (⟨S64, .i32⟩ : BufTy).Contents (Elt F) → (⟨S64, .i1⟩ : BufTy).Contents (Elt F)),
    StableHlo.nullary main_while0b_c_63 (constantI S_ 32 50#32),
    StableHlo.unary main_while0b_c_63 main_while0b_v143 (broadcastInDim S64 ![] bcast_S_S64 : (⟨S_, .i32⟩ : BufTy).Contents (Elt F) → (⟨S64, .i32⟩ : BufTy).Contents (Elt F)),
    StableHlo.binary main_while0b_v73 main_while0b_v143 main_while0b_v144 (addi : (⟨S64, .i32⟩ : BufTy).Contents (Elt F) → (⟨S64, .i32⟩ : BufTy).Contents (Elt F) → (⟨S64, .i32⟩ : BufTy).Contents (Elt F)),
    StableHlo.ternary main_while0b_v142 main_while0b_v144 main_while0b_v73 main_while0b_v145 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ]

abbrev trip_W20 : List (Ref sig .tc) := [main_while0b_v141, main_while0b_v142, main_while0b_c_63, main_while0b_v143, main_while0b_v144, main_while0b_v145]

theorem trip_writes20 : (trip_w20 : List (HloOp τ sig (Elt F))).Forall fun op => op.writes ⊆ (trip_W20.map (Proc.devRef (τ := τ) .tc)).toFinset :=
  StableHlo.forall_writes_sub_of_map rfl

abbrev trip_w21 : List (HloOp τ sig (Elt F)) :=
  [ StableHlo.nullary main_while0b_c_64 (constantI S_ 32 0#32),
    StableHlo.unary main_while0b_c_64 main_while0b_v146 (broadcastInDim S64 ![] bcast_S_S64 : (⟨S_, .i32⟩ : BufTy).Contents (Elt F) → (⟨S64, .i32⟩ : BufTy).Contents (Elt F)),
    StableHlo.binary main_while0b_v73 main_while0b_v146 main_while0b_v147 (cmpi .slt : (⟨S64, .i32⟩ : BufTy).Contents (Elt F) → (⟨S64, .i32⟩ : BufTy).Contents (Elt F) → (⟨S64, .i1⟩ : BufTy).Contents (Elt F)),
    StableHlo.nullary main_while0b_c_65 (constantI S_ 32 50#32),
    StableHlo.unary main_while0b_c_65 main_while0b_v148 (broadcastInDim S64 ![] bcast_S_S64 : (⟨S_, .i32⟩ : BufTy).Contents (Elt F) → (⟨S64, .i32⟩ : BufTy).Contents (Elt F)),
    StableHlo.binary main_while0b_v73 main_while0b_v148 main_while0b_v149 (addi : (⟨S64, .i32⟩ : BufTy).Contents (Elt F) → (⟨S64, .i32⟩ : BufTy).Contents (Elt F) → (⟨S64, .i32⟩ : BufTy).Contents (Elt F)),
    StableHlo.ternary main_while0b_v147 main_while0b_v149 main_while0b_v73 main_while0b_v150 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v140 main_while0b_v151 (broadcastInDim S64x1 ![0] bcast_S64_S64x1_0 : (⟨S64, .i32⟩ : BufTy).Contents (Elt F) → (⟨S64x1, .i32⟩ : BufTy).Contents (Elt F)),
    StableHlo.unary main_while0b_v145 main_while0b_v152 (broadcastInDim S64x1 ![0] bcast_S64_S64x1_0 : (⟨S64, .i32⟩ : BufTy).Contents (Elt F) → (⟨S64x1, .i32⟩ : BufTy).Contents (Elt F)),
    StableHlo.unary main_while0b_v150 main_while0b_v153 (broadcastInDim S64x1 ![0] bcast_S64_S64x1_0 : (⟨S64, .i32⟩ : BufTy).Contents (Elt F) → (⟨S64x1, .i32⟩ : BufTy).Contents (Elt F)) ]

abbrev trip_W21 : List (Ref sig .tc) := [main_while0b_c_64, main_while0b_v146, main_while0b_v147, main_while0b_c_65, main_while0b_v148, main_while0b_v149, main_while0b_v150, main_while0b_v151, main_while0b_v152, main_while0b_v153]

theorem trip_writes21 : (trip_w21 : List (HloOp τ sig (Elt F))).Forall fun op => op.writes ⊆ (trip_W21.map (Proc.devRef (τ := τ) .tc)).toFinset :=
  StableHlo.forall_writes_sub_of_map rfl

abbrev trip_w22 : List (HloOp τ sig (Elt F)) :=
  [ StableHlo.nary ![main_while0b_v151, main_while0b_v152, main_while0b_v153] main_while0b_v154 (fun u => fn_main_while0b_v154 (F := F) (u 0) (u 1) (u 2)) ]

abbrev trip_W22 : List (Ref sig .tc) := [main_while0b_v154]

theorem trip_writes22 : (trip_w22 : List (HloOp τ sig (Elt F))).Forall fun op => op.writes ⊆ (trip_W22.map (Proc.devRef (τ := τ) .tc)).toFinset :=
  StableHlo.forall_writes_sub_of_map rfl

abbrev trip_w23 : List (HloOp τ sig (Elt F)) :=
  [ StableHlo.nullary main_while0b_c_66 (constantI S_ 1 1#1),
    StableHlo.unary main_while0b_c_66 main_while0b_v155 (broadcastInDim S64 ![] bcast_S_S64 : (⟨S_, .i1⟩ : BufTy).Contents (Elt F) → (⟨S64, .i1⟩ : BufTy).Contents (Elt F)),
    StableHlo.ternary main_while0b_v135 main_while0b_v154 main_while0b_v155 main_while0b_v156 ((fun x i u => Host.scatter scatter_S64x50x50_S64x3_S64_n_012_012_1 (fun _ b => b) x i u) : (⟨S64x50x50, .i1⟩ : BufTy).Contents (Elt F) → (⟨S64x3, .i32⟩ : BufTy).Contents (Elt F) → (⟨S64, .i1⟩ : BufTy).Contents (Elt F) → (⟨S64x50x50, .i1⟩ : BufTy).Contents (Elt F)),
    StableHlo.nullary main_while0b_c_67 (constantI S_ 32 0#32),
    StableHlo.unary main_while0b_c_67 main_while0b_v157 (broadcastInDim S64 ![] bcast_S_S64 : (⟨S_, .i32⟩ : BufTy).Contents (Elt F) → (⟨S64, .i32⟩ : BufTy).Contents (Elt F)),
    StableHlo.binary main_v9_6 main_while0b_v157 main_while0b_v158 (cmpi .slt : (⟨S64, .i32⟩ : BufTy).Contents (Elt F) → (⟨S64, .i32⟩ : BufTy).Contents (Elt F) → (⟨S64, .i1⟩ : BufTy).Contents (Elt F)),
    StableHlo.nullary main_while0b_c_68 (constantI S_ 32 64#32),
    StableHlo.unary main_while0b_c_68 main_while0b_v159 (broadcastInDim S64 ![] bcast_S_S64 : (⟨S_, .i32⟩ : BufTy).Contents (Elt F) → (⟨S64, .i32⟩ : BufTy).Contents (Elt F)),
    StableHlo.binary main_v9_6 main_while0b_v159 main_while0b_v160 (addi : (⟨S64, .i32⟩ : BufTy).Contents (Elt F) → (⟨S64, .i32⟩ : BufTy).Contents (Elt F) → (⟨S64, .i32⟩ : BufTy).Contents (Elt F)),
    StableHlo.ternary main_while0b_v158 main_while0b_v160 main_v9_6 main_while0b_v161 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_69 (constantI S_ 32 0#32),
    StableHlo.unary main_while0b_c_69 main_while0b_v162 (broadcastInDim S64 ![] bcast_S_S64 : (⟨S_, .i32⟩ : BufTy).Contents (Elt F) → (⟨S64, .i32⟩ : BufTy).Contents (Elt F)) ]

abbrev trip_W23 : List (Ref sig .tc) := [main_while0b_c_66, main_while0b_v155, main_while0b_v156, main_while0b_c_67, main_while0b_v157, main_while0b_v158, main_while0b_c_68, main_while0b_v159, main_while0b_v160, main_while0b_v161, main_while0b_c_69, main_while0b_v162]

theorem trip_writes23 : (trip_w23 : List (HloOp τ sig (Elt F))).Forall fun op => op.writes ⊆ (trip_W23.map (Proc.devRef (τ := τ) .tc)).toFinset :=
  StableHlo.forall_writes_sub_of_map rfl

abbrev trip_w24 : List (HloOp τ sig (Elt F)) :=
  [ StableHlo.binary main_while0b_v73 main_while0b_v162 main_while0b_v163 (cmpi .slt : (⟨S64, .i32⟩ : BufTy).Contents (Elt F) → (⟨S64, .i32⟩ : BufTy).Contents (Elt F) → (⟨S64, .i1⟩ : BufTy).Contents (Elt F)) ]

abbrev trip_W24 : List (Ref sig .tc) := [main_while0b_v163]

theorem trip_writes24 : (trip_w24 : List (HloOp τ sig (Elt F))).Forall fun op => op.writes ⊆ (trip_W24.map (Proc.devRef (τ := τ) .tc)).toFinset :=
  StableHlo.forall_writes_sub_of_map rfl

abbrev trip_w25 : List (HloOp τ sig (Elt F)) :=
  [ StableHlo.nullary main_while0b_c_70 (constantI S_ 32 50#32),
    StableHlo.unary main_while0b_c_70 main_while0b_v164 (broadcastInDim S64 ![] bcast_S_S64 : (⟨S_, .i32⟩ : BufTy).Contents (Elt F) → (⟨S64, .i32⟩ : BufTy).Contents (Elt F)),
    StableHlo.binary main_while0b_v73 main_while0b_v164 main_while0b_v165 (addi : (⟨S64, .i32⟩ : BufTy).Contents (Elt F) → (⟨S64, .i32⟩ : BufTy).Contents (Elt F) → (⟨S64, .i32⟩ : BufTy).Contents (Elt F)),
    StableHlo.ternary main_while0b_v163 main_while0b_v165 main_while0b_v73 main_while0b_v166 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v161 main_while0b_v167 (broadcastInDim S64x1 ![0] bcast_S64_S64x1_0 : (⟨S64, .i32⟩ : BufTy).Contents (Elt F) → (⟨S64x1, .i32⟩ : BufTy).Contents (Elt F)),
    StableHlo.unary main_while0b_v166 main_while0b_v168 (broadcastInDim S64x1 ![0] bcast_S64_S64x1_0 : (⟨S64, .i32⟩ : BufTy).Contents (Elt F) → (⟨S64x1, .i32⟩ : BufTy).Contents (Elt F)) ]

abbrev trip_W25 : List (Ref sig .tc) := [main_while0b_c_70, main_while0b_v164, main_while0b_v165, main_while0b_v166, main_while0b_v167, main_while0b_v168]

theorem trip_writes25 : (trip_w25 : List (HloOp τ sig (Elt F))).Forall fun op => op.writes ⊆ (trip_W25.map (Proc.devRef (τ := τ) .tc)).toFinset :=
  StableHlo.forall_writes_sub_of_map rfl

abbrev trip_w26 : List (HloOp τ sig (Elt F)) :=
  [ StableHlo.binary main_while0b_v167 main_while0b_v168 main_while0b_v169 (fn_main_while0b_v169 (F := F)),
    StableHlo.binary main_while0b_v46 main_while0b_v169 main_while0b_v170 ((fun x i => Host.gather gather_S64x50x128_S64x2_S64x128_1_01_n_n_01_1_11128 x i) : (⟨S64x50x128, .f32⟩ : BufTy).Contents (Elt F) → (⟨S64x2, .i32⟩ : BufTy).Contents (Elt F) → (⟨S64x128, .f32⟩ : BufTy).Contents (Elt F)),
    StableHlo.reshape main_while0b_v170 main_while0b_v171 (rfl : (.f32 : EltTy) = .f32) shapeCasts_S64x128_S64x1x128,
    StableHlo.unary main_v9_9 main_while0b_v172 ((extractStridedSlice S64x50x1 ![0, 0, 15] · slices_S64x50x16_S64x50x1_0_0_15) : (⟨S64x50x16, .f32⟩ : BufTy).Contents (Elt F) → (⟨S64x50x1, .f32⟩ : BufTy).Contents (Elt F)),
    StableHlo.reshape main_while0b_v172 main_while0b_v173 (rfl : (.f32 : EltTy) = .f32) shapeCasts_S64x50x1_S64x50,
    StableHlo.nullary main_while0b_cst_71 (constant S_ .f32 0x00000000#32),
    StableHlo.unary main_while0b_cst_71 main_while0b_v174 (broadcastInDim S64x50 ![] bcast_S_S64x50 : (⟨S_, .f32⟩ : BufTy).Contents (Elt F) → (⟨S64x50, .f32⟩ : BufTy).Contents (Elt F)),
    StableHlo.binary main_while0b_v173 main_while0b_v174 main_while0b_v175 (cmpf .une : (⟨S64x50, .f32⟩ : BufTy).Contents (Elt F) → (⟨S64x50, .f32⟩ : BufTy).Contents (Elt F) → (⟨S64x50, .i1⟩ : BufTy).Contents (Elt F)),
    StableHlo.unary main_while0b_v175 main_while0b_v176 (id : (⟨S64x50, .i1⟩ : BufTy).Contents (Elt F) → (⟨S64x50, .i1⟩ : BufTy).Contents (Elt F)),
    StableHlo.unary main_while0b_v176 main_while0b_v177 (noti : (⟨S64x50, .i1⟩ : BufTy).Contents (Elt F) → (⟨S64x50, .i1⟩ : BufTy).Contents (Elt F)),
    StableHlo.reshape main_while0b_v177 main_while0b_v178 (rfl : (.i1 : EltTy) = .i1) shapeCasts_S64x50_S64x1x50,
    StableHlo.reshape main_while0b_v171 main_while0b_v179 (rfl : (.f32 : EltTy) = .f32) shapeCasts_S64x1x128_S64x128 ]

abbrev trip_W26 : List (Ref sig .tc) := [main_while0b_v169, main_while0b_v170, main_while0b_v171, main_while0b_v172, main_while0b_v173, main_while0b_cst_71, main_while0b_v174, main_while0b_v175, main_while0b_v176, main_while0b_v177, main_while0b_v178, main_while0b_v179]

theorem trip_writes26 : (trip_w26 : List (HloOp τ sig (Elt F))).Forall fun op => op.writes ⊆ (trip_W26.map (Proc.devRef (τ := τ) .tc)).toFinset :=
  StableHlo.forall_writes_sub_of_map rfl

abbrev trip_w27 : List (HloOp τ sig (Elt F)) :=
  [ StableHlo.binary main_while0b_v179 main_v9_7 main_while0b_v180 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.binary main_while0b_v51 main_while0b_v180 main_while0b_v181 ((fun l r => Host.dotGeneral dot_S64x50x128_S64x128_S64x50_2_1_1_n_0_0 none l r) : (⟨S64x50x128, .f32⟩ : BufTy).Contents (Elt F) → (⟨S64x128, .f32⟩ : BufTy).Contents (Elt F) → (⟨S64x50, .f32⟩ : BufTy).Contents (Elt F)),
    StableHlo.nullary main_while0b_cst_72 (constant S_ .f32 0x43000000#32),
    StableHlo.unary main_while0b_cst_72 main_while0b_v182 (Host.sqrt : (⟨S_, .f32⟩ : BufTy).Contents (Elt F) → (⟨S_, .f32⟩ : BufTy).Contents (Elt F)),
    StableHlo.unary main_while0b_v182 main_while0b_v183 (id : (⟨S_, .f32⟩ : BufTy).Contents (Elt F) → (⟨S_, .f32⟩ : BufTy).Contents (Elt F)),
    StableHlo.unary main_while0b_v183 main_while0b_v184 (broadcastInDim S64x50 ![] bcast_S_S64x50 : (⟨S_, .f32⟩ : BufTy).Contents (Elt F) → (⟨S64x50, .f32⟩ : BufTy).Contents (Elt F)) ]

abbrev trip_W27 : List (Ref sig .tc) := [main_while0b_v180, main_while0b_v181, main_while0b_cst_72, main_while0b_v182, main_while0b_v183, main_while0b_v184]

theorem trip_writes27 : (trip_w27 : List (HloOp τ sig (Elt F))).Forall fun op => op.writes ⊆ (trip_W27.map (Proc.devRef (τ := τ) .tc)).toFinset :=
  StableHlo.forall_writes_sub_of_map rfl

abbrev trip_w28 : List (HloOp τ sig (Elt F)) :=
  [ StableHlo.binary main_while0b_v181 main_while0b_v184 main_while0b_v185 (Host.divf : (⟨S64x50, .f32⟩ : BufTy).Contents (Elt F) → (⟨S64x50, .f32⟩ : BufTy).Contents (Elt F) → (⟨S64x50, .f32⟩ : BufTy).Contents (Elt F)),
    StableHlo.reshape main_while0b_v178 main_while0b_v186 (rfl : (.i1 : EltTy) = .i1) shapeCasts_S64x1x50_S64x50,
    StableHlo.nullary main_while0b_cst_73 (constant S_ .f32 0xCE6E6B28#32) ]

abbrev trip_W28 : List (Ref sig .tc) := [main_while0b_v185, main_while0b_v186, main_while0b_cst_73]

theorem trip_writes28 : (trip_w28 : List (HloOp τ sig (Elt F))).Forall fun op => op.writes ⊆ (trip_W28.map (Proc.devRef (τ := τ) .tc)).toFinset :=
  StableHlo.forall_writes_sub_of_map rfl

abbrev trip_w29 : List (HloOp τ sig (Elt F)) :=
  [ StableHlo.TRef.unary (.of main_while0b_cst_73 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S64x50, .f32⟩) (broadcastInDim S64x50 ![] bcast_S_S64x50),
    StableHlo.TRef.ternary (.of main_while0b_v186 : StableHlo.TRef sig ⟨S64x50, .i1⟩) (.of main_while0b_v185 : StableHlo.TRef sig ⟨S64x50, .f32⟩) (.of main_while0b_call3_v1 : StableHlo.TRef sig ⟨S64x50, .f32⟩) (.of main_while0b_v187 : StableHlo.TRef sig ⟨S64x50, .f32⟩) select ]

abbrev trip_W29 : List (Ref sig .tc) := [main_while0b_call3_v0, main_while0b_call3_v1, main_while0b_v187]

theorem trip_writes29 : (trip_w29 : List (HloOp τ sig (Elt F))).Forall fun op => op.writes ⊆ (trip_W29.map (Proc.devRef (τ := τ) .tc)).toFinset :=
  StableHlo.forall_writes_sub_of_map rfl

abbrev trip_w30 : List (HloOp τ sig (Elt F)) :=
  [ StableHlo.nullary main_while0b_cst_74 (constant S_ .f32 0xFF800000#32),
    StableHlo.binary main_while0b_v187 main_while0b_cst_74 main_while0b_v188 ((fun x v => Host.reduce FloatOps.maximumf x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.nullary main_while0b_cst_75 (constant S_ .f32 0xFF800000#32),
    StableHlo.unary main_while0b_cst_75 main_while0b_v189 (broadcastInDim S64 ![] bcast_S_S64 : (⟨S_, .f32⟩ : BufTy).Contents (Elt F) → (⟨S64, .f32⟩ : BufTy).Contents (Elt F)),
    StableHlo.binary main_while0b_v189 main_while0b_v188 main_while0b_v190 (maximumf : (⟨S64, .f32⟩ : BufTy).Contents (Elt F) → (⟨S64, .f32⟩ : BufTy).Contents (Elt F) → (⟨S64, .f32⟩ : BufTy).Contents (Elt F)),
    StableHlo.unary main_while0b_v190 main_while0b_v191 (broadcastInDim S64x1 ![0] bcast_S64_S64x1_0 : (⟨S64, .f32⟩ : BufTy).Contents (Elt F) → (⟨S64x1, .f32⟩ : BufTy).Contents (Elt F)),
    StableHlo.unary main_while0b_v191 main_while0b_v192 (broadcastInDim S64x50 ![0, 1] bcast_S64x1_S64x50_0_1 : (⟨S64x1, .f32⟩ : BufTy).Contents (Elt F) → (⟨S64x50, .f32⟩ : BufTy).Contents (Elt F)),
    StableHlo.binary main_while0b_v187 main_while0b_v192 main_while0b_v193 (subf : (⟨S64x50, .f32⟩ : BufTy).Contents (Elt F) → (⟨S64x50, .f32⟩ : BufTy).Contents (Elt F) → (⟨S64x50, .f32⟩ : BufTy).Contents (Elt F)),
    StableHlo.unary main_while0b_v193 main_while0b_v194 (Host.exp : (⟨S64x50, .f32⟩ : BufTy).Contents (Elt F) → (⟨S64x50, .f32⟩ : BufTy).Contents (Elt F)),
    StableHlo.nullary main_while0b_cst_76 (constant S_ .f32 0x00000000#32),
    StableHlo.binary main_while0b_v194 main_while0b_cst_76 main_while0b_v195 ((fun x v => Host.reduceAdd x v reducesTo_S64x50_S64_d1 h_S_) : (⟨S64x50, .f32⟩ : BufTy).Contents (Elt F) → (⟨S_, .f32⟩ : BufTy).Contents (Elt F) → (⟨S64, .f32⟩ : BufTy).Contents (Elt F)),
    StableHlo.unary main_while0b_v195 main_while0b_v196 (broadcastInDim S64x1 ![0] bcast_S64_S64x1_0 : (⟨S64, .f32⟩ : BufTy).Contents (Elt F) → (⟨S64x1, .f32⟩ : BufTy).Contents (Elt F)) ]

abbrev trip_W30 : List (Ref sig .tc) := [main_while0b_cst_74, main_while0b_v188, main_while0b_cst_75, main_while0b_v189, main_while0b_v190, main_while0b_v191, main_while0b_v192, main_while0b_v193, main_while0b_v194, main_while0b_cst_76, main_while0b_v195, main_while0b_v196]

theorem trip_writes30 : (trip_w30 : List (HloOp τ sig (Elt F))).Forall fun op => op.writes ⊆ (trip_W30.map (Proc.devRef (τ := τ) .tc)).toFinset :=
  StableHlo.forall_writes_sub_of_map rfl

abbrev trip_w31 : List (HloOp τ sig (Elt F)) :=
  [ StableHlo.unary main_while0b_v196 main_while0b_v197 (broadcastInDim S64x50 ![0, 1] bcast_S64x1_S64x50_0_1 : (⟨S64x1, .f32⟩ : BufTy).Contents (Elt F) → (⟨S64x50, .f32⟩ : BufTy).Contents (Elt F)),
    StableHlo.binary main_while0b_v194 main_while0b_v197 main_while0b_v198 (Host.divf : (⟨S64x50, .f32⟩ : BufTy).Contents (Elt F) → (⟨S64x50, .f32⟩ : BufTy).Contents (Elt F) → (⟨S64x50, .f32⟩ : BufTy).Contents (Elt F)) ]

abbrev trip_W31 : List (Ref sig .tc) := [main_while0b_v197, main_while0b_v198]

theorem trip_writes31 : (trip_w31 : List (HloOp τ sig (Elt F))).Forall fun op => op.writes ⊆ (trip_W31.map (Proc.devRef (τ := τ) .tc)).toFinset :=
  StableHlo.forall_writes_sub_of_map rfl

abbrev trip_w32 : List (HloOp τ sig (Elt F)) :=
  [ StableHlo.TRef.nullary (.of main_while0b_call4_v0 : StableHlo.TRef sig ⟨S64x50, .i32⟩) (iotaInDim S64x50 32 1),
    StableHlo.TRef.nullary (.of main_while0b_call4_cst : StableHlo.TRef sig ⟨S_, .f32⟩) (constant S_ .f32 0xFF800000#32),
    StableHlo.TRef.nullary (.of main_while0b_call4_c : StableHlo.TRef sig ⟨S_, .i32⟩) (constantI S_ 32 0#32),
    StableHlo.TRef.quaternary (.of main_while0b_v198 : StableHlo.TRef sig ⟨S64x50, .f32⟩) (.of main_while0b_call4_v0 : StableHlo.TRef sig ⟨S64x50, .i32⟩) (.of main_while0b_call4_cst : StableHlo.TRef sig ⟨S_, .f32⟩) (.of main_while0b_call4_c : StableHlo.TRef sig ⟨S_, .i32⟩) (.of main_while0b_call4_v1_0 : StableHlo.TRef sig ⟨S64, .f32⟩) (fun x y u v j => (Host.argReduce reducer_argmax_f32_i32 x y u v reducesTo_S64x50_S64_d1 h_S_ j).1),
    StableHlo.TRef.quaternary (.of main_while0b_v198 : StableHlo.TRef sig ⟨S64x50, .f32⟩) (.of main_while0b_call4_v0 : StableHlo.TRef sig ⟨S64x50, .i32⟩) (.of main_while0b_call4_cst : StableHlo.TRef sig ⟨S_, .f32⟩) (.of main_while0b_call4_c : StableHlo.TRef sig ⟨S_, .i32⟩) (.of main_while0b_v199 : StableHlo.TRef sig ⟨S64, .i32⟩) (fun x y u v j => (Host.argReduce reducer_argmax_f32_i32 x y u v reducesTo_S64x50_S64_d1 h_S_ j).2) ]

abbrev trip_W32 : List (Ref sig .tc) := [main_while0b_call4_v0, main_while0b_call4_cst, main_while0b_call4_c, main_while0b_call4_v1_0, main_while0b_v199]

theorem trip_writes32 : (trip_w32 : List (HloOp τ sig (Elt F))).Forall fun op => op.writes ⊆ (trip_W32.map (Proc.devRef (τ := τ) .tc)).toFinset :=
  StableHlo.forall_writes_sub_of_map rfl

abbrev trip_w33 : List (HloOp τ sig (Elt F)) :=
  [ StableHlo.nullary main_while0b_c_77 (constantI S_ 32 0#32),
    StableHlo.unary main_while0b_c_77 main_while0b_v200 (broadcastInDim S64 ![] bcast_S_S64 : (⟨S_, .i32⟩ : BufTy).Contents (Elt F) → (⟨S64, .i32⟩ : BufTy).Contents (Elt F)),
    StableHlo.binary main_v9_6 main_while0b_v200 main_while0b_v201 (cmpi .slt : (⟨S64, .i32⟩ : BufTy).Contents (Elt F) → (⟨S64, .i32⟩ : BufTy).Contents (Elt F) → (⟨S64, .i1⟩ : BufTy).Contents (Elt F)),
    StableHlo.nullary main_while0b_c_78 (constantI S_ 32 64#32),
    StableHlo.unary main_while0b_c_78 main_while0b_v202 (broadcastInDim S64 ![] bcast_S_S64 : (⟨S_, .i32⟩ : BufTy).Contents (Elt F) → (⟨S64, .i32⟩ : BufTy).Contents (Elt F)),
    StableHlo.binary main_v9_6 main_while0b_v202 main_while0b_v203 (addi : (⟨S64, .i32⟩ : BufTy).Contents (Elt F) → (⟨S64, .i32⟩ : BufTy).Contents (Elt F) → (⟨S64, .i32⟩ : BufTy).Contents (Elt F)),
    StableHlo.ternary main_while0b_v201 main_while0b_v203 main_v9_6 main_while0b_v204 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_79 (constantI S_ 32 0#32),
    StableHlo.unary main_while0b_c_79 main_while0b_v205 (broadcastInDim S64 ![] bcast_S_S64 : (⟨S_, .i32⟩ : BufTy).Contents (Elt F) → (⟨S64, .i32⟩ : BufTy).Contents (Elt F)),
    StableHlo.binary main_while0b_v199 main_while0b_v205 main_while0b_v206 (cmpi .slt : (⟨S64, .i32⟩ : BufTy).Contents (Elt F) → (⟨S64, .i32⟩ : BufTy).Contents (Elt F) → (⟨S64, .i1⟩ : BufTy).Contents (Elt F)),
    StableHlo.nullary main_while0b_c_80 (constantI S_ 32 50#32),
    StableHlo.unary main_while0b_c_80 main_while0b_v207 (broadcastInDim S64 ![] bcast_S_S64 : (⟨S_, .i32⟩ : BufTy).Contents (Elt F) → (⟨S64, .i32⟩ : BufTy).Contents (Elt F)) ]

abbrev trip_W33 : List (Ref sig .tc) := [main_while0b_c_77, main_while0b_v200, main_while0b_v201, main_while0b_c_78, main_while0b_v202, main_while0b_v203, main_while0b_v204, main_while0b_c_79, main_while0b_v205, main_while0b_v206, main_while0b_c_80, main_while0b_v207]

theorem trip_writes33 : (trip_w33 : List (HloOp τ sig (Elt F))).Forall fun op => op.writes ⊆ (trip_W33.map (Proc.devRef (τ := τ) .tc)).toFinset :=
  StableHlo.forall_writes_sub_of_map rfl

abbrev trip_w34 : List (HloOp τ sig (Elt F)) :=
  [ StableHlo.binary main_while0b_v199 main_while0b_v207 main_while0b_v208 (addi : (⟨S64, .i32⟩ : BufTy).Contents (Elt F) → (⟨S64, .i32⟩ : BufTy).Contents (Elt F) → (⟨S64, .i32⟩ : BufTy).Contents (Elt F)),
    StableHlo.ternary main_while0b_v206 main_while0b_v208 main_while0b_v199 main_while0b_v209 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v204 main_while0b_v210 (broadcastInDim S64x1 ![0] bcast_S64_S64x1_0 : (⟨S64, .i32⟩ : BufTy).Contents (Elt F) → (⟨S64x1, .i32⟩ : BufTy).Contents (Elt F)),
    StableHlo.unary main_while0b_v209 main_while0b_v211 (broadcastInDim S64x1 ![0] bcast_S64_S64x1_0 : (⟨S64, .i32⟩ : BufTy).Contents (Elt F) → (⟨S64x1, .i32⟩ : BufTy).Contents (Elt F)) ]

abbrev trip_W34 : List (Ref sig .tc) := [main_while0b_v208, main_while0b_v209, main_while0b_v210, main_while0b_v211]

theorem trip_writes34 : (trip_w34 : List (HloOp τ sig (Elt F))).Forall fun op => op.writes ⊆ (trip_W34.map (Proc.devRef (τ := τ) .tc)).toFinset :=
  StableHlo.forall_writes_sub_of_map rfl

abbrev trip_w35 : List (HloOp τ sig (Elt F)) :=
  [ StableHlo.binary main_while0b_v210 main_while0b_v211 main_while0b_v212 (fn_main_while0b_v212 (F := F)),
    StableHlo.binary main_while0b_v198 main_while0b_v212 main_while0b_v213 ((fun x i => Host.gather gather_S64x50_S64x2_S64_n_01_n_n_01_1_11 x i) : (⟨S64x50, .f32⟩ : BufTy).Contents (Elt F) → (⟨S64x2, .i32⟩ : BufTy).Contents (Elt F) → (⟨S64, .f32⟩ : BufTy).Contents (Elt F)),
    StableHlo.nullary main_while0b_cst_81 (constant S_ .f32 0x1E3CE508#32),
    StableHlo.unary main_while0b_cst_81 main_while0b_v214 (broadcastInDim S64 ![] bcast_S_S64 : (⟨S_, .f32⟩ : BufTy).Contents (Elt F) → (⟨S64, .f32⟩ : BufTy).Contents (Elt F)),
    StableHlo.binary main_while0b_v213 main_while0b_v214 main_while0b_v215 (addf : (⟨S64, .f32⟩ : BufTy).Contents (Elt F) → (⟨S64, .f32⟩ : BufTy).Contents (Elt F) → (⟨S64, .f32⟩ : BufTy).Contents (Elt F)),
    StableHlo.unary main_while0b_v215 main_while0b_v216 (Host.log : (⟨S64, .f32⟩ : BufTy).Contents (Elt F) → (⟨S64, .f32⟩ : BufTy).Contents (Elt F)),
    StableHlo.nullary main_while0b_c_82 (constantI S_ 32 0#32),
    StableHlo.unary main_while0b_c_82 main_while0b_v217 (broadcastInDim S64 ![] bcast_S_S64 : (⟨S_, .i32⟩ : BufTy).Contents (Elt F) → (⟨S64, .i32⟩ : BufTy).Contents (Elt F)) ]

abbrev trip_W35 : List (Ref sig .tc) := [main_while0b_v212, main_while0b_v213, main_while0b_cst_81, main_while0b_v214, main_while0b_v215, main_while0b_v216, main_while0b_c_82, main_while0b_v217]

theorem trip_writes35 : (trip_w35 : List (HloOp τ sig (Elt F))).Forall fun op => op.writes ⊆ (trip_W35.map (Proc.devRef (τ := τ) .tc)).toFinset :=
  StableHlo.forall_writes_sub_of_map rfl

abbrev trip_w36 : List (HloOp τ sig (Elt F)) :=
  [ StableHlo.binary main_v9_6 main_while0b_v217 main_while0b_v218 (cmpi .slt : (⟨S64, .i32⟩ : BufTy).Contents (Elt F) → (⟨S64, .i32⟩ : BufTy).Contents (Elt F) → (⟨S64, .i1⟩ : BufTy).Contents (Elt F)),
    StableHlo.nullary main_while0b_c_83 (constantI S_ 32 64#32),
    StableHlo.unary main_while0b_c_83 main_while0b_v219 (broadcastInDim S64 ![] bcast_S_S64 : (⟨S_, .i32⟩ : BufTy).Contents (Elt F) → (⟨S64, .i32⟩ : BufTy).Contents (Elt F)),
    StableHlo.binary main_v9_6 main_while0b_v219 main_while0b_v220 (addi : (⟨S64, .i32⟩ : BufTy).Contents (Elt F) → (⟨S64, .i32⟩ : BufTy).Contents (Elt F) → (⟨S64, .i32⟩ : BufTy).Contents (Elt F)),
    StableHlo.ternary main_while0b_v218 main_while0b_v220 main_v9_6 main_while0b_v221 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_84 (constantI S_ 32 0#32),
    StableHlo.unary main_while0b_c_84 main_while0b_v222 (broadcastInDim S64 ![] bcast_S_S64 : (⟨S_, .i32⟩ : BufTy).Contents (Elt F) → (⟨S64, .i32⟩ : BufTy).Contents (Elt F)),
    StableHlo.binary main_while0b_v199 main_while0b_v222 main_while0b_v223 (cmpi .slt : (⟨S64, .i32⟩ : BufTy).Contents (Elt F) → (⟨S64, .i32⟩ : BufTy).Contents (Elt F) → (⟨S64, .i1⟩ : BufTy).Contents (Elt F)),
    StableHlo.nullary main_while0b_c_85 (constantI S_ 32 50#32),
    StableHlo.unary main_while0b_c_85 main_while0b_v224 (broadcastInDim S64 ![] bcast_S_S64 : (⟨S_, .i32⟩ : BufTy).Contents (Elt F) → (⟨S64, .i32⟩ : BufTy).Contents (Elt F)),
    StableHlo.binary main_while0b_v199 main_while0b_v224 main_while0b_v225 (addi : (⟨S64, .i32⟩ : BufTy).Contents (Elt F) → (⟨S64, .i32⟩ : BufTy).Contents (Elt F) → (⟨S64, .i32⟩ : BufTy).Contents (Elt F)),
    StableHlo.ternary main_while0b_v223 main_while0b_v225 main_while0b_v199 main_while0b_v226 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ]

abbrev trip_W36 : List (Ref sig .tc) := [main_while0b_v218, main_while0b_c_83, main_while0b_v219, main_while0b_v220, main_while0b_v221, main_while0b_c_84, main_while0b_v222, main_while0b_v223, main_while0b_c_85, main_while0b_v224, main_while0b_v225, main_while0b_v226]

theorem trip_writes36 : (trip_w36 : List (HloOp τ sig (Elt F))).Forall fun op => op.writes ⊆ (trip_W36.map (Proc.devRef (τ := τ) .tc)).toFinset :=
  StableHlo.forall_writes_sub_of_map rfl

abbrev trip_w37 : List (HloOp τ sig (Elt F)) :=
  [ StableHlo.nullary main_while0b_c_86 (constantI S_ 32 15#32),
    StableHlo.unary main_while0b_c_86 main_while0b_v227 (broadcastInDim S64 ![] bcast_S_S64 : (⟨S_, .i32⟩ : BufTy).Contents (Elt F) → (⟨S64, .i32⟩ : BufTy).Contents (Elt F)),
    StableHlo.unary main_while0b_v227 main_while0b_v228 (id : (⟨S64, .i32⟩ : BufTy).Contents (Elt F) → (⟨S64, .i32⟩ : BufTy).Contents (Elt F)),
    StableHlo.unary main_while0b_v221 main_while0b_v229 (broadcastInDim S64x1 ![0] bcast_S64_S64x1_0 : (⟨S64, .i32⟩ : BufTy).Contents (Elt F) → (⟨S64x1, .i32⟩ : BufTy).Contents (Elt F)),
    StableHlo.unary main_while0b_v226 main_while0b_v230 (broadcastInDim S64x1 ![0] bcast_S64_S64x1_0 : (⟨S64, .i32⟩ : BufTy).Contents (Elt F) → (⟨S64x1, .i32⟩ : BufTy).Contents (Elt F)),
    StableHlo.unary main_while0b_v228 main_while0b_v231 (broadcastInDim S64x1 ![0] bcast_S64_S64x1_0 : (⟨S64, .i32⟩ : BufTy).Contents (Elt F) → (⟨S64x1, .i32⟩ : BufTy).Contents (Elt F)) ]

abbrev trip_W37 : List (Ref sig .tc) := [main_while0b_c_86, main_while0b_v227, main_while0b_v228, main_while0b_v229, main_while0b_v230, main_while0b_v231]

theorem trip_writes37 : (trip_w37 : List (HloOp τ sig (Elt F))).Forall fun op => op.writes ⊆ (trip_W37.map (Proc.devRef (τ := τ) .tc)).toFinset :=
  StableHlo.forall_writes_sub_of_map rfl

abbrev trip_w38 : List (HloOp τ sig (Elt F)) :=
  [ StableHlo.nary ![main_while0b_v229, main_while0b_v230, main_while0b_v231] main_while0b_v232 (fun u => fn_main_while0b_v232 (F := F) (u 0) (u 1) (u 2)) ]

abbrev trip_W38 : List (Ref sig .tc) := [main_while0b_v232]

theorem trip_writes38 : (trip_w38 : List (HloOp τ sig (Elt F))).Forall fun op => op.writes ⊆ (trip_W38.map (Proc.devRef (τ := τ) .tc)).toFinset :=
  StableHlo.forall_writes_sub_of_map rfl

abbrev trip_w39 : List (HloOp τ sig (Elt F)) :=
  [ StableHlo.binary main_v9_9 main_while0b_v232 main_while0b_v233 ((fun x i => Host.gather gather_S64x50x16_S64x3_S64_n_012_n_n_012_1_111 x i) : (⟨S64x50x16, .f32⟩ : BufTy).Contents (Elt F) → (⟨S64x3, .i32⟩ : BufTy).Contents (Elt F) → (⟨S64, .f32⟩ : BufTy).Contents (Elt F)),
    StableHlo.nullary main_while0b_cst_87 (constant S_ .f32 0x3F000000#32),
    StableHlo.unary main_while0b_cst_87 main_while0b_v234 (broadcastInDim S64 ![] bcast_S_S64 : (⟨S_, .f32⟩ : BufTy).Contents (Elt F) → (⟨S64, .f32⟩ : BufTy).Contents (Elt F)),
    StableHlo.binary main_while0b_v233 main_while0b_v234 main_while0b_v235 (cmpf .ogt : (⟨S64, .f32⟩ : BufTy).Contents (Elt F) → (⟨S64, .f32⟩ : BufTy).Contents (Elt F) → (⟨S64, .i1⟩ : BufTy).Contents (Elt F)),
    StableHlo.nullary main_while0b_c_88 (constantI S_ 32 0#32) ]

abbrev trip_W39 : List (Ref sig .tc) := [main_while0b_v233, main_while0b_cst_87, main_while0b_v234, main_while0b_v235, main_while0b_c_88]

theorem trip_writes39 : (trip_w39 : List (HloOp τ sig (Elt F))).Forall fun op => op.writes ⊆ (trip_W39.map (Proc.devRef (τ := τ) .tc)).toFinset :=
  StableHlo.forall_writes_sub_of_map rfl

abbrev trip_w40 : List (HloOp τ sig (Elt F)) :=
  [ StableHlo.unary main_while0b_c_88 main_while0b_v236 (broadcastInDim S64 ![] bcast_S_S64 : (⟨S_, .i32⟩ : BufTy).Contents (Elt F) → (⟨S64, .i32⟩ : BufTy).Contents (Elt F)),
    StableHlo.binary main_v9_6 main_while0b_v236 main_while0b_v237 (cmpi .slt : (⟨S64, .i32⟩ : BufTy).Contents (Elt F) → (⟨S64, .i32⟩ : BufTy).Contents (Elt F) → (⟨S64, .i1⟩ : BufTy).Contents (Elt F)),
    StableHlo.nullary main_while0b_c_89 (constantI S_ 32 64#32),
    StableHlo.unary main_while0b_c_89 main_while0b_v238 (broadcastInDim S64 ![] bcast_S_S64 : (⟨S_, .i32⟩ : BufTy).Contents (Elt F) → (⟨S64, .i32⟩ : BufTy).Contents (Elt F)),
    StableHlo.binary main_v9_6 main_while0b_v238 main_while0b_v239 (addi : (⟨S64, .i32⟩ : BufTy).Contents (Elt F) → (⟨S64, .i32⟩ : BufTy).Contents (Elt F) → (⟨S64, .i32⟩ : BufTy).Contents (Elt F)),
    StableHlo.ternary main_while0b_v237 main_while0b_v239 main_v9_6 main_while0b_v240 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_90 (constantI S_ 32 0#32),
    StableHlo.unary main_while0b_c_90 main_while0b_v241 (broadcastInDim S64 ![] bcast_S_S64 : (⟨S_, .i32⟩ : BufTy).Contents (Elt F) → (⟨S64, .i32⟩ : BufTy).Contents (Elt F)),
    StableHlo.binary main_while0b_v73 main_while0b_v241 main_while0b_v242 (cmpi .slt : (⟨S64, .i32⟩ : BufTy).Contents (Elt F) → (⟨S64, .i32⟩ : BufTy).Contents (Elt F) → (⟨S64, .i1⟩ : BufTy).Contents (Elt F)),
    StableHlo.nullary main_while0b_c_91 (constantI S_ 32 50#32),
    StableHlo.unary main_while0b_c_91 main_while0b_v243 (broadcastInDim S64 ![] bcast_S_S64 : (⟨S_, .i32⟩ : BufTy).Contents (Elt F) → (⟨S64, .i32⟩ : BufTy).Contents (Elt F)),
    StableHlo.binary main_while0b_v73 main_while0b_v243 main_while0b_v244 (addi : (⟨S64, .i32⟩ : BufTy).Contents (Elt F) → (⟨S64, .i32⟩ : BufTy).Contents (Elt F) → (⟨S64, .i32⟩ : BufTy).Contents (Elt F)) ]

abbrev trip_W40 : List (Ref sig .tc) := [main_while0b_v236, main_while0b_v237, main_while0b_c_89, main_while0b_v238, main_while0b_v239, main_while0b_v240, main_while0b_c_90, main_while0b_v241, main_while0b_v242, main_while0b_c_91, main_while0b_v243, main_while0b_v244]

theorem trip_writes40 : (trip_w40 : List (HloOp τ sig (Elt F))).Forall fun op => op.writes ⊆ (trip_W40.map (Proc.devRef (τ := τ) .tc)).toFinset :=
  StableHlo.forall_writes_sub_of_map rfl

abbrev trip_w41 : List (HloOp τ sig (Elt F)) :=
  [ StableHlo.ternary main_while0b_v242 main_while0b_v244 main_while0b_v73 main_while0b_v245 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_while0b_v240 main_while0b_v246 (broadcastInDim S64x1 ![0] bcast_S64_S64x1_0 : (⟨S64, .i32⟩ : BufTy).Contents (Elt F) → (⟨S64x1, .i32⟩ : BufTy).Contents (Elt F)),
    StableHlo.unary main_while0b_v245 main_while0b_v247 (broadcastInDim S64x1 ![0] bcast_S64_S64x1_0 : (⟨S64, .i32⟩ : BufTy).Contents (Elt F) → (⟨S64x1, .i32⟩ : BufTy).Contents (Elt F)),
    StableHlo.nullary main_while0b_c_92 (constantI S_ 32 0#32),
    StableHlo.unary main_while0b_c_92 main_while0b_v248 (broadcastInDim S64x1 ![] bcast_S_S64x1 : (⟨S_, .i32⟩ : BufTy).Contents (Elt F) → (⟨S64x1, .i32⟩ : BufTy).Contents (Elt F)) ]

abbrev trip_W41 : List (Ref sig .tc) := [main_while0b_v245, main_while0b_v246, main_while0b_v247, main_while0b_c_92, main_while0b_v248]

theorem trip_writes41 : (trip_w41 : List (HloOp τ sig (Elt F))).Forall fun op => op.writes ⊆ (trip_W41.map (Proc.devRef (τ := τ) .tc)).toFinset :=
  StableHlo.forall_writes_sub_of_map rfl

abbrev trip_w42 : List (HloOp τ sig (Elt F)) :=
  [ StableHlo.nary ![main_while0b_v246, main_while0b_v247, main_while0b_v248] main_while0b_v249 (fun u => fn_main_while0b_v249 (F := F) (u 0) (u 1) (u 2)) ]

abbrev trip_W42 : List (Ref sig .tc) := [main_while0b_v249]

theorem trip_writes42 : (trip_w42 : List (HloOp τ sig (Elt F))).Forall fun op => op.writes ⊆ (trip_W42.map (Proc.devRef (τ := τ) .tc)).toFinset :=
  StableHlo.forall_writes_sub_of_map rfl

abbrev trip_w43 : List (HloOp τ sig (Elt F)) :=
  [ StableHlo.binary main_v9_0 main_while0b_v249 main_while0b_v250 ((fun x i => Host.gather gather_S64x50x16_S64x3_S64x15_1_01_n_n_012_1_1115 x i) : (⟨S64x50x16, .f32⟩ : BufTy).Contents (Elt F) → (⟨S64x3, .i32⟩ : BufTy).Contents (Elt F) → (⟨S64x15, .f32⟩ : BufTy).Contents (Elt F)),
    StableHlo.nullary main_while0b_cst_93 (constant S_ .f32 0x3F800000#32),
    StableHlo.unary main_while0b_cst_93 main_while0b_v251 (broadcastInDim S64x1 ![] bcast_S_S64x1 : (⟨S_, .f32⟩ : BufTy).Contents (Elt F) → (⟨S64x1, .f32⟩ : BufTy).Contents (Elt F)) ]

abbrev trip_W43 : List (Ref sig .tc) := [main_while0b_v250, main_while0b_cst_93, main_while0b_v251]

theorem trip_writes43 : (trip_w43 : List (HloOp τ sig (Elt F))).Forall fun op => op.writes ⊆ (trip_W43.map (Proc.devRef (τ := τ) .tc)).toFinset :=
  StableHlo.forall_writes_sub_of_map rfl

abbrev trip_w44 : List (HloOp τ sig (Elt F)) :=
  [ StableHlo.binary main_while0b_v250 main_while0b_v251 main_while0b_v252 (fn_main_while0b_v252 (F := F)),
    StableHlo.nullary main_while0b_c_94 (constantI S_ 32 0#32),
    StableHlo.unary main_while0b_c_94 main_while0b_v253 (broadcastInDim S64 ![] bcast_S_S64 : (⟨S_, .i32⟩ : BufTy).Contents (Elt F) → (⟨S64, .i32⟩ : BufTy).Contents (Elt F)) ]

abbrev trip_W44 : List (Ref sig .tc) := [main_while0b_v252, main_while0b_c_94, main_while0b_v253]

theorem trip_writes44 : (trip_w44 : List (HloOp τ sig (Elt F))).Forall fun op => op.writes ⊆ (trip_W44.map (Proc.devRef (τ := τ) .tc)).toFinset :=
  StableHlo.forall_writes_sub_of_map rfl

abbrev trip_w45 : List (HloOp τ sig (Elt F)) :=
  [ StableHlo.binary main_v9_6 main_while0b_v253 main_while0b_v254 (cmpi .slt : (⟨S64, .i32⟩ : BufTy).Contents (Elt F) → (⟨S64, .i32⟩ : BufTy).Contents (Elt F) → (⟨S64, .i1⟩ : BufTy).Contents (Elt F)),
    StableHlo.nullary main_while0b_c_95 (constantI S_ 32 64#32),
    StableHlo.unary main_while0b_c_95 main_while0b_v255 (broadcastInDim S64 ![] bcast_S_S64 : (⟨S_, .i32⟩ : BufTy).Contents (Elt F) → (⟨S64, .i32⟩ : BufTy).Contents (Elt F)),
    StableHlo.binary main_v9_6 main_while0b_v255 main_while0b_v256 (addi : (⟨S64, .i32⟩ : BufTy).Contents (Elt F) → (⟨S64, .i32⟩ : BufTy).Contents (Elt F) → (⟨S64, .i32⟩ : BufTy).Contents (Elt F)),
    StableHlo.ternary main_while0b_v254 main_while0b_v256 main_v9_6 main_while0b_v257 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_while0b_c_96 (constantI S_ 32 0#32),
    StableHlo.unary main_while0b_c_96 main_while0b_v258 (broadcastInDim S64 ![] bcast_S_S64 : (⟨S_, .i32⟩ : BufTy).Contents (Elt F) → (⟨S64, .i32⟩ : BufTy).Contents (Elt F)),
    StableHlo.binary main_while0b_v199 main_while0b_v258 main_while0b_v259 (cmpi .slt : (⟨S64, .i32⟩ : BufTy).Contents (Elt F) → (⟨S64, .i32⟩ : BufTy).Contents (Elt F) → (⟨S64, .i1⟩ : BufTy).Contents (Elt F)),
    StableHlo.nullary main_while0b_c_97 (constantI S_ 32 50#32),
    StableHlo.unary main_while0b_c_97 main_while0b_v260 (broadcastInDim S64 ![] bcast_S_S64 : (⟨S_, .i32⟩ : BufTy).Contents (Elt F) → (⟨S64, .i32⟩ : BufTy).Contents (Elt F)),
    StableHlo.binary main_while0b_v199 main_while0b_v260 main_while0b_v261 (addi : (⟨S64, .i32⟩ : BufTy).Contents (Elt F) → (⟨S64, .i32⟩ : BufTy).Contents (Elt F) → (⟨S64, .i32⟩ : BufTy).Contents (Elt F)),
    StableHlo.ternary main_while0b_v259 main_while0b_v261 main_while0b_v199 main_while0b_v262 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ]

abbrev trip_W45 : List (Ref sig .tc) := [main_while0b_v254, main_while0b_c_95, main_while0b_v255, main_while0b_v256, main_while0b_v257, main_while0b_c_96, main_while0b_v258, main_while0b_v259, main_while0b_c_97, main_while0b_v260, main_while0b_v261, main_while0b_v262]

theorem trip_writes45 : (trip_w45 : List (HloOp τ sig (Elt F))).Forall fun op => op.writes ⊆ (trip_W45.map (Proc.devRef (τ := τ) .tc)).toFinset :=
  StableHlo.forall_writes_sub_of_map rfl

abbrev trip_w46 : List (HloOp τ sig (Elt F)) :=
  [ StableHlo.unary main_while0b_v257 main_while0b_v263 (broadcastInDim S64x1 ![0] bcast_S64_S64x1_0 : (⟨S64, .i32⟩ : BufTy).Contents (Elt F) → (⟨S64x1, .i32⟩ : BufTy).Contents (Elt F)),
    StableHlo.unary main_while0b_v262 main_while0b_v264 (broadcastInDim S64x1 ![0] bcast_S64_S64x1_0 : (⟨S64, .i32⟩ : BufTy).Contents (Elt F) → (⟨S64x1, .i32⟩ : BufTy).Contents (Elt F)) ]

abbrev trip_W46 : List (Ref sig .tc) := [main_while0b_v263, main_while0b_v264]

theorem trip_writes46 : (trip_w46 : List (HloOp τ sig (Elt F))).Forall fun op => op.writes ⊆ (trip_W46.map (Proc.devRef (τ := τ) .tc)).toFinset :=
  StableHlo.forall_writes_sub_of_map rfl

abbrev trip_w47 : List (HloOp τ sig (Elt F)) :=
  [ StableHlo.binary main_while0b_v263 main_while0b_v264 main_while0b_v265 (fn_main_while0b_v265 (F := F)),
    StableHlo.ternary main_v9_9 main_while0b_v265 main_while0b_v252 main_while0b_v266 ((fun x i u => Host.scatter scatter_S64x50x16_S64x2_S64x16_1_01_01_1 (fun _ b => b) x i u) : (⟨S64x50x16, .f32⟩ : BufTy).Contents (Elt F) → (⟨S64x2, .i32⟩ : BufTy).Contents (Elt F) → (⟨S64x16, .f32⟩ : BufTy).Contents (Elt F) → (⟨S64x50x16, .f32⟩ : BufTy).Contents (Elt F)),
    StableHlo.unary main_while0b_v235 main_while0b_v267 (noti : (⟨S64, .i1⟩ : BufTy).Contents (Elt F) → (⟨S64, .i1⟩ : BufTy).Contents (Elt F)),
    StableHlo.unary main_while0b_v267 main_while0b_v268 ((extui 32 · natLt_1_32) : (⟨S64, .i1⟩ : BufTy).Contents (Elt F) → (⟨S64, .i32⟩ : BufTy).Contents (Elt F)),
    StableHlo.unary main_while0b_v268 main_while0b_v269 (sitofp .f32 : (⟨S64, .i32⟩ : BufTy).Contents (Elt F) → (⟨S64, .f32⟩ : BufTy).Contents (Elt F)),
    StableHlo.nullary main_while0b_cst_98 (constant S_ .f32 0x3F800000#32),
    StableHlo.unary main_while0b_cst_98 main_while0b_v270 (broadcastInDim S64 ![] bcast_S_S64 : (⟨S_, .f32⟩ : BufTy).Contents (Elt F) → (⟨S64, .f32⟩ : BufTy).Contents (Elt F)),
    StableHlo.binary main_while0b_v269 main_while0b_v270 main_while0b_v271 (subf : (⟨S64, .f32⟩ : BufTy).Contents (Elt F) → (⟨S64, .f32⟩ : BufTy).Contents (Elt F) → (⟨S64, .f32⟩ : BufTy).Contents (Elt F)),
    StableHlo.unary main_while0b_v73 main_while0b_v272 (broadcastInDim S64x1 ![0] bcast_S64_S64x1_0 : (⟨S64, .i32⟩ : BufTy).Contents (Elt F) → (⟨S64x1, .i32⟩ : BufTy).Contents (Elt F)),
    StableHlo.unary main_while0b_v199 main_while0b_v273 (broadcastInDim S64x1 ![0] bcast_S64_S64x1_0 : (⟨S64, .i32⟩ : BufTy).Contents (Elt F) → (⟨S64x1, .i32⟩ : BufTy).Contents (Elt F)) ]

abbrev trip_W47 : List (Ref sig .tc) := [main_while0b_v265, main_while0b_v266, main_while0b_v267, main_while0b_v268, main_while0b_v269, main_while0b_cst_98, main_while0b_v270, main_while0b_v271, main_while0b_v272, main_while0b_v273]

theorem trip_writes47 : (trip_w47 : List (HloOp τ sig (Elt F))).Forall fun op => op.writes ⊆ (trip_W47.map (Proc.devRef (τ := τ) .tc)).toFinset :=
  StableHlo.forall_writes_sub_of_map rfl

abbrev trip_w48 : List (HloOp τ sig (Elt F)) :=
  [ StableHlo.binary main_while0b_v272 main_while0b_v273 main_while0b_v274 (fn_main_while0b_v274 (F := F)) ]

abbrev trip_W48 : List (Ref sig .tc) := [main_while0b_v274]

theorem trip_writes48 : (trip_w48 : List (HloOp τ sig (Elt F))).Forall fun op => op.writes ⊆ (trip_W48.map (Proc.devRef (τ := τ) .tc)).toFinset :=
  StableHlo.forall_writes_sub_of_map rfl

abbrev trip_w49 : List (HloOp τ sig (Elt F)) :=
  [ StableHlo.TRef.unary (.of main_while0b_v72 : StableHlo.TRef sig ⟨S64x50, .f32⟩) (.of main_while0b_call5_v0 : StableHlo.TRef sig ⟨S1x64x50, .f32⟩) (broadcastInDim S1x64x50 ![1, 2] bcast_S64x50_S1x64x50_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v9_12 : StableHlo.TRef sig ⟨S50x64x50, .f32⟩) (.of main_while0b_call5_v0 : StableHlo.TRef sig ⟨S1x64x50, .f32⟩) ![(.of main_v9_8 : StableHlo.TRef sig ⟨S_, .i32⟩), (.of main_while0b_call5_c : StableHlo.TRef sig ⟨S_, .i32⟩), (.of main_while0b_call5_c_0 : StableHlo.TRef sig ⟨S_, .i32⟩)] (.of main_while0b_v275 : StableHlo.TRef sig ⟨S50x64x50, .f32⟩) (fun x u i => Host.dynamicUpdateSlice x u (fun k => (i k (Shape.Idx.first h_S_)).toInt) updateFits_S50x64x50_S1x64x50) ]

abbrev trip_W49 : List (Ref sig .tc) := [main_while0b_call5_v0, main_while0b_call5_c, main_while0b_call5_c_0, main_while0b_v275]

theorem trip_writes49 : (trip_w49 : List (HloOp τ sig (Elt F))).Forall fun op => op.writes ⊆ (trip_W49.map (Proc.devRef (τ := τ) .tc)).toFinset :=
  StableHlo.forall_writes_sub_of_map rfl

abbrev trip_w50 : List (HloOp τ sig (Elt F)) :=
  [ StableHlo.TRef.unary (.of main_while0b_v198 : StableHlo.TRef sig ⟨S64x50, .f32⟩) (.of main_while0b_call6_v0 : StableHlo.TRef sig ⟨S1x64x50, .f32⟩) (broadcastInDim S1x64x50 ![1, 2] bcast_S64x50_S1x64x50_1_2),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.binaryIndexed (.of main_v9_13 : StableHlo.TRef sig ⟨S50x64x50, .f32⟩) (.of main_while0b_call6_v0 : StableHlo.TRef sig ⟨S1x64x50, .f32⟩) ![(.of main_v9_8 : StableHlo.TRef sig ⟨S_, .i32⟩), (.of main_while0b_call6_c : StableHlo.TRef sig ⟨S_, .i32⟩), (.of main_while0b_call6_c_0 : StableHlo.TRef sig ⟨S_, .i32⟩)] (.of main_while0b_v276 : StableHlo.TRef sig ⟨S50x64x50, .f32⟩) (fun x u i => Host.dynamicUpdateSlice x u (fun k => (i k (Shape.Idx.first h_S_)).toInt) updateFits_S50x64x50_S1x64x50) ]

abbrev trip_W50 : List (Ref sig .tc) := [main_while0b_call6_v0, main_while0b_call6_c, main_while0b_call6_c_0, main_while0b_v276]

theorem trip_writes50 : (trip_w50 : List (HloOp τ sig (Elt F))).Forall fun op => op.writes ⊆ (trip_W50.map (Proc.devRef (τ := τ) .tc)).toFinset :=
  StableHlo.forall_writes_sub_of_map rfl

abbrev trip_w51 : List (HloOp τ sig (Elt F)) :=
  [ StableHlo.TRef.unary (.of main_while0b_v90 : StableHlo.TRef sig ⟨S64, .f32⟩) (.of main_while0b_call7_v0 : StableHlo.TRef sig ⟨S1x64, .f32⟩) (broadcastInDim S1x64 ![1] bcast_S64_S1x64_1),
    StableHlo.TRef.nullary (.of main_while0b_call7_c : StableHlo.TRef sig ⟨S_, .i32⟩) (constantI S_ 32 0#32),
    StableHlo.TRef.binaryIndexed (.of main_v9_14 : StableHlo.TRef sig ⟨S50x64, .f32⟩) (.of main_while0b_call7_v0 : StableHlo.TRef sig ⟨S1x64, .f32⟩) ![(.of main_v9_8 : StableHlo.TRef sig ⟨S_, .i32⟩), (.of main_while0b_call7_c : StableHlo.TRef sig ⟨S_, .i32⟩)] (.of main_while0b_v277 : StableHlo.TRef sig ⟨S50x64, .f32⟩) (fun x u i => Host.dynamicUpdateSlice x u (fun k => (i k (Shape.Idx.first h_S_)).toInt) updateFits_S50x64_S1x64) ]

abbrev trip_W51 : List (Ref sig .tc) := [main_while0b_call7_v0, main_while0b_call7_c, main_while0b_v277]

theorem trip_writes51 : (trip_w51 : List (HloOp τ sig (Elt F))).Forall fun op => op.writes ⊆ (trip_W51.map (Proc.devRef (τ := τ) .tc)).toFinset :=
  StableHlo.forall_writes_sub_of_map rfl

abbrev trip_w52 : List (HloOp τ sig (Elt F)) :=
  [ StableHlo.TRef.unary (.of main_while0b_v216 : StableHlo.TRef sig ⟨S64, .f32⟩) (.of main_while0b_call8_v0 : StableHlo.TRef sig ⟨S1x64, .f32⟩) (broadcastInDim S1x64 ![1] bcast_S64_S1x64_1),
    StableHlo.TRef.nullary (.of main_while0b_call8_c : StableHlo.TRef sig ⟨S_, .i32⟩) (constantI S_ 32 0#32),
    StableHlo.TRef.binaryIndexed (.of main_v9_15 : StableHlo.TRef sig ⟨S50x64, .f32⟩) (.of main_while0b_call8_v0 : StableHlo.TRef sig ⟨S1x64, .f32⟩) ![(.of main_v9_8 : StableHlo.TRef sig ⟨S_, .i32⟩), (.of main_while0b_call8_c : StableHlo.TRef sig ⟨S_, .i32⟩)] (.of main_while0b_v278 : StableHlo.TRef sig ⟨S50x64, .f32⟩) (fun x u i => Host.dynamicUpdateSlice x u (fun k => (i k (Shape.Idx.first h_S_)).toInt) updateFits_S50x64_S1x64) ]

abbrev trip_W52 : List (Ref sig .tc) := [main_while0b_call8_v0, main_while0b_call8_c, main_while0b_v278]

theorem trip_writes52 : (trip_w52 : List (HloOp τ sig (Elt F))).Forall fun op => op.writes ⊆ (trip_W52.map (Proc.devRef (τ := τ) .tc)).toFinset :=
  StableHlo.forall_writes_sub_of_map rfl

abbrev trip_w53 : List (HloOp τ sig (Elt F)) :=
  [ StableHlo.TRef.unary (.of main_while0b_v274 : StableHlo.TRef sig ⟨S64x2, .i32⟩) (.of main_while0b_call9_v0 : StableHlo.TRef sig ⟨S1x64x2, .i32⟩) (broadcastInDim S1x64x2 ![1, 2] bcast_S64x2_S1x64x2_1_2),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.binaryIndexed (.of main_v9_16 : StableHlo.TRef sig ⟨S50x64x2, .i32⟩) (.of main_while0b_call9_v0 : StableHlo.TRef sig ⟨S1x64x2, .i32⟩) ![(.of main_v9_8 : StableHlo.TRef sig ⟨S_, .i32⟩), (.of main_while0b_call9_c : StableHlo.TRef sig ⟨S_, .i32⟩), (.of main_while0b_call9_c_0 : StableHlo.TRef sig ⟨S_, .i32⟩)] (.of main_while0b_v279 : StableHlo.TRef sig ⟨S50x64x2, .i32⟩) (fun x u i => Host.dynamicUpdateSlice x u (fun k => (i k (Shape.Idx.first h_S_)).toInt) updateFits_S50x64x2_S1x64x2) ]

abbrev trip_W53 : List (Ref sig .tc) := [main_while0b_call9_v0, main_while0b_call9_c, main_while0b_call9_c_0, main_while0b_v279]

theorem trip_writes53 : (trip_w53 : List (HloOp τ sig (Elt F))).Forall fun op => op.writes ⊆ (trip_W53.map (Proc.devRef (τ := τ) .tc)).toFinset :=
  StableHlo.forall_writes_sub_of_map rfl

abbrev trip_w54 : List (HloOp τ sig (Elt F)) :=
  [ StableHlo.TRef.unary (.of main_while0b_v271 : StableHlo.TRef sig ⟨S64, .f32⟩) (.of main_while0b_call10_v0 : StableHlo.TRef sig ⟨S1x64, .f32⟩) (broadcastInDim S1x64 ![1] bcast_S64_S1x64_1),
    StableHlo.TRef.nullary (.of main_while0b_call10_c : StableHlo.TRef sig ⟨S_, .i32⟩) (constantI S_ 32 0#32),
    StableHlo.TRef.binaryIndexed (.of main_v9_17 : StableHlo.TRef sig ⟨S50x64, .f32⟩) (.of main_while0b_call10_v0 : StableHlo.TRef sig ⟨S1x64, .f32⟩) ![(.of main_v9_8 : StableHlo.TRef sig ⟨S_, .i32⟩), (.of main_while0b_call10_c : StableHlo.TRef sig ⟨S_, .i32⟩)] (.of main_while0b_v280 : StableHlo.TRef sig ⟨S50x64, .f32⟩) (fun x u i => Host.dynamicUpdateSlice x u (fun k => (i k (Shape.Idx.first h_S_)).toInt) updateFits_S50x64_S1x64) ]

abbrev trip_W54 : List (Ref sig .tc) := [main_while0b_call10_v0, main_while0b_call10_c, main_while0b_v280]

theorem trip_writes54 : (trip_w54 : List (HloOp τ sig (Elt F))).Forall fun op => op.writes ⊆ (trip_W54.map (Proc.devRef (τ := τ) .tc)).toFinset :=
  StableHlo.forall_writes_sub_of_map rfl

/-- The windows, in order. -/
def wins : List (List (HloOp τ sig (Elt F))) := [trip_w0, trip_w1, trip_w2, trip_w3, trip_w4, trip_w5, trip_w6, trip_w7, trip_w8, trip_w9, trip_w10, trip_w11, trip_w12, trip_w13, trip_w14, trip_w15, trip_w16, trip_w17, trip_w18, trip_w19, trip_w20, trip_w21, trip_w22, trip_w23, trip_w24, trip_w25, trip_w26, trip_w27, trip_w28, trip_w29, trip_w30, trip_w31, trip_w32, trip_w33, trip_w34, trip_w35, trip_w36, trip_w37, trip_w38, trip_w39, trip_w40, trip_w41, trip_w42, trip_w43, trip_w44, trip_w45, trip_w46, trip_w47, trip_w48, trip_w49, trip_w50, trip_w51, trip_w52, trip_w53, trip_w54]

/-- The buffers that each window writes. -/
def winW : List (List (Ref sig .tc)) := [trip_W0, trip_W1, trip_W2, trip_W3, trip_W4, trip_W5, trip_W6, trip_W7, trip_W8, trip_W9, trip_W10, trip_W11, trip_W12, trip_W13, trip_W14, trip_W15, trip_W16, trip_W17, trip_W18, trip_W19, trip_W20, trip_W21, trip_W22, trip_W23, trip_W24, trip_W25, trip_W26, trip_W27, trip_W28, trip_W29, trip_W30, trip_W31, trip_W32, trip_W33, trip_W34, trip_W35, trip_W36, trip_W37, trip_W38, trip_W39, trip_W40, trip_W41, trip_W42, trip_W43, trip_W44, trip_W45, trip_W46, trip_W47, trip_W48, trip_W49, trip_W50, trip_W51, trip_W52, trip_W53, trip_W54]

/-- The valuation after the first `i` windows. -/
def val (V : Valuation τ sig (Elt F)) : ℕ → Valuation τ sig (Elt F)
  | 0 => V
  | i + 1 => after (wins.getD i []) (val V i)

theorem writes_all : ∀ i : ℕ, ((wins (F := F)).getD i []).Forall fun op => op.writes ⊆ ((winW.getD i []).map (Proc.devRef (τ := τ) .tc)).toFinset
  | 0 => trip_writes0
  | 1 => trip_writes1
  | 2 => trip_writes2
  | 3 => trip_writes3
  | 4 => trip_writes4
  | 5 => trip_writes5
  | 6 => trip_writes6
  | 7 => trip_writes7
  | 8 => trip_writes8
  | 9 => trip_writes9
  | 10 => trip_writes10
  | 11 => trip_writes11
  | 12 => trip_writes12
  | 13 => trip_writes13
  | 14 => trip_writes14
  | 15 => trip_writes15
  | 16 => trip_writes16
  | 17 => trip_writes17
  | 18 => trip_writes18
  | 19 => trip_writes19
  | 20 => trip_writes20
  | 21 => trip_writes21
  | 22 => trip_writes22
  | 23 => trip_writes23
  | 24 => trip_writes24
  | 25 => trip_writes25
  | 26 => trip_writes26
  | 27 => trip_writes27
  | 28 => trip_writes28
  | 29 => trip_writes29
  | 30 => trip_writes30
  | 31 => trip_writes31
  | 32 => trip_writes32
  | 33 => trip_writes33
  | 34 => trip_writes34
  | 35 => trip_writes35
  | 36 => trip_writes36
  | 37 => trip_writes37
  | 38 => trip_writes38
  | 39 => trip_writes39
  | 40 => trip_writes40
  | 41 => trip_writes41
  | 42 => trip_writes42
  | 43 => trip_writes43
  | 44 => trip_writes44
  | 45 => trip_writes45
  | 46 => trip_writes46
  | 47 => trip_writes47
  | 48 => trip_writes48
  | 49 => trip_writes49
  | 50 => trip_writes50
  | 51 => trip_writes51
  | 52 => trip_writes52
  | 53 => trip_writes53
  | 54 => trip_writes54
  | i + 55 => trivial

/-- A buffer that none of `n` windows writes keeps its contents through them. -/
theorem kept (V : Valuation τ sig (Elt F)) (w : ℕ) (r : Ref sig .tc) : ∀ n : ℕ, (∀ i < n, r ∉ winW.getD (w + i) []) →
    val V (w + n) (Proc.devRef .tc r) = val V w (Proc.devRef .tc r)
  | 0, _ => rfl
  | n + 1, h => (after_of_writes_sub _ _ (writes_all (w + n)) (h n (Nat.lt_succ_self n))).trans
      (kept V w r n fun i hi => h i (Nat.lt_succ_of_lt hi))

/-- The windows are the body's operations, its last stretch aside. -/
theorem wins_flatten : ([while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16] : List (List (HloOp τ sig (Elt F)))).flatten = (wins (F := F)).flatten := rfl

theorem val_eq (V : Valuation τ sig (Elt F)) : val V 55 = afterL wins V := rfl

/-- One trip: the windows, and then the copies that hand the carried values on. -/
theorem body_eq (V : Valuation τ sig (Elt F)) : afterL bodyI V = after while0Ops0_17 (val V 55) := by
  rw [val_eq, afterL_eq_after_flatten wins, ← wins_flatten, ← afterL_eq_after_flatten]
  rfl

end Cert.Proof.RefRun

end
-- ==== Proof.RefValues.lean ====
/- What every buffer of the reference's loop body holds, window by window: the values of `RefStep`. -/
module

public import proofs.«01_k».proof.Proof.RefWindows
public import proofs.«01_k».proof.Proof.RefStep

@[expose] public section

set_option maxRecDepth 16384

noncomputable section

namespace Cert.Proof.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic Idealize.ShloMosaic.TcCoe Idealize.ShloMosaic.Tactic
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

open Cert.Proof.RefStep (State b0)

/-- The valuation holds the state `s` before trip `j`. -/
structure Holds (V0 : Valuation τ sig (Elt F)) (s : State F) (j : ℕ) : Prop where
  f_9 : V0 (Proc.devRef .tc main_v9_9) = s.main_v9_9
  f_10 : V0 (Proc.devRef .tc main_v9_10) = s.main_v9_10
  f_11 : V0 (Proc.devRef .tc main_v9_11) = s.main_v9_11
  f_12 : V0 (Proc.devRef .tc main_v9_12) = s.main_v9_12
  f_13 : V0 (Proc.devRef .tc main_v9_13) = s.main_v9_13
  f_14 : V0 (Proc.devRef .tc main_v9_14) = s.main_v9_14
  f_15 : V0 (Proc.devRef .tc main_v9_15) = s.main_v9_15
  f_16 : V0 (Proc.devRef .tc main_v9_16) = s.main_v9_16
  f_17 : V0 (Proc.devRef .tc main_v9_17) = s.main_v9_17
  f_0 : V0 (Proc.devRef .tc main_v9_0) = s.main_v9_0
  f_1 : V0 (Proc.devRef .tc main_v9_1) = s.main_v9_1
  f_2 : V0 (Proc.devRef .tc main_v9_2) = s.main_v9_2
  f_3 : V0 (Proc.devRef .tc main_v9_3) = s.main_v9_3
  f_4 : V0 (Proc.devRef .tc main_v9_4) = s.main_v9_4
  f_5 : V0 (Proc.devRef .tc main_v9_5) = s.main_v9_5
  f_7 : V0 (Proc.devRef .tc main_v9_7) = s.main_v9_7
  n_8 : V0 (Proc.devRef .tc main_v9_8) = constantI S_ 32 (BitVec.ofNat 32 j)
  k_6 : V0 (Proc.devRef .tc main_v9_6) = Cert.Proof.RefStep.K_main_v0 (F := F)

variable {V : Valuation τ sig (Elt F)} {s : State F} {j : ℕ}

theorem val_v26 (h : Holds V s j) : val V 1 (no_index (Proc.devRef .tc main_while0b_v26)) = Cert.Proof.RefStep.b1 j s := by
  have r0 : val V 0 (no_index (Proc.devRef .tc main_v9_0)) = _ := h.f_0
  have r1 : val V 0 (no_index (Proc.devRef .tc main_v9_1)) = _ := h.f_1
  simp only [Cert.Proof.RefStep.b1, Cert.Proof.RefStep.b0]
  show after trip_w0 (val V 0) _ = _
  simp only [trip_w0]
  after_results_entrywise [r0, r1, cast_eq]

theorem val_v32 (h : Holds V s j) : val V 1 (no_index (Proc.devRef .tc main_while0b_v32)) = Cert.Proof.RefStep.b8 j s := by
  have r0 : val V 0 (no_index (Proc.devRef .tc main_v9_0)) = _ := h.f_0
  have r1 : val V 0 (no_index (Proc.devRef .tc main_v9_1)) = _ := h.f_1
  simp only [Cert.Proof.RefStep.b8, Cert.Proof.RefStep.b3, Cert.Proof.RefStep.b1, Cert.Proof.RefStep.b0, Cert.Proof.RefStep.b2, Cert.Proof.RefStep.b7, Cert.Proof.RefStep.b6, Cert.Proof.RefStep.b5, Cert.Proof.RefStep.b4]
  show after trip_w0 (val V 0) _ = _
  simp only [trip_w0]
  after_results_entrywise [r0, r1, cast_eq]

theorem val_cst_29 (h : Holds V s j) : val V 1 (no_index (Proc.devRef .tc main_while0b_cst_29)) = Cert.Proof.RefStep.b9 j s := by
  simp only [Cert.Proof.RefStep.b9]
  show after trip_w0 (val V 0) _ = _
  simp only [trip_w0]
  after_results_entrywise [cast_eq]

theorem val_v33 (h : Holds V s j) : val V 2 (no_index (Proc.devRef .tc main_while0b_v33)) = Cert.Proof.RefStep.b12 j s := by
  have r0 : val V 1 (no_index (Proc.devRef .tc main_v9_11)) = _ := (kept V 0 main_v9_11 1 (by decide +kernel)).trans h.f_11
  have r1 : val V 1 (no_index (Proc.devRef .tc main_while0b_v32)) = Cert.Proof.RefStep.b8 j s := val_v32 h
  have r2 : val V 1 (no_index (Proc.devRef .tc main_while0b_cst_29)) = Cert.Proof.RefStep.b9 j s := val_cst_29 h
  simp only [Cert.Proof.RefStep.b12, Cert.Proof.RefStep.b11, Cert.Proof.RefStep.b10]
  show after trip_w1 (val V 1) _ = _
  simp only [trip_w1]
  after_results_entrywise [r0, r1, r2, cast_eq]

theorem val_v40 (h : Holds V s j) : val V 3 (no_index (Proc.devRef .tc main_while0b_v40)) = Cert.Proof.RefStep.b21 j s := by
  have r0 : val V 2 (no_index (Proc.devRef .tc main_while0b_v33)) = Cert.Proof.RefStep.b12 j s := val_v33 h
  simp only [Cert.Proof.RefStep.b21, Cert.Proof.RefStep.b20, Cert.Proof.RefStep.b19, Cert.Proof.RefStep.b18, Cert.Proof.RefStep.b17, Cert.Proof.RefStep.b16, Cert.Proof.RefStep.b15, Cert.Proof.RefStep.b14, Cert.Proof.RefStep.b13]
  show after trip_w2 (val V 2) _ = _
  simp only [trip_w2]
  after_results_entrywise [r0, cast_eq]

theorem val_v42 (h : Holds V s j) : val V 3 (no_index (Proc.devRef .tc main_while0b_v42)) = Cert.Proof.RefStep.b24 j s := by
  have r0 : val V 2 (no_index (Proc.devRef .tc main_while0b_v33)) = Cert.Proof.RefStep.b12 j s := val_v33 h
  simp only [Cert.Proof.RefStep.b24, Cert.Proof.RefStep.b23, Cert.Proof.RefStep.b21, Cert.Proof.RefStep.b20, Cert.Proof.RefStep.b19, Cert.Proof.RefStep.b18, Cert.Proof.RefStep.b17, Cert.Proof.RefStep.b16, Cert.Proof.RefStep.b15, Cert.Proof.RefStep.b14, Cert.Proof.RefStep.b13, Cert.Proof.RefStep.b22]
  show after trip_w2 (val V 2) _ = _
  simp only [trip_w2]
  after_results_entrywise [r0, cast_eq]

theorem val_v46 (h : Holds V s j) : val V 4 (no_index (Proc.devRef .tc main_while0b_v46)) = Cert.Proof.RefStep.b28 j s := by
  have r0 : val V 3 (no_index (Proc.devRef .tc main_while0b_v26)) = Cert.Proof.RefStep.b1 j s := (kept V 1 main_while0b_v26 2 (by decide +kernel)).trans (val_v26 h)
  have r1 : val V 3 (no_index (Proc.devRef .tc main_while0b_v40)) = Cert.Proof.RefStep.b21 j s := val_v40 h
  have r2 : val V 3 (no_index (Proc.devRef .tc main_while0b_v42)) = Cert.Proof.RefStep.b24 j s := val_v42 h
  simp only [Cert.Proof.RefStep.b28, Cert.Proof.RefStep.b27, Cert.Proof.RefStep.b26, Cert.Proof.RefStep.b25]
  show after trip_w3 (val V 3) _ = _
  simp only [trip_w3]
  after_results_entrywise [r0, r1, r2, cast_eq]

theorem val_v51 (h : Holds V s j) : val V 4 (no_index (Proc.devRef .tc main_while0b_v51)) = Cert.Proof.RefStep.b33 j s := by
  have r0 : val V 3 (no_index (Proc.devRef .tc main_v9_9)) = _ := (kept V 0 main_v9_9 3 (by decide +kernel)).trans h.f_9
  have r1 : val V 3 (no_index (Proc.devRef .tc main_v9_2)) = _ := (kept V 0 main_v9_2 3 (by decide +kernel)).trans h.f_2
  have r2 : val V 3 (no_index (Proc.devRef .tc main_v9_3)) = _ := (kept V 0 main_v9_3 3 (by decide +kernel)).trans h.f_3
  have r3 : val V 3 (no_index (Proc.devRef .tc main_v9_4)) = _ := (kept V 0 main_v9_4 3 (by decide +kernel)).trans h.f_4
  simp only [Cert.Proof.RefStep.b33, Cert.Proof.RefStep.b30, Cert.Proof.RefStep.b29, Cert.Proof.RefStep.b32, Cert.Proof.RefStep.b31]
  show after trip_w3 (val V 3) _ = _
  simp only [trip_w3]
  after_results_entrywise [r0, r1, r2, r3, cast_eq]

theorem val_v52 (h : Holds V s j) : val V 4 (no_index (Proc.devRef .tc main_while0b_v52)) = Cert.Proof.RefStep.b35 j s := by
  have r0 : val V 3 (no_index (Proc.devRef .tc main_v9_9)) = _ := (kept V 0 main_v9_9 3 (by decide +kernel)).trans h.f_9
  have r1 : val V 3 (no_index (Proc.devRef .tc main_v9_2)) = _ := (kept V 0 main_v9_2 3 (by decide +kernel)).trans h.f_2
  have r2 : val V 3 (no_index (Proc.devRef .tc main_v9_3)) = _ := (kept V 0 main_v9_3 3 (by decide +kernel)).trans h.f_3
  have r3 : val V 3 (no_index (Proc.devRef .tc main_v9_4)) = _ := (kept V 0 main_v9_4 3 (by decide +kernel)).trans h.f_4
  simp only [Cert.Proof.RefStep.b35, Cert.Proof.RefStep.b33, Cert.Proof.RefStep.b30, Cert.Proof.RefStep.b29, Cert.Proof.RefStep.b32, Cert.Proof.RefStep.b31, Cert.Proof.RefStep.b34]
  show after trip_w3 (val V 3) _ = _
  simp only [trip_w3]
  after_results_entrywise [r0, r1, r2, r3, cast_eq]

theorem val_cst_34 (h : Holds V s j) : val V 4 (no_index (Proc.devRef .tc main_while0b_cst_34)) = Cert.Proof.RefStep.b36 j s := by
  simp only [Cert.Proof.RefStep.b36]
  show after trip_w3 (val V 3) _ = _
  simp only [trip_w3]
  after_results_entrywise [cast_eq]

theorem val_v60 (h : Holds V s j) : val V 5 (no_index (Proc.devRef .tc main_while0b_v60)) = Cert.Proof.RefStep.b45 j s := by
  have r0 : val V 4 (no_index (Proc.devRef .tc main_while0b_v46)) = Cert.Proof.RefStep.b28 j s := val_v46 h
  have r1 : val V 4 (no_index (Proc.devRef .tc main_while0b_v52)) = Cert.Proof.RefStep.b35 j s := val_v52 h
  have r2 : val V 4 (no_index (Proc.devRef .tc main_while0b_cst_34)) = Cert.Proof.RefStep.b36 j s := val_cst_34 h
  have r3 : val V 4 (no_index (Proc.devRef .tc main_v9_5)) = _ := (kept V 0 main_v9_5 4 (by decide +kernel)).trans h.f_5
  simp only [Cert.Proof.RefStep.b45, Cert.Proof.RefStep.b40, Cert.Proof.RefStep.b39, Cert.Proof.RefStep.b38, Cert.Proof.RefStep.b37, Cert.Proof.RefStep.b44, Cert.Proof.RefStep.b43, Cert.Proof.RefStep.b42, Cert.Proof.RefStep.b41]
  show after trip_w4 (val V 4) _ = _
  simp only [trip_w4]
  after_results_entrywise [r0, r1, r2, r3, cast_eq]

theorem val_cst_36 (h : Holds V s j) : val V 5 (no_index (Proc.devRef .tc main_while0b_cst_36)) = Cert.Proof.RefStep.b46 j s := by
  simp only [Cert.Proof.RefStep.b46]
  show after trip_w4 (val V 4) _ = _
  simp only [trip_w4]
  after_results_entrywise [cast_eq]

theorem val_v61 (h : Holds V s j) : val V 6 (no_index (Proc.devRef .tc main_while0b_v61)) = Cert.Proof.RefStep.b49 j s := by
  have r0 : val V 5 (no_index (Proc.devRef .tc main_v9_10)) = _ := (kept V 0 main_v9_10 5 (by decide +kernel)).trans h.f_10
  have r1 : val V 5 (no_index (Proc.devRef .tc main_while0b_cst_36)) = Cert.Proof.RefStep.b46 j s := val_cst_36 h
  have r2 : val V 5 (no_index (Proc.devRef .tc main_while0b_v60)) = Cert.Proof.RefStep.b45 j s := val_v60 h
  simp only [Cert.Proof.RefStep.b49, Cert.Proof.RefStep.b48, Cert.Proof.RefStep.b47]
  show after trip_w5 (val V 5) _ = _
  simp only [trip_w5]
  after_results_entrywise [r0, r1, r2, cast_eq]

theorem val_v68 (h : Holds V s j) : val V 7 (no_index (Proc.devRef .tc main_while0b_v68)) = Cert.Proof.RefStep.b58 j s := by
  have r0 : val V 6 (no_index (Proc.devRef .tc main_while0b_v61)) = Cert.Proof.RefStep.b49 j s := val_v61 h
  simp only [Cert.Proof.RefStep.b58, Cert.Proof.RefStep.b57, Cert.Proof.RefStep.b56, Cert.Proof.RefStep.b55, Cert.Proof.RefStep.b54, Cert.Proof.RefStep.b53, Cert.Proof.RefStep.b52, Cert.Proof.RefStep.b51, Cert.Proof.RefStep.b50]
  show after trip_w6 (val V 6) _ = _
  simp only [trip_w6]
  after_results_entrywise [r0, cast_eq]

theorem val_v70 (h : Holds V s j) : val V 7 (no_index (Proc.devRef .tc main_while0b_v70)) = Cert.Proof.RefStep.b61 j s := by
  have r0 : val V 6 (no_index (Proc.devRef .tc main_while0b_v61)) = Cert.Proof.RefStep.b49 j s := val_v61 h
  simp only [Cert.Proof.RefStep.b61, Cert.Proof.RefStep.b60, Cert.Proof.RefStep.b58, Cert.Proof.RefStep.b57, Cert.Proof.RefStep.b56, Cert.Proof.RefStep.b55, Cert.Proof.RefStep.b54, Cert.Proof.RefStep.b53, Cert.Proof.RefStep.b52, Cert.Proof.RefStep.b51, Cert.Proof.RefStep.b50, Cert.Proof.RefStep.b59]
  show after trip_w6 (val V 6) _ = _
  simp only [trip_w6]
  after_results_entrywise [r0, cast_eq]

theorem val_v72 (h : Holds V s j) : val V 8 (no_index (Proc.devRef .tc main_while0b_v72)) = Cert.Proof.RefStep.b63 j s := by
  have r0 : val V 7 (no_index (Proc.devRef .tc main_while0b_v68)) = Cert.Proof.RefStep.b58 j s := val_v68 h
  have r1 : val V 7 (no_index (Proc.devRef .tc main_while0b_v70)) = Cert.Proof.RefStep.b61 j s := val_v70 h
  simp only [Cert.Proof.RefStep.b63, Cert.Proof.RefStep.b62]
  show after trip_w7 (val V 7) _ = _
  simp only [trip_w7]
  after_results_entrywise [r0, r1, cast_eq]

theorem val_v73 (h : Holds V s j) : val V 9 (no_index (Proc.devRef .tc main_while0b_v73)) = Cert.Proof.RefStep.b68 j s := by
  have r0 : val V 8 (no_index (Proc.devRef .tc main_while0b_v72)) = Cert.Proof.RefStep.b63 j s := val_v72 h
  delta Cert.Proof.RefStep.b68
  simp only [Cert.Proof.RefStep.b64, Cert.Proof.RefStep.b65, Cert.Proof.RefStep.b66]
  show after trip_w8 (val V 8) _ = _
  simp only [trip_w8]
  after_results_entrywise [r0, cast_eq]

theorem val_v78 (h : Holds V s j) : val V 10 (no_index (Proc.devRef .tc main_while0b_v78)) = Cert.Proof.RefStep.b75 j s := by
  have r0 : val V 9 (no_index (Proc.devRef .tc main_v9_6)) = _ := (kept V 0 main_v9_6 9 (by decide +kernel)).trans h.k_6
  simp only [Cert.Proof.RefStep.b75, Cert.Proof.RefStep.b71, Cert.Proof.RefStep.b70, Cert.Proof.RefStep.b69, Cert.Proof.RefStep.b74, Cert.Proof.RefStep.b73, Cert.Proof.RefStep.b72]
  show after trip_w9 (val V 9) _ = _
  simp only [trip_w9]
  after_results_entrywise [r0, cast_eq]

theorem val_v80 (h : Holds V s j) : val V 10 (no_index (Proc.devRef .tc main_while0b_v80)) = Cert.Proof.RefStep.b78 j s := by
  have r0 : val V 9 (no_index (Proc.devRef .tc main_while0b_v73)) = Cert.Proof.RefStep.b68 j s := val_v73 h
  simp only [Cert.Proof.RefStep.b78, Cert.Proof.RefStep.b77, Cert.Proof.RefStep.b76]
  show after trip_w9 (val V 9) _ = _
  simp only [trip_w9]
  after_results_entrywise [r0, cast_eq]

theorem val_v81 (h : Holds V s j) : val V 10 (no_index (Proc.devRef .tc main_while0b_v81)) = Cert.Proof.RefStep.b80 j s := by
  simp only [Cert.Proof.RefStep.b80, Cert.Proof.RefStep.b79]
  show after trip_w9 (val V 9) _ = _
  simp only [trip_w9]
  after_results_entrywise [cast_eq]

theorem val_v84 (h : Holds V s j) : val V 11 (no_index (Proc.devRef .tc main_while0b_v84)) = Cert.Proof.RefStep.b83 j s := by
  have r0 : val V 10 (no_index (Proc.devRef .tc main_while0b_v78)) = Cert.Proof.RefStep.b75 j s := val_v78 h
  simp only [Cert.Proof.RefStep.b83]
  show after trip_w10 (val V 10) _ = _
  simp only [trip_w10]
  after_results_entrywise [r0, cast_eq]

theorem val_v85 (h : Holds V s j) : val V 11 (no_index (Proc.devRef .tc main_while0b_v85)) = Cert.Proof.RefStep.b84 j s := by
  have r0 : val V 10 (no_index (Proc.devRef .tc main_while0b_v80)) = Cert.Proof.RefStep.b78 j s := val_v80 h
  have r1 : val V 10 (no_index (Proc.devRef .tc main_while0b_v73)) = Cert.Proof.RefStep.b68 j s := (kept V 9 main_while0b_v73 1 (by decide +kernel)).trans (val_v73 h)
  have r2 : val V 10 (no_index (Proc.devRef .tc main_while0b_v81)) = Cert.Proof.RefStep.b80 j s := val_v81 h
  simp only [Cert.Proof.RefStep.b84, Cert.Proof.RefStep.b82, Cert.Proof.RefStep.b81]
  show after trip_w10 (val V 10) _ = _
  simp only [trip_w10]
  after_results_entrywise [r0, r1, r2, cast_eq]

theorem val_v90 (h : Holds V s j) : val V 12 (no_index (Proc.devRef .tc main_while0b_v90)) = Cert.Proof.RefStep.b90 j s := by
  have r0 : val V 11 (no_index (Proc.devRef .tc main_while0b_v72)) = Cert.Proof.RefStep.b63 j s := (kept V 8 main_while0b_v72 3 (by decide +kernel)).trans (val_v72 h)
  have r1 : val V 11 (no_index (Proc.devRef .tc main_while0b_v84)) = Cert.Proof.RefStep.b83 j s := val_v84 h
  have r2 : val V 11 (no_index (Proc.devRef .tc main_while0b_v85)) = Cert.Proof.RefStep.b84 j s := val_v85 h
  simp only [Cert.Proof.RefStep.b90, Cert.Proof.RefStep.b89, Cert.Proof.RefStep.b86, Cert.Proof.RefStep.b85, Cert.Proof.RefStep.b88, Cert.Proof.RefStep.b87]
  show after trip_w11 (val V 11) _ = _
  simp only [trip_w11]
  after_results_entrywise [r0, r1, r2, cast_eq]

theorem val_v91 (h : Holds V s j) : val V 12 (no_index (Proc.devRef .tc main_while0b_v91)) = Cert.Proof.RefStep.b92 j s := by
  simp only [Cert.Proof.RefStep.b92, Cert.Proof.RefStep.b91]
  show after trip_w11 (val V 11) _ = _
  simp only [trip_w11]
  after_results_entrywise [cast_eq]

theorem val_v95 (h : Holds V s j) : val V 13 (no_index (Proc.devRef .tc main_while0b_v95)) = Cert.Proof.RefStep.b97 j s := by
  have r0 : val V 12 (no_index (Proc.devRef .tc main_v9_6)) = _ := (kept V 0 main_v9_6 12 (by decide +kernel)).trans h.k_6
  have r1 : val V 12 (no_index (Proc.devRef .tc main_while0b_v91)) = Cert.Proof.RefStep.b92 j s := val_v91 h
  simp only [Cert.Proof.RefStep.b97, Cert.Proof.RefStep.b93, Cert.Proof.RefStep.b96, Cert.Proof.RefStep.b95, Cert.Proof.RefStep.b94]
  show after trip_w12 (val V 12) _ = _
  simp only [trip_w12]
  after_results_entrywise [r0, r1, cast_eq]

theorem val_v100 (h : Holds V s j) : val V 13 (no_index (Proc.devRef .tc main_while0b_v100)) = Cert.Proof.RefStep.b104 j s := by
  have r0 : val V 12 (no_index (Proc.devRef .tc main_while0b_v73)) = Cert.Proof.RefStep.b68 j s := (kept V 9 main_while0b_v73 3 (by decide +kernel)).trans (val_v73 h)
  simp only [Cert.Proof.RefStep.b104, Cert.Proof.RefStep.b100, Cert.Proof.RefStep.b99, Cert.Proof.RefStep.b98, Cert.Proof.RefStep.b103, Cert.Proof.RefStep.b102, Cert.Proof.RefStep.b101]
  show after trip_w12 (val V 12) _ = _
  simp only [trip_w12]
  after_results_entrywise [r0, cast_eq]

theorem val_v101 (h : Holds V s j) : val V 14 (no_index (Proc.devRef .tc main_while0b_v101)) = Cert.Proof.RefStep.b105 j s := by
  have r0 : val V 13 (no_index (Proc.devRef .tc main_while0b_v95)) = Cert.Proof.RefStep.b97 j s := val_v95 h
  simp only [Cert.Proof.RefStep.b105]
  show after trip_w13 (val V 13) _ = _
  simp only [trip_w13]
  after_results_entrywise [r0, cast_eq]

theorem val_v102 (h : Holds V s j) : val V 14 (no_index (Proc.devRef .tc main_while0b_v102)) = Cert.Proof.RefStep.b106 j s := by
  have r0 : val V 13 (no_index (Proc.devRef .tc main_while0b_v100)) = Cert.Proof.RefStep.b104 j s := val_v100 h
  simp only [Cert.Proof.RefStep.b106]
  show after trip_w13 (val V 13) _ = _
  simp only [trip_w13]
  after_results_entrywise [r0, cast_eq]

theorem val_v105 (h : Holds V s j) : val V 15 (no_index (Proc.devRef .tc main_while0b_v105)) = Cert.Proof.RefStep.b110 j s := by
  have r0 : val V 14 (no_index (Proc.devRef .tc main_v9_10)) = _ := (kept V 0 main_v9_10 14 (by decide +kernel)).trans h.f_10
  have r1 : val V 14 (no_index (Proc.devRef .tc main_while0b_v101)) = Cert.Proof.RefStep.b105 j s := val_v101 h
  have r2 : val V 14 (no_index (Proc.devRef .tc main_while0b_v102)) = Cert.Proof.RefStep.b106 j s := val_v102 h
  simp only [Cert.Proof.RefStep.b110, Cert.Proof.RefStep.b107, Cert.Proof.RefStep.b109, Cert.Proof.RefStep.b108]
  show after trip_w14 (val V 14) _ = _
  simp only [trip_w14]
  after_results_entrywise [r0, r1, r2, cast_eq]

theorem val_v107 (h : Holds V s j) : val V 15 (no_index (Proc.devRef .tc main_while0b_v107)) = Cert.Proof.RefStep.b113 j s := by
  have r0 : val V 14 (no_index (Proc.devRef .tc main_v9_6)) = _ := (kept V 0 main_v9_6 14 (by decide +kernel)).trans h.k_6
  simp only [Cert.Proof.RefStep.b113, Cert.Proof.RefStep.b112, Cert.Proof.RefStep.b111]
  show after trip_w14 (val V 14) _ = _
  simp only [trip_w14]
  after_results_entrywise [r0, cast_eq]

theorem val_v109 (h : Holds V s j) : val V 15 (no_index (Proc.devRef .tc main_while0b_v109)) = Cert.Proof.RefStep.b116 j s := by
  have r0 : val V 14 (no_index (Proc.devRef .tc main_v9_6)) = _ := (kept V 0 main_v9_6 14 (by decide +kernel)).trans h.k_6
  simp only [Cert.Proof.RefStep.b116, Cert.Proof.RefStep.b115, Cert.Proof.RefStep.b114]
  show after trip_w14 (val V 14) _ = _
  simp only [trip_w14]
  after_results_entrywise [r0, cast_eq]

theorem val_v116 (h : Holds V s j) : val V 16 (no_index (Proc.devRef .tc main_while0b_v116)) = Cert.Proof.RefStep.b125 j s := by
  have r0 : val V 15 (no_index (Proc.devRef .tc main_while0b_v107)) = Cert.Proof.RefStep.b113 j s := val_v107 h
  have r1 : val V 15 (no_index (Proc.devRef .tc main_while0b_v109)) = Cert.Proof.RefStep.b116 j s := val_v109 h
  have r2 : val V 15 (no_index (Proc.devRef .tc main_v9_6)) = _ := (kept V 0 main_v9_6 15 (by decide +kernel)).trans h.k_6
  simp only [Cert.Proof.RefStep.b125, Cert.Proof.RefStep.b117]
  show after trip_w15 (val V 15) _ = _
  simp only [trip_w15]
  after_results_entrywise [r0, r1, r2, cast_eq]

theorem val_v117 (h : Holds V s j) : val V 16 (no_index (Proc.devRef .tc main_while0b_v117)) = Cert.Proof.RefStep.b126 j s := by
  have r0 : val V 15 (no_index (Proc.devRef .tc main_while0b_v73)) = Cert.Proof.RefStep.b68 j s := (kept V 9 main_while0b_v73 6 (by decide +kernel)).trans (val_v73 h)
  simp only [Cert.Proof.RefStep.b126, Cert.Proof.RefStep.b124, Cert.Proof.RefStep.b120, Cert.Proof.RefStep.b119, Cert.Proof.RefStep.b118, Cert.Proof.RefStep.b123, Cert.Proof.RefStep.b122, Cert.Proof.RefStep.b121]
  show after trip_w15 (val V 15) _ = _
  simp only [trip_w15]
  after_results_entrywise [r0, cast_eq]

theorem val_v120 (h : Holds V s j) : val V 17 (no_index (Proc.devRef .tc main_while0b_v120)) = Cert.Proof.RefStep.b130 j s := by
  have r0 : val V 16 (no_index (Proc.devRef .tc main_v9_11)) = _ := (kept V 0 main_v9_11 16 (by decide +kernel)).trans h.f_11
  have r1 : val V 16 (no_index (Proc.devRef .tc main_while0b_v116)) = Cert.Proof.RefStep.b125 j s := val_v116 h
  have r2 : val V 16 (no_index (Proc.devRef .tc main_while0b_v117)) = Cert.Proof.RefStep.b126 j s := val_v117 h
  simp only [Cert.Proof.RefStep.b130, Cert.Proof.RefStep.b127, Cert.Proof.RefStep.b129, Cert.Proof.RefStep.b128]
  show after trip_w16 (val V 16) _ = _
  simp only [trip_w16]
  after_results_entrywise [r0, r1, r2, cast_eq]

theorem val_v125 (h : Holds V s j) : val V 17 (no_index (Proc.devRef .tc main_while0b_v125)) = Cert.Proof.RefStep.b137 j s := by
  have r0 : val V 16 (no_index (Proc.devRef .tc main_v9_6)) = _ := (kept V 0 main_v9_6 16 (by decide +kernel)).trans h.k_6
  simp only [Cert.Proof.RefStep.b137, Cert.Proof.RefStep.b133, Cert.Proof.RefStep.b132, Cert.Proof.RefStep.b131, Cert.Proof.RefStep.b136, Cert.Proof.RefStep.b135, Cert.Proof.RefStep.b134]
  show after trip_w16 (val V 16) _ = _
  simp only [trip_w16]
  after_results_entrywise [r0, cast_eq]

theorem val_c_57 (h : Holds V s j) : val V 17 (no_index (Proc.devRef .tc main_while0b_c_57)) = Cert.Proof.RefStep.b138 j s := by
  simp only [Cert.Proof.RefStep.b138]
  show after trip_w16 (val V 16) _ = _
  simp only [trip_w16]
  after_results_entrywise [cast_eq]

theorem val_v127 (h : Holds V s j) : val V 18 (no_index (Proc.devRef .tc main_while0b_v127)) = Cert.Proof.RefStep.b140 j s := by
  have r0 : val V 17 (no_index (Proc.devRef .tc main_while0b_v73)) = Cert.Proof.RefStep.b68 j s := (kept V 9 main_while0b_v73 8 (by decide +kernel)).trans (val_v73 h)
  have r1 : val V 17 (no_index (Proc.devRef .tc main_while0b_c_57)) = Cert.Proof.RefStep.b138 j s := val_c_57 h
  simp only [Cert.Proof.RefStep.b140, Cert.Proof.RefStep.b139]
  show after trip_w17 (val V 17) _ = _
  simp only [trip_w17]
  after_results_entrywise [r0, r1, cast_eq]

theorem val_v131 (h : Holds V s j) : val V 19 (no_index (Proc.devRef .tc main_while0b_v131)) = Cert.Proof.RefStep.b145 j s := by
  have r0 : val V 18 (no_index (Proc.devRef .tc main_while0b_v125)) = Cert.Proof.RefStep.b137 j s := (kept V 17 main_while0b_v125 1 (by decide +kernel)).trans (val_v125 h)
  simp only [Cert.Proof.RefStep.b145]
  show after trip_w18 (val V 18) _ = _
  simp only [trip_w18]
  after_results_entrywise [r0, cast_eq]

theorem val_v132 (h : Holds V s j) : val V 19 (no_index (Proc.devRef .tc main_while0b_v132)) = Cert.Proof.RefStep.b146 j s := by
  have r0 : val V 18 (no_index (Proc.devRef .tc main_while0b_v127)) = Cert.Proof.RefStep.b140 j s := val_v127 h
  have r1 : val V 18 (no_index (Proc.devRef .tc main_while0b_v73)) = Cert.Proof.RefStep.b68 j s := (kept V 9 main_while0b_v73 9 (by decide +kernel)).trans (val_v73 h)
  simp only [Cert.Proof.RefStep.b146, Cert.Proof.RefStep.b144, Cert.Proof.RefStep.b143, Cert.Proof.RefStep.b142, Cert.Proof.RefStep.b141]
  show after trip_w18 (val V 18) _ = _
  simp only [trip_w18]
  after_results_entrywise [r0, r1, cast_eq]

theorem val_v135 (h : Holds V s j) : val V 20 (no_index (Proc.devRef .tc main_while0b_v135)) = Cert.Proof.RefStep.b150 j s := by
  have r0 : val V 19 (no_index (Proc.devRef .tc main_while0b_v120)) = Cert.Proof.RefStep.b130 j s := (kept V 17 main_while0b_v120 2 (by decide +kernel)).trans (val_v120 h)
  have r1 : val V 19 (no_index (Proc.devRef .tc main_while0b_v131)) = Cert.Proof.RefStep.b145 j s := val_v131 h
  have r2 : val V 19 (no_index (Proc.devRef .tc main_while0b_v132)) = Cert.Proof.RefStep.b146 j s := val_v132 h
  simp only [Cert.Proof.RefStep.b150, Cert.Proof.RefStep.b147, Cert.Proof.RefStep.b149, Cert.Proof.RefStep.b148]
  show after trip_w19 (val V 19) _ = _
  simp only [trip_w19]
  after_results_entrywise [r0, r1, r2, cast_eq]

theorem val_v140 (h : Holds V s j) : val V 20 (no_index (Proc.devRef .tc main_while0b_v140)) = Cert.Proof.RefStep.b157 j s := by
  have r0 : val V 19 (no_index (Proc.devRef .tc main_v9_6)) = _ := (kept V 0 main_v9_6 19 (by decide +kernel)).trans h.k_6
  simp only [Cert.Proof.RefStep.b157, Cert.Proof.RefStep.b153, Cert.Proof.RefStep.b152, Cert.Proof.RefStep.b151, Cert.Proof.RefStep.b156, Cert.Proof.RefStep.b155, Cert.Proof.RefStep.b154]
  show after trip_w19 (val V 19) _ = _
  simp only [trip_w19]
  after_results_entrywise [r0, cast_eq]

theorem val_c_62 (h : Holds V s j) : val V 20 (no_index (Proc.devRef .tc main_while0b_c_62)) = Cert.Proof.RefStep.b158 j s := by
  simp only [Cert.Proof.RefStep.b158]
  show after trip_w19 (val V 19) _ = _
  simp only [trip_w19]
  after_results_entrywise [cast_eq]

theorem val_v145 (h : Holds V s j) : val V 21 (no_index (Proc.devRef .tc main_while0b_v145)) = Cert.Proof.RefStep.b164 j s := by
  have r0 : val V 20 (no_index (Proc.devRef .tc main_while0b_v73)) = Cert.Proof.RefStep.b68 j s := (kept V 9 main_while0b_v73 11 (by decide +kernel)).trans (val_v73 h)
  have r1 : val V 20 (no_index (Proc.devRef .tc main_while0b_c_62)) = Cert.Proof.RefStep.b158 j s := val_c_62 h
  simp only [Cert.Proof.RefStep.b164, Cert.Proof.RefStep.b160, Cert.Proof.RefStep.b159, Cert.Proof.RefStep.b163, Cert.Proof.RefStep.b162, Cert.Proof.RefStep.b161]
  show after trip_w20 (val V 20) _ = _
  simp only [trip_w20]
  after_results_entrywise [r0, r1, cast_eq]

theorem val_v151 (h : Holds V s j) : val V 22 (no_index (Proc.devRef .tc main_while0b_v151)) = Cert.Proof.RefStep.b172 j s := by
  have r0 : val V 21 (no_index (Proc.devRef .tc main_while0b_v140)) = Cert.Proof.RefStep.b157 j s := (kept V 20 main_while0b_v140 1 (by decide +kernel)).trans (val_v140 h)
  simp only [Cert.Proof.RefStep.b172]
  show after trip_w21 (val V 21) _ = _
  simp only [trip_w21]
  after_results_entrywise [r0, cast_eq]

theorem val_v152 (h : Holds V s j) : val V 22 (no_index (Proc.devRef .tc main_while0b_v152)) = Cert.Proof.RefStep.b173 j s := by
  have r0 : val V 21 (no_index (Proc.devRef .tc main_while0b_v145)) = Cert.Proof.RefStep.b164 j s := val_v145 h
  simp only [Cert.Proof.RefStep.b173]
  show after trip_w21 (val V 21) _ = _
  simp only [trip_w21]
  after_results_entrywise [r0, cast_eq]

theorem val_v153 (h : Holds V s j) : val V 22 (no_index (Proc.devRef .tc main_while0b_v153)) = Cert.Proof.RefStep.b174 j s := by
  have r0 : val V 21 (no_index (Proc.devRef .tc main_while0b_v73)) = Cert.Proof.RefStep.b68 j s := (kept V 9 main_while0b_v73 12 (by decide +kernel)).trans (val_v73 h)
  simp only [Cert.Proof.RefStep.b174, Cert.Proof.RefStep.b171, Cert.Proof.RefStep.b167, Cert.Proof.RefStep.b166, Cert.Proof.RefStep.b165, Cert.Proof.RefStep.b170, Cert.Proof.RefStep.b169, Cert.Proof.RefStep.b168]
  show after trip_w21 (val V 21) _ = _
  simp only [trip_w21]
  after_results_entrywise [r0, cast_eq]

theorem val_v154 (h : Holds V s j) : val V 23 (no_index (Proc.devRef .tc main_while0b_v154)) = Cert.Proof.RefStep.b175 j s := by
  have r0 : val V 22 (no_index (Proc.devRef .tc main_while0b_v151)) = Cert.Proof.RefStep.b172 j s := val_v151 h
  have r1 : val V 22 (no_index (Proc.devRef .tc main_while0b_v152)) = Cert.Proof.RefStep.b173 j s := val_v152 h
  have r2 : val V 22 (no_index (Proc.devRef .tc main_while0b_v153)) = Cert.Proof.RefStep.b174 j s := val_v153 h
  unfold Cert.Proof.RefStep.b175
  show fn_main_while0b_v154 (val V 22 (Proc.devRef .tc main_while0b_v151)) (val V 22 (Proc.devRef .tc main_while0b_v152)) (val V 22 (Proc.devRef .tc main_while0b_v153)) = _
  rw [r0, r1, r2]
  rfl

theorem val_v156 (h : Holds V s j) : val V 24 (no_index (Proc.devRef .tc main_while0b_v156)) = Cert.Proof.RefStep.b178 j s := by
  have r0 : val V 23 (no_index (Proc.devRef .tc main_while0b_v135)) = Cert.Proof.RefStep.b150 j s := (kept V 20 main_while0b_v135 3 (by decide +kernel)).trans (val_v135 h)
  have r1 : val V 23 (no_index (Proc.devRef .tc main_while0b_v154)) = Cert.Proof.RefStep.b175 j s := val_v154 h
  simp only [Cert.Proof.RefStep.b178, Cert.Proof.RefStep.b177, Cert.Proof.RefStep.b176]
  show after trip_w23 (val V 23) _ = _
  simp only [trip_w23]
  after_results_entrywise [r0, r1, cast_eq]

theorem val_v161 (h : Holds V s j) : val V 24 (no_index (Proc.devRef .tc main_while0b_v161)) = Cert.Proof.RefStep.b185 j s := by
  have r0 : val V 23 (no_index (Proc.devRef .tc main_v9_6)) = _ := (kept V 0 main_v9_6 23 (by decide +kernel)).trans h.k_6
  simp only [Cert.Proof.RefStep.b185, Cert.Proof.RefStep.b181, Cert.Proof.RefStep.b180, Cert.Proof.RefStep.b179, Cert.Proof.RefStep.b184, Cert.Proof.RefStep.b183, Cert.Proof.RefStep.b182]
  show after trip_w23 (val V 23) _ = _
  simp only [trip_w23]
  after_results_entrywise [r0, cast_eq]

theorem val_v162 (h : Holds V s j) : val V 24 (no_index (Proc.devRef .tc main_while0b_v162)) = Cert.Proof.RefStep.b187 j s := by
  simp only [Cert.Proof.RefStep.b187, Cert.Proof.RefStep.b186]
  show after trip_w23 (val V 23) _ = _
  simp only [trip_w23]
  after_results_entrywise [cast_eq]

theorem val_v163 (h : Holds V s j) : val V 25 (no_index (Proc.devRef .tc main_while0b_v163)) = Cert.Proof.RefStep.b188 j s := by
  have r0 : val V 24 (no_index (Proc.devRef .tc main_while0b_v73)) = Cert.Proof.RefStep.b68 j s := (kept V 9 main_while0b_v73 15 (by decide +kernel)).trans (val_v73 h)
  have r1 : val V 24 (no_index (Proc.devRef .tc main_while0b_v162)) = Cert.Proof.RefStep.b187 j s := val_v162 h
  simp only [Cert.Proof.RefStep.b188]
  show after trip_w24 (val V 24) _ = _
  simp only [trip_w24]
  after_results_entrywise [r0, r1, cast_eq]

theorem val_v167 (h : Holds V s j) : val V 26 (no_index (Proc.devRef .tc main_while0b_v167)) = Cert.Proof.RefStep.b193 j s := by
  have r0 : val V 25 (no_index (Proc.devRef .tc main_while0b_v161)) = Cert.Proof.RefStep.b185 j s := (kept V 24 main_while0b_v161 1 (by decide +kernel)).trans (val_v161 h)
  simp only [Cert.Proof.RefStep.b193]
  show after trip_w25 (val V 25) _ = _
  simp only [trip_w25]
  after_results_entrywise [r0, cast_eq]

theorem val_v168 (h : Holds V s j) : val V 26 (no_index (Proc.devRef .tc main_while0b_v168)) = Cert.Proof.RefStep.b194 j s := by
  have r0 : val V 25 (no_index (Proc.devRef .tc main_while0b_v163)) = Cert.Proof.RefStep.b188 j s := val_v163 h
  have r1 : val V 25 (no_index (Proc.devRef .tc main_while0b_v73)) = Cert.Proof.RefStep.b68 j s := (kept V 9 main_while0b_v73 16 (by decide +kernel)).trans (val_v73 h)
  simp only [Cert.Proof.RefStep.b194, Cert.Proof.RefStep.b192, Cert.Proof.RefStep.b191, Cert.Proof.RefStep.b190, Cert.Proof.RefStep.b189]
  show after trip_w25 (val V 25) _ = _
  simp only [trip_w25]
  after_results_entrywise [r0, r1, cast_eq]

theorem val_v178 (h : Holds V s j) : val V 27 (no_index (Proc.devRef .tc main_while0b_v178)) = Cert.Proof.RefStep.b205 j s := by
  have r0 : val V 26 (no_index (Proc.devRef .tc main_v9_9)) = _ := (kept V 0 main_v9_9 26 (by decide +kernel)).trans h.f_9
  simp only [Cert.Proof.RefStep.b205, Cert.Proof.RefStep.b204, Cert.Proof.RefStep.b203, Cert.Proof.RefStep.b202, Cert.Proof.RefStep.b199, Cert.Proof.RefStep.b198, Cert.Proof.RefStep.b201, Cert.Proof.RefStep.b200]
  show after trip_w26 (val V 26) _ = _
  simp only [trip_w26]
  after_results_entrywise [r0, cast_eq]

theorem val_v179 (h : Holds V s j) : val V 27 (no_index (Proc.devRef .tc main_while0b_v179)) = Cert.Proof.RefStep.b206 j s := by
  have r0 : val V 26 (no_index (Proc.devRef .tc main_while0b_v46)) = Cert.Proof.RefStep.b28 j s := (kept V 4 main_while0b_v46 22 (by decide +kernel)).trans (val_v46 h)
  have r1 : val V 26 (no_index (Proc.devRef .tc main_while0b_v167)) = Cert.Proof.RefStep.b193 j s := val_v167 h
  have r2 : val V 26 (no_index (Proc.devRef .tc main_while0b_v168)) = Cert.Proof.RefStep.b194 j s := val_v168 h
  simp only [Cert.Proof.RefStep.b206, Cert.Proof.RefStep.b197, Cert.Proof.RefStep.b196, Cert.Proof.RefStep.b195]
  show after trip_w26 (val V 26) _ = _
  simp only [trip_w26]
  after_results_entrywise [r0, r1, r2, cast_eq]

theorem val_v181 (h : Holds V s j) : val V 28 (no_index (Proc.devRef .tc main_while0b_v181)) = Cert.Proof.RefStep.b208 j s := by
  have r0 : val V 27 (no_index (Proc.devRef .tc main_while0b_v51)) = Cert.Proof.RefStep.b33 j s := (kept V 4 main_while0b_v51 23 (by decide +kernel)).trans (val_v51 h)
  have r1 : val V 27 (no_index (Proc.devRef .tc main_while0b_v179)) = Cert.Proof.RefStep.b206 j s := val_v179 h
  have r2 : val V 27 (no_index (Proc.devRef .tc main_v9_7)) = _ := (kept V 0 main_v9_7 27 (by decide +kernel)).trans h.f_7
  simp only [Cert.Proof.RefStep.b208, Cert.Proof.RefStep.b207]
  show after trip_w27 (val V 27) _ = _
  simp only [trip_w27]
  after_results_entrywise [r0, r1, r2, cast_eq]

theorem val_v184 (h : Holds V s j) : val V 28 (no_index (Proc.devRef .tc main_while0b_v184)) = Cert.Proof.RefStep.b212 j s := by
  simp only [Cert.Proof.RefStep.b212, Cert.Proof.RefStep.b211, Cert.Proof.RefStep.b210, Cert.Proof.RefStep.b209]
  show after trip_w27 (val V 27) _ = _
  simp only [trip_w27]
  after_results_entrywise [cast_eq]

theorem val_v185 (h : Holds V s j) : val V 29 (no_index (Proc.devRef .tc main_while0b_v185)) = Cert.Proof.RefStep.b213 j s := by
  have r0 : val V 28 (no_index (Proc.devRef .tc main_while0b_v181)) = Cert.Proof.RefStep.b208 j s := val_v181 h
  have r1 : val V 28 (no_index (Proc.devRef .tc main_while0b_v184)) = Cert.Proof.RefStep.b212 j s := val_v184 h
  simp only [Cert.Proof.RefStep.b213]
  show after trip_w28 (val V 28) _ = _
  simp only [trip_w28]
  after_results_entrywise [r0, r1, cast_eq]

theorem val_v186 (h : Holds V s j) : val V 29 (no_index (Proc.devRef .tc main_while0b_v186)) = Cert.Proof.RefStep.b214 j s := by
  have r0 : val V 28 (no_index (Proc.devRef .tc main_while0b_v178)) = Cert.Proof.RefStep.b205 j s := (kept V 27 main_while0b_v178 1 (by decide +kernel)).trans (val_v178 h)
  simp only [Cert.Proof.RefStep.b214]
  show after trip_w28 (val V 28) _ = _
  simp only [trip_w28]
  after_results_entrywise [r0, cast_eq]

theorem val_cst_73 (h : Holds V s j) : val V 29 (no_index (Proc.devRef .tc main_while0b_cst_73)) = Cert.Proof.RefStep.b215 j s := by
  simp only [Cert.Proof.RefStep.b215]
  show after trip_w28 (val V 28) _ = _
  simp only [trip_w28]
  after_results_entrywise [cast_eq]

theorem val_v187 (h : Holds V s j) : val V 30 (no_index (Proc.devRef .tc main_while0b_v187)) = Cert.Proof.RefStep.b218 j s := by
  have r0 : val V 29 (no_index (Proc.devRef .tc main_while0b_v186)) = Cert.Proof.RefStep.b214 j s := val_v186 h
  have r1 : val V 29 (no_index (Proc.devRef .tc main_while0b_v185)) = Cert.Proof.RefStep.b213 j s := val_v185 h
  have r2 : val V 29 (no_index (Proc.devRef .tc main_while0b_cst_73)) = Cert.Proof.RefStep.b215 j s := val_cst_73 h
  simp only [Cert.Proof.RefStep.b218, Cert.Proof.RefStep.b217, Cert.Proof.RefStep.b216]
  show after trip_w29 (val V 29) _ = _
  simp only [trip_w29]
  after_results_entrywise [r0, r1, r2, cast_eq]

theorem val_v194 (h : Holds V s j) : val V 31 (no_index (Proc.devRef .tc main_while0b_v194)) = Cert.Proof.RefStep.b227 j s := by
  have r0 : val V 30 (no_index (Proc.devRef .tc main_while0b_v187)) = Cert.Proof.RefStep.b218 j s := val_v187 h
  simp only [Cert.Proof.RefStep.b227, Cert.Proof.RefStep.b226, Cert.Proof.RefStep.b225, Cert.Proof.RefStep.b224, Cert.Proof.RefStep.b223, Cert.Proof.RefStep.b222, Cert.Proof.RefStep.b221, Cert.Proof.RefStep.b220, Cert.Proof.RefStep.b219]
  show after trip_w30 (val V 30) _ = _
  simp only [trip_w30]
  after_results_entrywise [r0, cast_eq]

theorem val_v196 (h : Holds V s j) : val V 31 (no_index (Proc.devRef .tc main_while0b_v196)) = Cert.Proof.RefStep.b230 j s := by
  have r0 : val V 30 (no_index (Proc.devRef .tc main_while0b_v187)) = Cert.Proof.RefStep.b218 j s := val_v187 h
  simp only [Cert.Proof.RefStep.b230, Cert.Proof.RefStep.b229, Cert.Proof.RefStep.b227, Cert.Proof.RefStep.b226, Cert.Proof.RefStep.b225, Cert.Proof.RefStep.b224, Cert.Proof.RefStep.b223, Cert.Proof.RefStep.b222, Cert.Proof.RefStep.b221, Cert.Proof.RefStep.b220, Cert.Proof.RefStep.b219, Cert.Proof.RefStep.b228]
  show after trip_w30 (val V 30) _ = _
  simp only [trip_w30]
  after_results_entrywise [r0, cast_eq]

theorem val_v198 (h : Holds V s j) : val V 32 (no_index (Proc.devRef .tc main_while0b_v198)) = Cert.Proof.RefStep.b232 j s := by
  have r0 : val V 31 (no_index (Proc.devRef .tc main_while0b_v194)) = Cert.Proof.RefStep.b227 j s := val_v194 h
  have r1 : val V 31 (no_index (Proc.devRef .tc main_while0b_v196)) = Cert.Proof.RefStep.b230 j s := val_v196 h
  simp only [Cert.Proof.RefStep.b232, Cert.Proof.RefStep.b231]
  show after trip_w31 (val V 31) _ = _
  simp only [trip_w31]
  after_results_entrywise [r0, r1, cast_eq]

theorem val_v199 (h : Holds V s j) : val V 33 (no_index (Proc.devRef .tc main_while0b_v199)) = Cert.Proof.RefStep.b237 j s := by
  have r0 : val V 32 (no_index (Proc.devRef .tc main_while0b_v198)) = Cert.Proof.RefStep.b232 j s := val_v198 h
  delta Cert.Proof.RefStep.b237
  simp only [Cert.Proof.RefStep.b233, Cert.Proof.RefStep.b234, Cert.Proof.RefStep.b235]
  show after trip_w32 (val V 32) _ = _
  simp only [trip_w32]
  after_results_entrywise [r0, cast_eq]

theorem val_v204 (h : Holds V s j) : val V 34 (no_index (Proc.devRef .tc main_while0b_v204)) = Cert.Proof.RefStep.b244 j s := by
  have r0 : val V 33 (no_index (Proc.devRef .tc main_v9_6)) = _ := (kept V 0 main_v9_6 33 (by decide +kernel)).trans h.k_6
  simp only [Cert.Proof.RefStep.b244, Cert.Proof.RefStep.b240, Cert.Proof.RefStep.b239, Cert.Proof.RefStep.b238, Cert.Proof.RefStep.b243, Cert.Proof.RefStep.b242, Cert.Proof.RefStep.b241]
  show after trip_w33 (val V 33) _ = _
  simp only [trip_w33]
  after_results_entrywise [r0, cast_eq]

theorem val_v206 (h : Holds V s j) : val V 34 (no_index (Proc.devRef .tc main_while0b_v206)) = Cert.Proof.RefStep.b247 j s := by
  have r0 : val V 33 (no_index (Proc.devRef .tc main_while0b_v199)) = Cert.Proof.RefStep.b237 j s := val_v199 h
  simp only [Cert.Proof.RefStep.b247, Cert.Proof.RefStep.b246, Cert.Proof.RefStep.b245]
  show after trip_w33 (val V 33) _ = _
  simp only [trip_w33]
  after_results_entrywise [r0, cast_eq]

theorem val_v207 (h : Holds V s j) : val V 34 (no_index (Proc.devRef .tc main_while0b_v207)) = Cert.Proof.RefStep.b249 j s := by
  simp only [Cert.Proof.RefStep.b249, Cert.Proof.RefStep.b248]
  show after trip_w33 (val V 33) _ = _
  simp only [trip_w33]
  after_results_entrywise [cast_eq]

theorem val_v210 (h : Holds V s j) : val V 35 (no_index (Proc.devRef .tc main_while0b_v210)) = Cert.Proof.RefStep.b252 j s := by
  have r0 : val V 34 (no_index (Proc.devRef .tc main_while0b_v204)) = Cert.Proof.RefStep.b244 j s := val_v204 h
  simp only [Cert.Proof.RefStep.b252]
  show after trip_w34 (val V 34) _ = _
  simp only [trip_w34]
  after_results_entrywise [r0, cast_eq]

theorem val_v211 (h : Holds V s j) : val V 35 (no_index (Proc.devRef .tc main_while0b_v211)) = Cert.Proof.RefStep.b253 j s := by
  have r0 : val V 34 (no_index (Proc.devRef .tc main_while0b_v206)) = Cert.Proof.RefStep.b247 j s := val_v206 h
  have r1 : val V 34 (no_index (Proc.devRef .tc main_while0b_v199)) = Cert.Proof.RefStep.b237 j s := (kept V 33 main_while0b_v199 1 (by decide +kernel)).trans (val_v199 h)
  have r2 : val V 34 (no_index (Proc.devRef .tc main_while0b_v207)) = Cert.Proof.RefStep.b249 j s := val_v207 h
  simp only [Cert.Proof.RefStep.b253, Cert.Proof.RefStep.b251, Cert.Proof.RefStep.b250]
  show after trip_w34 (val V 34) _ = _
  simp only [trip_w34]
  after_results_entrywise [r0, r1, r2, cast_eq]

theorem val_v216 (h : Holds V s j) : val V 36 (no_index (Proc.devRef .tc main_while0b_v216)) = Cert.Proof.RefStep.b259 j s := by
  have r0 : val V 35 (no_index (Proc.devRef .tc main_while0b_v198)) = Cert.Proof.RefStep.b232 j s := (kept V 32 main_while0b_v198 3 (by decide +kernel)).trans (val_v198 h)
  have r1 : val V 35 (no_index (Proc.devRef .tc main_while0b_v210)) = Cert.Proof.RefStep.b252 j s := val_v210 h
  have r2 : val V 35 (no_index (Proc.devRef .tc main_while0b_v211)) = Cert.Proof.RefStep.b253 j s := val_v211 h
  simp only [Cert.Proof.RefStep.b259, Cert.Proof.RefStep.b258, Cert.Proof.RefStep.b255, Cert.Proof.RefStep.b254, Cert.Proof.RefStep.b257, Cert.Proof.RefStep.b256]
  show after trip_w35 (val V 35) _ = _
  simp only [trip_w35]
  after_results_entrywise [r0, r1, r2, cast_eq]

theorem val_v217 (h : Holds V s j) : val V 36 (no_index (Proc.devRef .tc main_while0b_v217)) = Cert.Proof.RefStep.b261 j s := by
  simp only [Cert.Proof.RefStep.b261, Cert.Proof.RefStep.b260]
  show after trip_w35 (val V 35) _ = _
  simp only [trip_w35]
  after_results_entrywise [cast_eq]

theorem val_v221 (h : Holds V s j) : val V 37 (no_index (Proc.devRef .tc main_while0b_v221)) = Cert.Proof.RefStep.b266 j s := by
  have r0 : val V 36 (no_index (Proc.devRef .tc main_v9_6)) = _ := (kept V 0 main_v9_6 36 (by decide +kernel)).trans h.k_6
  have r1 : val V 36 (no_index (Proc.devRef .tc main_while0b_v217)) = Cert.Proof.RefStep.b261 j s := val_v217 h
  simp only [Cert.Proof.RefStep.b266, Cert.Proof.RefStep.b262, Cert.Proof.RefStep.b265, Cert.Proof.RefStep.b264, Cert.Proof.RefStep.b263]
  show after trip_w36 (val V 36) _ = _
  simp only [trip_w36]
  after_results_entrywise [r0, r1, cast_eq]

theorem val_v226 (h : Holds V s j) : val V 37 (no_index (Proc.devRef .tc main_while0b_v226)) = Cert.Proof.RefStep.b273 j s := by
  have r0 : val V 36 (no_index (Proc.devRef .tc main_while0b_v199)) = Cert.Proof.RefStep.b237 j s := (kept V 33 main_while0b_v199 3 (by decide +kernel)).trans (val_v199 h)
  simp only [Cert.Proof.RefStep.b273, Cert.Proof.RefStep.b269, Cert.Proof.RefStep.b268, Cert.Proof.RefStep.b267, Cert.Proof.RefStep.b272, Cert.Proof.RefStep.b271, Cert.Proof.RefStep.b270]
  show after trip_w36 (val V 36) _ = _
  simp only [trip_w36]
  after_results_entrywise [r0, cast_eq]

theorem val_v229 (h : Holds V s j) : val V 38 (no_index (Proc.devRef .tc main_while0b_v229)) = Cert.Proof.RefStep.b277 j s := by
  have r0 : val V 37 (no_index (Proc.devRef .tc main_while0b_v221)) = Cert.Proof.RefStep.b266 j s := val_v221 h
  simp only [Cert.Proof.RefStep.b277]
  show after trip_w37 (val V 37) _ = _
  simp only [trip_w37]
  after_results_entrywise [r0, cast_eq]

theorem val_v230 (h : Holds V s j) : val V 38 (no_index (Proc.devRef .tc main_while0b_v230)) = Cert.Proof.RefStep.b278 j s := by
  have r0 : val V 37 (no_index (Proc.devRef .tc main_while0b_v226)) = Cert.Proof.RefStep.b273 j s := val_v226 h
  simp only [Cert.Proof.RefStep.b278]
  show after trip_w37 (val V 37) _ = _
  simp only [trip_w37]
  after_results_entrywise [r0, cast_eq]

theorem val_v231 (h : Holds V s j) : val V 38 (no_index (Proc.devRef .tc main_while0b_v231)) = Cert.Proof.RefStep.b279 j s := by
  simp only [Cert.Proof.RefStep.b279, Cert.Proof.RefStep.b276, Cert.Proof.RefStep.b275, Cert.Proof.RefStep.b274]
  show after trip_w37 (val V 37) _ = _
  simp only [trip_w37]
  after_results_entrywise [cast_eq]

theorem val_v232 (h : Holds V s j) : val V 39 (no_index (Proc.devRef .tc main_while0b_v232)) = Cert.Proof.RefStep.b280 j s := by
  have r0 : val V 38 (no_index (Proc.devRef .tc main_while0b_v229)) = Cert.Proof.RefStep.b277 j s := val_v229 h
  have r1 : val V 38 (no_index (Proc.devRef .tc main_while0b_v230)) = Cert.Proof.RefStep.b278 j s := val_v230 h
  have r2 : val V 38 (no_index (Proc.devRef .tc main_while0b_v231)) = Cert.Proof.RefStep.b279 j s := val_v231 h
  unfold Cert.Proof.RefStep.b280
  show fn_main_while0b_v232 (val V 38 (Proc.devRef .tc main_while0b_v229)) (val V 38 (Proc.devRef .tc main_while0b_v230)) (val V 38 (Proc.devRef .tc main_while0b_v231)) = _
  rw [r0, r1, r2]
  rfl

theorem val_v235 (h : Holds V s j) : val V 40 (no_index (Proc.devRef .tc main_while0b_v235)) = Cert.Proof.RefStep.b284 j s := by
  have r0 : val V 39 (no_index (Proc.devRef .tc main_v9_9)) = _ := (kept V 0 main_v9_9 39 (by decide +kernel)).trans h.f_9
  have r1 : val V 39 (no_index (Proc.devRef .tc main_while0b_v232)) = Cert.Proof.RefStep.b280 j s := val_v232 h
  simp only [Cert.Proof.RefStep.b284, Cert.Proof.RefStep.b281, Cert.Proof.RefStep.b283, Cert.Proof.RefStep.b282]
  show after trip_w39 (val V 39) _ = _
  simp only [trip_w39]
  after_results_entrywise [r0, r1, cast_eq]

theorem val_c_88 (h : Holds V s j) : val V 40 (no_index (Proc.devRef .tc main_while0b_c_88)) = Cert.Proof.RefStep.b285 j s := by
  simp only [Cert.Proof.RefStep.b285]
  show after trip_w39 (val V 39) _ = _
  simp only [trip_w39]
  after_results_entrywise [cast_eq]

theorem val_v240 (h : Holds V s j) : val V 41 (no_index (Proc.devRef .tc main_while0b_v240)) = Cert.Proof.RefStep.b291 j s := by
  have r0 : val V 40 (no_index (Proc.devRef .tc main_v9_6)) = _ := (kept V 0 main_v9_6 40 (by decide +kernel)).trans h.k_6
  have r1 : val V 40 (no_index (Proc.devRef .tc main_while0b_c_88)) = Cert.Proof.RefStep.b285 j s := val_c_88 h
  simp only [Cert.Proof.RefStep.b291, Cert.Proof.RefStep.b287, Cert.Proof.RefStep.b286, Cert.Proof.RefStep.b290, Cert.Proof.RefStep.b289, Cert.Proof.RefStep.b288]
  show after trip_w40 (val V 40) _ = _
  simp only [trip_w40]
  after_results_entrywise [r0, r1, cast_eq]

theorem val_v242 (h : Holds V s j) : val V 41 (no_index (Proc.devRef .tc main_while0b_v242)) = Cert.Proof.RefStep.b294 j s := by
  have r0 : val V 40 (no_index (Proc.devRef .tc main_while0b_v73)) = Cert.Proof.RefStep.b68 j s := (kept V 9 main_while0b_v73 31 (by decide +kernel)).trans (val_v73 h)
  simp only [Cert.Proof.RefStep.b294, Cert.Proof.RefStep.b293, Cert.Proof.RefStep.b292]
  show after trip_w40 (val V 40) _ = _
  simp only [trip_w40]
  after_results_entrywise [r0, cast_eq]

theorem val_v244 (h : Holds V s j) : val V 41 (no_index (Proc.devRef .tc main_while0b_v244)) = Cert.Proof.RefStep.b297 j s := by
  have r0 : val V 40 (no_index (Proc.devRef .tc main_while0b_v73)) = Cert.Proof.RefStep.b68 j s := (kept V 9 main_while0b_v73 31 (by decide +kernel)).trans (val_v73 h)
  simp only [Cert.Proof.RefStep.b297, Cert.Proof.RefStep.b296, Cert.Proof.RefStep.b295]
  show after trip_w40 (val V 40) _ = _
  simp only [trip_w40]
  after_results_entrywise [r0, cast_eq]

theorem val_v246 (h : Holds V s j) : val V 42 (no_index (Proc.devRef .tc main_while0b_v246)) = Cert.Proof.RefStep.b299 j s := by
  have r0 : val V 41 (no_index (Proc.devRef .tc main_while0b_v240)) = Cert.Proof.RefStep.b291 j s := val_v240 h
  simp only [Cert.Proof.RefStep.b299]
  show after trip_w41 (val V 41) _ = _
  simp only [trip_w41]
  after_results_entrywise [r0, cast_eq]

theorem val_v247 (h : Holds V s j) : val V 42 (no_index (Proc.devRef .tc main_while0b_v247)) = Cert.Proof.RefStep.b300 j s := by
  have r0 : val V 41 (no_index (Proc.devRef .tc main_while0b_v242)) = Cert.Proof.RefStep.b294 j s := val_v242 h
  have r1 : val V 41 (no_index (Proc.devRef .tc main_while0b_v244)) = Cert.Proof.RefStep.b297 j s := val_v244 h
  have r2 : val V 41 (no_index (Proc.devRef .tc main_while0b_v73)) = Cert.Proof.RefStep.b68 j s := (kept V 9 main_while0b_v73 32 (by decide +kernel)).trans (val_v73 h)
  simp only [Cert.Proof.RefStep.b300, Cert.Proof.RefStep.b298]
  show after trip_w41 (val V 41) _ = _
  simp only [trip_w41]
  after_results_entrywise [r0, r1, r2, cast_eq]

theorem val_v248 (h : Holds V s j) : val V 42 (no_index (Proc.devRef .tc main_while0b_v248)) = Cert.Proof.RefStep.b302 j s := by
  simp only [Cert.Proof.RefStep.b302, Cert.Proof.RefStep.b301]
  show after trip_w41 (val V 41) _ = _
  simp only [trip_w41]
  after_results_entrywise [cast_eq]

theorem val_v249 (h : Holds V s j) : val V 43 (no_index (Proc.devRef .tc main_while0b_v249)) = Cert.Proof.RefStep.b303 j s := by
  have r0 : val V 42 (no_index (Proc.devRef .tc main_while0b_v246)) = Cert.Proof.RefStep.b299 j s := val_v246 h
  have r1 : val V 42 (no_index (Proc.devRef .tc main_while0b_v247)) = Cert.Proof.RefStep.b300 j s := val_v247 h
  have r2 : val V 42 (no_index (Proc.devRef .tc main_while0b_v248)) = Cert.Proof.RefStep.b302 j s := val_v248 h
  unfold Cert.Proof.RefStep.b303
  show fn_main_while0b_v249 (val V 42 (Proc.devRef .tc main_while0b_v246)) (val V 42 (Proc.devRef .tc main_while0b_v247)) (val V 42 (Proc.devRef .tc main_while0b_v248)) = _
  rw [r0, r1, r2]
  rfl

theorem val_v250 (h : Holds V s j) : val V 44 (no_index (Proc.devRef .tc main_while0b_v250)) = Cert.Proof.RefStep.b304 j s := by
  have r0 : val V 43 (no_index (Proc.devRef .tc main_v9_0)) = _ := (kept V 0 main_v9_0 43 (by decide +kernel)).trans h.f_0
  have r1 : val V 43 (no_index (Proc.devRef .tc main_while0b_v249)) = Cert.Proof.RefStep.b303 j s := val_v249 h
  simp only [Cert.Proof.RefStep.b304]
  show after trip_w43 (val V 43) _ = _
  simp only [trip_w43]
  after_results_entrywise [r0, r1, cast_eq]

theorem val_v251 (h : Holds V s j) : val V 44 (no_index (Proc.devRef .tc main_while0b_v251)) = Cert.Proof.RefStep.b306 j s := by
  simp only [Cert.Proof.RefStep.b306, Cert.Proof.RefStep.b305]
  show after trip_w43 (val V 43) _ = _
  simp only [trip_w43]
  after_results_entrywise [cast_eq]

theorem val_v252 (h : Holds V s j) : val V 45 (no_index (Proc.devRef .tc main_while0b_v252)) = Cert.Proof.RefStep.b307 j s := by
  have r0 : val V 44 (no_index (Proc.devRef .tc main_while0b_v250)) = Cert.Proof.RefStep.b304 j s := val_v250 h
  have r1 : val V 44 (no_index (Proc.devRef .tc main_while0b_v251)) = Cert.Proof.RefStep.b306 j s := val_v251 h
  simp only [Cert.Proof.RefStep.b307]
  show after trip_w44 (val V 44) _ = _
  simp only [trip_w44]
  after_results_entrywise [r0, r1, cast_eq]

theorem val_v253 (h : Holds V s j) : val V 45 (no_index (Proc.devRef .tc main_while0b_v253)) = Cert.Proof.RefStep.b309 j s := by
  simp only [Cert.Proof.RefStep.b309, Cert.Proof.RefStep.b308]
  show after trip_w44 (val V 44) _ = _
  simp only [trip_w44]
  after_results_entrywise [cast_eq]

theorem val_v257 (h : Holds V s j) : val V 46 (no_index (Proc.devRef .tc main_while0b_v257)) = Cert.Proof.RefStep.b314 j s := by
  have r0 : val V 45 (no_index (Proc.devRef .tc main_v9_6)) = _ := (kept V 0 main_v9_6 45 (by decide +kernel)).trans h.k_6
  have r1 : val V 45 (no_index (Proc.devRef .tc main_while0b_v253)) = Cert.Proof.RefStep.b309 j s := val_v253 h
  simp only [Cert.Proof.RefStep.b314, Cert.Proof.RefStep.b310, Cert.Proof.RefStep.b313, Cert.Proof.RefStep.b312, Cert.Proof.RefStep.b311]
  show after trip_w45 (val V 45) _ = _
  simp only [trip_w45]
  after_results_entrywise [r0, r1, cast_eq]

theorem val_v262 (h : Holds V s j) : val V 46 (no_index (Proc.devRef .tc main_while0b_v262)) = Cert.Proof.RefStep.b321 j s := by
  have r0 : val V 45 (no_index (Proc.devRef .tc main_while0b_v199)) = Cert.Proof.RefStep.b237 j s := (kept V 33 main_while0b_v199 12 (by decide +kernel)).trans (val_v199 h)
  simp only [Cert.Proof.RefStep.b321, Cert.Proof.RefStep.b317, Cert.Proof.RefStep.b316, Cert.Proof.RefStep.b315, Cert.Proof.RefStep.b320, Cert.Proof.RefStep.b319, Cert.Proof.RefStep.b318]
  show after trip_w45 (val V 45) _ = _
  simp only [trip_w45]
  after_results_entrywise [r0, cast_eq]

theorem val_v263 (h : Holds V s j) : val V 47 (no_index (Proc.devRef .tc main_while0b_v263)) = Cert.Proof.RefStep.b322 j s := by
  have r0 : val V 46 (no_index (Proc.devRef .tc main_while0b_v257)) = Cert.Proof.RefStep.b314 j s := val_v257 h
  simp only [Cert.Proof.RefStep.b322]
  show after trip_w46 (val V 46) _ = _
  simp only [trip_w46]
  after_results_entrywise [r0, cast_eq]

theorem val_v264 (h : Holds V s j) : val V 47 (no_index (Proc.devRef .tc main_while0b_v264)) = Cert.Proof.RefStep.b323 j s := by
  have r0 : val V 46 (no_index (Proc.devRef .tc main_while0b_v262)) = Cert.Proof.RefStep.b321 j s := val_v262 h
  simp only [Cert.Proof.RefStep.b323]
  show after trip_w46 (val V 46) _ = _
  simp only [trip_w46]
  after_results_entrywise [r0, cast_eq]

theorem val_v266 (h : Holds V s j) : val V 48 (no_index (Proc.devRef .tc main_while0b_v266)) = Cert.Proof.RefStep.b325 j s := by
  have r0 : val V 47 (no_index (Proc.devRef .tc main_v9_9)) = _ := (kept V 0 main_v9_9 47 (by decide +kernel)).trans h.f_9
  have r1 : val V 47 (no_index (Proc.devRef .tc main_while0b_v263)) = Cert.Proof.RefStep.b322 j s := val_v263 h
  have r2 : val V 47 (no_index (Proc.devRef .tc main_while0b_v264)) = Cert.Proof.RefStep.b323 j s := val_v264 h
  have r3 : val V 47 (no_index (Proc.devRef .tc main_while0b_v252)) = Cert.Proof.RefStep.b307 j s := (kept V 45 main_while0b_v252 2 (by decide +kernel)).trans (val_v252 h)
  simp only [Cert.Proof.RefStep.b325, Cert.Proof.RefStep.b324]
  show after trip_w47 (val V 47) _ = _
  simp only [trip_w47]
  after_results_entrywise [r0, r1, r2, r3, cast_eq]

theorem val_v271 (h : Holds V s j) : val V 48 (no_index (Proc.devRef .tc main_while0b_v271)) = Cert.Proof.RefStep.b331 j s := by
  have r0 : val V 47 (no_index (Proc.devRef .tc main_while0b_v235)) = Cert.Proof.RefStep.b284 j s := (kept V 40 main_while0b_v235 7 (by decide +kernel)).trans (val_v235 h)
  simp only [Cert.Proof.RefStep.b331, Cert.Proof.RefStep.b328, Cert.Proof.RefStep.b327, Cert.Proof.RefStep.b326, Cert.Proof.RefStep.b330, Cert.Proof.RefStep.b329]
  show after trip_w47 (val V 47) _ = _
  simp only [trip_w47]
  after_results_entrywise [r0, cast_eq]

theorem val_v272 (h : Holds V s j) : val V 48 (no_index (Proc.devRef .tc main_while0b_v272)) = Cert.Proof.RefStep.b332 j s := by
  have r0 : val V 47 (no_index (Proc.devRef .tc main_while0b_v73)) = Cert.Proof.RefStep.b68 j s := (kept V 9 main_while0b_v73 38 (by decide +kernel)).trans (val_v73 h)
  simp only [Cert.Proof.RefStep.b332]
  show after trip_w47 (val V 47) _ = _
  simp only [trip_w47]
  after_results_entrywise [r0, cast_eq]

theorem val_v273 (h : Holds V s j) : val V 48 (no_index (Proc.devRef .tc main_while0b_v273)) = Cert.Proof.RefStep.b333 j s := by
  have r0 : val V 47 (no_index (Proc.devRef .tc main_while0b_v199)) = Cert.Proof.RefStep.b237 j s := (kept V 33 main_while0b_v199 14 (by decide +kernel)).trans (val_v199 h)
  simp only [Cert.Proof.RefStep.b333]
  show after trip_w47 (val V 47) _ = _
  simp only [trip_w47]
  after_results_entrywise [r0, cast_eq]

theorem val_v274 (h : Holds V s j) : val V 49 (no_index (Proc.devRef .tc main_while0b_v274)) = Cert.Proof.RefStep.b334 j s := by
  have r0 : val V 48 (no_index (Proc.devRef .tc main_while0b_v272)) = Cert.Proof.RefStep.b332 j s := val_v272 h
  have r1 : val V 48 (no_index (Proc.devRef .tc main_while0b_v273)) = Cert.Proof.RefStep.b333 j s := val_v273 h
  simp only [Cert.Proof.RefStep.b334]
  show after trip_w48 (val V 48) _ = _
  simp only [trip_w48]
  after_results_entrywise [r0, r1, cast_eq]

theorem val_v275 (h : Holds V s j) : val V 50 (no_index (Proc.devRef .tc main_while0b_v275)) = Cert.Proof.RefStep.b338 j s := by
  have r0 : val V 49 (no_index (Proc.devRef .tc main_v9_12)) = _ := (kept V 0 main_v9_12 49 (by decide +kernel)).trans h.f_12
  have r1 : val V 49 (no_index (Proc.devRef .tc main_while0b_v72)) = Cert.Proof.RefStep.b63 j s := (kept V 8 main_while0b_v72 41 (by decide +kernel)).trans (val_v72 h)
  have r2 : val V 49 (no_index (Proc.devRef .tc main_v9_8)) = _ := (kept V 0 main_v9_8 49 (by decide +kernel)).trans h.n_8
  simp only [Cert.Proof.RefStep.b338, Cert.Proof.RefStep.b335, Cert.Proof.RefStep.b336, Cert.Proof.RefStep.b337]
  show after trip_w49 (val V 49) _ = _
  simp only [trip_w49]
  after_results_entrywise [r0, r1, r2, cast_eq]

theorem val_v276 (h : Holds V s j) : val V 51 (no_index (Proc.devRef .tc main_while0b_v276)) = Cert.Proof.RefStep.b342 j s := by
  have r0 : val V 50 (no_index (Proc.devRef .tc main_v9_13)) = _ := (kept V 0 main_v9_13 50 (by decide +kernel)).trans h.f_13
  have r1 : val V 50 (no_index (Proc.devRef .tc main_while0b_v198)) = Cert.Proof.RefStep.b232 j s := (kept V 32 main_while0b_v198 18 (by decide +kernel)).trans (val_v198 h)
  have r2 : val V 50 (no_index (Proc.devRef .tc main_v9_8)) = _ := (kept V 0 main_v9_8 50 (by decide +kernel)).trans h.n_8
  simp only [Cert.Proof.RefStep.b342, Cert.Proof.RefStep.b339, Cert.Proof.RefStep.b340, Cert.Proof.RefStep.b341]
  show after trip_w50 (val V 50) _ = _
  simp only [trip_w50]
  after_results_entrywise [r0, r1, r2, cast_eq]

theorem val_v277 (h : Holds V s j) : val V 52 (no_index (Proc.devRef .tc main_while0b_v277)) = Cert.Proof.RefStep.b345 j s := by
  have r0 : val V 51 (no_index (Proc.devRef .tc main_v9_14)) = _ := (kept V 0 main_v9_14 51 (by decide +kernel)).trans h.f_14
  have r1 : val V 51 (no_index (Proc.devRef .tc main_while0b_v90)) = Cert.Proof.RefStep.b90 j s := (kept V 12 main_while0b_v90 39 (by decide +kernel)).trans (val_v90 h)
  have r2 : val V 51 (no_index (Proc.devRef .tc main_v9_8)) = _ := (kept V 0 main_v9_8 51 (by decide +kernel)).trans h.n_8
  simp only [Cert.Proof.RefStep.b345, Cert.Proof.RefStep.b343, Cert.Proof.RefStep.b344]
  show after trip_w51 (val V 51) _ = _
  simp only [trip_w51]
  after_results_entrywise [r0, r1, r2, cast_eq]

theorem val_v278 (h : Holds V s j) : val V 53 (no_index (Proc.devRef .tc main_while0b_v278)) = Cert.Proof.RefStep.b348 j s := by
  have r0 : val V 52 (no_index (Proc.devRef .tc main_v9_15)) = _ := (kept V 0 main_v9_15 52 (by decide +kernel)).trans h.f_15
  have r1 : val V 52 (no_index (Proc.devRef .tc main_while0b_v216)) = Cert.Proof.RefStep.b259 j s := (kept V 36 main_while0b_v216 16 (by decide +kernel)).trans (val_v216 h)
  have r2 : val V 52 (no_index (Proc.devRef .tc main_v9_8)) = _ := (kept V 0 main_v9_8 52 (by decide +kernel)).trans h.n_8
  simp only [Cert.Proof.RefStep.b348, Cert.Proof.RefStep.b346, Cert.Proof.RefStep.b347]
  show after trip_w52 (val V 52) _ = _
  simp only [trip_w52]
  after_results_entrywise [r0, r1, r2, cast_eq]

theorem val_v279 (h : Holds V s j) : val V 54 (no_index (Proc.devRef .tc main_while0b_v279)) = Cert.Proof.RefStep.b352 j s := by
  have r0 : val V 53 (no_index (Proc.devRef .tc main_v9_16)) = _ := (kept V 0 main_v9_16 53 (by decide +kernel)).trans h.f_16
  have r1 : val V 53 (no_index (Proc.devRef .tc main_while0b_v274)) = Cert.Proof.RefStep.b334 j s := (kept V 49 main_while0b_v274 4 (by decide +kernel)).trans (val_v274 h)
  have r2 : val V 53 (no_index (Proc.devRef .tc main_v9_8)) = _ := (kept V 0 main_v9_8 53 (by decide +kernel)).trans h.n_8
  simp only [Cert.Proof.RefStep.b352, Cert.Proof.RefStep.b349, Cert.Proof.RefStep.b350, Cert.Proof.RefStep.b351]
  show after trip_w53 (val V 53) _ = _
  simp only [trip_w53]
  after_results_entrywise [r0, r1, r2, cast_eq]

theorem val_v280 (h : Holds V s j) : val V 55 (no_index (Proc.devRef .tc main_while0b_v280)) = Cert.Proof.RefStep.b355 j s := by
  have r0 : val V 54 (no_index (Proc.devRef .tc main_v9_17)) = _ := (kept V 0 main_v9_17 54 (by decide +kernel)).trans h.f_17
  have r1 : val V 54 (no_index (Proc.devRef .tc main_while0b_v271)) = Cert.Proof.RefStep.b331 j s := (kept V 48 main_while0b_v271 6 (by decide +kernel)).trans (val_v271 h)
  have r2 : val V 54 (no_index (Proc.devRef .tc main_v9_8)) = _ := (kept V 0 main_v9_8 54 (by decide +kernel)).trans h.n_8
  simp only [Cert.Proof.RefStep.b355, Cert.Proof.RefStep.b353, Cert.Proof.RefStep.b354]
  show after trip_w54 (val V 54) _ = _
  simp only [trip_w54]
  after_results_entrywise [r0, r1, r2, cast_eq]

end Cert.Proof.RefRun

end
-- ==== Proof.RefResult.lean ====
/- The reference's results. What its loop carries is `RefStep.State`: one trip takes it one `RefStep.step` on, so 50 trips
   leave `it 50`, and the operations after the loop read the six results off that. -/
module

public import proofs.«01_k».proof.Proof.RefValues
public import Idealize.ShloMosaic.Lib.Pointwise

@[expose] public section

set_option maxRecDepth 16384

noncomputable section

namespace Cert.Proof.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic Idealize.ShloMosaic.TcCoe Idealize.ShloMosaic.Tactic
open Idealize.SL.BI.BIBase Idealize.SL.BI.Laws Idealize.SL.ProofMode Idealize.SL.Sem
open Idealize.ShloMosaic.StableHlo
open Idealize.ShloMosaic.Pipeline (ucRefs sub_ucRefs)

open Cert.Proof.RefStep (State step init)

variable {F : FTy → Type} [FloatOps F]
variable {V : Valuation τ sig (Elt F)} {s : State F} {j : ℕ}

/-- A buffer the loop's condition does not write keeps its contents through it. -/
theorem cond_kept (V : Valuation τ sig (Elt F)) (r : Ref sig .tc) (h : r ∉ condOps_W) :
    after condOps V (Proc.devRef .tc r) = V (Proc.devRef .tc r) := after_of_writes_sub _ _ condOps_writes h

/-- A buffer the loop's body does not write keeps its contents through a trip. -/
theorem trip_kept (V : Valuation τ sig (Elt F)) (r : Ref sig .tc) (h : r ∉ while0Ops0_17_W)
    (h' : ∀ i < 55, r ∉ winW.getD (0 + i) []) : afterL bodyI V (Proc.devRef .tc r) = V (Proc.devRef .tc r) := by
  rw [body_eq, after_of_writes_sub _ _ while0Ops0_17_writes h]
  exact kept V 0 r 55 h'

/-- The loop's condition writes none of the carried values. -/
theorem holds_cond (h : Holds V s j) : Holds (after condOps V) s j where
  f_9 := (cond_kept V main_v9_9 (by decide +kernel)).trans h.f_9
  f_10 := (cond_kept V main_v9_10 (by decide +kernel)).trans h.f_10
  f_11 := (cond_kept V main_v9_11 (by decide +kernel)).trans h.f_11
  f_12 := (cond_kept V main_v9_12 (by decide +kernel)).trans h.f_12
  f_13 := (cond_kept V main_v9_13 (by decide +kernel)).trans h.f_13
  f_14 := (cond_kept V main_v9_14 (by decide +kernel)).trans h.f_14
  f_15 := (cond_kept V main_v9_15 (by decide +kernel)).trans h.f_15
  f_16 := (cond_kept V main_v9_16 (by decide +kernel)).trans h.f_16
  f_17 := (cond_kept V main_v9_17 (by decide +kernel)).trans h.f_17
  f_0 := (cond_kept V main_v9_0 (by decide +kernel)).trans h.f_0
  f_1 := (cond_kept V main_v9_1 (by decide +kernel)).trans h.f_1
  f_2 := (cond_kept V main_v9_2 (by decide +kernel)).trans h.f_2
  f_3 := (cond_kept V main_v9_3 (by decide +kernel)).trans h.f_3
  f_4 := (cond_kept V main_v9_4 (by decide +kernel)).trans h.f_4
  f_5 := (cond_kept V main_v9_5 (by decide +kernel)).trans h.f_5
  f_7 := (cond_kept V main_v9_7 (by decide +kernel)).trans h.f_7
  n_8 := (cond_kept V main_v9_8 (by decide +kernel)).trans h.n_8
  k_6 := (cond_kept V main_v9_6 (by decide +kernel)).trans h.k_6

theorem trip_9 (h : Holds V s j) : afterL bodyI V (Proc.devRef .tc main_v9_9) = (step j s).main_v9_9 := by
  have r0 : val V 55 (no_index (Proc.devRef .tc main_while0b_v266)) = _ := (kept V 48 main_while0b_v266 7 (by decide +kernel)).trans (val_v266 h)
  rw [body_eq, Cert.Proof.RefStep.step_main_v9_9]
  revert r0
  generalize Cert.Proof.RefStep.b325 j s = B
  generalize val V 55 = W
  intro r0
  simp only [while0Ops0_17]
  after_results_entrywise [r0]

theorem trip_10 (h : Holds V s j) : afterL bodyI V (Proc.devRef .tc main_v9_10) = (step j s).main_v9_10 := by
  have r0 : val V 55 (no_index (Proc.devRef .tc main_while0b_v105)) = _ := (kept V 15 main_while0b_v105 40 (by decide +kernel)).trans (val_v105 h)
  rw [body_eq, Cert.Proof.RefStep.step_main_v9_10]
  revert r0
  generalize Cert.Proof.RefStep.b110 j s = B
  generalize val V 55 = W
  intro r0
  simp only [while0Ops0_17]
  after_results_entrywise [r0]

theorem trip_11 (h : Holds V s j) : afterL bodyI V (Proc.devRef .tc main_v9_11) = (step j s).main_v9_11 := by
  have r0 : val V 55 (no_index (Proc.devRef .tc main_while0b_v156)) = _ := (kept V 24 main_while0b_v156 31 (by decide +kernel)).trans (val_v156 h)
  rw [body_eq, Cert.Proof.RefStep.step_main_v9_11]
  revert r0
  generalize Cert.Proof.RefStep.b178 j s = B
  generalize val V 55 = W
  intro r0
  simp only [while0Ops0_17]
  after_results_entrywise [r0]

theorem trip_12 (h : Holds V s j) : afterL bodyI V (Proc.devRef .tc main_v9_12) = (step j s).main_v9_12 := by
  have r0 : val V 55 (no_index (Proc.devRef .tc main_while0b_v275)) = _ := (kept V 50 main_while0b_v275 5 (by decide +kernel)).trans (val_v275 h)
  rw [body_eq, Cert.Proof.RefStep.step_main_v9_12]
  revert r0
  generalize Cert.Proof.RefStep.b338 j s = B
  generalize val V 55 = W
  intro r0
  simp only [while0Ops0_17]
  after_results_entrywise [r0]

theorem trip_13 (h : Holds V s j) : afterL bodyI V (Proc.devRef .tc main_v9_13) = (step j s).main_v9_13 := by
  have r0 : val V 55 (no_index (Proc.devRef .tc main_while0b_v276)) = _ := (kept V 51 main_while0b_v276 4 (by decide +kernel)).trans (val_v276 h)
  rw [body_eq, Cert.Proof.RefStep.step_main_v9_13]
  revert r0
  generalize Cert.Proof.RefStep.b342 j s = B
  generalize val V 55 = W
  intro r0
  simp only [while0Ops0_17]
  after_results_entrywise [r0]

theorem trip_14 (h : Holds V s j) : afterL bodyI V (Proc.devRef .tc main_v9_14) = (step j s).main_v9_14 := by
  have r0 : val V 55 (no_index (Proc.devRef .tc main_while0b_v277)) = _ := (kept V 52 main_while0b_v277 3 (by decide +kernel)).trans (val_v277 h)
  rw [body_eq, Cert.Proof.RefStep.step_main_v9_14]
  revert r0
  generalize Cert.Proof.RefStep.b345 j s = B
  generalize val V 55 = W
  intro r0
  simp only [while0Ops0_17]
  after_results_entrywise [r0]

theorem trip_15 (h : Holds V s j) : afterL bodyI V (Proc.devRef .tc main_v9_15) = (step j s).main_v9_15 := by
  have r0 : val V 55 (no_index (Proc.devRef .tc main_while0b_v278)) = _ := (kept V 53 main_while0b_v278 2 (by decide +kernel)).trans (val_v278 h)
  rw [body_eq, Cert.Proof.RefStep.step_main_v9_15]
  revert r0
  generalize Cert.Proof.RefStep.b348 j s = B
  generalize val V 55 = W
  intro r0
  simp only [while0Ops0_17]
  after_results_entrywise [r0]

theorem trip_16 (h : Holds V s j) : afterL bodyI V (Proc.devRef .tc main_v9_16) = (step j s).main_v9_16 := by
  have r0 : val V 55 (no_index (Proc.devRef .tc main_while0b_v279)) = _ := (kept V 54 main_while0b_v279 1 (by decide +kernel)).trans (val_v279 h)
  rw [body_eq, Cert.Proof.RefStep.step_main_v9_16]
  revert r0
  generalize Cert.Proof.RefStep.b352 j s = B
  generalize val V 55 = W
  intro r0
  simp only [while0Ops0_17]
  after_results_entrywise [r0]

theorem trip_17 (h : Holds V s j) : afterL bodyI V (Proc.devRef .tc main_v9_17) = (step j s).main_v9_17 := by
  have r0 : val V 55 (no_index (Proc.devRef .tc main_while0b_v280)) = _ := (kept V 55 main_while0b_v280 0 (by decide +kernel)).trans (val_v280 h)
  rw [body_eq, Cert.Proof.RefStep.step_main_v9_17]
  revert r0
  generalize Cert.Proof.RefStep.b355 j s = B
  generalize val V 55 = W
  intro r0
  simp only [while0Ops0_17]
  after_results_entrywise [r0]

theorem trip_8 (h : Holds V s j) : afterL bodyI V (Proc.devRef .tc main_v9_8) = constantI S_ 32 (BitVec.ofNat 32 (j + 1)) := by
  have r0 : val V 55 (no_index (Proc.devRef .tc main_v9_8)) = _ := (kept V 0 main_v9_8 55 (by decide +kernel)).trans h.n_8
  rw [body_eq]
  simp only [while0Ops0_17]
  have key : afterL [while0Ops0_17] (val V 55) (Proc.devRef .tc main_v9_8) = addi (constantI S_ 32 (BitVec.ofNat 32 j)) (constantI S_ 32 1#32) := by
    simp only [afterL_cons, afterL_nil, while0Ops0_17]
    after_results_entrywise [r0]
  refine key.trans ?_
  funext i
  show BitVec.ofNat 32 j + 1#32 = BitVec.ofNat 32 (j + 1)
  simp only [BitVec.ofNat_add]

theorem step_0 (j : ℕ) (s : State F) : (step j s).main_v9_0 = s.main_v9_0 := by simp only [step]
theorem step_1 (j : ℕ) (s : State F) : (step j s).main_v9_1 = s.main_v9_1 := by simp only [step]
theorem step_2 (j : ℕ) (s : State F) : (step j s).main_v9_2 = s.main_v9_2 := by simp only [step]
theorem step_3 (j : ℕ) (s : State F) : (step j s).main_v9_3 = s.main_v9_3 := by simp only [step]
theorem step_4 (j : ℕ) (s : State F) : (step j s).main_v9_4 = s.main_v9_4 := by simp only [step]
theorem step_5 (j : ℕ) (s : State F) : (step j s).main_v9_5 = s.main_v9_5 := by simp only [step]
theorem step_7 (j : ℕ) (s : State F) : (step j s).main_v9_7 = s.main_v9_7 := by simp only [step]

/-- One trip takes the carried values one step on. -/
theorem holds_trip (h : Holds V s j) : Holds (afterL bodyI V) (step j s) (j + 1) where
  f_9 := trip_9 h
  f_10 := trip_10 h
  f_11 := trip_11 h
  f_12 := trip_12 h
  f_13 := trip_13 h
  f_14 := trip_14 h
  f_15 := trip_15 h
  f_16 := trip_16 h
  f_17 := trip_17 h
  f_0 := (trip_kept V main_v9_0 (by decide +kernel) (by decide +kernel)).trans (h.f_0.trans (step_0 j s).symm)
  f_1 := (trip_kept V main_v9_1 (by decide +kernel) (by decide +kernel)).trans (h.f_1.trans (step_1 j s).symm)
  f_2 := (trip_kept V main_v9_2 (by decide +kernel) (by decide +kernel)).trans (h.f_2.trans (step_2 j s).symm)
  f_3 := (trip_kept V main_v9_3 (by decide +kernel) (by decide +kernel)).trans (h.f_3.trans (step_3 j s).symm)
  f_4 := (trip_kept V main_v9_4 (by decide +kernel) (by decide +kernel)).trans (h.f_4.trans (step_4 j s).symm)
  f_5 := (trip_kept V main_v9_5 (by decide +kernel) (by decide +kernel)).trans (h.f_5.trans (step_5 j s).symm)
  f_7 := (trip_kept V main_v9_7 (by decide +kernel) (by decide +kernel)).trans (h.f_7.trans (step_7 j s).symm)
  n_8 := trip_8 h
  k_6 := (trip_kept V main_v9_6 (by decide +kernel) (by decide +kernel)).trans h.k_6

section Run

variable (m : (ℓ : Loc nD τ sig) → Buf (Elt F) ℓ) (ρ : Dev nD → PrngReg)

/-- An argument of the program, as launched. -/
abbrev arg (r : Ref sig .tc) (c : Dev nD) := m ((c.tc : Thread nD τ).loc r)

/-- The carried values at the loop's entry. -/
def s0 (c : Dev nD) : State F :=
  init (arg m main_arg1 c) (arg m main_arg0 c) (arg m main_arg3 c) (arg m main_arg4 c) (arg m main_arg2 c) (arg m main_arg5 c) (arg m main_arg6 c) (arg m main_arg7 c)

/-- The carried values after `k` trips. -/
def it (c : Dev nD) : ℕ → State F
  | 0 => s0 m c
  | k + 1 => step k (it c k)

set_option maxHeartbeats 1000000 in
theorem holds_entry (c : Dev nD) : Holds (entryContents preI m c) (s0 m c) 0 := by
  constructor <;> (simp only [entryContents, afterL_cons, afterL_nil]; after_reads_simp) <;> rfl

/-- Before the `k`-th run of the loop's condition the buffers hold the values after `k` steps. -/
theorem holds_it (c : Dev nD) : ∀ k, Holds (atK m k c) (it m c k) k
  | 0 => holds_entry m c
  | k + 1 => holds_trip (holds_cond (holds_it c k))

theorem post_19 (h : Holds V s j) : afterL postI V (Proc.devRef .tc main_v19) = Cert.Proof.RefStep.R_main_v19 s := by
  have r0 : V (no_index (Proc.devRef .tc main_v9_12)) = _ := h.f_12
  unfold Cert.Proof.RefStep.R_main_v19
  simp only [postI, afterL_cons, afterL_nil, hostOps0_1]
  after_results_entrywise [r0]

theorem post_20 (h : Holds V s j) : afterL postI V (Proc.devRef .tc main_v20) = Cert.Proof.RefStep.R_main_v20 s := by
  have r0 : V (no_index (Proc.devRef .tc main_v9_13)) = _ := h.f_13
  unfold Cert.Proof.RefStep.R_main_v20
  simp only [postI, afterL_cons, afterL_nil, hostOps0_1]
  after_results_entrywise [r0]

theorem post_21 (h : Holds V s j) : afterL postI V (Proc.devRef .tc main_v21) = Cert.Proof.RefStep.R_main_v21 s := by
  have r0 : V (no_index (Proc.devRef .tc main_v9_14)) = _ := h.f_14
  unfold Cert.Proof.RefStep.R_main_v21
  simp only [postI, afterL_cons, afterL_nil, hostOps0_1]
  after_results_entrywise [r0]

theorem post_22 (h : Holds V s j) : afterL postI V (Proc.devRef .tc main_v22) = Cert.Proof.RefStep.R_main_v22 s := by
  have r0 : V (no_index (Proc.devRef .tc main_v9_15)) = _ := h.f_15
  unfold Cert.Proof.RefStep.R_main_v22
  simp only [postI, afterL_cons, afterL_nil, hostOps0_1]
  after_results_entrywise [r0]

theorem post_24 (h : Holds V s j) : afterL postI V (Proc.devRef .tc main_v24) = Cert.Proof.RefStep.R_main_v24 s := by
  have r0 : V (no_index (Proc.devRef .tc main_v9_16)) = _ := h.f_16
  unfold Cert.Proof.RefStep.R_main_v24
  simp only [postI, afterL_cons, afterL_nil, hostOps0_1]
  after_results_entrywise [r0]

theorem post_18 (h : Holds V s j) : afterL postI V (Proc.devRef .tc main_v18) = Cert.Proof.RefStep.R_main_v18 s := by
  have r0 : V (no_index (Proc.devRef .tc main_v9_17)) = _ := h.f_17
  unfold Cert.Proof.RefStep.R_main_v18
  simp only [postI, afterL_cons, afterL_nil, hostOps0_1]
  after_results_entrywise [r0]

/-- A buffer the operations before the loop do not write is as launched through the loop. -/
theorem atK_kept (c : Dev nD) (r : Ref sig .tc) (h0 : r ∉ hostOps0_W) (h1 : r ∉ condOps_W) (h2 : r ∉ while0Ops0_17_W)
    (h3 : ∀ i < 55, r ∉ winW.getD (0 + i) []) : ∀ k, atK m k c (Proc.devRef .tc r) = arg m r c
  | 0 => after_of_writes_sub _ _ hostOps0_writes h0
  | k + 1 => (trip_kept _ r h2 h3).trans ((cond_kept _ r h1).trans (atK_kept c r h0 h1 h2 h3 k))

/-- Such a buffer is as launched at the end too. -/
theorem final_kept (c : Dev nD) (r : Ref sig .tc) (h0 : r ∉ hostOps0_W) (h1 : r ∉ condOps_W) (h2 : r ∉ while0Ops0_17_W)
    (h3 : ∀ i < 55, r ∉ winW.getD (0 + i) []) (h4 : r ∉ hostOps0_1_W) :
    finalContents condOps preI bodyI postI 50 m c (Proc.devRef .tc r) = arg m r c :=
  (after_of_writes_sub _ _ hostOps0_1_writes h4).trans ((cond_kept _ r h1).trans (atK_kept m c r h0 h1 h2 h3 50))

/-- The eight arguments as they were. -/
abbrev ArgsKept (r : (ℓ : Loc nD τ sig) → Buf (Elt F) ℓ) (c : Dev nD) : Prop :=
  r ((c.tc : Thread nD τ).loc main_arg0) = m ((c.tc : Thread nD τ).loc main_arg0)
  ∧ r ((c.tc : Thread nD τ).loc main_arg1) = m ((c.tc : Thread nD τ).loc main_arg1)
  ∧ r ((c.tc : Thread nD τ).loc main_arg2) = m ((c.tc : Thread nD τ).loc main_arg2)
  ∧ r ((c.tc : Thread nD τ).loc main_arg3) = m ((c.tc : Thread nD τ).loc main_arg3)
  ∧ r ((c.tc : Thread nD τ).loc main_arg4) = m ((c.tc : Thread nD τ).loc main_arg4)
  ∧ r ((c.tc : Thread nD τ).loc main_arg5) = m ((c.tc : Thread nD τ).loc main_arg5)
  ∧ r ((c.tc : Thread nD τ).loc main_arg6) = m ((c.tc : Thread nD τ).loc main_arg6)
  ∧ r ((c.tc : Thread nD τ).loc main_arg7) = m ((c.tc : Thread nD τ).loc main_arg7)

/-- Every run ends with the six results read off the values after 50 steps, and the arguments as they were. -/
theorem run_values : θ_run (defs (F := F)) (onTc (τ := τ) (main (F := F))) ⟨m, fun _ => 0, ρ⟩ (fun r => ∀ c : Dev nD,
    r.2.mem ((c.tc : Thread nD τ).loc main_v19) = Cert.Proof.RefStep.R_main_v19 (it m c 50)
    ∧ r.2.mem ((c.tc : Thread nD τ).loc main_v20) = Cert.Proof.RefStep.R_main_v20 (it m c 50)
    ∧ r.2.mem ((c.tc : Thread nD τ).loc main_v21) = Cert.Proof.RefStep.R_main_v21 (it m c 50)
    ∧ r.2.mem ((c.tc : Thread nD τ).loc main_v22) = Cert.Proof.RefStep.R_main_v22 (it m c 50)
    ∧ r.2.mem ((c.tc : Thread nD τ).loc main_v24) = Cert.Proof.RefStep.R_main_v24 (it m c 50)
    ∧ r.2.mem ((c.tc : Thread nD τ).loc main_v18) = Cert.Proof.RefStep.R_main_v18 (it m c 50)
    ∧ ArgsKept m r.2.mem c) :=
  (θ_run defs _ _).mono (fun r h c =>
    have hk := holds_cond (holds_it m c 50)
    ⟨(h c main_v19 rfl).trans (post_19 hk), (h c main_v20 rfl).trans (post_20 hk), (h c main_v21 rfl).trans (post_21 hk), (h c main_v22 rfl).trans (post_22 hk), (h c main_v24 rfl).trans (post_24 hk), (h c main_v18 rfl).trans (post_18 hk),
      (h c main_arg0 rfl).trans (final_kept m c main_arg0 (by decide +kernel) (by decide +kernel) (by decide +kernel) (by decide +kernel) (by decide +kernel)),
      (h c main_arg1 rfl).trans (final_kept m c main_arg1 (by decide +kernel) (by decide +kernel) (by decide +kernel) (by decide +kernel) (by decide +kernel)),
      (h c main_arg2 rfl).trans (final_kept m c main_arg2 (by decide +kernel) (by decide +kernel) (by decide +kernel) (by decide +kernel) (by decide +kernel)),
      (h c main_arg3 rfl).trans (final_kept m c main_arg3 (by decide +kernel) (by decide +kernel) (by decide +kernel) (by decide +kernel) (by decide +kernel)),
      (h c main_arg4 rfl).trans (final_kept m c main_arg4 (by decide +kernel) (by decide +kernel) (by decide +kernel) (by decide +kernel) (by decide +kernel)),
      (h c main_arg5 rfl).trans (final_kept m c main_arg5 (by decide +kernel) (by decide +kernel) (by decide +kernel) (by decide +kernel) (by decide +kernel)),
      (h c main_arg6 rfl).trans (final_kept m c main_arg6 (by decide +kernel) (by decide +kernel) (by decide +kernel) (by decide +kernel) (by decide +kernel)),
      (h c main_arg7 rfl).trans (final_kept m c main_arg7 (by decide +kernel) (by decide +kernel) (by decide +kernel) (by decide +kernel) (by decide +kernel))⟩) (run_fold m ρ)

/-- Every run leaves the arguments as they were and every semaphore at zero. -/
theorem frame_run : θ_run (defs (F := F)) (onTc (τ := τ) (main (F := F))) ⟨m, fun _ => 0, ρ⟩ (fun r =>
    (∀ c : Dev nD, ArgsKept m r.2.mem c) ∧ r.2.sem = fun _ => 0) :=
  (θ_run defs _ _).mono (fun r h =>
    ⟨fun c => (h c).2.2.2.2.2.2, Idealize.ShloMosaic.sem_eq_zero_of_no_sems (by decide) r.2⟩) (run_values m ρ)

end Run

end Cert.Proof.RefRun

end
-- ==== Proof.Pair.lean ====
/- The two loops side by side. A trip keeps the agreement of their states, so after any number of trips the rows the reference has
   stored are the rows the kernel's trips computed, and the failure count is one where a reward is minus one. -/
module

public import proofs.«01_k».proof.Proof.RMath
public import proofs.«01_k».proof.Proof.RefResult

@[expose] public section

set_option maxRecDepth 16384

noncomputable section

namespace Cert.Proof.Same

open Cert.ReferenceIdeal Cert.ReferenceIdeal.Gen
open Idealize.ShloMosaic Idealize.ShloMosaic.TcCoe Idealize.ShloMosaic.Tactic
open Cert.Proof.RefStep
open Cert.KernelIdeal.Roll (Fix St next itK kIP kNP kIL kNL kSA kPA)

/-- The taken items after a trip. -/
def takes (C : Fix Ideal) (s : St Ideal) (T : Fin 64 → Fin 50 → Bool) (b : Fin 64) (k : Fin 50) : Bool := T b k || decide (k = sel C s T b)

/-- A trip of both loops keeps their states in agreement. -/
theorem Agree.step {C : Fix Ideal} {s : St Ideal} {T : Fin 64 → Fin 50 → Bool} {r : State Ideal} (h : Agree C s T r) (j : ℕ) :
    Agree C (next C s) (takes C s T) (step j r) where
  marked := ⟨h.marked.lane, next_selm h.marked⟩
  nodes b i x := by rw [step_main_v9_9, r325 h, next_nodes h.marked]
  taken b i := by rw [step_main_v9_10, r110 h]; rfl
  seen b i k := by rw [step_main_v9_11, r178 h]; rfl
  flag b i := by
    rw [next_nodes h.marked]
    by_cases e : i = place C s T b
    · right; simp [e]
    · rw [if_neg e]; exact h.flag b i
  items := (RefRun.step_0 j r).trans h.items
  wn := (RefRun.step_2 j r).trans h.wn
  edges := (RefRun.step_3 j r).trans h.edges
  we := (RefRun.step_4 j r).trans h.we
  wq := (RefRun.step_5 j r).trans h.wq
  wp := (RefRun.step_7 j r).trans h.wp
  vit b i x := by rw [RefRun.step_0, RefRun.step_1]; exact h.vit b i x
  sc := h.sc

/-! A row written into a stack of rows. -/

theorem setPlane {α : Type} (x : (⟨3, ![50, 64, 50]⟩ : Shape).Idx → α) (upd : (⟨3, ![1, 64, 50]⟩ : Shape).Idx → α) (start : Fin 3 → Int)
    (h : (⟨3, ![50, 64, 50]⟩ : Shape).Slices (fun _ => 0) ⟨3, ![1, 64, 50]⟩) (j : ℕ) (hj : j < 50)
    (h0 : start 0 = (j : Int)) (h1 : start 1 = 0) (h2 : start 2 = 0) (i : Fin 50) (b : Fin 64) (k : Fin 50) :
    Host.dynamicUpdateSlice x upd start h (ix3 i b k) = if i.val = j then upd (ix3 0 b k) else x (ix3 i b k) := by
  have hk : (⟨3, ![50, 64, 50]⟩ : Shape).Slices ![j, 0, 0] ⟨3, ![1, 64, 50]⟩ := by
    refine ⟨rfl, fun a => ?_⟩
    match a with
    | ⟨0, _⟩ => exact (show j + 1 ≤ 50 by omega)
    | ⟨1, _⟩ => exact (show 0 + 64 ≤ 64 by omega)
    | ⟨2, _⟩ => exact (show 0 + 50 ≤ 50 by omega)
  rw [WordCmp.dynamicUpdateSlice_eq_update x upd start h ![j, 0, 0] hk fun a => match a with | ⟨0, _⟩ => h0 | ⟨1, _⟩ => h1 | ⟨2, _⟩ => h2]
  unfold updateSlice
  split
  · next e =>
    have e0 : j ≤ i.val ∧ i.val < j + 1 := e 0
    rw [if_pos (by omega)]
    refine congrArg upd (funext fun a => Fin.ext ?_)
    match a with
    | ⟨0, _⟩ => exact (show i.val - j = 0 by omega)
    | ⟨1, _⟩ => rfl
    | ⟨2, _⟩ => rfl
  · next e =>
    rw [if_neg fun q => e fun a => ?_]
    match a with
    | ⟨0, _⟩ => exact (show j ≤ i.val ∧ i.val < j + 1 by omega)
    | ⟨1, _⟩ => exact (show 0 ≤ b.val ∧ b.val < 0 + 64 by omega)
    | ⟨2, _⟩ => exact (show 0 ≤ k.val ∧ k.val < 0 + 50 by omega)

theorem setPair {α : Type} (x : (⟨3, ![50, 64, 2]⟩ : Shape).Idx → α) (upd : (⟨3, ![1, 64, 2]⟩ : Shape).Idx → α) (start : Fin 3 → Int)
    (h : (⟨3, ![50, 64, 2]⟩ : Shape).Slices (fun _ => 0) ⟨3, ![1, 64, 2]⟩) (j : ℕ) (hj : j < 50)
    (h0 : start 0 = (j : Int)) (h1 : start 1 = 0) (h2 : start 2 = 0) (i : Fin 50) (b : Fin 64) (k : Fin 2) :
    Host.dynamicUpdateSlice x upd start h (ix3 i b k) = if i.val = j then upd (ix3 0 b k) else x (ix3 i b k) := by
  have hk : (⟨3, ![50, 64, 2]⟩ : Shape).Slices ![j, 0, 0] ⟨3, ![1, 64, 2]⟩ := by
    refine ⟨rfl, fun a => ?_⟩
    match a with
    | ⟨0, _⟩ => exact (show j + 1 ≤ 50 by omega)
    | ⟨1, _⟩ => exact (show 0 + 64 ≤ 64 by omega)
    | ⟨2, _⟩ => exact (show 0 + 2 ≤ 2 by omega)
  rw [WordCmp.dynamicUpdateSlice_eq_update x upd start h ![j, 0, 0] hk fun a => match a with | ⟨0, _⟩ => h0 | ⟨1, _⟩ => h1 | ⟨2, _⟩ => h2]
  unfold updateSlice
  split
  · next e =>
    have e0 : j ≤ i.val ∧ i.val < j + 1 := e 0
    rw [if_pos (by omega)]
    refine congrArg upd (funext fun a => Fin.ext ?_)
    match a with
    | ⟨0, _⟩ => exact (show i.val - j = 0 by omega)
    | ⟨1, _⟩ => rfl
    | ⟨2, _⟩ => rfl
  · next e =>
    rw [if_neg fun q => e fun a => ?_]
    match a with
    | ⟨0, _⟩ => exact (show j ≤ i.val ∧ i.val < j + 1 by omega)
    | ⟨1, _⟩ => exact (show 0 ≤ b.val ∧ b.val < 0 + 64 by omega)
    | ⟨2, _⟩ => exact (show 0 ≤ k.val ∧ k.val < 0 + 2 by omega)

theorem setRow {α : Type} (x : (⟨2, ![50, 64]⟩ : Shape).Idx → α) (upd : (⟨2, ![1, 64]⟩ : Shape).Idx → α) (start : Fin 2 → Int)
    (h : (⟨2, ![50, 64]⟩ : Shape).Slices (fun _ => 0) ⟨2, ![1, 64]⟩) (j : ℕ) (hj : j < 50)
    (h0 : start 0 = (j : Int)) (h1 : start 1 = 0) (i : Fin 50) (b : Fin 64) :
    Host.dynamicUpdateSlice x upd start h (ix2 i b) = if i.val = j then upd (ix2 0 b) else x (ix2 i b) := by
  have hk : (⟨2, ![50, 64]⟩ : Shape).Slices ![j, 0] ⟨2, ![1, 64]⟩ := by
    refine ⟨rfl, fun a => ?_⟩
    match a with
    | ⟨0, _⟩ => exact (show j + 1 ≤ 50 by omega)
    | ⟨1, _⟩ => exact (show 0 + 64 ≤ 64 by omega)
  rw [WordCmp.dynamicUpdateSlice_eq_update x upd start h ![j, 0] hk fun a => match a with | ⟨0, _⟩ => h0 | ⟨1, _⟩ => h1]
  unfold updateSlice
  split
  · next e =>
    have e0 : j ≤ i.val ∧ i.val < j + 1 := e 0
    rw [if_pos (by omega)]
    refine congrArg upd (funext fun a => Fin.ext ?_)
    match a with
    | ⟨0, _⟩ => exact (show i.val - j = 0 by omega)
    | ⟨1, _⟩ => rfl
  · next e =>
    rw [if_neg fun q => e fun a => ?_]
    match a with
    | ⟨0, _⟩ => exact (show j ≤ i.val ∧ i.val < j + 1 by omega)
    | ⟨1, _⟩ => exact (show 0 ≤ b.val ∧ b.val < 0 + 64 by omega)

theorem word_trip (j : ℕ) (hj : j < 50) : (BitVec.ofNat 32 j).toInt = (j : Int) := toInt_small (by omega)

section
variable (j : ℕ) (hj : j < 50) (r : State Ideal)
include hj

theorem w338 (i : Fin 50) (b : Fin 64) (k : Fin 50) :
    b338 j r (ix3 i b k) = if i.val = j then b63 j r (ix2 b k) else r.main_v9_12 (ix3 i b k) := by
  have e : b335 j r (ix3 0 b k) = b63 j r (ix2 b k) := by
    pointwise [b335]
  rw [← e]
  exact setPlane _ _ _ _ j hj (word_trip j hj) rfl rfl i b k

theorem w342 (i : Fin 50) (b : Fin 64) (k : Fin 50) :
    b342 j r (ix3 i b k) = if i.val = j then b232 j r (ix2 b k) else r.main_v9_13 (ix3 i b k) := by
  have e : b339 j r (ix3 0 b k) = b232 j r (ix2 b k) := by
    pointwise [b339]
  rw [← e]
  exact setPlane _ _ _ _ j hj (word_trip j hj) rfl rfl i b k

theorem w345 (i : Fin 50) (b : Fin 64) :
    b345 j r (ix2 i b) = if i.val = j then b90 j r (ix1 b) else r.main_v9_14 (ix2 i b) := by
  have e : b343 j r (ix2 0 b) = b90 j r (ix1 b) := by
    pointwise [b343]
  rw [← e]
  exact setRow _ _ _ _ j hj (word_trip j hj) rfl i b

theorem w348 (i : Fin 50) (b : Fin 64) :
    b348 j r (ix2 i b) = if i.val = j then b259 j r (ix1 b) else r.main_v9_15 (ix2 i b) := by
  have e : b346 j r (ix2 0 b) = b259 j r (ix1 b) := by
    pointwise [b346]
  rw [← e]
  exact setRow _ _ _ _ j hj (word_trip j hj) rfl i b

theorem w355 (i : Fin 50) (b : Fin 64) :
    b355 j r (ix2 i b) = if i.val = j then b331 j r (ix1 b) else r.main_v9_17 (ix2 i b) := by
  have e : b353 j r (ix2 0 b) = b331 j r (ix1 b) := by
    pointwise [b353]
  rw [← e]
  exact setRow _ _ _ _ j hj (word_trip j hj) rfl i b

theorem w352_0 (i : Fin 50) (b : Fin 64) :
    b352 j r (ix3 i b 0) = if i.val = j then b68 j r (ix1 b) else r.main_v9_16 (ix3 i b 0) := by
  have e : b349 j r (ix3 0 b 0) = b68 j r (ix1 b) := by
    pointwise [b349, b334, b333, b332]
  rw [← e]
  exact setPair _ _ _ _ j hj (word_trip j hj) rfl rfl i b 0

theorem w352_1 (i : Fin 50) (b : Fin 64) :
    b352 j r (ix3 i b 1) = if i.val = j then b237 j r (ix1 b) else r.main_v9_16 (ix3 i b 1) := by
  have e : b349 j r (ix3 0 b 1) = b237 j r (ix1 b) := by
    pointwise [b349, b334, b333, b332]
  rw [← e]
  exact setPair _ _ _ _ j hj (word_trip j hj) rfl rfl i b 1

end

/-- The taken items after `k` trips. -/
def tK (C : Fix Ideal) (s : St Ideal) : ℕ → Fin 64 → Fin 50 → Bool
  | 0 => fun _ _ => false
  | k + 1 => takes C (itK C s k) (tK C s k)

/-- Whether trip `k` places an item on an occupied node. -/
def Bad (C : Fix Ideal) (s : St Ideal) (k : ℕ) (b : Fin 64) : Prop :=
  Ideal.ofBits .f32 1056964608#32 < (itK C s k).nodes (ix3 b (place C (itK C s k) (tK C s k) b) 15)

open Classical in
/-- After `k` trips: the states agree, the rows stored so far are the kernel's, and the failure count tells whether a trip was bad. -/
structure Side (C : Fix Ideal) (s : St Ideal) (k : ℕ) (r : State Ideal) : Prop where
  agree : Agree C (itK C s k) (tK C s k) r
  ip : ∀ (i : Fin 50) (b : Fin 64) (x : Fin 50), i.val < k → r.main_v9_12 (ix3 i b x) = kIP C (itK C s i.val) (ix3 0 b x)
  np : ∀ (i : Fin 50) (b : Fin 64) (x : Fin 50), i.val < k → r.main_v9_13 (ix3 i b x) = kNP C (itK C s i.val) (ix3 0 b x)
  il : ∀ (i : Fin 50) (b : Fin 64), i.val < k → r.main_v9_14 (ix2 i b) = kIL C (itK C s i.val) (ix2 0 b)
  nl : ∀ (i : Fin 50) (b : Fin 64), i.val < k → r.main_v9_15 (ix2 i b) = kNL C (itK C s i.val) (ix2 0 b)
  sa : ∀ (i : Fin 50) (b : Fin 64), i.val < k → r.main_v9_16 (ix3 i b 0) = kSA C (itK C s i.val) (ix2 0 b)
  pa : ∀ (i : Fin 50) (b : Fin 64), i.val < k → r.main_v9_16 (ix3 i b 1) = kPA C (itK C s i.val) (ix2 0 b)
  reward : ∀ (i : Fin 50) (b : Fin 64), i.val < k → r.main_v9_17 (ix2 i b) = if Bad C s i.val b then (-1 : EReal) else 0
  fail : ∀ b : Fin 64, (itK C s k).fail (ix2 0 b) = if ∃ i, i < k ∧ Bad C s i b then (1 : EReal) else 0

/-- One more trip. -/
theorem Side.step {C : Fix Ideal} {s : St Ideal} {k : ℕ} {r : State Ideal} (h : Side C s k r) (hk : k < 50) : Side C s (k + 1) (step k r) where
  agree := h.agree.step k
  ip i b x hi := by
    rw [step_main_v9_12, w338 k hk]
    split
    · next e => subst e; rw [r63 h.agree, kIP_at h.agree.marked]
    · exact h.ip i b x (by omega)
  np i b x hi := by
    rw [step_main_v9_13, w342 k hk]
    split
    · next e => subst e; rw [r232 h.agree, kNP_at h.agree.marked]
    · exact h.np i b x (by omega)
  il i b hi := by
    rw [step_main_v9_14, w345 k hk]
    split
    · next e => subst e; rw [r90 h.agree, kIL_at h.agree.marked]
    · exact h.il i b (by omega)
  nl i b hi := by
    rw [step_main_v9_15, w348 k hk]
    split
    · next e => subst e; rw [r259 h.agree, kNL_at h.agree.marked]
    · exact h.nl i b (by omega)
  sa i b hi := by
    rw [step_main_v9_16, w352_0 k hk]
    split
    · next e => subst e; rw [r68 h.agree, kSA_at h.agree.marked]
    · exact h.sa i b (by omega)
  pa i b hi := by
    rw [step_main_v9_16, w352_1 k hk]
    split
    · next e => subst e; rw [r237 h.agree, kPA_at h.agree.marked]
    · exact h.pa i b (by omega)
  reward i b hi := by
    rw [step_main_v9_17, w355 k hk]
    split
    · next e => subst e; rw [r331 h.agree]; unfold Bad; congr
    · exact h.reward i b (by omega)
  fail b := by
    show (next C (itK C s k)).fail (ix2 0 b) = _
    rw [next_fail h.agree.marked, h.fail]
    have e : (∃ i, i < k + 1 ∧ Bad C s i b) ↔ (∃ i, i < k ∧ Bad C s i b) ∨ Bad C s k b := by
      constructor
      · rintro ⟨i, hi, q⟩
        by_cases t : i = k
        · subst t; exact .inr q
        · exact .inl ⟨i, by omega, q⟩
      · rintro (⟨i, hi, q⟩ | q)
        · exact ⟨i, by omega, q⟩
        · exact ⟨k, by omega, q⟩
    by_cases q2 : Bad C s k b
    · rw [if_pos (show _ < _ from q2), if_pos (e.2 (.inr q2))]
      split
      · exact max_self _
      · exact max_eq_right zero_le_one
    · rw [if_neg (show ¬ _ < _ from q2)]
      by_cases q1 : ∃ i, i < k ∧ Bad C s i b
      · rw [if_pos q1, if_pos (e.2 (.inl q1))]
        exact max_eq_left zero_le_one
      · rw [if_neg q1, if_neg fun t => (e.1 t).elim q1 q2]
        exact max_self _

/-- All trips. -/
theorem Side.all {C : Fix Ideal} {s : St Ideal} (f : ℕ → State Ideal) (hf : ∀ k, f (k + 1) = RefStep.step k (f k)) (h : Side C s 0 (f 0)) :
    ∀ k, k ≤ 50 → Side C s k (f k)
  | 0, _ => h
  | k + 1, hk => by
    rw [hf]
    exact (Side.all f hf h k (by omega)).step (by omega)

end Cert.Proof.Same

end
-- ==== Proof.Start.lean ====
/- Where the two loops begin: their first states agree, when every flag of the nodes is a bit. -/
module

public import proofs.«01_k».proof.Proof.Pair
public import proofs.«01_k».proof.Pre_flags_are_bits

@[expose] public section

set_option maxRecDepth 16384

noncomputable section

namespace Cert.Proof.Same

open Cert.ReferenceIdeal Cert.ReferenceIdeal.Gen
open Idealize.ShloMosaic Idealize.ShloMosaic.TcCoe Idealize.ShloMosaic.Tactic
open Cert.Proof.RefStep
open Cert.KernelIdeal.Roll (Fix St next itK kIP kNP kIL kNL kSA kPA fixOf st0)
open Cert.KernelIdeal.Gen (k0_pay1 k0_pay2 k0_pay4 k0_pay37 k0_pay38 k0_pay39 k0_pay40 k0_pay41)

/-- The precondition, read: the last feature of every node is zero or one. -/
theorem bits_of [Cert.Pre_flags_are_bits.Facts] (x0 x1 : FVec Ideal S64x50x16 .f32) (x2 : FVec Ideal S64x50x50 .f32) (x3 x4 : FVec Ideal S16x128 .f32)
    (x5 x6 x7 : FVec Ideal S128x128 .f32) (h : Cert.Pre_flags_are_bits.fn (F := Ideal) x0 x1 x2 x3 x4 x5 x6 x7 = fun _ => 1#1) (b : Fin 64) (i : Fin 50) :
    x1 (ix3 b i 15) = (0 : EReal) ∨ x1 (ix3 b i 15) = (1 : EReal) := by
  have h := congrFun h (ix2 b i)
  revert h
  pointwise [Cert.Pre_flags_are_bits.fn]
  intro h
  by_cases e0 : x1 (ix3 b i 15) = (0 : EReal)
  · exact Or.inl e0
  · by_cases e1 : x1 (ix3 b i 15) = (1 : EReal)
    · exact Or.inr e1
    · rw [decide_eq_false e0, decide_eq_false e1] at h
      exact absurd h (by decide)

variable (x0 x1 : Vec Ideal S64x50x16 .f32) (x2 : Vec Ideal S64x50x50 .f32) (x3 x4 : Vec Ideal S16x128 .f32)
  (x5 x6 x7 : Vec Ideal S128x128 .f32)

/-- The two first states agree. -/
theorem start_agree (hf : ∀ b i, x1 (ix3 b i 15) = (0 : EReal) ∨ x1 (ix3 b i 15) = (1 : EReal)) :
    Agree (fixOf x0 x2 x3 x4 x5 x6 x7) (st0 x1) (fun _ _ => false) (init x1 x0 x3 x4 x2 x5 x6 x7) where
  marked := ⟨fun b k => by
      have e : (fixOf x0 x2 x3 x4 x5 x6 x7).lane = iota .tc S64x50 32 [1] Cert.KernelIdeal.Gen.iota_S64x50_d1_w32 := rfl
      rw [e]
      pointwise,
    fun b k => by
      show k0_pay1 (F := Ideal) (k0_pay41 (F := Ideal)) (ix2 b k) = _
      pointwise [k0_pay1, k0_pay41]
      rfl⟩
  nodes b i x := by
    show x1 (ix3 b i x) = k0_pay40 (F := Ideal) x1 (ix3 b i x)
    pointwise [k0_pay40]
  taken b i := by
    show K_main_v1 (F := Ideal) (ix2 b i) = _
    pointwise [K_main_v1, K_main_c]
    rfl
  seen b i k := by
    show K_main_v2 (F := Ideal) (ix3 b i k) = _
    pointwise [K_main_v2, K_main_c_0]
    rw [show sees (fun _ _ => false) b i k = true by simp [sees]]
    rfl
  flag b i := by
    have e : (st0 x1).nodes (ix3 b i 15) = x1 (ix3 b i 15) := by
      show k0_pay40 (F := Ideal) x1 (ix3 b i 15) = _
      pointwise [k0_pay40]
    rw [e]
    exact hf b i
  items := rfl
  wn := rfl
  edges := rfl
  we := rfl
  wq := rfl
  wp := rfl
  vit b i x := by
    show k0_pay38 (F := Ideal) x3 x0 (ix3 b i x) = Ideal.tanh (∑ y, x0 (ix3 b i y) * x3 (ix2 y x))
    pointwise [k0_pay38, k0_pay37]
  sc b i k := by
    have e : ∀ b i x, k0_pay38 (F := Ideal) x3 x0 (ix3 b i x) = Ideal.tanh (∑ y, x0 (ix3 b i y) * x3 (ix2 y x)) := fun b i x => by
      pointwise [k0_pay38, k0_pay37]
    show k0_pay39 (F := Ideal) x3 x0 (ix3 b i k) = Ideal.div (∑ x, k0_pay38 (F := Ideal) x3 x0 (ix3 b i x) * k0_pay38 (F := Ideal) x3 x0 (ix3 b k x)) _
    simp only [e]
    pointwise [k0_pay39, k0_pay37]
    rfl

/-- So do the two loops before the first trip. -/
theorem start (hf : ∀ b i, x1 (ix3 b i 15) = (0 : EReal) ∨ x1 (ix3 b i 15) = (1 : EReal)) :
    Side (fixOf x0 x2 x3 x4 x5 x6 x7) (st0 x1) 0 (init x1 x0 x3 x4 x2 x5 x6 x7) where
  agree := start_agree x0 x1 x2 x3 x4 x5 x6 x7 hf
  ip i b x h := absurd h (Nat.not_lt_zero _)
  np i b x h := absurd h (Nat.not_lt_zero _)
  il i b h := absurd h (Nat.not_lt_zero _)
  nl i b h := absurd h (Nat.not_lt_zero _)
  sa i b h := absurd h (Nat.not_lt_zero _)
  pa i b h := absurd h (Nat.not_lt_zero _)
  reward i b h := absurd h (Nat.not_lt_zero _)
  fail b := by
    rw [if_neg fun h => (Nat.not_lt_zero _ h.choose_spec.1)]
    show k0_pay2 (F := Ideal) (ix2 0 b) = 0
    pointwise [k0_pay2]

end Cert.Proof.Same

end
-- ==== Proof.KernelIdealLoop.lean ====
/- The kernel's loop, run: its invariant names, for every buffer the loop writes, the stores made so far as plain functions of the
   state (`Roll.itK`), and one trip is the body executed once at a symbolic trip number. -/
module

public import proofs.«01_k».proof.Proof.KernelIdealStep
public import proofs.«01_k».proof.Proof.Gen.KernelIdeal.Loops
public import Idealize.ShloMosaic.Lib.Exec
public import Idealize.ShloMosaic.Lib.Tactic
public import Idealize.ShloMosaic.Lib.VecWindow
public import Idealize.ShloMosaic.Lib.Pipeline.Kit

@[expose] public section

set_option maxRecDepth 16384

noncomputable section

namespace Cert.KernelIdeal.Roll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The store of one plane: at trip `k`. -/
abbrev row3 (v : FVec F S1x64x50 .f32) (k : Fin k0_t1_loop.trips) : View.Piece (Elt F) S50x64x50 .f32 :=
  ⟨Rect.unit (s := S50x64x50) (k0_off1 k) S1x64x50.size (k0_off1_inb k), v⟩
/-- The store of one row: at trip `k`. -/
abbrev row2 {e : EltTy} (v : Vec F S1x64 e) (k : Fin k0_t1_loop.trips) : View.Piece (Elt F) S50x64 e :=
  ⟨Rect.unit (s := S50x64) (k0_off2 k) S1x64.size (k0_off2_inb k), v⟩

section
variable {arg17 : Memref sig .tc .vmem S64x50x16 .f32} {arg18 : Memref sig .tc .vmem S64x50 .f32} {arg19 : Memref sig .tc .vmem S1x64 .f32}
/-- The nodes a buffer holds. -/
abbrev ld17 (f : BufTy.Contents (Elt F) arg17.view.ty) : Vec F S64x50x16 .f32 :=
  View.readAt (Elt F) arg17.view (Rect.unit (s := S64x50x16) ![0, 0, 0] S64x50x16.size inb_S64x50x16_S64x50x16_0_0_0).toLoadRect f
/-- The taken items a buffer holds. -/
abbrev ld18 (f : BufTy.Contents (Elt F) arg18.view.ty) : Vec F S64x50 .f32 :=
  View.readAt (Elt F) arg18.view (Rect.unit (s := S64x50) ![0, 0] S64x50.size inb_S64x50_S64x50_0_0).toLoadRect f
/-- The failure count a buffer holds. -/
abbrev ld19 (f : BufTy.Contents (Elt F) arg19.view.ty) : Vec F S1x64 .f32 :=
  View.readAt (Elt F) arg19.view (Rect.unit (s := S1x64) ![0, 0] S1x64.size inb_S1x64_S1x64_0_0).toLoadRect f
/-- The state three buffers hold. -/
abbrev stOf (f17 : BufTy.Contents (Elt F) arg17.view.ty) (f18 : BufTy.Contents (Elt F) arg18.view.ty) (f19 : BufTy.Contents (Elt F) arg19.view.ty) : St F :=
  ⟨ld17 f17, ld18 f18, ld19 f19⟩
/-- The store of the nodes. -/
abbrev put17 (v : Vec F S64x50x16 .f32) : View.Piece (Elt F) S64x50x16 .f32 :=
  ⟨Rect.unit (s := S64x50x16) ![0, 0, 0] S64x50x16.size inb_S64x50x16_S64x50x16_0_0_0, v⟩
/-- The store of the taken items. -/
abbrev put18 (v : Vec F S64x50 .f32) : View.Piece (Elt F) S64x50 .f32 :=
  ⟨Rect.unit (s := S64x50) ![0, 0] S64x50.size inb_S64x50_S64x50_0_0, v⟩
/-- The store of the failure count. -/
abbrev put19 (v : Vec F S1x64 .f32) : View.Piece (Elt F) S1x64 .f32 :=
  ⟨Rect.unit (s := S1x64) ![0, 0] S1x64.size inb_S1x64_S1x64_0_0, v⟩
end

/-- The stores of the first `k` trips, newest first, of what trip `i` stores at row `i`. -/
def hist {s : Shape} {e : EltTy} (p : Fin k0_t1_loop.trips → View.Piece (Elt F) s e) : ℕ → List (View.Piece (Elt F) s e)
  | 0 => []
  | k + 1 => if h : k < k0_t1_loop.trips then p ⟨k, h⟩ :: hist p k else hist p k

theorem hist_succ {s : Shape} {e : EltTy} (p : Fin k0_t1_loop.trips → View.Piece (Elt F) s e) (k : Fin k0_t1_loop.trips) :
    hist p (k.val + 1) = p k :: hist p k.val := dif_pos k.isLt

/-- Two states with equal parts are equal. -/
theorem St.mk_congr {a a' : Vec F S64x50x16 .f32} {b b' : Vec F S64x50 .f32} {d d' : Vec F S1x64 .f32} (ha : a = a') (hb : b = b') (hd : d = d') :
    St.mk a b d = St.mk a' b' d' := by rw [ha, hb, hd]

/-- After `k` trips' whole stores, a buffer reads what the last one stored. -/
theorem ld_hist (C : Fix F) (arg17 : Memref sig .tc .vmem S64x50x16 .f32) (arg18 : Memref sig .tc .vmem S64x50 .f32) (arg19 : Memref sig .tc .vmem S1x64 .f32)
    (g17 : BufTy.Contents (Elt F) arg17.view.ty) (g18 : BufTy.Contents (Elt F) arg18.view.ty) (g19 : BufTy.Contents (Elt F) arg19.view.ty)
    (s : St F) (hs : s = stOf g17 g18 g19) (k : ℕ) (hk : k ≤ k0_t1_loop.trips) :
    stOf (arg17.view.writes (Elt F) g17 (hist (fun i => put17 (itK C s (i.val + 1)).nodes) k))
      (arg18.view.writes (Elt F) g18 (hist (fun i => put18 (itK C s (i.val + 1)).selm) k))
      (arg19.view.writes (Elt F) g19 (hist (fun i => put19 (itK C s (i.val + 1)).fail) k)) = itK C s k := by
  cases k with
  | zero => subst hs; rfl
  | succ k =>
    rw [hist_succ _ ⟨k, hk⟩, hist_succ _ ⟨k, hk⟩, hist_succ _ ⟨k, hk⟩]
    exact St.mk_congr (View.readAt_writes_full _ _ _ _ _ _) (View.readAt_writes_full _ _ _ _ _ _) (View.readAt_writes_full _ _ _ _ _ _)

section
variable (arg0 : Memref sig .tc .vmem S64x50x16 .f32) (harg0 : arg0.IsWhole)
  (arg1 : Memref sig .tc .vmem S64x50x16 .f32) (harg1 : arg1.IsWhole)
  (arg2 : Memref sig .tc .vmem S64x50x50 .f32) (harg2 : arg2.IsWhole)
  (arg3 : Memref sig .tc .vmem S16x128 .f32) (harg3 : arg3.IsWhole)
  (arg4 : Memref sig .tc .vmem S16x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S50x64x50 .f32) (harg8 : arg8.IsWhole)
  (arg9 : Memref sig .tc .vmem S50x64x50 .f32) (harg9 : arg9.IsWhole)
  (arg10 : Memref sig .tc .vmem S50x64 .f32) (harg10 : arg10.IsWhole)
  (arg11 : Memref sig .tc .vmem S50x64 .f32) (harg11 : arg11.IsWhole)
  (arg12 : Memref sig .tc .vmem S50x64 .i32) (harg12 : arg12.IsWhole)
  (arg13 : Memref sig .tc .vmem S50x64 .i32) (harg13 : arg13.IsWhole)
  (arg14 : Memref sig .tc .vmem S1x64 .f32) (harg14 : arg14.IsWhole)
  (arg15 : Memref sig .tc .vmem S64x50x128 .f32) (harg15 : arg15.IsWhole)
  (arg16 : Memref sig .tc .vmem S64x50x50 .f32) (harg16 : arg16.IsWhole)
  (arg17 : Memref sig .tc .vmem S64x50x16 .f32) (harg17 : arg17.IsWhole)
  (arg18 : Memref sig .tc .vmem S64x50 .f32) (harg18 : arg18.IsWhole)
  (arg19 : Memref sig .tc .vmem S1x64 .f32) (harg19 : arg19.IsWhole)

/-- What one trip holds: the two buffers it only reads, and the nine it writes. -/
abbrev Trip (c : Dev nD) (X15 : BufTy.Contents (Elt F) arg15.view.ty) (X16 : BufTy.Contents (Elt F) arg16.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f17 : BufTy.Contents (Elt F) arg17.view.ty) (f18 : BufTy.Contents (Elt F) arg18.view.ty) (f19 : BufTy.Contents (Elt F) arg19.view.ty) : sProp 𝕄G :=
  iprop((arg15.view.loc (c : Thread nD τ) ↦[arg15.view.set]{fullShare} X15) ∗ (arg16.view.loc (c : Thread nD τ) ↦[arg16.view.set]{fullShare} X16) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- What the loop reads, of the contents of the two buffers it only reads. -/
abbrev fixAt (v1 : Vec F S16x128 .f32) (v2 v3 v4 : Vec F S128x128 .f32) (v5 : Vec F S64x50x16 .f32) (v6 : Vec F S64x50x50 .f32) (v31 : IVec S64x50 32)
    (X15 : BufTy.Contents (Elt F) arg15.view.ty) (X16 : BufTy.Contents (Elt F) arg16.view.ty) : Fix F :=
  ⟨v1, v2, v3, v4, v5, v6, v31,
    View.readAt (Elt F) arg15.view (Rect.unit (s := S64x50x128) ![0, 0, 0] S64x50x128.size inb_S64x50x128_S64x50x128_0_0_0).toLoadRect X15,
    View.readAt (Elt F) arg16.view (Rect.unit (s := S64x50x50) ![0, 0, 0] S64x50x50.size inb_S64x50x50_S64x50x50_0_0_0).toLoadRect X16⟩

set_option maxHeartbeats 4000000 in
/-- One trip, executed: it stores a row into each of the six results and replaces the three state buffers' contents. -/
theorem trip (𝒱 : Variants) (c : Dev nD) (bd : Option 𝒱.V) (v1 : Vec F S16x128 .f32) (v2 v3 v4 : Vec F S128x128 .f32)
    (v5 : Vec F S64x50x16 .f32) (v6 : Vec F S64x50x50 .f32) (v31 : IVec S64x50 32)
    (X15 : BufTy.Contents (Elt F) arg15.view.ty) (X16 : BufTy.Contents (Elt F) arg16.view.ty) (k : Fin k0_t1_loop.trips) (E : Set ℕ)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f17 : BufTy.Contents (Elt F) arg17.view.ty) (f18 : BufTy.Contents (Elt F) arg18.view.ty) (f19 : BufTy.Contents (Elt F) arg19.view.ty) :
    Trip (F := F) arg8 arg9 arg10 arg11 arg12 arg13 arg15 arg16 arg17 arg18 arg19 c X15 X16 f8 f9 f10 f11 f12 f13 f17 f18 f19
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v2 v3 v4 v5 v6 v31 k PUnit.unit)
          (fun _ => Trip (F := F) arg8 arg9 arg10 arg11 arg12 arg13 arg15 arg16 arg17 arg18 arg19 c X15 X16
            (arg8.view.writes (Elt F) f8 [row3 (kIP (fixAt arg15 arg16 v1 v2 v3 v4 v5 v6 v31 X15 X16) (stOf f17 f18 f19)) k])
            (arg9.view.writes (Elt F) f9 [row3 (kNP (fixAt arg15 arg16 v1 v2 v3 v4 v5 v6 v31 X15 X16) (stOf f17 f18 f19)) k])
            (arg10.view.writes (Elt F) f10 [row2 (kIL (fixAt arg15 arg16 v1 v2 v3 v4 v5 v6 v31 X15 X16) (stOf f17 f18 f19)) k])
            (arg11.view.writes (Elt F) f11 [row2 (kNL (fixAt arg15 arg16 v1 v2 v3 v4 v5 v6 v31 X15 X16) (stOf f17 f18 f19)) k])
            (arg12.view.writes (Elt F) f12 [row2 (kSA (fixAt arg15 arg16 v1 v2 v3 v4 v5 v6 v31 X15 X16) (stOf f17 f18 f19)) k])
            (arg13.view.writes (Elt F) f13 [row2 (kPA (fixAt arg15 arg16 v1 v2 v3 v4 v5 v6 v31 X15 X16) (stOf f17 f18 f19)) k])
            (arg17.view.writes (Elt F) f17 [put17 (next (fixAt arg15 arg16 v1 v2 v3 v4 v5 v6 v31 X15 X16) (stOf f17 f18 f19)).nodes])
            (arg18.view.writes (Elt F) f18 [put18 (next (fixAt arg15 arg16 v1 v2 v3 v4 v5 v6 v31 X15 X16) (stOf f17 f18 f19)).selm])
            (arg19.view.writes (Elt F) f19 [put19 (next (fixAt arg15 arg16 v1 v2 v3 v4 v5 v6 v31 X15 X16) (stOf f17 f18 f19)).fail])) := by
  have hk : k.val < 50 := Nat.lt_of_lt_of_le k.isLt k0_t1_abs.2.1
  unfold k0_t1_body
  iintro ⟨HR15, HR16, HW8, HW9, HW10, HW11, HW12, HW13, HW17, HW18, HW19⟩
  simp only [k0_part1_eq_skeleton, k0_part2_eq_skeleton, k0_part3_eq_skeleton, k0_part4_eq_skeleton, k0_part5_eq_skeleton,
    k0_part6_eq_skeleton, k0_part7_eq_skeleton]
  sl_exec
  sl_step
  isplitl [HR15]; · iexact HR15
  isplitl [HR16]; · iexact HR16
  isplitl [HW8]; · iexact HW8
  isplitl [HW9]; · iexact HW9
  isplitl [HW10]; · iexact HW10
  isplitl [HW11]; · iexact HW11
  isplitl [HW12]; · iexact HW12
  isplitl [HW13]; · iexact HW13
  isplitl [HW17]; · iexact HW17
  isplitl [HW18]; · iexact HW18
  iexact HW19

/-- The loop's invariant: after `k` trips each result holds the rows of those trips, and the state buffers hold the state after them. -/
abbrev inv (c : Dev nD) (C : Fix F) (s : St F)
    (X15 : BufTy.Contents (Elt F) arg15.view.ty) (X16 : BufTy.Contents (Elt F) arg16.view.ty)
    (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g17 : BufTy.Contents (Elt F) arg17.view.ty) (g18 : BufTy.Contents (Elt F) arg18.view.ty) (g19 : BufTy.Contents (Elt F) arg19.view.ty) (k : ℕ) (_u : PUnit) : sProp 𝕄G :=
  iprop((arg15.view.loc (c : Thread nD τ) ↦[arg15.view.set]{fullShare} X15) ∗ (arg16.view.loc (c : Thread nD τ) ↦[arg16.view.set]{fullShare} X16) ∗ (∃ f, (arg8.view.loc (c : Thread nD τ) ↦[arg8.view.set]{fullShare} f) ∗ ⌜f = arg8.view.writes (Elt F) g8 (hist (fun i => row3 (kIP C (itK C s i.val)) i) k)⌝) ∗ (∃ f, (arg9.view.loc (c : Thread nD τ) ↦[arg9.view.set]{fullShare} f) ∗ ⌜f = arg9.view.writes (Elt F) g9 (hist (fun i => row3 (kNP C (itK C s i.val)) i) k)⌝) ∗ (∃ f, (arg10.view.loc (c : Thread nD τ) ↦[arg10.view.set]{fullShare} f) ∗ ⌜f = arg10.view.writes (Elt F) g10 (hist (fun i => row2 (kIL C (itK C s i.val)) i) k)⌝) ∗ (∃ f, (arg11.view.loc (c : Thread nD τ) ↦[arg11.view.set]{fullShare} f) ∗ ⌜f = arg11.view.writes (Elt F) g11 (hist (fun i => row2 (kNL C (itK C s i.val)) i) k)⌝) ∗ (∃ f, (arg12.view.loc (c : Thread nD τ) ↦[arg12.view.set]{fullShare} f) ∗ ⌜f = arg12.view.writes (Elt F) g12 (hist (fun i => row2 (kSA C (itK C s i.val)) i) k)⌝) ∗ (∃ f, (arg13.view.loc (c : Thread nD τ) ↦[arg13.view.set]{fullShare} f) ∗ ⌜f = arg13.view.writes (Elt F) g13 (hist (fun i => row2 (kPA C (itK C s i.val)) i) k)⌝) ∗ (∃ f, (arg17.view.loc (c : Thread nD τ) ↦[arg17.view.set]{fullShare} f) ∗ ⌜f = arg17.view.writes (Elt F) g17 (hist (fun i => put17 (itK C s (i.val + 1)).nodes) k)⌝) ∗ (∃ f, (arg18.view.loc (c : Thread nD τ) ↦[arg18.view.set]{fullShare} f) ∗ ⌜f = arg18.view.writes (Elt F) g18 (hist (fun i => put18 (itK C s (i.val + 1)).selm) k)⌝) ∗ (∃ f, (arg19.view.loc (c : Thread nD τ) ↦[arg19.view.set]{fullShare} f) ∗ ⌜f = arg19.view.writes (Elt F) g19 (hist (fun i => put19 (itK C s (i.val + 1)).fail) k)⌝))

set_option warn.classDefReducibility false in
/-- The invariant holds trip after trip. -/
@[sl_loop] def loopInv (𝒱 : Variants) (c : Dev nD) (bd : Option 𝒱.V) (E : Set ℕ) (v1 : Vec F S16x128 .f32) (v2 v3 v4 : Vec F S128x128 .f32)
    (v5 : Vec F S64x50x16 .f32) (v6 : Vec F S64x50x50 .f32) (v31 : IVec S64x50 32)
    (X15 : BufTy.Contents (Elt F) arg15.view.ty) (X16 : BufTy.Contents (Elt F) arg16.view.ty)
    (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g17 : BufTy.Contents (Elt F) arg17.view.ty) (g18 : BufTy.Contents (Elt F) arg18.view.ty) (g19 : BufTy.Contents (Elt F) arg19.view.ty) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v2 v3 v4 v5 v6 v31 where
  inv := inv (F := F) arg8 arg9 arg10 arg11 arg12 arg13 arg15 arg16 arg17 arg18 arg19 c (fixAt arg15 arg16 v1 v2 v3 v4 v5 v6 v31 X15 X16) (stOf g17 g18 g19) X15 X16 g8 g9 g10 g11 g12 g13 g17 g18 g19
  step k acc := by
    iintro ⟨HR15, HR16, ⟨%f8, HW8, %h8⟩, ⟨%f9, HW9, %h9⟩, ⟨%f10, HW10, %h10⟩, ⟨%f11, HW11, %h11⟩, ⟨%f12, HW12, %h12⟩, ⟨%f13, HW13, %h13⟩, ⟨%f17, HW17, %h17⟩, ⟨%f18, HW18, %h18⟩, ⟨%f19, HW19, %h19⟩⟩
    iapply (wp_wand_r Idealize.ShloMosaic.frame (wpE (defs₀ (F := F)) 𝒱 (c : Thread nD τ) bd) E)
    isplitl [HR15 HR16 HW8 HW9 HW10 HW11 HW12 HW13 HW17 HW18 HW19]
    · iapply (trip (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd v1 v2 v3 v4 v5 v6 v31 X15 X16 k E f8 f9 f10 f11 f12 f13 f17 f18 f19)
      isplitl [HR15]; · iexact HR15
      isplitl [HR16]; · iexact HR16
      isplitl [HW8]; · iexact HW8
      isplitl [HW9]; · iexact HW9
      isplitl [HW10]; · iexact HW10
      isplitl [HW11]; · iexact HW11
      isplitl [HW12]; · iexact HW12
      isplitl [HW13]; · iexact HW13
      isplitl [HW17]; · iexact HW17
      isplitl [HW18]; · iexact HW18
      iexact HW19
    · have hst : stOf f17 f18 f19 = itK (fixAt arg15 arg16 v1 v2 v3 v4 v5 v6 v31 X15 X16) (stOf g17 g18 g19) k.val := by
        rw [h17, h18, h19]
        exact ld_hist _ arg17 arg18 arg19 g17 g18 g19 _ rfl k.val (le_of_lt k.isLt)
      iintro %_ ⟨HR15, HR16, HW8, HW9, HW10, HW11, HW12, HW13, HW17, HW18, HW19⟩
      rw [hst]
      isplitl [HR15]; · iexact HR15
      isplitl [HR16]; · iexact HR16
      isplitl [HW8]
      · iexists _; isplitl [HW8]; · iexact HW8
        ipureintro; rw [h8, hist_succ, ← View.writes_append]; rfl
      isplitl [HW9]
      · iexists _; isplitl [HW9]; · iexact HW9
        ipureintro; rw [h9, hist_succ, ← View.writes_append]; rfl
      isplitl [HW10]
      · iexists _; isplitl [HW10]; · iexact HW10
        ipureintro; rw [h10, hist_succ, ← View.writes_append]; rfl
      isplitl [HW11]
      · iexists _; isplitl [HW11]; · iexact HW11
        ipureintro; rw [h11, hist_succ, ← View.writes_append]; rfl
      isplitl [HW12]
      · iexists _; isplitl [HW12]; · iexact HW12
        ipureintro; rw [h12, hist_succ, ← View.writes_append]; rfl
      isplitl [HW13]
      · iexists _; isplitl [HW13]; · iexact HW13
        ipureintro; rw [h13, hist_succ, ← View.writes_append]; rfl
      isplitl [HW17]
      · iexists _; isplitl [HW17]; · iexact HW17
        ipureintro; rw [h17, hist_succ, ← View.writes_append]; rfl
      isplitl [HW18]
      · iexists _; isplitl [HW18]; · iexact HW18
        ipureintro; rw [h18, hist_succ, ← View.writes_append]; rfl
      iexists _; isplitl [HW19]; · iexact HW19
      ipureintro; rw [h19, hist_succ, ← View.writes_append]; rfl

end

end Cert.KernelIdeal.Roll

end
-- ==== Proof.KernelIdealBody.lean ====
/- The kernel's body as one triple: from its eight operands it leaves the seven results as plain functions of them. -/
module

public import proofs.«01_k».proof.Proof.KernelIdealLoop

@[expose] public section

set_option maxRecDepth 16384

noncomputable section

namespace Cert.KernelIdeal.Roll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips_eq : k0_t1_loop.trips = 50 := by decide +kernel

/-- A buffer with one plane stored per trip reads as those planes stacked. -/
theorem read_hist3 (v : View sig .tc .vmem S50x64x50 .f32) (f : v.ty.Contents (Elt F)) (r : ℕ → FVec F S1x64x50 .f32) :
    v.read (Elt F) (v.writes (Elt F) f (hist (fun i => row3 (r i.val) i) k0_t1_loop.trips)) = stack3 r := by
  have key : ∀ (n : ℕ), n ≤ k0_t1_loop.trips → ∀ y : S50x64x50.Idx, (y 0).val < n →
      v.read (Elt F) (v.writes (Elt F) f (hist (fun i => row3 (r i.val) i) n)) y = stack3 r y := by
    intro n
    induction n with
    | zero => intro _ y hy; exact absurd hy (Nat.not_lt_zero _)
    | succ n ih =>
      intro hn y hy
      rw [hist_succ _ ⟨n, hn⟩]
      by_cases h : (y 0).val = n
      · refine (View.read_writes_cons_unit_of_mem v f (size := S1x64x50.size) (k0_off1_inb ⟨n, hn⟩) _ _ y (ix3 (n0 := 1) (n1 := 64) (n2 := 50) 0 (y 1) (y 2)) (k0_off1_eq ⟨n, hn⟩) (by
          intro a; fin_cases a <;> simp [ix3, h])).trans ?_
        simp only [stack3, h]
      · refine (View.read_writes_cons_unit_of_not_mem v f (size := S1x64x50.size) (k0_off1_inb ⟨n, hn⟩) _ _ y (k0_off1_eq ⟨n, hn⟩) 0 (by
          left; show (y 0).val < n; omega)).trans ?_
        exact ih (by omega) y (by omega)
  funext y
  exact key _ le_rfl y (by rw [trips_eq]; exact (y 0).isLt)

/-- A buffer with one row stored per trip reads as those rows stacked. -/
theorem read_hist2 {e : EltTy} (v : View sig .tc .vmem S50x64 e) (f : v.ty.Contents (Elt F)) (r : ℕ → Vec F S1x64 e) :
    v.read (Elt F) (v.writes (Elt F) f (hist (fun i => row2 (r i.val) i) k0_t1_loop.trips)) = stack2 r := by
  have key : ∀ (n : ℕ), n ≤ k0_t1_loop.trips → ∀ y : S50x64.Idx, (y 0).val < n →
      v.read (Elt F) (v.writes (Elt F) f (hist (fun i => row2 (r i.val) i) n)) y = stack2 r y := by
    intro n
    induction n with
    | zero => intro _ y hy; exact absurd hy (Nat.not_lt_zero _)
    | succ n ih =>
      intro hn y hy
      rw [hist_succ _ ⟨n, hn⟩]
      by_cases h : (y 0).val = n
      · refine (View.read_writes_cons_unit_of_mem v f (size := S1x64.size) (k0_off2_inb ⟨n, hn⟩) _ _ y (ix2 (n0 := 1) (n1 := 64) 0 (y 1)) (k0_off2_eq ⟨n, hn⟩) (by
          intro a; fin_cases a <;> simp [ix2, h])).trans ?_
        simp only [stack2, h]
      · refine (View.read_writes_cons_unit_of_not_mem v f (size := S1x64.size) (k0_off2_inb ⟨n, hn⟩) _ _ y (k0_off2_eq ⟨n, hn⟩) 0 (by
          left; show (y 0).val < n; omega)).trans ?_
        exact ih (by omega) y (by omega)
  funext y
  exact key _ le_rfl y (by rw [trips_eq]; exact (y 0).isLt)

/-- The failure count read after the loop is the last trip's. -/
theorem fail_end (v : View sig .tc .vmem S1x64 .f32) (C : Fix F) (s : St F) (L : List (View.Piece (Elt F) S1x64 .f32)) :
    v.readCov (hist (fun i => put19 (itK C s (i.val + 1)).fail) k0_t1_loop.trips ++ L) (Rect.unit (s := S1x64) ![0, 0] S1x64.size inb_S1x64_S1x64_0_0).toLoadRect
      = (itK C s 50).fail := by
  have key : ∀ n, n ≤ k0_t1_loop.trips → 0 < n →
      v.readCov (hist (fun i => put19 (itK C s (i.val + 1)).fail) n ++ L) (Rect.unit (s := S1x64) ![0, 0] S1x64.size inb_S1x64_S1x64_0_0).toLoadRect
        = (itK C s n).fail := by
    intro n hn h0
    cases n with
    | zero => exact absurd h0 (Nat.not_lt_zero _)
    | succ n =>
      rw [hist_succ _ ⟨n, hn⟩]
      exact View.readCov_full _ _ _ _ _
  exact (key _ le_rfl (by rw [trips_eq]; norm_num)).trans (by rw [trips_eq])

/-- The same, of the values the loop stores in result 8. -/
theorem read_res8 (v : View sig .tc .vmem S50x64x50 .f32) (f : v.ty.Contents (Elt F)) (C : Fix F) (s : St F) :
    v.read (Elt F) (v.writes (Elt F) f (hist (fun i => row3 (kIP C (itK C s i.val)) i) k0_t1_loop.trips)) = stack3 fun k => kIP C (itK C s k) :=
  read_hist3 v f fun k => kIP C (itK C s k)
/-- The same, of the values the loop stores in result 9. -/
theorem read_res9 (v : View sig .tc .vmem S50x64x50 .f32) (f : v.ty.Contents (Elt F)) (C : Fix F) (s : St F) :
    v.read (Elt F) (v.writes (Elt F) f (hist (fun i => row3 (kNP C (itK C s i.val)) i) k0_t1_loop.trips)) = stack3 fun k => kNP C (itK C s k) :=
  read_hist3 v f fun k => kNP C (itK C s k)
/-- The same, of the values the loop stores in result 10. -/
theorem read_res10 (v : View sig .tc .vmem S50x64 .f32) (f : v.ty.Contents (Elt F)) (C : Fix F) (s : St F) :
    v.read (Elt F) (v.writes (Elt F) f (hist (fun i => row2 (kIL C (itK C s i.val)) i) k0_t1_loop.trips)) = stack2 fun k => kIL C (itK C s k) :=
  read_hist2 v f fun k => kIL C (itK C s k)
/-- The same, of the values the loop stores in result 11. -/
theorem read_res11 (v : View sig .tc .vmem S50x64 .f32) (f : v.ty.Contents (Elt F)) (C : Fix F) (s : St F) :
    v.read (Elt F) (v.writes (Elt F) f (hist (fun i => row2 (kNL C (itK C s i.val)) i) k0_t1_loop.trips)) = stack2 fun k => kNL C (itK C s k) :=
  read_hist2 v f fun k => kNL C (itK C s k)
/-- The same, of the values the loop stores in result 12. -/
theorem read_res12 (v : View sig .tc .vmem S50x64 .i32) (f : v.ty.Contents (Elt F)) (C : Fix F) (s : St F) :
    v.read (Elt F) (v.writes (Elt F) f (hist (fun i => row2 (kSA C (itK C s i.val)) i) k0_t1_loop.trips)) = stack2 fun k => kSA C (itK C s k) :=
  read_hist2 v f fun k => kSA C (itK C s k)
/-- The same, of the values the loop stores in result 13. -/
theorem read_res13 (v : View sig .tc .vmem S50x64 .i32) (f : v.ty.Contents (Elt F)) (C : Fix F) (s : St F) :
    v.read (Elt F) (v.writes (Elt F) f (hist (fun i => row2 (kPA C (itK C s i.val)) i) k0_t1_loop.trips)) = stack2 fun k => kPA C (itK C s k) :=
  read_hist2 v f fun k => kPA C (itK C s k)

section
variable (x0 x1 : Vec F S64x50x16 .f32) (x2 : Vec F S64x50x50 .f32) (x3 x4 : Vec F S16x128 .f32) (x5 x6 x7 : Vec F S128x128 .f32)

/-- The state after `k` trips, of the kernel's operands. -/
def stAt (k : ℕ) : St F := itK (fixOf x0 x2 x3 x4 x5 x6 x7) (st0 x1) k
/-- The item probabilities. -/
def out8 : Vec F S50x64x50 .f32 := stack3 fun k => kIP (fixOf x0 x2 x3 x4 x5 x6 x7) (stAt x0 x1 x2 x3 x4 x5 x6 x7 k)
/-- The node probabilities. -/
def out9 : Vec F S50x64x50 .f32 := stack3 fun k => kNP (fixOf x0 x2 x3 x4 x5 x6 x7) (stAt x0 x1 x2 x3 x4 x5 x6 x7 k)
/-- The items' log-probabilities. -/
def out10 : Vec F S50x64 .f32 := stack2 fun k => kIL (fixOf x0 x2 x3 x4 x5 x6 x7) (stAt x0 x1 x2 x3 x4 x5 x6 x7 k)
/-- The nodes' log-probabilities. -/
def out11 : Vec F S50x64 .f32 := stack2 fun k => kNL (fixOf x0 x2 x3 x4 x5 x6 x7) (stAt x0 x1 x2 x3 x4 x5 x6 x7 k)
/-- The selected items. -/
def out12 : Vec F S50x64 .i32 := stack2 fun k => kSA (fixOf x0 x2 x3 x4 x5 x6 x7) (stAt x0 x1 x2 x3 x4 x5 x6 x7 k)
/-- The chosen nodes. -/
def out13 : Vec F S50x64 .i32 := stack2 fun k => kPA (fixOf x0 x2 x3 x4 x5 x6 x7) (stAt x0 x1 x2 x3 x4 x5 x6 x7 k)
/-- The rewards. -/
def out14 : Vec F S1x64 .f32 := k0_pay4 (stAt x0 x1 x2 x3 x4 x5 x6 x7 50).fail

end

section
variable (arg0 : Memref sig .tc .vmem S64x50x16 .f32) (harg0 : arg0.IsWhole)
  (arg1 : Memref sig .tc .vmem S64x50x16 .f32) (harg1 : arg1.IsWhole)
  (arg2 : Memref sig .tc .vmem S64x50x50 .f32) (harg2 : arg2.IsWhole)
  (arg3 : Memref sig .tc .vmem S16x128 .f32) (harg3 : arg3.IsWhole)
  (arg4 : Memref sig .tc .vmem S16x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S50x64x50 .f32) (harg8 : arg8.IsWhole)
  (arg9 : Memref sig .tc .vmem S50x64x50 .f32) (harg9 : arg9.IsWhole)
  (arg10 : Memref sig .tc .vmem S50x64 .f32) (harg10 : arg10.IsWhole)
  (arg11 : Memref sig .tc .vmem S50x64 .f32) (harg11 : arg11.IsWhole)
  (arg12 : Memref sig .tc .vmem S50x64 .i32) (harg12 : arg12.IsWhole)
  (arg13 : Memref sig .tc .vmem S50x64 .i32) (harg13 : arg13.IsWhole)
  (arg14 : Memref sig .tc .vmem S1x64 .f32) (harg14 : arg14.IsWhole)
  (arg15 : Memref sig .tc .vmem S64x50x128 .f32) (harg15 : arg15.IsWhole)
  (arg16 : Memref sig .tc .vmem S64x50x50 .f32) (harg16 : arg16.IsWhole)
  (arg17 : Memref sig .tc .vmem S64x50x16 .f32) (harg17 : arg17.IsWhole)
  (arg18 : Memref sig .tc .vmem S64x50 .f32) (harg18 : arg18.IsWhole)
  (arg19 : Memref sig .tc .vmem S1x64 .f32) (harg19 : arg19.IsWhole)

/-- What the loop reads is what the operands say. -/
theorem fix_eq (x0 : Vec F S64x50x16 .f32) (x2 : Vec F S64x50x50 .f32) (x3 x4 : Vec F S16x128 .f32) (x5 x6 x7 : Vec F S128x128 .f32)
    (f15 : BufTy.Contents (Elt F) arg15.view.ty) (f16 : BufTy.Contents (Elt F) arg16.view.ty) :
    fixAt arg15 arg16
      (View.readAt (Elt F) arg4.view (Rect.unit (s := S16x128) ![0, 0] S16x128.size inb_S16x128_S16x128_0_0).toLoadRect (harg4.unread x4))
      (View.readAt (Elt F) arg5.view (Rect.unit (s := S128x128) ![0, 0] S128x128.size inb_S128x128_S128x128_0_0).toLoadRect (harg5.unread x5))
      (View.readAt (Elt F) arg6.view (Rect.unit (s := S128x128) ![0, 0] S128x128.size inb_S128x128_S128x128_0_0).toLoadRect (harg6.unread x6))
      (View.readAt (Elt F) arg7.view (Rect.unit (s := S128x128) ![0, 0] S128x128.size inb_S128x128_S128x128_0_0).toLoadRect (harg7.unread x7))
      (View.readAt (Elt F) arg0.view (Rect.unit (s := S64x50x16) ![0, 0, 0] S64x50x16.size inb_S64x50x16_S64x50x16_0_0_0).toLoadRect (harg0.unread x0))
      (View.readAt (Elt F) arg2.view (Rect.unit (s := S64x50x50) ![0, 0, 0] S64x50x50.size inb_S64x50x50_S64x50x50_0_0_0).toLoadRect (harg2.unread x2))
      (iota .tc S64x50 32 [1] iota_S64x50_d1_w32)
      (arg15.view.writes (Elt F) f15 [⟨Rect.unit (s := S64x50x128) ![0, 0, 0] S64x50x128.size inb_S64x50x128_S64x50x128_0_0_0,
        k0_pay38 (View.readAt (Elt F) arg3.view (Rect.unit (s := S16x128) ![0, 0] S16x128.size inb_S16x128_S16x128_0_0).toLoadRect (harg3.unread x3))
          (View.readAt (Elt F) arg0.view (Rect.unit (s := S64x50x16) ![0, 0, 0] S64x50x16.size inb_S64x50x16_S64x50x16_0_0_0).toLoadRect (harg0.unread x0))⟩])
      (arg16.view.writes (Elt F) f16 [⟨Rect.unit (s := S64x50x50) ![0, 0, 0] S64x50x50.size inb_S64x50x50_S64x50x50_0_0_0,
        k0_pay39 (View.readAt (Elt F) arg3.view (Rect.unit (s := S16x128) ![0, 0] S16x128.size inb_S16x128_S16x128_0_0).toLoadRect (harg3.unread x3))
          (View.readAt (Elt F) arg0.view (Rect.unit (s := S64x50x16) ![0, 0, 0] S64x50x16.size inb_S64x50x16_S64x50x16_0_0_0).toLoadRect (harg0.unread x0))⟩])
      = fixOf x0 x2 x3 x4 x5 x6 x7 := by
  have e0 := (View.readAt_full arg0.view (harg0.unread x0) inb_S64x50x16_S64x50x16_0_0_0).trans (harg0.read_unread x0)
  have e2 := (View.readAt_full arg2.view (harg2.unread x2) inb_S64x50x50_S64x50x50_0_0_0).trans (harg2.read_unread x2)
  have e3 := (View.readAt_full arg3.view (harg3.unread x3) inb_S16x128_S16x128_0_0).trans (harg3.read_unread x3)
  have e4 := (View.readAt_full arg4.view (harg4.unread x4) inb_S16x128_S16x128_0_0).trans (harg4.read_unread x4)
  have e5 := (View.readAt_full arg5.view (harg5.unread x5) inb_S128x128_S128x128_0_0).trans (harg5.read_unread x5)
  have e6 := (View.readAt_full arg6.view (harg6.unread x6) inb_S128x128_S128x128_0_0).trans (harg6.read_unread x6)
  have e7 := (View.readAt_full arg7.view (harg7.unread x7) inb_S128x128_S128x128_0_0).trans (harg7.read_unread x7)
  have e15 := View.readAt_writes_full arg15.view f15 inb_S64x50x128_S64x50x128_0_0_0 inb_S64x50x128_S64x50x128_0_0_0 (k0_pay38 x3 x0) []
  have e16 := View.readAt_writes_full arg16.view f16 inb_S64x50x50_S64x50x50_0_0_0 inb_S64x50x50_S64x50x50_0_0_0 (k0_pay39 x3 x0) []
  rw [e0, e2, e3, e4, e5, e6, e7]
  unfold fixAt fixOf
  rw [e15, e16]

/-- The state before the first trip is what the operands say. -/
theorem st_eq (x1 : Vec F S64x50x16 .f32)
    (f17 : BufTy.Contents (Elt F) arg17.view.ty) (f18 : BufTy.Contents (Elt F) arg18.view.ty) (f19 : BufTy.Contents (Elt F) arg19.view.ty) :
    stOf (arg17.view.writes (Elt F) f17 [put17 (k0_pay40 (View.readAt (Elt F) arg1.view (Rect.unit (s := S64x50x16) ![0, 0, 0] S64x50x16.size inb_S64x50x16_S64x50x16_0_0_0).toLoadRect (harg1.unread x1)))])
      (arg18.view.writes (Elt F) f18 [put18 (k0_pay1 (k0_pay41 (F := F)))]) (arg19.view.writes (Elt F) f19 [put19 (k0_pay2 (F := F))]) = st0 x1 := by
  have e1 := (View.readAt_full arg1.view (harg1.unread x1) inb_S64x50x16_S64x50x16_0_0_0).trans (harg1.read_unread x1)
  rw [e1]
  exact St.mk_congr (View.readAt_writes_full _ _ _ _ _ _) (View.readAt_writes_full _ _ _ _ _ _) (View.readAt_writes_full _ _ _ _ _ _)

set_option maxHeartbeats 4000000 in
/-- The body, executed: given its operands, it leaves the results as `out8` … `out14` say. -/
theorem body (c : Dev nD) (x0 x1 : Vec F S64x50x16 .f32) (x2 : Vec F S64x50x50 .f32) (x3 x4 : Vec F S16x128 .f32) (x5 x6 x7 : Vec F S128x128 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out8 x0 x1 x2 x3 x4 x5 x6 x7) ∗ owns (c : Thread nD τ) arg9 fullShare (out9 x0 x1 x2 x3 x4 x5 x6 x7) ∗ owns (c : Thread nD τ) arg10 fullShare (out10 x0 x1 x2 x3 x4 x5 x6 x7) ∗ owns (c : Thread nD τ) arg11 fullShare (out11 x0 x1 x2 x3 x4 x5 x6 x7) ∗ owns (c : Thread nD τ) arg12 fullShare (out12 x0 x1 x2 x3 x4 x5 x6 x7) ∗ owns (c : Thread nD τ) arg13 fullShare (out13 x0 x1 x2 x3 x4 x5 x6 x7) ∗ owns (c : Thread nD τ) arg14 fullShare (out14 x0 x1 x2 x3 x4 x5 x6 x7) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__rollout_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__rollout_kernel_eq_skeleton]; unfold cc0__rollout_kernel_skel
  simp only [k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    exact (read_res8 _ _ _ _).trans (congrArg₂ (fun (C : Fix F) (s : St F) => stack3 (F := F) (e := .f32) fun k => kIP C (itK C s k))
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H9]
  · iexists _; isplitr; swap; · iexact H9
    ipureintro
    exact (read_res9 _ _ _ _).trans (congrArg₂ (fun (C : Fix F) (s : St F) => stack3 (F := F) (e := .f32) fun k => kNP C (itK C s k))
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H10]
  · iexists _; isplitr; swap; · iexact H10
    ipureintro
    exact (read_res10 _ _ _ _).trans (congrArg₂ (fun (C : Fix F) (s : St F) => stack2 (F := F) (e := .f32) fun k => kIL C (itK C s k))
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H11]
  · iexists _; isplitr; swap; · iexact H11
    ipureintro
    exact (read_res11 _ _ _ _).trans (congrArg₂ (fun (C : Fix F) (s : St F) => stack2 (F := F) (e := .f32) fun k => kNL C (itK C s k))
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H12]
  · iexists _; isplitr; swap; · iexact H12
    ipureintro
    exact (read_res12 _ _ _ _).trans (congrArg₂ (fun (C : Fix F) (s : St F) => stack2 (F := F) (e := .i32) fun k => kSA C (itK C s k))
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H13]
  · iexists _; isplitr; swap; · iexact H13
    ipureintro
    exact (read_res13 _ _ _ _).trans (congrArg₂ (fun (C : Fix F) (s : St F) => stack2 (F := F) (e := .i32) fun k => kPA C (itK C s k))
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H14]
  · iexists _; isplitr; swap; · iexact H14
    ipureintro
    refine (View.read_writes_full _ _ _ _ _).trans (congrArg k0_pay4 ?_)
    exact (fail_end _ _ _ _).trans (congrArg₂ (fun (C : Fix F) (s : St F) => (itK C s 50).fail)
      (fix_eq arg0 harg0 arg2 harg2 arg3 harg3 arg4 harg4 arg5 harg5 arg6 harg6 arg7 harg7 arg15 arg16 x0 x2 x3 x4 x5 x6 x7 _ _) (st_eq arg1 harg1 arg17 arg18 arg19 x1 _ _ _))
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end

end Cert.KernelIdeal.Roll

end
-- ==== Proof.KernelIdealRun.lean ====
/- The launch: the pipeline's proof data built from the body's triple, the run of the whole program, its frame, and what
   the six results hold. -/
module

public import proofs.«01_k».proof.Proof.KernelIdealBody
public import proofs.«01_k».proof.Proof.Gen.KernelIdeal.Frame
public import Idealize.ShloMosaic.Lib.Claim

@[expose] public section

set_option maxRecDepth 16384

noncomputable section

namespace Cert.KernelIdeal.Roll

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev stg0 (t : Fin cfg0.N) : Memref sig .tc .vmem S64x50x16 .f32 := win0_0.stage (cfg0.slots t 0)
abbrev stg1 (t : Fin cfg0.N) : Memref sig .tc .vmem S64x50x16 .f32 := win0_1.stage (cfg0.slots t 1)
abbrev stg2 (t : Fin cfg0.N) : Memref sig .tc .vmem S64x50x50 .f32 := win0_2.stage (cfg0.slots t 2)
abbrev stg3 (t : Fin cfg0.N) : Memref sig .tc .vmem S16x128 .f32 := win0_3.stage (cfg0.slots t 3)
abbrev stg4 (t : Fin cfg0.N) : Memref sig .tc .vmem S16x128 .f32 := win0_4.stage (cfg0.slots t 4)
abbrev stg5 (t : Fin cfg0.N) : Memref sig .tc .vmem S128x128 .f32 := win0_5.stage (cfg0.slots t 5)
abbrev stg6 (t : Fin cfg0.N) : Memref sig .tc .vmem S128x128 .f32 := win0_6.stage (cfg0.slots t 6)
abbrev stg7 (t : Fin cfg0.N) : Memref sig .tc .vmem S128x128 .f32 := win0_7.stage (cfg0.slots t 7)
abbrev stg8 (t : Fin cfg0.N) : Memref sig .tc .vmem S50x64x50 .f32 := win0_8.stage (cfg0.slots t 8)
abbrev stg9 (t : Fin cfg0.N) : Memref sig .tc .vmem S50x64x50 .f32 := win0_9.stage (cfg0.slots t 9)
abbrev stg10 (t : Fin cfg0.N) : Memref sig .tc .vmem S50x64 .f32 := win0_10.stage (cfg0.slots t 10)
abbrev stg11 (t : Fin cfg0.N) : Memref sig .tc .vmem S50x64 .f32 := win0_11.stage (cfg0.slots t 11)
abbrev stg12 (t : Fin cfg0.N) : Memref sig .tc .vmem S50x64 .i32 := win0_12.stage (cfg0.slots t 12)
abbrev stg13 (t : Fin cfg0.N) : Memref sig .tc .vmem S50x64 .i32 := win0_13.stage (cfg0.slots t 13)
abbrev stg14 (t : Fin cfg0.N) : Memref sig .tc .vmem S1x64 .f32 := win0_14.stage (cfg0.slots t 14)
abbrev scr0 : Memref sig .tc .vmem S64x50x128 .f32 := Memref.whole cc0_scratch0
abbrev scr1 : Memref sig .tc .vmem S64x50x50 .f32 := Memref.whole cc0_scratch1
abbrev scr2 : Memref sig .tc .vmem S64x50x16 .f32 := Memref.whole cc0_scratch2
abbrev scr3 : Memref sig .tc .vmem S64x50 .f32 := Memref.whole cc0_scratch3
abbrev scr4 : Memref sig .tc .vmem S1x64 .f32 := Memref.whole cc0_scratch4

/-- What the launch keeps beside the windows: the five scratch buffers at some contents, and the generator register. -/
theorem phi_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The proof data: every operand window keeps its block, every result window ends at the function of the operands. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
    | ⟨10, _⟩ => out10 (iblk m c 0 t) (iblk m c 1 t) (iblk m c 2 t) (iblk m c 3 t) (iblk m c 4 t) (iblk m c 5 t) (iblk m c 6 t) (iblk m c 7 t)
    | ⟨11, _⟩ => out11 (iblk m c 0 t) (iblk m c 1 t) (iblk m c 2 t) (iblk m c 3 t) (iblk m c 4 t) (iblk m c 5 t) (iblk m c 6 t) (iblk m c 7 t)
    | ⟨12, _⟩ => out12 (iblk m c 0 t) (iblk m c 1 t) (iblk m c 2 t) (iblk m c 3 t) (iblk m c 4 t) (iblk m c 5 t) (iblk m c 6 t) (iblk m c 7 t)
    | ⟨13, _⟩ => out13 (iblk m c 0 t) (iblk m c 1 t) (iblk m c 2 t) (iblk m c 3 t) (iblk m c 4 t) (iblk m c 5 t) (iblk m c 6 t) (iblk m c 7 t)
    | ⟨14, _⟩ => out14 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]
theorem after_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]
theorem after_11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) := by dsimp only [dats]
theorem after_12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) := by dsimp only [dats]
theorem after_13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) := by dsimp only [dats]
theorem after_14 (c : Dev nD) (t : Fin cfg0.N) : (dats m 0 c).after 14 t = out14 (iblk m c 0 t) (iblk m c 1 t) (iblk m c 2 t) (iblk m c 3 t) (iblk m c 4 t) (iblk m c 5 t) (iblk m c 6 t) (iblk m c 7 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d)))

/-- What the body gives back at a point. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t))

set_option maxHeartbeats 2000000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.castSucc = Pipeline.ΦA spec0 c from rfl, phi_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body _ _ _ _ _ _ _ _ _ _ _ _ _ _ _ _ _ _ _ _ _ _ _ _ _ _ _ _ _ _ _ _ _ _ _ _ _ _ _ _ c (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The launched function is the body at the point's memrefs. -/
theorem launched (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, launched]
  exact triple_restated (sound_body m c t) rfl .rfl fun _ => .rfl

set_option backward.isDefEq.respectTransparency.types false in
set_option maxHeartbeats 800000 in
/-- The run: the launch followed by the host's operations, and every semaphore back at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- Every run leaves the eight arguments as they were, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.KernelIdeal.Roll

end
-- ==== Proof.KernelIdealResult.lean ====
/- What every run of the kernel's program leaves in its six results, as functions of the arguments. -/
module

public import proofs.«01_k».proof.Proof.KernelIdealRun
public import Idealize.ShloMosaic.Lib.Pipeline.ValueKit

@[expose] public section

set_option maxRecDepth 16384

noncomputable section

namespace Cert.KernelIdeal.Roll

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- A function of the eight arguments, taken at a device's. -/
abbrev onArgs {α : Type} (c : Dev nD) (f : Vec F S64x50x16 .f32 → Vec F S64x50x16 .f32 → Vec F S64x50x50 .f32 → Vec F S16x128 .f32 → Vec F S16x128 .f32 →
    Vec F S128x128 .f32 → Vec F S128x128 .f32 → Vec F S128x128 .f32 → α) : α :=
  f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- An operand's block is the whole argument. -/
theorem iblk_0 (c : Dev nD) : iblk m c 0 t0_0 = m ((c.tc : Thread nD τ).loc main_arg0) := by
  funext j
  have e : win0_0.index t0_0 = fun _ => 0 := by decide +kernel
  blk_ext [iblk, e]
theorem iblk_1 (c : Dev nD) : iblk m c 1 t0_0 = m ((c.tc : Thread nD τ).loc main_arg1) := by
  funext j
  have e : win0_1.index t0_0 = fun _ => 0 := by decide +kernel
  blk_ext [iblk, e]
theorem iblk_2 (c : Dev nD) : iblk m c 2 t0_0 = m ((c.tc : Thread nD τ).loc main_arg2) := by
  funext j
  have e : win0_2.index t0_0 = fun _ => 0 := by decide +kernel
  blk_ext [iblk, e]
theorem iblk_3 (c : Dev nD) : iblk m c 3 t0_0 = m ((c.tc : Thread nD τ).loc main_arg3) := by
  funext j
  have e : win0_3.index t0_0 = fun _ => 0 := by decide +kernel
  blk_ext [iblk, e]
theorem iblk_4 (c : Dev nD) : iblk m c 4 t0_0 = m ((c.tc : Thread nD τ).loc main_arg4) := by
  funext j
  have e : win0_4.index t0_0 = fun _ => 0 := by decide +kernel
  blk_ext [iblk, e]
theorem iblk_5 (c : Dev nD) : iblk m c 5 t0_0 = m ((c.tc : Thread nD τ).loc main_arg5) := by
  funext j
  have e : win0_5.index t0_0 = fun _ => 0 := by decide +kernel
  blk_ext [iblk, e]
theorem iblk_6 (c : Dev nD) : iblk m c 6 t0_0 = m ((c.tc : Thread nD τ).loc main_arg6) := by
  funext j
  have e : win0_6.index t0_0 = fun _ => 0 := by decide +kernel
  blk_ext [iblk, e]
theorem iblk_7 (c : Dev nD) : iblk m c 7 t0_0 = m ((c.tc : Thread nD τ).loc main_arg7) := by
  funext j
  have e : win0_7.index t0_0 = fun _ => 0 := by decide +kernel
  blk_ext [iblk, e]

/-- What the call leaves in a result's array. -/
theorem arr_8 (c : Dev nD) : (dats m 0 c).arrAt 8 cfg0.N = onArgs m c out8 := by
  refine (dats m 0 c).arrAt_eq_of_after_last 8 t0_0 (by decide +kernel) _ fun j => ?_
  blk_simp
  rw [after_8]
  simp only [iblk_0, iblk_1, iblk_2, iblk_3, iblk_4, iblk_5, iblk_6, iblk_7]

theorem arr_9 (c : Dev nD) : (dats m 0 c).arrAt 9 cfg0.N = onArgs m c out9 := by
  refine (dats m 0 c).arrAt_eq_of_after_last 9 t0_0 (by decide +kernel) _ fun j => ?_
  blk_simp
  rw [after_9]
  simp only [iblk_0, iblk_1, iblk_2, iblk_3, iblk_4, iblk_5, iblk_6, iblk_7]

theorem arr_10 (c : Dev nD) : (dats m 0 c).arrAt 10 cfg0.N = onArgs m c out10 := by
  refine (dats m 0 c).arrAt_eq_of_after_last 10 t0_0 (by decide +kernel) _ fun j => ?_
  blk_simp
  rw [after_10]
  simp only [iblk_0, iblk_1, iblk_2, iblk_3, iblk_4, iblk_5, iblk_6, iblk_7]

theorem arr_11 (c : Dev nD) : (dats m 0 c).arrAt 11 cfg0.N = onArgs m c out11 := by
  refine (dats m 0 c).arrAt_eq_of_after_last 11 t0_0 (by decide +kernel) _ fun j => ?_
  blk_simp
  rw [after_11]
  simp only [iblk_0, iblk_1, iblk_2, iblk_3, iblk_4, iblk_5, iblk_6, iblk_7]

theorem arr_12 (c : Dev nD) : (dats m 0 c).arrAt 12 cfg0.N = onArgs m c out12 := by
  refine (dats m 0 c).arrAt_eq_of_after_last 12 t0_0 (by decide +kernel) _ fun j => ?_
  blk_simp
  rw [after_12]
  simp only [iblk_0, iblk_1, iblk_2, iblk_3, iblk_4, iblk_5, iblk_6, iblk_7]

theorem arr_13 (c : Dev nD) : (dats m 0 c).arrAt 13 cfg0.N = onArgs m c out13 := by
  refine (dats m 0 c).arrAt_eq_of_after_last 13 t0_0 (by decide +kernel) _ fun j => ?_
  blk_simp
  rw [after_13]
  simp only [iblk_0, iblk_1, iblk_2, iblk_3, iblk_4, iblk_5, iblk_6, iblk_7]

theorem arr_14 (c : Dev nD) : (dats m 0 c).arrAt 14 cfg0.N = onArgs m c out14 := by
  refine (dats m 0 c).arrAt_eq_of_after_last 14 t0_0 (by decide +kernel) _ fun j => ?_
  blk_simp
  rw [after_14]
  simp only [iblk_0, iblk_1, iblk_2, iblk_3, iblk_4, iblk_5, iblk_6, iblk_7]

/-- The same, read where the operations after the call read it. -/
theorem left_8 (c : Dev nD) : Pipeline.withArrays (cfgs 0).spec c (V0 m c) (fun w => (dats m 0 c).arrAt w (cfgs 0).N) (Proc.devRef .tc main_call0_v0_0)
    = onArgs m c out8 :=
  (Pipeline.withArrays_arr spec0 (by decide +kernel) c (V0 m c) (fun w => (dats m 0 c).arrAt w (cfgs 0).N) 8).trans (arr_8 m c)

theorem left_9 (c : Dev nD) : Pipeline.withArrays (cfgs 0).spec c (V0 m c) (fun w => (dats m 0 c).arrAt w (cfgs 0).N) (Proc.devRef .tc main_call0_v0_1)
    = onArgs m c out9 :=
  (Pipeline.withArrays_arr spec0 (by decide +kernel) c (V0 m c) (fun w => (dats m 0 c).arrAt w (cfgs 0).N) 9).trans (arr_9 m c)

theorem left_10 (c : Dev nD) : Pipeline.withArrays (cfgs 0).spec c (V0 m c) (fun w => (dats m 0 c).arrAt w (cfgs 0).N) (Proc.devRef .tc main_call0_v0_2)
    = onArgs m c out10 :=
  (Pipeline.withArrays_arr spec0 (by decide +kernel) c (V0 m c) (fun w => (dats m 0 c).arrAt w (cfgs 0).N) 10).trans (arr_10 m c)

theorem left_11 (c : Dev nD) : Pipeline.withArrays (cfgs 0).spec c (V0 m c) (fun w => (dats m 0 c).arrAt w (cfgs 0).N) (Proc.devRef .tc main_call0_v0_3)
    = onArgs m c out11 :=
  (Pipeline.withArrays_arr spec0 (by decide +kernel) c (V0 m c) (fun w => (dats m 0 c).arrAt w (cfgs 0).N) 11).trans (arr_11 m c)

theorem left_12 (c : Dev nD) : Pipeline.withArrays (cfgs 0).spec c (V0 m c) (fun w => (dats m 0 c).arrAt w (cfgs 0).N) (Proc.devRef .tc main_call0_v0_4)
    = onArgs m c out12 :=
  (Pipeline.withArrays_arr spec0 (by decide +kernel) c (V0 m c) (fun w => (dats m 0 c).arrAt w (cfgs 0).N) 12).trans (arr_12 m c)

theorem left_13 (c : Dev nD) : Pipeline.withArrays (cfgs 0).spec c (V0 m c) (fun w => (dats m 0 c).arrAt w (cfgs 0).N) (Proc.devRef .tc main_call0_v0_5)
    = onArgs m c out13 :=
  (Pipeline.withArrays_arr spec0 (by decide +kernel) c (V0 m c) (fun w => (dats m 0 c).arrAt w (cfgs 0).N) 13).trans (arr_13 m c)

theorem left_14 (c : Dev nD) : Pipeline.withArrays (cfgs 0).spec c (V0 m c) (fun w => (dats m 0 c).arrAt w (cfgs 0).N) (Proc.devRef .tc main_call0_v0_6)
    = onArgs m c out14 :=
  (Pipeline.withArrays_arr spec0 (by decide +kernel) c (V0 m c) (fun w => (dats m 0 c).arrAt w (cfgs 0).N) 14).trans (arr_14 m c)

/-- The two columns of chosen nodes, side by side for every step, laid in one row. -/
def pairs (a b : Vec F S50x64 .i32) : Vec F S64x50x2 .i32 :=
  concatenate S64x50x2 2 [⟨S64x50x1, broadcastInDim S64x50x1 ![0, 1] bcast_S64x50_S64x50x1_0_1 (transpose S64x50 [1, 0] a transposes_S50x64_S64x50_1_0)⟩, ⟨S64x50x1, broadcastInDim S64x50x1 ![0, 1] bcast_S64x50_S64x50x1_0_1 (transpose S64x50 [1, 0] b transposes_S50x64_S64x50_1_0)⟩] concatenates_S64x50x1_S64x50x1_S64x50x2_d2

/-- The six results of every run, and the arguments kept. -/
theorem run_values : θ_run defs (onTc (τ := τ) (main (F := F))) ⟨m, fun _ => 0, ρ⟩ (fun r => ∀ c : Dev nD,
    r.2.mem ((c.tc : Thread nD τ).loc main_v0_0) = transpose S64x50x50 [1, 0, 2] (onArgs m c out8) transposes_S50x64x50_S64x50x50_1_0_2
    ∧ r.2.mem ((c.tc : Thread nD τ).loc main_v0_1) = transpose S64x50x50 [1, 0, 2] (onArgs m c out9) transposes_S50x64x50_S64x50x50_1_0_2
    ∧ r.2.mem ((c.tc : Thread nD τ).loc main_v0_2) = transpose S64x50 [1, 0] (onArgs m c out10) transposes_S50x64_S64x50_1_0
    ∧ r.2.mem ((c.tc : Thread nD τ).loc main_v0_3) = transpose S64x50 [1, 0] (onArgs m c out11) transposes_S50x64_S64x50_1_0
    ∧ r.2.mem ((c.tc : Thread nD τ).loc main_v0_4) = shapeCast S64x100 (pairs (onArgs m c out12) (onArgs m c out13)) shapeCasts_S64x50x2_S64x100
    ∧ r.2.mem ((c.tc : Thread nD τ).loc main_v0_5) = shapeCast S64 (onArgs m c out14) shapeCasts_S1x64_S64
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) := by
  have h := run_main m ρ
  run_from h
  all_goals unfold Pipeline.afterTail₀
  all_goals simp only [List.flatten_cons, List.flatten_nil, List.append_nil]
  all_goals unfold hostOps1
  all_goals after_results
  · rw [← left_8 m c]; rfl
  · rw [← left_9 m c]; rfl
  · rw [← left_10 m c]; rfl
  · rw [← left_11 m c]; rfl
  · rw [← left_12 m c, ← left_13 m c]; rfl
  · rw [← left_14 m c]; rfl

end Cert.KernelIdeal.Roll

end
-- ==== Proof.Same.lean ====
/- The six results are the same on both sides, once the loops' states are known to agree after fifty trips. -/
module

public import proofs.«01_k».proof.Proof.Start
public import proofs.«01_k».proof.Proof.KernelIdealResult

@[expose] public section

set_option maxRecDepth 16384

noncomputable section

namespace Cert.Proof.Same

open Cert.ReferenceIdeal Cert.ReferenceIdeal.Gen
open Idealize.ShloMosaic Idealize.ShloMosaic.TcCoe Idealize.ShloMosaic.Tactic
open Cert.Proof.RefStep
open Cert.KernelIdeal.Roll (Fix St next itK kIP kNP kIL kNL kSA kPA fixOf st0 out8 out9 out10 out11 out12 out13 out14 pairs stack2 stack3)
open Cert.KernelIdeal.Gen (k0_pay4)

/-- Rows stacked, read at a row. -/
theorem stack3_at {e : EltTy} (f : ℕ → Vec Ideal S1x64x50 e) (i : Fin 50) (b : Fin 64) (x : Fin 50) :
    stack3 f (ix3 i b x) = f i.val (ix3 0 b x) := rfl

theorem stack2_at {e : EltTy} (f : ℕ → Vec Ideal S1x64 e) (i : Fin 50) (b : Fin 64) : stack2 f (ix2 i b) = f i.val (ix2 0 b) := rfl

/-- Sums of reals, taken among the extended reals. -/
theorem sum_coe (S : Finset (Fin 50)) (f : Fin 50 → ℝ) : (∑ i ∈ S, ((f i : ℝ) : EReal)) = ((∑ i ∈ S, f i : ℝ) : EReal) := by
  induction S using Finset.induction_on with
  | empty => simp
  | insert a S ha ih => rw [Finset.sum_insert ha, Finset.sum_insert ha, ih, EReal.coe_add]

/-- The sum of a batch's rewards is zero exactly when none of them is minus one. -/
theorem sum_zero_iff (P : Fin 50 → Prop) [DecidablePred P] :
    (∑ i : Fin 50, if P i then (-1 : EReal) else 0) = 0 ↔ ¬ ∃ i, P i := by
  have e : (∑ i : Fin 50, if P i then (-1 : EReal) else 0) = ∑ i : Fin 50, (((if P i then (-1 : ℝ) else 0 : ℝ)) : EReal) :=
    Finset.sum_congr rfl fun i _ => by split <;> simp
  rw [e, sum_coe, EReal.coe_eq_zero, Finset.sum_eq_zero_iff_of_nonpos fun i _ => by split <;> norm_num]
  constructor
  · rintro h ⟨i, hi⟩
    have := h i (Finset.mem_univ i)
    rw [if_pos hi] at this
    norm_num at this
  · intro h i _
    rw [if_neg fun hi => h ⟨i, hi⟩]

theorem two_f32 : Ideal.ofBits .f32 1073741824#32 = ((2 : ℝ) : EReal) := by
  simp [Ideal.ofBits, Ideal.ieee]; rw [← EReal.coe_mul]; norm_num

theorem minus_two_f32 : Ideal.ofBits .f32 3221225472#32 = ((-2 : ℝ) : EReal) := by
  simp [Ideal.ofBits, Ideal.ieee]; rw [← EReal.coe_mul]; norm_num

theorem uitofp_true : FloatOps.uitofp (F := Ideal) .f32 (BitVec.ofBool true) = ((1 : ℝ) : EReal) := by
  show ((((BitVec.ofBool true).toNat : ℕ) : ℝ) : EReal) = _
  simp

theorem uitofp_false : FloatOps.uitofp (F := Ideal) .f32 (BitVec.ofBool false) = ((0 : ℝ) : EReal) := by
  show ((((BitVec.ofBool false).toNat : ℕ) : ℝ) : EReal) = _
  simp

section
variable (x0 x1 : Vec Ideal S64x50x16 .f32) (x2 : Vec Ideal S64x50x50 .f32) (x3 x4 : Vec Ideal S16x128 .f32)
  (x5 x6 x7 : Vec Ideal S128x128 .f32) {r : State Ideal} (h : Side (fixOf x0 x2 x3 x4 x5 x6 x7) (st0 x1) 50 r)
include h

theorem same_0 : transpose S64x50x50 [1, 0, 2] (out8 x0 x1 x2 x3 x4 x5 x6 x7) Cert.KernelIdeal.Gen.transposes_S50x64x50_S64x50x50_1_0_2 = R_main_v19 r := by
  have e := h.ip
  have o : ∀ (i : Fin 50) (b : Fin 64) (x : Fin 50), out8 x0 x1 x2 x3 x4 x5 x6 x7 (ix3 i b x) = r.main_v9_12 (ix3 i b x) := fun i b x => (e i b x i.isLt).symm
  generalize out8 x0 x1 x2 x3 x4 x5 x6 x7 = t at o
  funext j
  rw [eq_ix3 j]
  pointwise [R_main_v19]
  exact o _ _ _

theorem same_1 : transpose S64x50x50 [1, 0, 2] (out9 x0 x1 x2 x3 x4 x5 x6 x7) Cert.KernelIdeal.Gen.transposes_S50x64x50_S64x50x50_1_0_2 = R_main_v20 r := by
  have e := h.np
  have o : ∀ (i : Fin 50) (b : Fin 64) (x : Fin 50), out9 x0 x1 x2 x3 x4 x5 x6 x7 (ix3 i b x) = r.main_v9_13 (ix3 i b x) := fun i b x => (e i b x i.isLt).symm
  generalize out9 x0 x1 x2 x3 x4 x5 x6 x7 = t at o
  funext j
  rw [eq_ix3 j]
  pointwise [R_main_v20]
  exact o _ _ _

theorem same_2 : transpose S64x50 [1, 0] (out10 x0 x1 x2 x3 x4 x5 x6 x7) Cert.KernelIdeal.Gen.transposes_S50x64_S64x50_1_0 = R_main_v21 r := by
  have e := h.il
  have o : ∀ (i : Fin 50) (b : Fin 64), out10 x0 x1 x2 x3 x4 x5 x6 x7 (ix2 i b) = r.main_v9_14 (ix2 i b) := fun i b => (e i b i.isLt).symm
  generalize out10 x0 x1 x2 x3 x4 x5 x6 x7 = t at o
  funext j
  rw [eq_ix2 j]
  pointwise [R_main_v21]
  exact o _ _

theorem same_3 : transpose S64x50 [1, 0] (out11 x0 x1 x2 x3 x4 x5 x6 x7) Cert.KernelIdeal.Gen.transposes_S50x64_S64x50_1_0 = R_main_v22 r := by
  have e := h.nl
  have o : ∀ (i : Fin 50) (b : Fin 64), out11 x0 x1 x2 x3 x4 x5 x6 x7 (ix2 i b) = r.main_v9_15 (ix2 i b) := fun i b => (e i b i.isLt).symm
  generalize out11 x0 x1 x2 x3 x4 x5 x6 x7 = t at o
  funext j
  rw [eq_ix2 j]
  pointwise [R_main_v22]
  exact o _ _

theorem same_4 : shapeCast S64x100 (pairs (out12 x0 x1 x2 x3 x4 x5 x6 x7) (out13 x0 x1 x2 x3 x4 x5 x6 x7)) Cert.KernelIdeal.Gen.shapeCasts_S64x50x2_S64x100 = R_main_v24 r := by
  have o : ∀ (i : Fin 50) (b : Fin 64), out12 x0 x1 x2 x3 x4 x5 x6 x7 (ix2 i b) = r.main_v9_16 (ix3 i b 0) := fun i b => (h.sa i b i.isLt).symm
  have o' : ∀ (i : Fin 50) (b : Fin 64), out13 x0 x1 x2 x3 x4 x5 x6 x7 (ix2 i b) = r.main_v9_16 (ix3 i b 1) := fun i b => (h.pa i b i.isLt).symm
  generalize out12 x0 x1 x2 x3 x4 x5 x6 x7 = t at o
  generalize out13 x0 x1 x2 x3 x4 x5 x6 x7 = t' at o'
  have e : pairs t t' = transpose S64x50x2 [1, 0, 2] r.main_v9_16 transposes_S50x64x2_S64x50x2_1_0_2 := by
    funext j
    rw [eq_ix3 j]
    generalize j 0 = b
    generalize j 1 = i
    generalize j 2 = z
    revert b i z
    intro (b : Fin 64) (i : Fin 50) (z : Fin 2)
    fin_cases z
    · pointwise [pairs]
      exact o _ _
    · pointwise [pairs]
      exact o' _ _
  rw [e]
  rfl

open Classical in
theorem same_5 : shapeCast S64 (out14 x0 x1 x2 x3 x4 x5 x6 x7) Cert.KernelIdeal.Gen.shapeCasts_S1x64_S64 = R_main_v18 r := by
  have e := h.reward
  have f := h.fail
  have o : out14 x0 x1 x2 x3 x4 x5 x6 x7 = k0_pay4 (itK (fixOf x0 x2 x3 x4 x5 x6 x7) (st0 x1) 50).fail := rfl
  rw [o]
  generalize (itK (fixOf x0 x2 x3 x4 x5 x6 x7) (st0 x1) 50).fail = t at f
  funext j
  rw [eq_ix1 j]
  generalize j 0 = b
  revert b
  intro (b : Fin 64)
  unfold R_main_v18
  simp only [id_eq]
  pointwise [k0_pay4]
  rw [Finset.sum_congr rfl fun i _ => e i b i.isLt, f b, two_f32, minus_two_f32]
  by_cases hB : ∃ i : Fin 50, Bad (fixOf x0 x2 x3 x4 x5 x6 x7) (st0 x1) i.val b
  · have hs := mt (sum_zero_iff fun i : Fin 50 => Bad (fixOf x0 x2 x3 x4 x5 x6 x7) (st0 x1) i.val b).1 (not_not.2 hB)
    obtain ⟨i, hi⟩ := hB
    rw [if_pos ⟨i.val, i.isLt, hi⟩, decide_eq_true hs]
    rw [show FloatOps.uitofp (F := Ideal) .f32 (BitVec.ofBool true) = ((1 : ℝ) : EReal) from uitofp_true, ← EReal.coe_one, ← EReal.coe_mul, ← EReal.coe_mul, ← EReal.coe_sub, ← EReal.coe_add]
    norm_num
  · have hs := (sum_zero_iff fun i : Fin 50 => Bad (fixOf x0 x2 x3 x4 x5 x6 x7) (st0 x1) i.val b).2 hB
    rw [if_neg fun ⟨i, hi, hb⟩ => hB ⟨⟨i, hi⟩, hb⟩, decide_eq_false (not_not.2 hs)]
    rw [show FloatOps.uitofp (F := Ideal) .f32 (BitVec.ofBool false) = ((0 : ℝ) : EReal) from uitofp_false]
    simp

end

end Cert.Proof.Same

end
-- ==== Proof.lean ====
/- The kernel and the reference run to the end, leave their arguments as they were and their semaphores at zero;
   the named constant has the value the idealized kernel gives it; and the idealized kernel's six results are the
   reference's, whenever every node's flag is zero or one. -/
module

public import proofs.«01_k».proof.Defs
public import proofs.«01_k».proof.Proof.KernelRun
public import proofs.«01_k».proof.Proof.Same
public import proofs.«01_k».proof.Proof.Gen.Pre_flags_are_bits

@[expose] public section

set_option maxRecDepth 16384

noncomputable section

namespace Cert.Proof

open Idealize.ShloMosaic Idealize.ShloMosaic.TcCoe Idealize.SL.Sem

/-- The constant the kernel multiplies by in its means denotes one fiftieth. -/
theorem preserves : Cert.preserves_Kernel_KernelIdeal :=
  IdealRules.named_const.statement Cert.KernelIdeal.κ "inv_n" .f32 0x3CA3D70A#32 ((1 / 50 : ℝ) : EReal) rfl

/-- The reference's states, begun from the kernel's arguments, agree with the kernel's after fifty trips. -/
theorem side [Cert.Pre_flags_are_bits.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_flags_are_bits m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Same.Side (Cert.KernelIdeal.Roll.fixOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (Cert.KernelIdeal.Roll.st0 (m ((c.tc : Thread Cert.KernelIdeal.nD Cert.KernelIdeal.τ).loc Cert.KernelIdeal.main_arg1))) 50 (RefRun.it m' c 50) :=
  Same.Side.all (RefRun.it m' c) (fun _ => rfl)
    (by
      show Same.Side _ _ 0 (RefStep.init (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      rw [e0, e1, e2, e3, e4, e5, e6, e7]
      exact Same.start _ _ _ _ _ _ _ _ (Same.bits_of _ _ _ _ _ _ _ _ (hp c)))
    50 le_rfl

set_option maxHeartbeats 1000000 in
/-- The idealized kernel and the reference leave the same six results. -/
theorem algebraic [Cert.Pre_flags_are_bits.Facts] : Cert.algebraic_KernelIdeal_ReferenceIdeal_pre_flags_are_bits := by
  intro m g m' g' hp he
  refine ⟨fun c => transpose Cert.KernelIdeal.S64x50x50 [1, 0, 2] (Cert.KernelIdeal.Roll.onArgs m c Cert.KernelIdeal.Roll.out8) Cert.KernelIdeal.Gen.transposes_S50x64x50_S64x50x50_1_0_2,
    fun c => transpose Cert.KernelIdeal.S64x50x50 [1, 0, 2] (Cert.KernelIdeal.Roll.onArgs m c Cert.KernelIdeal.Roll.out9) Cert.KernelIdeal.Gen.transposes_S50x64x50_S64x50x50_1_0_2,
    fun c => transpose Cert.KernelIdeal.S64x50 [1, 0] (Cert.KernelIdeal.Roll.onArgs m c Cert.KernelIdeal.Roll.out10) Cert.KernelIdeal.Gen.transposes_S50x64_S64x50_1_0,
    fun c => transpose Cert.KernelIdeal.S64x50 [1, 0] (Cert.KernelIdeal.Roll.onArgs m c Cert.KernelIdeal.Roll.out11) Cert.KernelIdeal.Gen.transposes_S50x64_S64x50_1_0,
    fun c => shapeCast Cert.KernelIdeal.S64x100 (Cert.KernelIdeal.Roll.pairs (Cert.KernelIdeal.Roll.onArgs m c Cert.KernelIdeal.Roll.out12) (Cert.KernelIdeal.Roll.onArgs m c Cert.KernelIdeal.Roll.out13)) Cert.KernelIdeal.Gen.shapeCasts_S64x50x2_S64x100,
    fun c => shapeCast Cert.KernelIdeal.S64 (Cert.KernelIdeal.Roll.onArgs m c Cert.KernelIdeal.Roll.out14) Cert.KernelIdeal.Gen.shapeCasts_S1x64_S64,
    Cert.KernelIdeal.Roll.run_values m g, ?_⟩
  refine (θ_run _ _ _).mono (fun r h c => ?_) (RefRun.run_values m' g')
  obtain ⟨h0, h1, h2, h3, h4, h5, ha⟩ := h c
  obtain ⟨e0, e1, e2, e3, e4, e5, e6, e7⟩ := he c
  have hs := side m m' hp c e0 e1 e2 e3 e4 e5 e6 e7
  exact ⟨h0.trans (Same.same_0 _ _ _ _ _ _ _ _ hs).symm, h1.trans (Same.same_1 _ _ _ _ _ _ _ _ hs).symm, h2.trans (Same.same_2 _ _ _ _ _ _ _ _ hs).symm, h3.trans (Same.same_3 _ _ _ _ _ _ _ _ hs).symm, h4.trans (Same.same_4 _ _ _ _ _ _ _ _ hs).symm, h5.trans (Same.same_5 _ _ _ _ _ _ _ _ hs).symm, ha⟩

theorem claim : Cert.Claim :=
  ⟨Cert.Kernel.Gen.facts, Cert.KernelIdeal.Gen.facts, Cert.ReferenceIdeal.Gen.facts, Cert.Pre_flags_are_bits.Gen.facts,
    fun m g _ => Cert.Kernel.Roll.frame_run m g,
    fun m g _ => Cert.KernelIdeal.Roll.frame_run m g,
    fun m g _ => Cert.KernelIdeal.Roll.frame_run m g,
    fun m g _ => Cert.Proof.RefRun.frame_run m g,
    fun m g _ => Cert.Proof.RefRun.frame_run m g,
    preserves,
    algebraic⟩

end Cert.Proof

end
